-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_decay_below_infinity [hPre_decay_below_infinity : Cert.Pre_decay_below_infinity.Facts] (m : (ℓ : Loc Cert.GlaIdeal.nD Cert.GlaIdeal.τ Cert.GlaIdeal.sig) → Buf (Elt Ideal) ℓ) : Prop :=
  ∀ c : Dev Cert.GlaIdeal.nD,
    (Cert.Pre_decay_below_infinity.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))) = (fun _ => 1#1)

def Pre_GlaRefIdeal (m : (ℓ : Loc Cert.GlaRefIdeal.nD Cert.GlaRefIdeal.τ Cert.GlaRefIdeal.sig) → Buf (Elt Ideal) ℓ) : Prop :=
  True

def Pre_GlaRefIdeal_decay_below_infinity [hPre_decay_below_infinity : Cert.Pre_decay_below_infinity.Facts] (m : (ℓ : Loc Cert.GlaRefIdeal.nD Cert.GlaRefIdeal.τ Cert.GlaRefIdeal.sig) → Buf (Elt Ideal) ℓ) : Prop :=
  ∀ c : Dev Cert.GlaRefIdeal.nD,
    (Cert.Pre_decay_below_infinity.fn (F := Ideal) (m ((c.tc : Thread Cert.GlaRefIdeal.nD Cert.GlaRefIdeal.τ).loc Cert.GlaRefIdeal.main_arg0)) (m ((c.tc : Thread Cert.GlaRefIdeal.nD Cert.GlaRefIdeal.τ).loc Cert.GlaRefIdeal.main_arg1)) (m ((c.tc : Thread Cert.GlaRefIdeal.nD Cert.GlaRefIdeal.τ).loc Cert.GlaRefIdeal.main_arg2)) (m ((c.tc : Thread Cert.GlaRefIdeal.nD Cert.GlaRefIdeal.τ).loc Cert.GlaRefIdeal.main_arg3)) (m ((c.tc : Thread Cert.GlaRefIdeal.nD Cert.GlaRefIdeal.τ).loc Cert.GlaRefIdeal.main_arg4)) (m ((c.tc : Thread Cert.GlaRefIdeal.nD Cert.GlaRefIdeal.τ).loc Cert.GlaRefIdeal.main_arg5)) (m ((c.tc : Thread Cert.GlaRefIdeal.nD Cert.GlaRefIdeal.τ).loc Cert.GlaRefIdeal.main_arg6))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_MoeS (m : (ℓ : Loc Cert.MoeS.nD Cert.MoeS.τ Cert.MoeS.sig) → Buf (Elt Bits) ℓ) : Prop :=
  True

def Pre_MoeSIdeal (m : (ℓ : Loc Cert.MoeSIdeal.nD Cert.MoeSIdeal.τ Cert.MoeSIdeal.sig) → Buf (Elt Ideal) ℓ) : Prop :=
  True

def Pre_MoeSRefIdeal (m : (ℓ : Loc Cert.MoeSRefIdeal.nD Cert.MoeSRefIdeal.τ Cert.MoeSRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_OutprojS (m : (ℓ : Loc Cert.OutprojS.nD Cert.OutprojS.τ Cert.OutprojS.sig) → Buf (Elt Bits) ℓ) : Prop :=
  True

def Pre_OutprojSIdeal (m : (ℓ : Loc Cert.OutprojSIdeal.nD Cert.OutprojSIdeal.τ Cert.OutprojSIdeal.sig) → Buf (Elt Ideal) ℓ) : Prop :=
  True

def Pre_OutprojSRefIdeal (m : (ℓ : Loc Cert.OutprojSRefIdeal.nD Cert.OutprojSRefIdeal.τ Cert.OutprojSRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaIdeal_pre_decay_below_infinity [hGlaIdeal : Cert.GlaIdeal.Facts] [hPre_decay_below_infinity : Cert.Pre_decay_below_infinity.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_decay_below_infinity m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_GlaRefIdeal_pre_decay_below_infinity [hGlaRefIdeal : Cert.GlaRefIdeal.Facts] [hPre_decay_below_infinity : Cert.Pre_decay_below_infinity.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal_decay_below_infinity m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_MoeS [hMoeS : Cert.MoeS.Facts] : Prop :=
  ∀ (m : (ℓ : Loc Cert.MoeS.nD Cert.MoeS.τ Cert.MoeS.sig) → Buf (Elt Bits) ℓ) (g : Dev Cert.MoeS.nD → PrngReg), Pre_MoeS m →
    θ_run (Cert.MoeS.defs (F := Bits)) (onTc (τ := Cert.MoeS.τ) (Cert.MoeS.main (F := Bits))) ⟨m, fun _ => 0, g⟩ (fun r => (∀ c : Dev Cert.MoeS.nD,
      r.2.mem ((c.tc : Thread Cert.MoeS.nD Cert.MoeS.τ).loc Cert.MoeS.main_arg0) = m ((c.tc : Thread Cert.MoeS.nD Cert.MoeS.τ).loc Cert.MoeS.main_arg0)
      ∧ r.2.mem ((c.tc : Thread Cert.MoeS.nD Cert.MoeS.τ).loc Cert.MoeS.main_arg1) = m ((c.tc : Thread Cert.MoeS.nD Cert.MoeS.τ).loc Cert.MoeS.main_arg1)
      ∧ r.2.mem ((c.tc : Thread Cert.MoeS.nD Cert.MoeS.τ).loc Cert.MoeS.main_arg2) = m ((c.tc : Thread Cert.MoeS.nD Cert.MoeS.τ).loc Cert.MoeS.main_arg2)
      ∧ r.2.mem ((c.tc : Thread Cert.MoeS.nD Cert.MoeS.τ).loc Cert.MoeS.main_arg3) = m ((c.tc : Thread Cert.MoeS.nD Cert.MoeS.τ).loc Cert.MoeS.main_arg3)
      ∧ r.2.mem ((c.tc : Thread Cert.MoeS.nD Cert.MoeS.τ).loc Cert.MoeS.main_arg4) = m ((c.tc : Thread Cert.MoeS.nD Cert.MoeS.τ).loc Cert.MoeS.main_arg4)
      ∧ r.2.mem ((c.tc : Thread Cert.MoeS.nD Cert.MoeS.τ).loc Cert.MoeS.main_arg5) = m ((c.tc : Thread Cert.MoeS.nD Cert.MoeS.τ).loc Cert.MoeS.main_arg5)
      ∧ r.2.mem ((c.tc : Thread Cert.MoeS.nD Cert.MoeS.τ).loc Cert.MoeS.main_arg6) = m ((c.tc : Thread Cert.MoeS.nD Cert.MoeS.τ).loc Cert.MoeS.main_arg6)
      ∧ r.2.mem ((c.tc : Thread Cert.MoeS.nD Cert.MoeS.τ).loc Cert.MoeS.main_arg7) = m ((c.tc : Thread Cert.MoeS.nD Cert.MoeS.τ).loc Cert.MoeS.main_arg7))
      ∧ r.2.sem = fun _ => 0)

def quiescent_MoeSIdeal [hMoeSIdeal : Cert.MoeSIdeal.Facts] : Prop :=
  ∀ (m : (ℓ : Loc Cert.MoeSIdeal.nD Cert.MoeSIdeal.τ Cert.MoeSIdeal.sig) → Buf (Elt Ideal) ℓ) (g : Dev Cert.MoeSIdeal.nD → PrngReg), Pre_MoeSIdeal m →
    θ_run (Cert.MoeSIdeal.defs (F := Ideal)) (onTc (τ := Cert.MoeSIdeal.τ) (Cert.MoeSIdeal.main (F := Ideal))) ⟨m, fun _ => 0, g⟩ (fun r => (∀ c : Dev Cert.MoeSIdeal.nD,
      r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
      ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
      ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
      ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
      ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
      ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
      ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
      ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7))
      ∧ r.2.sem = fun _ => 0)

def quiescent_MoeSRefIdeal [hMoeSRefIdeal : Cert.MoeSRefIdeal.Facts] : Prop :=
  ∀ (m : (ℓ : Loc Cert.MoeSRefIdeal.nD Cert.MoeSRefIdeal.τ Cert.MoeSRefIdeal.sig) → Buf (Elt Ideal) ℓ) (g : Dev Cert.MoeSRefIdeal.nD → PrngReg), Pre_MoeSRefIdeal m →
    θ_run (Cert.MoeSRefIdeal.defs (F := Ideal)) (onTc (τ := Cert.MoeSRefIdeal.τ) (Cert.MoeSRefIdeal.main (F := Ideal))) ⟨m, fun _ => 0, g⟩ (fun r => (∀ c : Dev Cert.MoeSRefIdeal.nD,
      r.2.mem ((c.tc : Thread Cert.MoeSRefIdeal.nD Cert.MoeSRefIdeal.τ).loc Cert.MoeSRefIdeal.main_arg0) = m ((c.tc : Thread Cert.MoeSRefIdeal.nD Cert.MoeSRefIdeal.τ).loc Cert.MoeSRefIdeal.main_arg0)
      ∧ r.2.mem ((c.tc : Thread Cert.MoeSRefIdeal.nD Cert.MoeSRefIdeal.τ).loc Cert.MoeSRefIdeal.main_arg1) = m ((c.tc : Thread Cert.MoeSRefIdeal.nD Cert.MoeSRefIdeal.τ).loc Cert.MoeSRefIdeal.main_arg1)
      ∧ r.2.mem ((c.tc : Thread Cert.MoeSRefIdeal.nD Cert.MoeSRefIdeal.τ).loc Cert.MoeSRefIdeal.main_arg2) = m ((c.tc : Thread Cert.MoeSRefIdeal.nD Cert.MoeSRefIdeal.τ).loc Cert.MoeSRefIdeal.main_arg2)
      ∧ r.2.mem ((c.tc : Thread Cert.MoeSRefIdeal.nD Cert.MoeSRefIdeal.τ).loc Cert.MoeSRefIdeal.main_arg3) = m ((c.tc : Thread Cert.MoeSRefIdeal.nD Cert.MoeSRefIdeal.τ).loc Cert.MoeSRefIdeal.main_arg3)
      ∧ r.2.mem ((c.tc : Thread Cert.MoeSRefIdeal.nD Cert.MoeSRefIdeal.τ).loc Cert.MoeSRefIdeal.main_arg4) = m ((c.tc : Thread Cert.MoeSRefIdeal.nD Cert.MoeSRefIdeal.τ).loc Cert.MoeSRefIdeal.main_arg4)
      ∧ r.2.mem ((c.tc : Thread Cert.MoeSRefIdeal.nD Cert.MoeSRefIdeal.τ).loc Cert.MoeSRefIdeal.main_arg5) = m ((c.tc : Thread Cert.MoeSRefIdeal.nD Cert.MoeSRefIdeal.τ).loc Cert.MoeSRefIdeal.main_arg5)
      ∧ r.2.mem ((c.tc : Thread Cert.MoeSRefIdeal.nD Cert.MoeSRefIdeal.τ).loc Cert.MoeSRefIdeal.main_arg6) = m ((c.tc : Thread Cert.MoeSRefIdeal.nD Cert.MoeSRefIdeal.τ).loc Cert.MoeSRefIdeal.main_arg6)
      ∧ r.2.mem ((c.tc : Thread Cert.MoeSRefIdeal.nD Cert.MoeSRefIdeal.τ).loc Cert.MoeSRefIdeal.main_arg7) = m ((c.tc : Thread Cert.MoeSRefIdeal.nD Cert.MoeSRefIdeal.τ).loc Cert.MoeSRefIdeal.main_arg7))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3)
      ∧ r.2.mem ((c.tc : Thread Cert.InprojS.nD Cert.InprojS.τ).loc Cert.InprojS.main_arg4) = m ((c.tc : Thread Cert.InprojS.nD Cert.InprojS.τ).loc Cert.InprojS.main_arg4)
      ∧ r.2.mem ((c.tc : Thread Cert.InprojS.nD Cert.InprojS.τ).loc Cert.InprojS.main_arg5) = m ((c.tc : Thread Cert.InprojS.nD Cert.InprojS.τ).loc Cert.InprojS.main_arg5)
      ∧ r.2.mem ((c.tc : Thread Cert.InprojS.nD Cert.InprojS.τ).loc Cert.InprojS.main_arg6) = m ((c.tc : Thread Cert.InprojS.nD Cert.InprojS.τ).loc Cert.InprojS.main_arg6))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4)
      ∧ r.2.mem ((c.tc : Thread Cert.InprojSIdeal.nD Cert.InprojSIdeal.τ).loc Cert.InprojSIdeal.main_arg5) = m ((c.tc : Thread Cert.InprojSIdeal.nD Cert.InprojSIdeal.τ).loc Cert.InprojSIdeal.main_arg5)
      ∧ r.2.mem ((c.tc : Thread Cert.InprojSIdeal.nD Cert.InprojSIdeal.τ).loc Cert.InprojSIdeal.main_arg6) = m ((c.tc : Thread Cert.InprojSIdeal.nD Cert.InprojSIdeal.τ).loc Cert.InprojSIdeal.main_arg6))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4)
      ∧ r.2.mem ((c.tc : Thread Cert.InprojSRefIdeal.nD Cert.InprojSRefIdeal.τ).loc Cert.InprojSRefIdeal.main_arg5) = m ((c.tc : Thread Cert.InprojSRefIdeal.nD Cert.InprojSRefIdeal.τ).loc Cert.InprojSRefIdeal.main_arg5)
      ∧ r.2.mem ((c.tc : Thread Cert.InprojSRefIdeal.nD Cert.InprojSRefIdeal.τ).loc Cert.InprojSRefIdeal.main_arg6) = m ((c.tc : Thread Cert.InprojSRefIdeal.nD Cert.InprojSRefIdeal.τ).loc Cert.InprojSRefIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10)
      ∧ r.2.mem ((c.tc : Thread Cert.Outproj.nD Cert.Outproj.τ).loc Cert.Outproj.main_arg11) = m ((c.tc : Thread Cert.Outproj.nD Cert.Outproj.τ).loc Cert.Outproj.main_arg11))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10)
      ∧ r.2.mem ((c.tc : Thread Cert.OutprojRefIdeal.nD Cert.OutprojRefIdeal.τ).loc Cert.OutprojRefIdeal.main_arg11) = m ((c.tc : Thread Cert.OutprojRefIdeal.nD Cert.OutprojRefIdeal.τ).loc Cert.OutprojRefIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_OutprojS [hOutprojS : Cert.OutprojS.Facts] : Prop :=
  ∀ (m : (ℓ : Loc Cert.OutprojS.nD Cert.OutprojS.τ Cert.OutprojS.sig) → Buf (Elt Bits) ℓ) (g : Dev Cert.OutprojS.nD → PrngReg), Pre_OutprojS m →
    θ_run (Cert.OutprojS.defs (F := Bits)) (onTc (τ := Cert.OutprojS.τ) (Cert.OutprojS.main (F := Bits))) ⟨m, fun _ => 0, g⟩ (fun r => (∀ c : Dev Cert.OutprojS.nD,
      r.2.mem ((c.tc : Thread Cert.OutprojS.nD Cert.OutprojS.τ).loc Cert.OutprojS.main_arg0) = m ((c.tc : Thread Cert.OutprojS.nD Cert.OutprojS.τ).loc Cert.OutprojS.main_arg0)
      ∧ r.2.mem ((c.tc : Thread Cert.OutprojS.nD Cert.OutprojS.τ).loc Cert.OutprojS.main_arg1) = m ((c.tc : Thread Cert.OutprojS.nD Cert.OutprojS.τ).loc Cert.OutprojS.main_arg1)
      ∧ r.2.mem ((c.tc : Thread Cert.OutprojS.nD Cert.OutprojS.τ).loc Cert.OutprojS.main_arg2) = m ((c.tc : Thread Cert.OutprojS.nD Cert.OutprojS.τ).loc Cert.OutprojS.main_arg2)
      ∧ r.2.mem ((c.tc : Thread Cert.OutprojS.nD Cert.OutprojS.τ).loc Cert.OutprojS.main_arg3) = m ((c.tc : Thread Cert.OutprojS.nD Cert.OutprojS.τ).loc Cert.OutprojS.main_arg3)
      ∧ r.2.mem ((c.tc : Thread Cert.OutprojS.nD Cert.OutprojS.τ).loc Cert.OutprojS.main_arg4) = m ((c.tc : Thread Cert.OutprojS.nD Cert.OutprojS.τ).loc Cert.OutprojS.main_arg4)
      ∧ r.2.mem ((c.tc : Thread Cert.OutprojS.nD Cert.OutprojS.τ).loc Cert.OutprojS.main_arg5) = m ((c.tc : Thread Cert.OutprojS.nD Cert.OutprojS.τ).loc Cert.OutprojS.main_arg5)
      ∧ r.2.mem ((c.tc : Thread Cert.OutprojS.nD Cert.OutprojS.τ).loc Cert.OutprojS.main_arg6) = m ((c.tc : Thread Cert.OutprojS.nD Cert.OutprojS.τ).loc Cert.OutprojS.main_arg6)
      ∧ r.2.mem ((c.tc : Thread Cert.OutprojS.nD Cert.OutprojS.τ).loc Cert.OutprojS.main_arg7) = m ((c.tc : Thread Cert.OutprojS.nD Cert.OutprojS.τ).loc Cert.OutprojS.main_arg7)
      ∧ r.2.mem ((c.tc : Thread Cert.OutprojS.nD Cert.OutprojS.τ).loc Cert.OutprojS.main_arg8) = m ((c.tc : Thread Cert.OutprojS.nD Cert.OutprojS.τ).loc Cert.OutprojS.main_arg8)
      ∧ r.2.mem ((c.tc : Thread Cert.OutprojS.nD Cert.OutprojS.τ).loc Cert.OutprojS.main_arg9) = m ((c.tc : Thread Cert.OutprojS.nD Cert.OutprojS.τ).loc Cert.OutprojS.main_arg9)
      ∧ r.2.mem ((c.tc : Thread Cert.OutprojS.nD Cert.OutprojS.τ).loc Cert.OutprojS.main_arg10) = m ((c.tc : Thread Cert.OutprojS.nD Cert.OutprojS.τ).loc Cert.OutprojS.main_arg10)
      ∧ r.2.mem ((c.tc : Thread Cert.OutprojS.nD Cert.OutprojS.τ).loc Cert.OutprojS.main_arg11) = m ((c.tc : Thread Cert.OutprojS.nD Cert.OutprojS.τ).loc Cert.OutprojS.main_arg11))
      ∧ r.2.sem = fun _ => 0)

def quiescent_OutprojSIdeal [hOutprojSIdeal : Cert.OutprojSIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg), Pre_OutprojSIdeal m →
    θ_run (Cert.OutprojSIdeal.defs (F := Ideal)) (onTc (τ := Cert.OutprojSIdeal.τ) (Cert.OutprojSIdeal.main (F := Ideal))) ⟨m, fun _ => 0, g⟩ (fun r => (∀ c : Dev Cert.OutprojSIdeal.nD,
      r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
      ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
      ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2)
      ∧ r.2.mem ((c.tc : Thread Cert.OutprojSIdeal.nD Cert.OutprojSIdeal.τ).loc Cert.OutprojSIdeal.main_arg3) = m ((c.tc : Thread Cert.OutprojSIdeal.nD Cert.OutprojSIdeal.τ).loc Cert.OutprojSIdeal.main_arg3)
      ∧ r.2.mem ((c.tc : Thread Cert.OutprojSIdeal.nD Cert.OutprojSIdeal.τ).loc Cert.OutprojSIdeal.main_arg4) = m ((c.tc : Thread Cert.OutprojSIdeal.nD Cert.OutprojSIdeal.τ).loc Cert.OutprojSIdeal.main_arg4)
      ∧ r.2.mem ((c.tc : Thread Cert.OutprojSIdeal.nD Cert.OutprojSIdeal.τ).loc Cert.OutprojSIdeal.main_arg5) = m ((c.tc : Thread Cert.OutprojSIdeal.nD Cert.OutprojSIdeal.τ).loc Cert.OutprojSIdeal.main_arg5)
      ∧ r.2.mem ((c.tc : Thread Cert.OutprojSIdeal.nD Cert.OutprojSIdeal.τ).loc Cert.OutprojSIdeal.main_arg6) = m ((c.tc : Thread Cert.OutprojSIdeal.nD Cert.OutprojSIdeal.τ).loc Cert.OutprojSIdeal.main_arg6)
      ∧ r.2.mem ((c.tc : Thread Cert.OutprojSIdeal.nD Cert.OutprojSIdeal.τ).loc Cert.OutprojSIdeal.main_arg7) = m ((c.tc : Thread Cert.OutprojSIdeal.nD Cert.OutprojSIdeal.τ).loc Cert.OutprojSIdeal.main_arg7)
      ∧ r.2.mem ((c.tc : Thread Cert.OutprojSIdeal.nD Cert.OutprojSIdeal.τ).loc Cert.OutprojSIdeal.main_arg8) = m ((c.tc : Thread Cert.OutprojSIdeal.nD Cert.OutprojSIdeal.τ).loc Cert.OutprojSIdeal.main_arg8)
      ∧ r.2.mem ((c.tc : Thread Cert.OutprojSIdeal.nD Cert.OutprojSIdeal.τ).loc Cert.OutprojSIdeal.main_arg9) = m ((c.tc : Thread Cert.OutprojSIdeal.nD Cert.OutprojSIdeal.τ).loc Cert.OutprojSIdeal.main_arg9)
      ∧ r.2.mem ((c.tc : Thread Cert.OutprojSIdeal.nD Cert.OutprojSIdeal.τ).loc Cert.OutprojSIdeal.main_arg10) = m ((c.tc : Thread Cert.OutprojSIdeal.nD Cert.OutprojSIdeal.τ).loc Cert.OutprojSIdeal.main_arg10)
      ∧ r.2.mem ((c.tc : Thread Cert.OutprojSIdeal.nD Cert.OutprojSIdeal.τ).loc Cert.OutprojSIdeal.main_arg11) = m ((c.tc : Thread Cert.OutprojSIdeal.nD Cert.OutprojSIdeal.τ).loc Cert.OutprojSIdeal.main_arg11))
      ∧ r.2.sem = fun _ => 0)

def quiescent_OutprojSRefIdeal [hOutprojSRefIdeal : Cert.OutprojSRefIdeal.Facts] : Prop :=
  ∀ (m : (ℓ : Loc Cert.OutprojSRefIdeal.nD Cert.OutprojSRefIdeal.τ Cert.OutprojSRefIdeal.sig) → Buf (Elt Ideal) ℓ) (g : Dev Cert.OutprojSRefIdeal.nD → PrngReg), Pre_OutprojSRefIdeal m →
    θ_run (Cert.OutprojSRefIdeal.defs (F := Ideal)) (onTc (τ := Cert.OutprojSRefIdeal.τ) (Cert.OutprojSRefIdeal.main (F := Ideal))) ⟨m, fun _ => 0, g⟩ (fun r => (∀ c : Dev Cert.OutprojSRefIdeal.nD,
      r.2.mem ((c.tc : Thread Cert.OutprojSRefIdeal.nD Cert.OutprojSRefIdeal.τ).loc Cert.OutprojSRefIdeal.main_arg0) = m ((c.tc : Thread Cert.OutprojSRefIdeal.nD Cert.OutprojSRefIdeal.τ).loc Cert.OutprojSRefIdeal.main_arg0)
      ∧ r.2.mem ((c.tc : Thread Cert.OutprojSRefIdeal.nD Cert.OutprojSRefIdeal.τ).loc Cert.OutprojSRefIdeal.main_arg1) = m ((c.tc : Thread Cert.OutprojSRefIdeal.nD Cert.OutprojSRefIdeal.τ).loc Cert.OutprojSRefIdeal.main_arg1)
      ∧ r.2.mem ((c.tc : Thread Cert.OutprojSRefIdeal.nD Cert.OutprojSRefIdeal.τ).loc Cert.OutprojSRefIdeal.main_arg2) = m ((c.tc : Thread Cert.OutprojSRefIdeal.nD Cert.OutprojSRefIdeal.τ).loc Cert.OutprojSRefIdeal.main_arg2)
      ∧ r.2.mem ((c.tc : Thread Cert.OutprojSRefIdeal.nD Cert.OutprojSRefIdeal.τ).loc Cert.OutprojSRefIdeal.main_arg3) = m ((c.tc : Thread Cert.OutprojSRefIdeal.nD Cert.OutprojSRefIdeal.τ).loc Cert.OutprojSRefIdeal.main_arg3)
      ∧ r.2.mem ((c.tc : Thread Cert.OutprojSRefIdeal.nD Cert.OutprojSRefIdeal.τ).loc Cert.OutprojSRefIdeal.main_arg4) = m ((c.tc : Thread Cert.OutprojSRefIdeal.nD Cert.OutprojSRefIdeal.τ).loc Cert.OutprojSRefIdeal.main_arg4)
      ∧ r.2.mem ((c.tc : Thread Cert.OutprojSRefIdeal.nD Cert.OutprojSRefIdeal.τ).loc Cert.OutprojSRefIdeal.main_arg5) = m ((c.tc : Thread Cert.OutprojSRefIdeal.nD Cert.OutprojSRefIdeal.τ).loc Cert.OutprojSRefIdeal.main_arg5)
      ∧ r.2.mem ((c.tc : Thread Cert.OutprojSRefIdeal.nD Cert.OutprojSRefIdeal.τ).loc Cert.OutprojSRefIdeal.main_arg6) = m ((c.tc : Thread Cert.OutprojSRefIdeal.nD Cert.OutprojSRefIdeal.τ).loc Cert.OutprojSRefIdeal.main_arg6)
      ∧ r.2.mem ((c.tc : Thread Cert.OutprojSRefIdeal.nD Cert.OutprojSRefIdeal.τ).loc Cert.OutprojSRefIdeal.main_arg7) = m ((c.tc : Thread Cert.OutprojSRefIdeal.nD Cert.OutprojSRefIdeal.τ).loc Cert.OutprojSRefIdeal.main_arg7)
      ∧ r.2.mem ((c.tc : Thread Cert.OutprojSRefIdeal.nD Cert.OutprojSRefIdeal.τ).loc Cert.OutprojSRefIdeal.main_arg8) = m ((c.tc : Thread Cert.OutprojSRefIdeal.nD Cert.OutprojSRefIdeal.τ).loc Cert.OutprojSRefIdeal.main_arg8)
      ∧ r.2.mem ((c.tc : Thread Cert.OutprojSRefIdeal.nD Cert.OutprojSRefIdeal.τ).loc Cert.OutprojSRefIdeal.main_arg9) = m ((c.tc : Thread Cert.OutprojSRefIdeal.nD Cert.OutprojSRefIdeal.τ).loc Cert.OutprojSRefIdeal.main_arg9)
      ∧ r.2.mem ((c.tc : Thread Cert.OutprojSRefIdeal.nD Cert.OutprojSRefIdeal.τ).loc Cert.OutprojSRefIdeal.main_arg10) = m ((c.tc : Thread Cert.OutprojSRefIdeal.nD Cert.OutprojSRefIdeal.τ).loc Cert.OutprojSRefIdeal.main_arg10)
      ∧ r.2.mem ((c.tc : Thread Cert.OutprojSRefIdeal.nD Cert.OutprojSRefIdeal.τ).loc Cert.OutprojSRefIdeal.main_arg11) = m ((c.tc : Thread Cert.OutprojSRefIdeal.nD Cert.OutprojSRefIdeal.τ).loc Cert.OutprojSRefIdeal.main_arg11))
      ∧ r.2.sem = fun _ => 0)

def preserves_Gla_GlaIdeal : Prop :=
  True

def algebraic_GlaIdeal_GlaRefIdeal_on_new_tokens_pre_decay_below_infinity [hGlaIdeal : Cert.GlaIdeal.Facts] [hGlaRefIdeal : Cert.GlaRefIdeal.Facts] [hPre_decay_below_infinity : Cert.Pre_decay_below_infinity.Facts] [hOn_new_tokens : Cert.On_new_tokens.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal_decay_below_infinity m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v17_0)) (v1 : (c : Dev Cert.GlaIdeal.nD) → Buf (Elt Ideal) ((c.tc : Thread Cert.GlaIdeal.nD Cert.GlaIdeal.τ).loc Cert.GlaIdeal.main_v17_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          (∀ i : (⟨2, ![2048, 512]⟩ : Shape).Idx, (Cert.On_new_tokens.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).1 i = 1#1 → r.2.mem ((c.tc : Thread Cert.GlaIdeal.nD Cert.GlaIdeal.τ).loc Cert.GlaIdeal.main_v17_0) i = v0 c i)
          ∧ (∀ i : (⟨3, ![128, 512, 256]⟩ : Shape).Idx, (Cert.On_new_tokens.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2 i = 1#1 → r.2.mem ((c.tc : Thread Cert.GlaIdeal.nD Cert.GlaIdeal.τ).loc Cert.GlaIdeal.main_v17_1) i = v1 c i)
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          (∀ i : (⟨2, ![2048, 512]⟩ : Shape).Idx, (Cert.On_new_tokens.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).1 i = 1#1 → r.2.mem ((c.tc : Thread Cert.GlaRefIdeal.nD Cert.GlaRefIdeal.τ).loc Cert.GlaRefIdeal.main_v96) i = v0 c i)
          ∧ (∀ i : (⟨3, ![128, 512, 256]⟩ : Shape).Idx, (Cert.On_new_tokens.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6))).2 i = 1#1 → r.2.mem ((c.tc : Thread Cert.GlaRefIdeal.nD Cert.GlaRefIdeal.τ).loc Cert.GlaRefIdeal.main_v97) i = v1 c i)
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v32) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v25_0)) (v1 : (c : Dev Cert.InprojIdeal.nD) → Buf (Elt Ideal) ((c.tc : Thread Cert.InprojIdeal.nD Cert.InprojIdeal.τ).loc Cert.InprojIdeal.main_v25_1)) (v2 : (c : Dev Cert.InprojIdeal.nD) → Buf (Elt Ideal) ((c.tc : Thread Cert.InprojIdeal.nD Cert.InprojIdeal.τ).loc Cert.InprojIdeal.main_v25_2)) (v3 : (c : Dev Cert.InprojIdeal.nD) → Buf (Elt Ideal) ((c.tc : Thread Cert.InprojIdeal.nD Cert.InprojIdeal.τ).loc Cert.InprojIdeal.main_v25_3)) (v4 : (c : Dev Cert.InprojIdeal.nD) → Buf (Elt Ideal) ((c.tc : Thread Cert.InprojIdeal.nD Cert.InprojIdeal.τ).loc Cert.InprojIdeal.main_v25_4)) (v5 : (c : Dev Cert.InprojIdeal.nD) → Buf (Elt Ideal) ((c.tc : Thread Cert.InprojIdeal.nD Cert.InprojIdeal.τ).loc Cert.InprojIdeal.main_v25_5)) (v6 : (c : Dev Cert.InprojIdeal.nD) → Buf (Elt Ideal) ((c.tc : Thread Cert.InprojIdeal.nD Cert.InprojIdeal.τ).loc Cert.InprojIdeal.main_v25_6)) (v7 : (c : Dev Cert.InprojIdeal.nD) → Buf (Elt Ideal) ((c.tc : Thread Cert.InprojIdeal.nD Cert.InprojIdeal.τ).loc Cert.InprojIdeal.main_v25_7)) (v8 : (c : Dev Cert.InprojIdeal.nD) → Buf (Elt Ideal) ((c.tc : Thread Cert.InprojIdeal.nD Cert.InprojIdeal.τ).loc Cert.InprojIdeal.main_v25_8)) (v9 : (c : Dev Cert.InprojIdeal.nD) → Buf (Elt Ideal) ((c.tc : Thread Cert.InprojIdeal.nD Cert.InprojIdeal.τ).loc Cert.InprojIdeal.main_v25_9)) (v10 : (c : Dev Cert.InprojIdeal.nD) → Buf (Elt Ideal) ((c.tc : Thread Cert.InprojIdeal.nD Cert.InprojIdeal.τ).loc Cert.InprojIdeal.main_v25_10)) (v11 : (c : Dev Cert.InprojIdeal.nD) → Buf (Elt Ideal) ((c.tc : Thread Cert.InprojIdeal.nD Cert.InprojIdeal.τ).loc Cert.InprojIdeal.main_v25_11)) (v12 : (c : Dev Cert.InprojIdeal.nD) → Buf (Elt Ideal) ((c.tc : Thread Cert.InprojIdeal.nD Cert.InprojIdeal.τ).loc Cert.InprojIdeal.main_v25_12)) (v13 : (c : Dev Cert.InprojIdeal.nD) → Buf (Elt Ideal) ((c.tc : Thread Cert.InprojIdeal.nD Cert.InprojIdeal.τ).loc Cert.InprojIdeal.main_v25_13)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v25_0) = v0 c
          ∧ r.2.mem ((c.tc : Thread Cert.InprojIdeal.nD Cert.InprojIdeal.τ).loc Cert.InprojIdeal.main_v25_1) = v1 c
          ∧ r.2.mem ((c.tc : Thread Cert.InprojIdeal.nD Cert.InprojIdeal.τ).loc Cert.InprojIdeal.main_v25_2) = v2 c
          ∧ r.2.mem ((c.tc : Thread Cert.InprojIdeal.nD Cert.InprojIdeal.τ).loc Cert.InprojIdeal.main_v25_3) = v3 c
          ∧ r.2.mem ((c.tc : Thread Cert.InprojIdeal.nD Cert.InprojIdeal.τ).loc Cert.InprojIdeal.main_v25_4) = v4 c
          ∧ r.2.mem ((c.tc : Thread Cert.InprojIdeal.nD Cert.InprojIdeal.τ).loc Cert.InprojIdeal.main_v25_5) = v5 c
          ∧ r.2.mem ((c.tc : Thread Cert.InprojIdeal.nD Cert.InprojIdeal.τ).loc Cert.InprojIdeal.main_v25_6) = v6 c
          ∧ r.2.mem ((c.tc : Thread Cert.InprojIdeal.nD Cert.InprojIdeal.τ).loc Cert.InprojIdeal.main_v25_7) = v7 c
          ∧ r.2.mem ((c.tc : Thread Cert.InprojIdeal.nD Cert.InprojIdeal.τ).loc Cert.InprojIdeal.main_v25_8) = v8 c
          ∧ r.2.mem ((c.tc : Thread Cert.InprojIdeal.nD Cert.InprojIdeal.τ).loc Cert.InprojIdeal.main_v25_9) = v9 c
          ∧ r.2.mem ((c.tc : Thread Cert.InprojIdeal.nD Cert.InprojIdeal.τ).loc Cert.InprojIdeal.main_v25_10) = v10 c
          ∧ r.2.mem ((c.tc : Thread Cert.InprojIdeal.nD Cert.InprojIdeal.τ).loc Cert.InprojIdeal.main_v25_11) = v11 c
          ∧ r.2.mem ((c.tc : Thread Cert.InprojIdeal.nD Cert.InprojIdeal.τ).loc Cert.InprojIdeal.main_v25_12) = v12 c
          ∧ r.2.mem ((c.tc : Thread Cert.InprojIdeal.nD Cert.InprojIdeal.τ).loc Cert.InprojIdeal.main_v25_13) = v13 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v49) = v0 c
          ∧ r.2.mem ((c.tc : Thread Cert.InprojRefIdeal.nD Cert.InprojRefIdeal.τ).loc Cert.InprojRefIdeal.main_v23) = v1 c
          ∧ r.2.mem ((c.tc : Thread Cert.InprojRefIdeal.nD Cert.InprojRefIdeal.τ).loc Cert.InprojRefIdeal.main_v39) = v2 c
          ∧ r.2.mem ((c.tc : Thread Cert.InprojRefIdeal.nD Cert.InprojRefIdeal.τ).loc Cert.InprojRefIdeal.main_v24) = v3 c
          ∧ r.2.mem ((c.tc : Thread Cert.InprojRefIdeal.nD Cert.InprojRefIdeal.τ).loc Cert.InprojRefIdeal.main_v26) = v4 c
          ∧ r.2.mem ((c.tc : Thread Cert.InprojRefIdeal.nD Cert.InprojRefIdeal.τ).loc Cert.InprojRefIdeal.main_v50) = v5 c
          ∧ r.2.mem ((c.tc : Thread Cert.InprojRefIdeal.nD Cert.InprojRefIdeal.τ).loc Cert.InprojRefIdeal.main_v28) = v6 c
          ∧ r.2.mem ((c.tc : Thread Cert.InprojRefIdeal.nD Cert.InprojRefIdeal.τ).loc Cert.InprojRefIdeal.main_v29) = v7 c
          ∧ r.2.mem ((c.tc : Thread Cert.InprojRefIdeal.nD Cert.InprojRefIdeal.τ).loc Cert.InprojRefIdeal.main_v51) = v8 c
          ∧ r.2.mem ((c.tc : Thread Cert.InprojRefIdeal.nD Cert.InprojRefIdeal.τ).loc Cert.InprojRefIdeal.main_v52) = v9 c
          ∧ r.2.mem ((c.tc : Thread Cert.InprojRefIdeal.nD Cert.InprojRefIdeal.τ).loc Cert.InprojRefIdeal.main_v53) = v10 c
          ∧ r.2.mem ((c.tc : Thread Cert.InprojRefIdeal.nD Cert.InprojRefIdeal.τ).loc Cert.InprojRefIdeal.main_v31) = v11 c
          ∧ r.2.mem ((c.tc : Thread Cert.InprojRefIdeal.nD Cert.InprojRefIdeal.τ).loc Cert.InprojRefIdeal.main_v54) = v12 c
          ∧ r.2.mem ((c.tc : Thread Cert.InprojRefIdeal.nD Cert.InprojRefIdeal.τ).loc Cert.InprojRefIdeal.main_v47) = v13 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_MoeS_MoeSIdeal : Prop :=
  True

def algebraic_MoeSIdeal_MoeSRefIdeal [hMoeSIdeal : Cert.MoeSIdeal.Facts] [hMoeSRefIdeal : Cert.MoeSRefIdeal.Facts] : Prop :=
  ∀ (m : (ℓ : Loc Cert.MoeSIdeal.nD Cert.MoeSIdeal.τ Cert.MoeSIdeal.sig) → Buf (Elt Ideal) ℓ) (g : Dev Cert.MoeSIdeal.nD → PrngReg)
    (m' : (ℓ : Loc Cert.MoeSRefIdeal.nD Cert.MoeSRefIdeal.τ Cert.MoeSRefIdeal.sig) → Buf (Elt Ideal) ℓ) (g' : Dev Cert.MoeSRefIdeal.nD → PrngReg), Pre_MoeSIdeal m →
    (∀ c : Dev Cert.MoeSIdeal.nD,
      m' ((c.tc : Thread Cert.MoeSRefIdeal.nD Cert.MoeSRefIdeal.τ).loc Cert.MoeSRefIdeal.main_arg0) = m ((c.tc : Thread Cert.MoeSIdeal.nD Cert.MoeSIdeal.τ).loc Cert.MoeSIdeal.main_arg0)
      ∧ m' ((c.tc : Thread Cert.MoeSRefIdeal.nD Cert.MoeSRefIdeal.τ).loc Cert.MoeSRefIdeal.main_arg1) = m ((c.tc : Thread Cert.MoeSIdeal.nD Cert.MoeSIdeal.τ).loc Cert.MoeSIdeal.main_arg1)
      ∧ m' ((c.tc : Thread Cert.MoeSRefIdeal.nD Cert.MoeSRefIdeal.τ).loc Cert.MoeSRefIdeal.main_arg2) = m ((c.tc : Thread Cert.MoeSIdeal.nD Cert.MoeSIdeal.τ).loc Cert.MoeSIdeal.main_arg2)
      ∧ m' ((c.tc : Thread Cert.MoeSRefIdeal.nD Cert.MoeSRefIdeal.τ).loc Cert.MoeSRefIdeal.main_arg3) = m ((c.tc : Thread Cert.MoeSIdeal.nD Cert.MoeSIdeal.τ).loc Cert.MoeSIdeal.main_arg3)
      ∧ m' ((c.tc : Thread Cert.MoeSRefIdeal.nD Cert.MoeSRefIdeal.τ).loc Cert.MoeSRefIdeal.main_arg4) = m ((c.tc : Thread Cert.MoeSIdeal.nD Cert.MoeSIdeal.τ).loc Cert.MoeSIdeal.main_arg4)
      ∧ m' ((c.tc : Thread Cert.MoeSRefIdeal.nD Cert.MoeSRefIdeal.τ).loc Cert.MoeSRefIdeal.main_arg5) = m ((c.tc : Thread Cert.MoeSIdeal.nD Cert.MoeSIdeal.τ).loc Cert.MoeSIdeal.main_arg5)
      ∧ m' ((c.tc : Thread Cert.MoeSRefIdeal.nD Cert.MoeSRefIdeal.τ).loc Cert.MoeSRefIdeal.main_arg6) = m ((c.tc : Thread Cert.MoeSIdeal.nD Cert.MoeSIdeal.τ).loc Cert.MoeSIdeal.main_arg6)
      ∧ m' ((c.tc : Thread Cert.MoeSRefIdeal.nD Cert.MoeSRefIdeal.τ).loc Cert.MoeSRefIdeal.main_arg7) = m ((c.tc : Thread Cert.MoeSIdeal.nD Cert.MoeSIdeal.τ).loc Cert.MoeSIdeal.main_arg7)) →
    ∃ (v0 : (c : Dev Cert.MoeSIdeal.nD) → Buf (Elt Ideal) ((c.tc : Thread Cert.MoeSIdeal.nD Cert.MoeSIdeal.τ).loc Cert.MoeSIdeal.main_v5)),
      θ_run (Cert.MoeSIdeal.defs (F := Ideal)) (onTc (τ := Cert.MoeSIdeal.τ) (Cert.MoeSIdeal.main (F := Ideal))) ⟨m, fun _ => 0, g⟩ (fun r => ∀ c : Dev Cert.MoeSIdeal.nD,
          r.2.mem ((c.tc : Thread Cert.MoeSIdeal.nD Cert.MoeSIdeal.τ).loc Cert.MoeSIdeal.main_v5) = v0 c
          ∧ r.2.mem ((c.tc : Thread Cert.MoeSIdeal.nD Cert.MoeSIdeal.τ).loc Cert.MoeSIdeal.main_arg0) = m ((c.tc : Thread Cert.MoeSIdeal.nD Cert.MoeSIdeal.τ).loc Cert.MoeSIdeal.main_arg0)
          ∧ r.2.mem ((c.tc : Thread Cert.MoeSIdeal.nD Cert.MoeSIdeal.τ).loc Cert.MoeSIdeal.main_arg1) = m ((c.tc : Thread Cert.MoeSIdeal.nD Cert.MoeSIdeal.τ).loc Cert.MoeSIdeal.main_arg1)
          ∧ r.2.mem ((c.tc : Thread Cert.MoeSIdeal.nD Cert.MoeSIdeal.τ).loc Cert.MoeSIdeal.main_arg2) = m ((c.tc : Thread Cert.MoeSIdeal.nD Cert.MoeSIdeal.τ).loc Cert.MoeSIdeal.main_arg2)
          ∧ r.2.mem ((c.tc : Thread Cert.MoeSIdeal.nD Cert.MoeSIdeal.τ).loc Cert.MoeSIdeal.main_arg3) = m ((c.tc : Thread Cert.MoeSIdeal.nD Cert.MoeSIdeal.τ).loc Cert.MoeSIdeal.main_arg3)
          ∧ r.2.mem ((c.tc : Thread Cert.MoeSIdeal.nD Cert.MoeSIdeal.τ).loc Cert.MoeSIdeal.main_arg4) = m ((c.tc : Thread Cert.MoeSIdeal.nD Cert.MoeSIdeal.τ).loc Cert.MoeSIdeal.main_arg4)
          ∧ r.2.mem ((c.tc : Thread Cert.MoeSIdeal.nD Cert.MoeSIdeal.τ).loc Cert.MoeSIdeal.main_arg5) = m ((c.tc : Thread Cert.MoeSIdeal.nD Cert.MoeSIdeal.τ).loc Cert.MoeSIdeal.main_arg5)
          ∧ r.2.mem ((c.tc : Thread Cert.MoeSIdeal.nD Cert.MoeSIdeal.τ).loc Cert.MoeSIdeal.main_arg6) = m ((c.tc : Thread Cert.MoeSIdeal.nD Cert.MoeSIdeal.τ).loc Cert.MoeSIdeal.main_arg6)
          ∧ r.2.mem ((c.tc : Thread Cert.MoeSIdeal.nD Cert.MoeSIdeal.τ).loc Cert.MoeSIdeal.main_arg7) = m ((c.tc : Thread Cert.MoeSIdeal.nD Cert.MoeSIdeal.τ).loc Cert.MoeSIdeal.main_arg7))
      ∧ θ_run (Cert.MoeSRefIdeal.defs (F := Ideal)) (onTc (τ := Cert.MoeSRefIdeal.τ) (Cert.MoeSRefIdeal.main (F := Ideal))) ⟨m', fun _ => 0, g'⟩ (fun r => ∀ c : Dev Cert.MoeSRefIdeal.nD,
          r.2.mem ((c.tc : Thread Cert.MoeSRefIdeal.nD Cert.MoeSRefIdeal.τ).loc Cert.MoeSRefIdeal.main_v31) = v0 c
          ∧ r.2.mem ((c.tc : Thread Cert.MoeSRefIdeal.nD Cert.MoeSRefIdeal.τ).loc Cert.MoeSRefIdeal.main_arg0) = m' ((c.tc : Thread Cert.MoeSRefIdeal.nD Cert.MoeSRefIdeal.τ).loc Cert.MoeSRefIdeal.main_arg0)
          ∧ r.2.mem ((c.tc : Thread Cert.MoeSRefIdeal.nD Cert.MoeSRefIdeal.τ).loc Cert.MoeSRefIdeal.main_arg1) = m' ((c.tc : Thread Cert.MoeSRefIdeal.nD Cert.MoeSRefIdeal.τ).loc Cert.MoeSRefIdeal.main_arg1)
          ∧ r.2.mem ((c.tc : Thread Cert.MoeSRefIdeal.nD Cert.MoeSRefIdeal.τ).loc Cert.MoeSRefIdeal.main_arg2) = m' ((c.tc : Thread Cert.MoeSRefIdeal.nD Cert.MoeSRefIdeal.τ).loc Cert.MoeSRefIdeal.main_arg2)
          ∧ r.2.mem ((c.tc : Thread Cert.MoeSRefIdeal.nD Cert.MoeSRefIdeal.τ).loc Cert.MoeSRefIdeal.main_arg3) = m' ((c.tc : Thread Cert.MoeSRefIdeal.nD Cert.MoeSRefIdeal.τ).loc Cert.MoeSRefIdeal.main_arg3)
          ∧ r.2.mem ((c.tc : Thread Cert.MoeSRefIdeal.nD Cert.MoeSRefIdeal.τ).loc Cert.MoeSRefIdeal.main_arg4) = m' ((c.tc : Thread Cert.MoeSRefIdeal.nD Cert.MoeSRefIdeal.τ).loc Cert.MoeSRefIdeal.main_arg4)
          ∧ r.2.mem ((c.tc : Thread Cert.MoeSRefIdeal.nD Cert.MoeSRefIdeal.τ).loc Cert.MoeSRefIdeal.main_arg5) = m' ((c.tc : Thread Cert.MoeSRefIdeal.nD Cert.MoeSRefIdeal.τ).loc Cert.MoeSRefIdeal.main_arg5)
          ∧ r.2.mem ((c.tc : Thread Cert.MoeSRefIdeal.nD Cert.MoeSRefIdeal.τ).loc Cert.MoeSRefIdeal.main_arg6) = m' ((c.tc : Thread Cert.MoeSRefIdeal.nD Cert.MoeSRefIdeal.τ).loc Cert.MoeSRefIdeal.main_arg6)
          ∧ r.2.mem ((c.tc : Thread Cert.MoeSRefIdeal.nD Cert.MoeSRefIdeal.τ).loc Cert.MoeSRefIdeal.main_arg7) = m' ((c.tc : Thread Cert.MoeSRefIdeal.nD Cert.MoeSRefIdeal.τ).loc Cert.MoeSRefIdeal.main_arg7))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)
      ∧ m' ((c.tc : Thread Cert.InprojSRefIdeal.nD Cert.InprojSRefIdeal.τ).loc Cert.InprojSRefIdeal.main_arg4) = m ((c.tc : Thread Cert.InprojSIdeal.nD Cert.InprojSIdeal.τ).loc Cert.InprojSIdeal.main_arg4)
      ∧ m' ((c.tc : Thread Cert.InprojSRefIdeal.nD Cert.InprojSRefIdeal.τ).loc Cert.InprojSRefIdeal.main_arg5) = m ((c.tc : Thread Cert.InprojSIdeal.nD Cert.InprojSIdeal.τ).loc Cert.InprojSIdeal.main_arg5)
      ∧ m' ((c.tc : Thread Cert.InprojSRefIdeal.nD Cert.InprojSRefIdeal.τ).loc Cert.InprojSRefIdeal.main_arg6) = m ((c.tc : Thread Cert.InprojSIdeal.nD Cert.InprojSIdeal.τ).loc Cert.InprojSIdeal.main_arg6)) →
    ∃ (v0 : (c : Dev Cert.InprojSIdeal.nD) → Buf (Elt Ideal) ((c.tc : Thread Cert.InprojSIdeal.nD Cert.InprojSIdeal.τ).loc Cert.InprojSIdeal.main_v27_0)) (v1 : (c : Dev Cert.InprojSIdeal.nD) → Buf (Elt Ideal) ((c.tc : Thread Cert.InprojSIdeal.nD Cert.InprojSIdeal.τ).loc Cert.InprojSIdeal.main_v27_1)) (v2 : (c : Dev Cert.InprojSIdeal.nD) → Buf (Elt Ideal) ((c.tc : Thread Cert.InprojSIdeal.nD Cert.InprojSIdeal.τ).loc Cert.InprojSIdeal.main_v27_2)) (v3 : (c : Dev Cert.InprojSIdeal.nD) → Buf (Elt Ideal) ((c.tc : Thread Cert.InprojSIdeal.nD Cert.InprojSIdeal.τ).loc Cert.InprojSIdeal.main_v27_3)) (v4 : (c : Dev Cert.InprojSIdeal.nD) → Buf (Elt Ideal) ((c.tc : Thread Cert.InprojSIdeal.nD Cert.InprojSIdeal.τ).loc Cert.InprojSIdeal.main_v27_4)) (v5 : (c : Dev Cert.InprojSIdeal.nD) → Buf (Elt Ideal) ((c.tc : Thread Cert.InprojSIdeal.nD Cert.InprojSIdeal.τ).loc Cert.InprojSIdeal.main_v27_5)) (v6 : (c : Dev Cert.InprojSIdeal.nD) → Buf (Elt Ideal) ((c.tc : Thread Cert.InprojSIdeal.nD Cert.InprojSIdeal.τ).loc Cert.InprojSIdeal.main_v27_6)) (v7 : (c : Dev Cert.InprojSIdeal.nD) → Buf (Elt Ideal) ((c.tc : Thread Cert.InprojSIdeal.nD Cert.InprojSIdeal.τ).loc Cert.InprojSIdeal.main_v27_7)) (v8 : (c : Dev Cert.InprojSIdeal.nD) → Buf (Elt Ideal) ((c.tc : Thread Cert.InprojSIdeal.nD Cert.InprojSIdeal.τ).loc Cert.InprojSIdeal.main_v27_8)) (v9 : (c : Dev Cert.InprojSIdeal.nD) → Buf (Elt Ideal) ((c.tc : Thread Cert.InprojSIdeal.nD Cert.InprojSIdeal.τ).loc Cert.InprojSIdeal.main_v27_9)) (v10 : (c : Dev Cert.InprojSIdeal.nD) → Buf (Elt Ideal) ((c.tc : Thread Cert.InprojSIdeal.nD Cert.InprojSIdeal.τ).loc Cert.InprojSIdeal.main_v27_10)) (v11 : (c : Dev Cert.InprojSIdeal.nD) → Buf (Elt Ideal) ((c.tc : Thread Cert.InprojSIdeal.nD Cert.InprojSIdeal.τ).loc Cert.InprojSIdeal.main_v27_11)) (v12 : (c : Dev Cert.InprojSIdeal.nD) → Buf (Elt Ideal) ((c.tc : Thread Cert.InprojSIdeal.nD Cert.InprojSIdeal.τ).loc Cert.InprojSIdeal.main_v27_12)) (v13 : (c : Dev Cert.InprojSIdeal.nD) → Buf (Elt Ideal) ((c.tc : Thread Cert.InprojSIdeal.nD Cert.InprojSIdeal.τ).loc Cert.InprojSIdeal.main_v27_13)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v27_0) = v0 c
          ∧ r.2.mem ((c.tc : Thread Cert.InprojSIdeal.nD Cert.InprojSIdeal.τ).loc Cert.InprojSIdeal.main_v27_1) = v1 c
          ∧ r.2.mem ((c.tc : Thread Cert.InprojSIdeal.nD Cert.InprojSIdeal.τ).loc Cert.InprojSIdeal.main_v27_2) = v2 c
          ∧ r.2.mem ((c.tc : Thread Cert.InprojSIdeal.nD Cert.InprojSIdeal.τ).loc Cert.InprojSIdeal.main_v27_3) = v3 c
          ∧ r.2.mem ((c.tc : Thread Cert.InprojSIdeal.nD Cert.InprojSIdeal.τ).loc Cert.InprojSIdeal.main_v27_4) = v4 c
          ∧ r.2.mem ((c.tc : Thread Cert.InprojSIdeal.nD Cert.InprojSIdeal.τ).loc Cert.InprojSIdeal.main_v27_5) = v5 c
          ∧ r.2.mem ((c.tc : Thread Cert.InprojSIdeal.nD Cert.InprojSIdeal.τ).loc Cert.InprojSIdeal.main_v27_6) = v6 c
          ∧ r.2.mem ((c.tc : Thread Cert.InprojSIdeal.nD Cert.InprojSIdeal.τ).loc Cert.InprojSIdeal.main_v27_7) = v7 c
          ∧ r.2.mem ((c.tc : Thread Cert.InprojSIdeal.nD Cert.InprojSIdeal.τ).loc Cert.InprojSIdeal.main_v27_8) = v8 c
          ∧ r.2.mem ((c.tc : Thread Cert.InprojSIdeal.nD Cert.InprojSIdeal.τ).loc Cert.InprojSIdeal.main_v27_9) = v9 c
          ∧ r.2.mem ((c.tc : Thread Cert.InprojSIdeal.nD Cert.InprojSIdeal.τ).loc Cert.InprojSIdeal.main_v27_10) = v10 c
          ∧ r.2.mem ((c.tc : Thread Cert.InprojSIdeal.nD Cert.InprojSIdeal.τ).loc Cert.InprojSIdeal.main_v27_11) = v11 c
          ∧ r.2.mem ((c.tc : Thread Cert.InprojSIdeal.nD Cert.InprojSIdeal.τ).loc Cert.InprojSIdeal.main_v27_12) = v12 c
          ∧ r.2.mem ((c.tc : Thread Cert.InprojSIdeal.nD Cert.InprojSIdeal.τ).loc Cert.InprojSIdeal.main_v27_13) = v13 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
          ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4)
          ∧ r.2.mem ((c.tc : Thread Cert.InprojSIdeal.nD Cert.InprojSIdeal.τ).loc Cert.InprojSIdeal.main_arg5) = m ((c.tc : Thread Cert.InprojSIdeal.nD Cert.InprojSIdeal.τ).loc Cert.InprojSIdeal.main_arg5)
          ∧ r.2.mem ((c.tc : Thread Cert.InprojSIdeal.nD Cert.InprojSIdeal.τ).loc Cert.InprojSIdeal.main_arg6) = m ((c.tc : Thread Cert.InprojSIdeal.nD Cert.InprojSIdeal.τ).loc Cert.InprojSIdeal.main_arg6))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v47) = v0 c
          ∧ r.2.mem ((c.tc : Thread Cert.InprojSRefIdeal.nD Cert.InprojSRefIdeal.τ).loc Cert.InprojSRefIdeal.main_v21) = v1 c
          ∧ r.2.mem ((c.tc : Thread Cert.InprojSRefIdeal.nD Cert.InprojSRefIdeal.τ).loc Cert.InprojSRefIdeal.main_v37) = v2 c
          ∧ r.2.mem ((c.tc : Thread Cert.InprojSRefIdeal.nD Cert.InprojSRefIdeal.τ).loc Cert.InprojSRefIdeal.main_v22) = v3 c
          ∧ r.2.mem ((c.tc : Thread Cert.InprojSRefIdeal.nD Cert.InprojSRefIdeal.τ).loc Cert.InprojSRefIdeal.main_v24) = v4 c
          ∧ r.2.mem ((c.tc : Thread Cert.InprojSRefIdeal.nD Cert.InprojSRefIdeal.τ).loc Cert.InprojSRefIdeal.main_v48) = v5 c
          ∧ r.2.mem ((c.tc : Thread Cert.InprojSRefIdeal.nD Cert.InprojSRefIdeal.τ).loc Cert.InprojSRefIdeal.main_v26) = v6 c
          ∧ r.2.mem ((c.tc : Thread Cert.InprojSRefIdeal.nD Cert.InprojSRefIdeal.τ).loc Cert.InprojSRefIdeal.main_v27) = v7 c
          ∧ r.2.mem ((c.tc : Thread Cert.InprojSRefIdeal.nD Cert.InprojSRefIdeal.τ).loc Cert.InprojSRefIdeal.main_v49) = v8 c
          ∧ r.2.mem ((c.tc : Thread Cert.InprojSRefIdeal.nD Cert.InprojSRefIdeal.τ).loc Cert.InprojSRefIdeal.main_v50) = v9 c
          ∧ r.2.mem ((c.tc : Thread Cert.InprojSRefIdeal.nD Cert.InprojSRefIdeal.τ).loc Cert.InprojSRefIdeal.main_v51) = v10 c
          ∧ r.2.mem ((c.tc : Thread Cert.InprojSRefIdeal.nD Cert.InprojSRefIdeal.τ).loc Cert.InprojSRefIdeal.main_v29) = v11 c
          ∧ r.2.mem ((c.tc : Thread Cert.InprojSRefIdeal.nD Cert.InprojSRefIdeal.τ).loc Cert.InprojSRefIdeal.main_v52) = v12 c
          ∧ r.2.mem ((c.tc : Thread Cert.InprojSRefIdeal.nD Cert.InprojSRefIdeal.τ).loc Cert.InprojSRefIdeal.main_v45) = v13 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3)
          ∧ r.2.mem ((c.tc : Thread Cert.InprojSRefIdeal.nD Cert.InprojSRefIdeal.τ).loc Cert.InprojSRefIdeal.main_arg4) = m' ((c.tc : Thread Cert.InprojSRefIdeal.nD Cert.InprojSRefIdeal.τ).loc Cert.InprojSRefIdeal.main_arg4)
          ∧ r.2.mem ((c.tc : Thread Cert.InprojSRefIdeal.nD Cert.InprojSRefIdeal.τ).loc Cert.InprojSRefIdeal.main_arg5) = m' ((c.tc : Thread Cert.InprojSRefIdeal.nD Cert.InprojSRefIdeal.τ).loc Cert.InprojSRefIdeal.main_arg5)
          ∧ r.2.mem ((c.tc : Thread Cert.InprojSRefIdeal.nD Cert.InprojSRefIdeal.τ).loc Cert.InprojSRefIdeal.main_arg6) = m' ((c.tc : Thread Cert.InprojSRefIdeal.nD Cert.InprojSRefIdeal.τ).loc Cert.InprojSRefIdeal.main_arg6))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)
      ∧ m' ((c.tc : Thread Cert.OutprojRefIdeal.nD Cert.OutprojRefIdeal.τ).loc Cert.OutprojRefIdeal.main_arg11) = m ((c.tc : Thread Cert.OutprojIdeal.nD Cert.OutprojIdeal.τ).loc Cert.OutprojIdeal.main_arg11)) →
    ∃ (v0 : (c : Dev Cert.OutprojIdeal.nD) → Buf (Elt Ideal) ((c.tc : Thread Cert.OutprojIdeal.nD Cert.OutprojIdeal.τ).loc Cert.OutprojIdeal.main_v29_0)) (v1 : (c : Dev Cert.OutprojIdeal.nD) → Buf (Elt Ideal) ((c.tc : Thread Cert.OutprojIdeal.nD Cert.OutprojIdeal.τ).loc Cert.OutprojIdeal.main_v29_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v29_0) = v0 c
          ∧ r.2.mem ((c.tc : Thread Cert.OutprojIdeal.nD Cert.OutprojIdeal.τ).loc Cert.OutprojIdeal.main_v29_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
          ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v30) = v0 c
          ∧ r.2.mem ((c.tc : Thread Cert.OutprojRefIdeal.nD Cert.OutprojRefIdeal.τ).loc Cert.OutprojRefIdeal.main_v32) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10)
          ∧ r.2.mem ((c.tc : Thread Cert.OutprojRefIdeal.nD Cert.OutprojRefIdeal.τ).loc Cert.OutprojRefIdeal.main_arg11) = m' ((c.tc : Thread Cert.OutprojRefIdeal.nD Cert.OutprojRefIdeal.τ).loc Cert.OutprojRefIdeal.main_arg11))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v10) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_OutprojS_OutprojSIdeal : Prop :=
  True

def algebraic_OutprojSIdeal_OutprojSRefIdeal [hOutprojSIdeal : Cert.OutprojSIdeal.Facts] [hOutprojSRefIdeal : Cert.OutprojSRefIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg)
    (m' : (ℓ : Loc Cert.OutprojSRefIdeal.nD Cert.OutprojSRefIdeal.τ Cert.OutprojSRefIdeal.sig) → Buf (Elt Ideal) ℓ) (g' : Dev Cert.OutprojSRefIdeal.nD → PrngReg), Pre_OutprojSIdeal m →
    (∀ c : Dev Cert.OutprojSIdeal.nD,
      m' ((c.tc : Thread Cert.OutprojSRefIdeal.nD Cert.OutprojSRefIdeal.τ).loc Cert.OutprojSRefIdeal.main_arg0) = m ((c.tc : Thread Cert.OutprojSIdeal.nD Cert.OutprojSIdeal.τ).loc Cert.OutprojSIdeal.main_arg0)
      ∧ m' ((c.tc : Thread Cert.OutprojSRefIdeal.nD Cert.OutprojSRefIdeal.τ).loc Cert.OutprojSRefIdeal.main_arg1) = m ((c.tc : Thread Cert.OutprojSIdeal.nD Cert.OutprojSIdeal.τ).loc Cert.OutprojSIdeal.main_arg1)
      ∧ m' ((c.tc : Thread Cert.OutprojSRefIdeal.nD Cert.OutprojSRefIdeal.τ).loc Cert.OutprojSRefIdeal.main_arg2) = m ((c.tc : Thread Cert.OutprojSIdeal.nD Cert.OutprojSIdeal.τ).loc Cert.OutprojSIdeal.main_arg2)
      ∧ m' ((c.tc : Thread Cert.OutprojSRefIdeal.nD Cert.OutprojSRefIdeal.τ).loc Cert.OutprojSRefIdeal.main_arg3) = m ((c.tc : Thread Cert.OutprojSIdeal.nD Cert.OutprojSIdeal.τ).loc Cert.OutprojSIdeal.main_arg3)
      ∧ m' ((c.tc : Thread Cert.OutprojSRefIdeal.nD Cert.OutprojSRefIdeal.τ).loc Cert.OutprojSRefIdeal.main_arg4) = m ((c.tc : Thread Cert.OutprojSIdeal.nD Cert.OutprojSIdeal.τ).loc Cert.OutprojSIdeal.main_arg4)
      ∧ m' ((c.tc : Thread Cert.OutprojSRefIdeal.nD Cert.OutprojSRefIdeal.τ).loc Cert.OutprojSRefIdeal.main_arg5) = m ((c.tc : Thread Cert.OutprojSIdeal.nD Cert.OutprojSIdeal.τ).loc Cert.OutprojSIdeal.main_arg5)
      ∧ m' ((c.tc : Thread Cert.OutprojSRefIdeal.nD Cert.OutprojSRefIdeal.τ).loc Cert.OutprojSRefIdeal.main_arg6) = m ((c.tc : Thread Cert.OutprojSIdeal.nD Cert.OutprojSIdeal.τ).loc Cert.OutprojSIdeal.main_arg6)
      ∧ m' ((c.tc : Thread Cert.OutprojSRefIdeal.nD Cert.OutprojSRefIdeal.τ).loc Cert.OutprojSRefIdeal.main_arg7) = m ((c.tc : Thread Cert.OutprojSIdeal.nD Cert.OutprojSIdeal.τ).loc Cert.OutprojSIdeal.main_arg7)
      ∧ m' ((c.tc : Thread Cert.OutprojSRefIdeal.nD Cert.OutprojSRefIdeal.τ).loc Cert.OutprojSRefIdeal.main_arg8) = m ((c.tc : Thread Cert.OutprojSIdeal.nD Cert.OutprojSIdeal.τ).loc Cert.OutprojSIdeal.main_arg8)
      ∧ m' ((c.tc : Thread Cert.OutprojSRefIdeal.nD Cert.OutprojSRefIdeal.τ).loc Cert.OutprojSRefIdeal.main_arg9) = m ((c.tc : Thread Cert.OutprojSIdeal.nD Cert.OutprojSIdeal.τ).loc Cert.OutprojSIdeal.main_arg9)
      ∧ m' ((c.tc : Thread Cert.OutprojSRefIdeal.nD Cert.OutprojSRefIdeal.τ).loc Cert.OutprojSRefIdeal.main_arg10) = m ((c.tc : Thread Cert.OutprojSIdeal.nD Cert.OutprojSIdeal.τ).loc Cert.OutprojSIdeal.main_arg10)
      ∧ m' ((c.tc : Thread Cert.OutprojSRefIdeal.nD Cert.OutprojSRefIdeal.τ).loc Cert.OutprojSRefIdeal.main_arg11) = m ((c.tc : Thread Cert.OutprojSIdeal.nD Cert.OutprojSIdeal.τ).loc Cert.OutprojSIdeal.main_arg11)) →
    ∃ (v0 : (c : Dev Cert.OutprojSIdeal.nD) → Buf (Elt Ideal) ((c.tc : Thread Cert.OutprojSIdeal.nD Cert.OutprojSIdeal.τ).loc Cert.OutprojSIdeal.main_v32_0)) (v1 : (c : Dev Cert.OutprojSIdeal.nD) → Buf (Elt Ideal) ((c.tc : Thread Cert.OutprojSIdeal.nD Cert.OutprojSIdeal.τ).loc Cert.OutprojSIdeal.main_v32_1)),
      θ_run (Cert.OutprojSIdeal.defs (F := Ideal)) (onTc (τ := Cert.OutprojSIdeal.τ) (Cert.OutprojSIdeal.main (F := Ideal))) ⟨m, fun _ => 0, g⟩ (fun r => ∀ c : Dev Cert.OutprojSIdeal.nD,
          r.2.mem ((c.tc : Thread Cert.OutprojSIdeal.nD Cert.OutprojSIdeal.τ).loc Cert.OutprojSIdeal.main_v32_0) = v0 c
          ∧ r.2.mem ((c.tc : Thread Cert.OutprojSIdeal.nD Cert.OutprojSIdeal.τ).loc Cert.OutprojSIdeal.main_v32_1) = v1 c
          ∧ r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
          ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
          ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2)
          ∧ r.2.mem ((c.tc : Thread Cert.OutprojSIdeal.nD Cert.OutprojSIdeal.τ).loc Cert.OutprojSIdeal.main_arg3) = m ((c.tc : Thread Cert.OutprojSIdeal.nD Cert.OutprojSIdeal.τ).loc Cert.OutprojSIdeal.main_arg3)
          ∧ r.2.mem ((c.tc : Thread Cert.OutprojSIdeal.nD Cert.OutprojSIdeal.τ).loc Cert.OutprojSIdeal.main_arg4) = m ((c.tc : Thread Cert.OutprojSIdeal.nD Cert.OutprojSIdeal.τ).loc Cert.OutprojSIdeal.main_arg4)
          ∧ r.2.mem ((c.tc : Thread Cert.OutprojSIdeal.nD Cert.OutprojSIdeal.τ).loc Cert.OutprojSIdeal.main_arg5) = m ((c.tc : Thread Cert.OutprojSIdeal.nD Cert.OutprojSIdeal.τ).loc Cert.OutprojSIdeal.main_arg5)
          ∧ r.2.mem ((c.tc : Thread Cert.OutprojSIdeal.nD Cert.OutprojSIdeal.τ).loc Cert.OutprojSIdeal.main_arg6) = m ((c.tc : Thread Cert.OutprojSIdeal.nD Cert.OutprojSIdeal.τ).loc Cert.OutprojSIdeal.main_arg6)
          ∧ r.2.mem ((c.tc : Thread Cert.OutprojSIdeal.nD Cert.OutprojSIdeal.τ).loc Cert.OutprojSIdeal.main_arg7) = m ((c.tc : Thread Cert.OutprojSIdeal.nD Cert.OutprojSIdeal.τ).loc Cert.OutprojSIdeal.main_arg7)
          ∧ r.2.mem ((c.tc : Thread Cert.OutprojSIdeal.nD Cert.OutprojSIdeal.τ).loc Cert.OutprojSIdeal.main_arg8) = m ((c.tc : Thread Cert.OutprojSIdeal.nD Cert.OutprojSIdeal.τ).loc Cert.OutprojSIdeal.main_arg8)
          ∧ r.2.mem ((c.tc : Thread Cert.OutprojSIdeal.nD Cert.OutprojSIdeal.τ).loc Cert.OutprojSIdeal.main_arg9) = m ((c.tc : Thread Cert.OutprojSIdeal.nD Cert.OutprojSIdeal.τ).loc Cert.OutprojSIdeal.main_arg9)
          ∧ r.2.mem ((c.tc : Thread Cert.OutprojSIdeal.nD Cert.OutprojSIdeal.τ).loc Cert.OutprojSIdeal.main_arg10) = m ((c.tc : Thread Cert.OutprojSIdeal.nD Cert.OutprojSIdeal.τ).loc Cert.OutprojSIdeal.main_arg10)
          ∧ r.2.mem ((c.tc : Thread Cert.OutprojSIdeal.nD Cert.OutprojSIdeal.τ).loc Cert.OutprojSIdeal.main_arg11) = m ((c.tc : Thread Cert.OutprojSIdeal.nD Cert.OutprojSIdeal.τ).loc Cert.OutprojSIdeal.main_arg11))
      ∧ θ_run (Cert.OutprojSRefIdeal.defs (F := Ideal)) (onTc (τ := Cert.OutprojSRefIdeal.τ) (Cert.OutprojSRefIdeal.main (F := Ideal))) ⟨m', fun _ => 0, g'⟩ (fun r => ∀ c : Dev Cert.OutprojSRefIdeal.nD,
          r.2.mem ((c.tc : Thread Cert.OutprojSRefIdeal.nD Cert.OutprojSRefIdeal.τ).loc Cert.OutprojSRefIdeal.main_v27) = v0 c
          ∧ r.2.mem ((c.tc : Thread Cert.OutprojSRefIdeal.nD Cert.OutprojSRefIdeal.τ).loc Cert.OutprojSRefIdeal.main_v29) = v1 c
          ∧ r.2.mem ((c.tc : Thread Cert.OutprojSRefIdeal.nD Cert.OutprojSRefIdeal.τ).loc Cert.OutprojSRefIdeal.main_arg0) = m' ((c.tc : Thread Cert.OutprojSRefIdeal.nD Cert.OutprojSRefIdeal.τ).loc Cert.OutprojSRefIdeal.main_arg0)
          ∧ r.2.mem ((c.tc : Thread Cert.OutprojSRefIdeal.nD Cert.OutprojSRefIdeal.τ).loc Cert.OutprojSRefIdeal.main_arg1) = m' ((c.tc : Thread Cert.OutprojSRefIdeal.nD Cert.OutprojSRefIdeal.τ).loc Cert.OutprojSRefIdeal.main_arg1)
          ∧ r.2.mem ((c.tc : Thread Cert.OutprojSRefIdeal.nD Cert.OutprojSRefIdeal.τ).loc Cert.OutprojSRefIdeal.main_arg2) = m' ((c.tc : Thread Cert.OutprojSRefIdeal.nD Cert.OutprojSRefIdeal.τ).loc Cert.OutprojSRefIdeal.main_arg2)
          ∧ r.2.mem ((c.tc : Thread Cert.OutprojSRefIdeal.nD Cert.OutprojSRefIdeal.τ).loc Cert.OutprojSRefIdeal.main_arg3) = m' ((c.tc : Thread Cert.OutprojSRefIdeal.nD Cert.OutprojSRefIdeal.τ).loc Cert.OutprojSRefIdeal.main_arg3)
          ∧ r.2.mem ((c.tc : Thread Cert.OutprojSRefIdeal.nD Cert.OutprojSRefIdeal.τ).loc Cert.OutprojSRefIdeal.main_arg4) = m' ((c.tc : Thread Cert.OutprojSRefIdeal.nD Cert.OutprojSRefIdeal.τ).loc Cert.OutprojSRefIdeal.main_arg4)
          ∧ r.2.mem ((c.tc : Thread Cert.OutprojSRefIdeal.nD Cert.OutprojSRefIdeal.τ).loc Cert.OutprojSRefIdeal.main_arg5) = m' ((c.tc : Thread Cert.OutprojSRefIdeal.nD Cert.OutprojSRefIdeal.τ).loc Cert.OutprojSRefIdeal.main_arg5)
          ∧ r.2.mem ((c.tc : Thread Cert.OutprojSRefIdeal.nD Cert.OutprojSRefIdeal.τ).loc Cert.OutprojSRefIdeal.main_arg6) = m' ((c.tc : Thread Cert.OutprojSRefIdeal.nD Cert.OutprojSRefIdeal.τ).loc Cert.OutprojSRefIdeal.main_arg6)
          ∧ r.2.mem ((c.tc : Thread Cert.OutprojSRefIdeal.nD Cert.OutprojSRefIdeal.τ).loc Cert.OutprojSRefIdeal.main_arg7) = m' ((c.tc : Thread Cert.OutprojSRefIdeal.nD Cert.OutprojSRefIdeal.τ).loc Cert.OutprojSRefIdeal.main_arg7)
          ∧ r.2.mem ((c.tc : Thread Cert.OutprojSRefIdeal.nD Cert.OutprojSRefIdeal.τ).loc Cert.OutprojSRefIdeal.main_arg8) = m' ((c.tc : Thread Cert.OutprojSRefIdeal.nD Cert.OutprojSRefIdeal.τ).loc Cert.OutprojSRefIdeal.main_arg8)
          ∧ r.2.mem ((c.tc : Thread Cert.OutprojSRefIdeal.nD Cert.OutprojSRefIdeal.τ).loc Cert.OutprojSRefIdeal.main_arg9) = m' ((c.tc : Thread Cert.OutprojSRefIdeal.nD Cert.OutprojSRefIdeal.τ).loc Cert.OutprojSRefIdeal.main_arg9)
          ∧ r.2.mem ((c.tc : Thread Cert.OutprojSRefIdeal.nD Cert.OutprojSRefIdeal.τ).loc Cert.OutprojSRefIdeal.main_arg10) = m' ((c.tc : Thread Cert.OutprojSRefIdeal.nD Cert.OutprojSRefIdeal.τ).loc Cert.OutprojSRefIdeal.main_arg10)
          ∧ r.2.mem ((c.tc : Thread Cert.OutprojSRefIdeal.nD Cert.OutprojSRefIdeal.τ).loc Cert.OutprojSRefIdeal.main_arg11) = m' ((c.tc : Thread Cert.OutprojSRefIdeal.nD Cert.OutprojSRefIdeal.τ).loc Cert.OutprojSRefIdeal.main_arg11))

def Claim : Prop :=
  ∃ (hGla : Cert.Gla.Facts) (hGlaIdeal : Cert.GlaIdeal.Facts) (hGlaRefIdeal : Cert.GlaRefIdeal.Facts) (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hMoeS : Cert.MoeS.Facts) (hMoeSIdeal : Cert.MoeSIdeal.Facts) (hMoeSRefIdeal : Cert.MoeSRefIdeal.Facts) (hInprojS : Cert.InprojS.Facts) (hInprojSIdeal : Cert.InprojSIdeal.Facts) (hInprojSRefIdeal : Cert.InprojSRefIdeal.Facts) (hOutproj : Cert.Outproj.Facts) (hOutprojIdeal : Cert.OutprojIdeal.Facts) (hOutprojRefIdeal : Cert.OutprojRefIdeal.Facts) (hAda : Cert.Ada.Facts) (hAdaIdeal : Cert.AdaIdeal.Facts) (hAdaRefIdeal : Cert.AdaRefIdeal.Facts) (hOutprojS : Cert.OutprojS.Facts) (hOutprojSIdeal : Cert.OutprojSIdeal.Facts) (hOutprojSRefIdeal : Cert.OutprojSRefIdeal.Facts) (hPre_decay_below_infinity : Cert.Pre_decay_below_infinity.Facts) (hOn_new_tokens : Cert.On_new_tokens.Facts),
    quiescent_Gla (hGla := hGla)
    ∧ quiescent_GlaIdeal (hGlaIdeal := hGlaIdeal)
    ∧ quiescent_GlaIdeal_pre_decay_below_infinity (hGlaIdeal := hGlaIdeal) (hPre_decay_below_infinity := hPre_decay_below_infinity)
    ∧ quiescent_GlaRefIdeal (hGlaRefIdeal := hGlaRefIdeal)
    ∧ quiescent_GlaRefIdeal_pre_decay_below_infinity (hGlaRefIdeal := hGlaRefIdeal) (hPre_decay_below_infinity := hPre_decay_below_infinity)
    ∧ quiescent_Moe (hMoe := hMoe)
    ∧ quiescent_MoeIdeal (hMoeIdeal := hMoeIdeal)
    ∧ quiescent_MoeRefIdeal (hMoeRefIdeal := hMoeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_MoeS (hMoeS := hMoeS)
    ∧ quiescent_MoeSIdeal (hMoeSIdeal := hMoeSIdeal)
    ∧ quiescent_MoeSRefIdeal (hMoeSRefIdeal := hMoeSRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Ada (hAda := hAda)
    ∧ quiescent_AdaIdeal (hAdaIdeal := hAdaIdeal)
    ∧ quiescent_AdaRefIdeal (hAdaRefIdeal := hAdaRefIdeal)
    ∧ quiescent_OutprojS (hOutprojS := hOutprojS)
    ∧ quiescent_OutprojSIdeal (hOutprojSIdeal := hOutprojSIdeal)
    ∧ quiescent_OutprojSRefIdeal (hOutprojSRefIdeal := hOutprojSRefIdeal)
    ∧ preserves_Gla_GlaIdeal
    ∧ algebraic_GlaIdeal_GlaRefIdeal_on_new_tokens_pre_decay_below_infinity (hGlaIdeal := hGlaIdeal) (hGlaRefIdeal := hGlaRefIdeal) (hPre_decay_below_infinity := hPre_decay_below_infinity) (hOn_new_tokens := hOn_new_tokens)
    ∧ preserves_Moe_MoeIdeal
    ∧ algebraic_MoeIdeal_MoeRefIdeal (hMoeIdeal := hMoeIdeal) (hMoeRefIdeal := hMoeRefIdeal)
    ∧ preserves_Inproj_InprojIdeal
    ∧ algebraic_InprojIdeal_InprojRefIdeal (hInprojIdeal := hInprojIdeal) (hInprojRefIdeal := hInprojRefIdeal)
    ∧ preserves_MoeS_MoeSIdeal
    ∧ algebraic_MoeSIdeal_MoeSRefIdeal (hMoeSIdeal := hMoeSIdeal) (hMoeSRefIdeal := hMoeSRefIdeal)
    ∧ preserves_InprojS_InprojSIdeal
    ∧ algebraic_InprojSIdeal_InprojSRefIdeal (hInprojSIdeal := hInprojSIdeal) (hInprojSRefIdeal := hInprojSRefIdeal)
    ∧ preserves_Outproj_OutprojIdeal
    ∧ algebraic_OutprojIdeal_OutprojRefIdeal (hOutprojIdeal := hOutprojIdeal) (hOutprojRefIdeal := hOutprojRefIdeal)
    ∧ preserves_Ada_AdaIdeal
    ∧ algebraic_AdaIdeal_AdaRefIdeal (hAdaIdeal := hAdaIdeal) (hAdaRefIdeal := hAdaRefIdeal)
    ∧ preserves_OutprojS_OutprojSIdeal
    ∧ algebraic_OutprojSIdeal_OutprojSRefIdeal (hOutprojSIdeal := hOutprojSIdeal) (hOutprojSRefIdeal := hOutprojSRefIdeal)
-- ==== On_new_tokens.lean ====
abbrev S2048x256 : Shape := ⟨2, ![2048, 256]⟩
abbrev S2048x512 : Shape := ⟨2, ![2048, 512]⟩
abbrev S128 : Shape := ⟨1, ![128]⟩
abbrev S128x4x64x128 : Shape := ⟨4, ![128, 4, 64, 128]⟩
abbrev S_ : Shape := ⟨0, ![]⟩
abbrev S128x512x256 : Shape := ⟨3, ![128, 512, 256]⟩

class Facts : Prop where
  bcast_S_S2048x512 : S_.BroadcastsInDim S2048x512 (![] : Fin 0 → Fin S2048x512.rank)
  bcast_S_S128x512x256 : S_.BroadcastsInDim S128x512x256 (![] : Fin 0 → Fin S128x512x256.rank)

variable [Facts]

def fn {F : FTy → Type} [FloatOps F] (main_arg0 : FVec F S2048x256 .f32) (main_arg1 : FVec F S2048x256 .f32) (main_arg2 : FVec F S2048x256 .f32) (main_arg3 : FVec F S2048x512 .f32) (main_arg4 : FVec F S2048x512 .f32) (main_arg5 : FVec F S128 .f32) (main_arg6 : FVec F S128x4x64x128 .f32) : IVec S2048x512 1 × IVec S128x512x256 1 :=
  let main_v0 : IVec S2048x512 32 := iotaInDim S2048x512 32 0
  let main_c : IVec S_ 32 := constantI S_ 32 16#32
  let main_v1 : IVec S2048x512 32 := broadcastInDim S2048x512 ![] bcast_S_S2048x512 main_c
  let main_v2 : IVec S2048x512 32 := Host.remsi main_v0 main_v1
  let main_c_0 : IVec S_ 32 := constantI S_ 32 4#32
  let main_v3 : IVec S2048x512 32 := broadcastInDim S2048x512 ![] bcast_S_S2048x512 main_c_0
  let main_v4 : IVec S2048x512 1 := cmpi .slt main_v2 main_v3
  let main_c_1 : IVec S_ 1 := constantI S_ 1 1#1
  let main_v5 : IVec S128x512x256 1 := broadcastInDim S128x512x256 ![] bcast_S_S128x512x256 main_c_1
  (main_v4, main_v5)
-- ==== Pre_decay_below_infinity.lean ====
abbrev S2048x256 : Shape := ⟨2, ![2048, 256]⟩
abbrev S2048x512 : Shape := ⟨2, ![2048, 512]⟩
abbrev S128 : Shape := ⟨1, ![128]⟩
abbrev S128x4x64x128 : Shape := ⟨4, ![128, 4, 64, 128]⟩
abbrev S128x16x256 : Shape := ⟨3, ![128, 16, 256]⟩
abbrev S128x4x256 : Shape := ⟨3, ![128, 4, 256]⟩
abbrev S_ : Shape := ⟨0, ![]⟩

class Facts : Prop where
  shapeCasts_S2048x256_S128x16x256 : S2048x256.ShapeCasts S128x16x256
  slices_S128x16x256_S128x4x256_0_0_0 : S128x16x256.Slices ![0, 0, 0] S128x4x256
  bcast_S_S128x4x256 : S_.BroadcastsInDim S128x4x256 (![] : Fin 0 → Fin S128x4x256.rank)

variable [Facts]

def fn {F : FTy → Type} [FloatOps F] (main_arg0 : FVec F S2048x256 .f32) (main_arg1 : FVec F S2048x256 .f32) (main_arg2 : FVec F S2048x256 .f32) (main_arg3 : FVec F S2048x512 .f32) (main_arg4 : FVec F S2048x512 .f32) (main_arg5 : FVec F S128 .f32) (main_arg6 : FVec F S128x4x64x128 .f32) : IVec S128x4x256 1 :=
  let main_v0 : FVec F S128x16x256 .f32 := shapeCast S128x16x256 main_arg2 shapeCasts_S2048x256_S128x16x256
  let main_v1 : FVec F S128x4x256 .f32 := (extractStridedSlice S128x4x256 ![0, 0, 0] · slices_S128x16x256_S128x4x256_0_0_0) main_v0
  let main_cst : FVec F S_ .f32 := constant S_ .f32 0x7F800000#32
  let main_v2 : FVec F S128x4x256 .f32 := broadcastInDim S128x4x256 ![] bcast_S_S128x4x256 main_cst
  let main_v3 : IVec S128x4x256 1 := cmpf .olt main_v1 main_v2
  main_v3
-- ==== Gla.lean ====
abbrev S2048x256 : Shape := ⟨2, ![2048, 256]⟩
abbrev S2048x512 : Shape := ⟨2, ![2048, 512]⟩
abbrev S128 : Shape := ⟨1, ![128]⟩
abbrev S128x4x64x128 : Shape := ⟨4, ![128, 4, 64, 128]⟩
abbrev S128x4x128x64 : Shape := ⟨4, ![128, 4, 128, 64]⟩
abbrev S4x4 : Shape := ⟨2, ![4, 4]⟩
abbrev S_ : Shape := ⟨0, ![]⟩
abbrev S128x4x128x1x64 : Shape := ⟨5, ![128, 4, 128, 1, 64]⟩
abbrev S1x4x1x4x1 : Shape := ⟨5, ![1, 4, 1, 4, 1]⟩
abbrev S128x4x128x4x64 : Shape := ⟨5, ![128, 4, 128, 4, 64]⟩
abbrev S128x512x256 : Shape := ⟨3, ![128, 512, 256]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S16x256 : Shape := ⟨2, ![16, 256]⟩
abbrev S16x512 : Shape := ⟨2, ![16, 512]⟩
abbrev S1x512x256 : Shape := ⟨3, ![1, 512, 256]⟩
abbrev S512x256 : Shape := ⟨2, ![512, 256]⟩
abbrev S256x512 : Shape := ⟨2, ![256, 512]⟩
abbrev S16x16 : Shape := ⟨2, ![16, 16]⟩
abbrev S16x1 : Shape := ⟨2, ![16, 1]⟩
abbrev S1x256 : Shape := ⟨2, ![1, 256]⟩
abbrev S64x256 : Shape := ⟨2, ![64, 256]⟩
abbrev S64x512 : Shape := ⟨2, ![64, 512]⟩
abbrev S8x512 : Shape := ⟨2, ![8, 512]⟩
abbrev S16x128 : Shape := ⟨2, ![16, 128]⟩
abbrev S16 : Shape := ⟨1, ![16]⟩

abbrev nBuf : Space → Nat
  | .hbm => 27
  | .vmem => 18
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x512, .f32⟩
  | .hbm, ⟨4, _⟩ => ⟨S2048x512, .f32⟩
  | .hbm, ⟨5, _⟩ => ⟨S128, .f32⟩
  | .hbm, ⟨6, _⟩ => ⟨S128x4x64x128, .f32⟩
  | .hbm, ⟨7, _⟩ => ⟨S128x4x128x64, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S128x4x128x1x64, .f32⟩
  | .hbm, ⟨16, _⟩ => ⟨S1x4x1x4x1, .f32⟩
  | .hbm, ⟨17, _⟩ => ⟨S128x4x128x4x64, .f32⟩
  | .hbm, ⟨18, _⟩ => ⟨S128x4x128x4x64, .f32⟩
  | .hbm, ⟨19, _⟩ => ⟨S128x4x128x4x64, .f32⟩
  | .hbm, ⟨20, _⟩ => ⟨S128x512x256, .f32⟩
  | .hbm, ⟨21, _⟩ => ⟨S1x128, .f32⟩
  | .hbm, ⟨22, _⟩ => ⟨S4x128, .f32⟩
  | .hbm, ⟨23, _⟩ => ⟨S512, .f32⟩
  | .hbm, ⟨24, _⟩ => ⟨S1x512, .f32⟩
  | .hbm, ⟨25, _⟩ => ⟨S2048x512, .bf16⟩
  | .hbm, ⟨26, _⟩ => ⟨S128x512x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S1x512, .f32⟩
  | .local _ .vmem, ⟨11, _⟩ => ⟨S1x512x256, .f32⟩
  | .local _ .vmem, ⟨12, _⟩ => ⟨S1x512x256, .f32⟩
  | .local _ .vmem, ⟨13, _⟩ => ⟨S16x512, .bf16⟩
  | .local _ .vmem, ⟨14, _⟩ => ⟨S16x512, .bf16⟩
  | .local _ .vmem, ⟨15, _⟩ => ⟨S1x512x256, .f32⟩
  | .local _ .vmem, ⟨16, _⟩ => ⟨S1x512x256, .f32⟩
  | .local _ .vmem, ⟨17, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![128, 1], ![false, false]⟩

def k0_mult1 : BitVec 32 :=
  let c0_i32_27 : BitVec 32 := 0#32
  let c16_i32 : BitVec 32 := 16#32
  let v119 : BitVec 32 := Scalar.muli c0_i32_27 c16_i32
  v119
def k0_off1 : Fin 2 → Nat :=
  let c0_i32_27 : BitVec 32 := 0#32
  let c16_i32 : BitVec 32 := 16#32
  let v119 : BitVec 32 := Scalar.muli c0_i32_27 c16_i32
  let v120 : BitVec 32 := v119
  let v121 : Index := Scalar.indexCast v120
  let c0_28 : Index := 0#32
  ![v121.toNat, 0]
def k0_off2 : Fin 2 → Nat :=
  let c0_i32_27 : BitVec 32 := 0#32
  let c16_i32 : BitVec 32 := 16#32
  let v119 : BitVec 32 := Scalar.muli c0_i32_27 c16_i32
  let v120 : BitVec 32 := v119
  let v127 : Index := Scalar.indexCast v120
  let c0_31 : Index := 0#32
  ![v127.toNat, 0]
def k0_cond2 (i : grid0.Coords) : BitVec 1 :=
  let arg1 : BitVec 32 := BitVec.ofNat 32 (i 1).val
  let c0_i32_64 : BitVec 32 := 0#32
  let v322 : BitVec 1 := Scalar.cmpi .eq arg1 c0_i32_64
  let v323 : BitVec 32 := Scalar.extui v322
  let c0_i32_65 : BitVec 32 := 0#32
  let v324 : BitVec 1 := Scalar.cmpi .ne v323 c0_i32_65
  v324

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaRefIdeal.lean ====
abbrev S2048x256 : Shape := ⟨2, ![2048, 256]⟩
abbrev S2048x512 : Shape := ⟨2, ![2048, 512]⟩
abbrev S128 : Shape := ⟨1, ![128]⟩
abbrev S128x4x64x128 : Shape := ⟨4, ![128, 4, 64, 128]⟩
abbrev S128x16x256 : Shape := ⟨3, ![128, 16, 256]⟩
abbrev S128x4x256 : Shape := ⟨3, ![128, 4, 256]⟩
abbrev S128x4x4x64 : Shape := ⟨4, ![128, 4, 4, 64]⟩
abbrev S128x16x512 : Shape := ⟨3, ![128, 16, 512]⟩
abbrev S128x4x512 : Shape := ⟨3, ![128, 4, 512]⟩
abbrev S128x4x4x128 : Shape := ⟨4, ![128, 4, 4, 128]⟩
abbrev S128x4x1x64 : Shape := ⟨4, ![128, 4, 1, 64]⟩
abbrev S128x4x64 : Shape := ⟨3, ![128, 4, 64]⟩
abbrev S_ : Shape := ⟨0, ![]⟩
abbrev S4x4 : Shape := ⟨2, ![4, 4]⟩
abbrev S128x4x4x1x64 : Shape := ⟨5, ![128, 4, 4, 1, 64]⟩
abbrev S128x4x1x4x64 : Shape := ⟨5, ![128, 4, 1, 4, 64]⟩
abbrev S128x4x4x4x64 : Shape := ⟨5, ![128, 4, 4, 4, 64]⟩
abbrev S4x4x1 : Shape := ⟨3, ![4, 4, 1]⟩
abbrev S128x4x4x4 : Shape := ⟨4, ![128, 4, 4, 4]⟩
abbrev S128x4x64x1 : Shape := ⟨4, ![128, 4, 64, 1]⟩
abbrev S128x4x4 : Shape := ⟨3, ![128, 4, 4]⟩
abbrev S128x4x4x1 : Shape := ⟨4, ![128, 4, 4, 1]⟩
abbrev S1x1x1x128 : Shape := ⟨4, ![1, 1, 1, 128]⟩
abbrev S128x12x512 : Shape := ⟨3, ![128, 12, 512]⟩
abbrev S128x4x128x4x64 : Shape := ⟨5, ![128, 4, 128, 4, 64]⟩
abbrev S128x4x128x64 : Shape := ⟨4, ![128, 4, 128, 64]⟩
abbrev S128x4x128x1x64 : Shape := ⟨5, ![128, 4, 128, 1, 64]⟩
abbrev S128x512x256 : Shape := ⟨3, ![128, 512, 256]⟩

abbrev nBuf : Space → Nat
  | .hbm => 135
  | .vmem => 0
  | .smem => 0
  | _ => 0

abbrev hbmTy0_0 (i : Nat) : BufTy := match i % 128 with
  | 0 => ⟨S2048x256, .f32⟩
  | 1 => ⟨S2048x256, .f32⟩
  | 2 => ⟨S2048x256, .f32⟩
  | 3 => ⟨S2048x512, .f32⟩
  | 4 => ⟨S2048x512, .f32⟩
  | 5 => ⟨S128, .f32⟩
  | 6 => ⟨S128x4x64x128, .f32⟩
  | 7 => ⟨S128x16x256, .f32⟩
  | 8 => ⟨S128x4x256, .f32⟩
  | 9 => ⟨S128x4x4x64, .f32⟩
  | 10 => ⟨S128x4x4x64, .f32⟩
  | 11 => ⟨S128x16x256, .f32⟩
  | 12 => ⟨S128x4x256, .f32⟩
  | 13 => ⟨S128x4x4x64, .f32⟩
  | 14 => ⟨S128x4x4x64, .f32⟩
  | 15 => ⟨S128x16x256, .f32⟩
  | 16 => ⟨S128x4x256, .f32⟩
  | 17 => ⟨S128x4x4x64, .f32⟩
  | 18 => ⟨S128x4x4x64, .f32⟩
  | 19 => ⟨S128x16x512, .f32⟩
  | 20 => ⟨S128x4x512, .f32⟩
  | 21 => ⟨S128x4x4x128, .f32⟩
  | 22 => ⟨S128x4x4x128, .f32⟩
  | 23 => ⟨S128x4x1x64, .f32⟩
  | 24 => ⟨S128x4x64, .f32⟩
  | 25 => ⟨S128x4x1x64, .f32⟩
  | 26 => ⟨S128x4x64, .f32⟩
  | 27 => ⟨S128x4x64, .f32⟩
  | 28 => ⟨S128x4x1x64, .f32⟩
  | 29 => ⟨S128x4x64, .f32⟩
  | 30 => ⟨S128x4x64, .f32⟩
  | 31 => ⟨S128x4x1x64, .f32⟩
  | 32 => ⟨S128x4x64, .f32⟩
  | 33 => ⟨S128x4x64, .f32⟩
  | 34 => ⟨S128x4x1x64, .f32⟩
  | 35 => ⟨S128x4x1x64, .f32⟩
  | 36 => ⟨S128x4x1x64, .f32⟩
  | 37 => ⟨S128x4x1x64, .f32⟩
  | 38 => ⟨S128x4x4x64, .f32⟩
  | 39 => ⟨S_, .i1⟩
  | 40 => ⟨S4x4, .i1⟩
  | 41 => ⟨S4x4, .i32⟩
  | 42 => ⟨S_, .i32⟩
  | 43 => ⟨S4x4, .i32⟩
  | 44 => ⟨S4x4, .i32⟩
  | 45 => ⟨S4x4, .i32⟩
  | 46 => ⟨S4x4, .i1⟩
  | 47 => ⟨S_, .i1⟩
  | 48 => ⟨S4x4, .i1⟩
  | 49 => ⟨S4x4, .i1⟩
  | 50 => ⟨S128x4x4x64, .f32⟩
  | 51 => ⟨S128x4x4x64, .f32⟩
  | 52 => ⟨S128x4x4x128, .f32⟩
  | 53 => ⟨S128x4x4x1x64, .f32⟩
  | 54 => ⟨S128x4x1x4x64, .f32⟩
  | 55 => ⟨S128x4x4x4x64, .f32⟩
  | 56 => ⟨S128x4x4x4x64, .f32⟩
  | 57 => ⟨S128x4x4x4x64, .f32⟩
  | 58 => ⟨S4x4x1, .i1⟩
  | 59 => ⟨S_, .f32⟩
  | 60 => ⟨S_, .f32⟩
  | 61 => ⟨S128x4x4x4x64, .i1⟩
  | 62 => ⟨S128x4x4x4x64, .f32⟩
  | 63 => ⟨S128x4x4x4x64, .f32⟩
  | 64 => ⟨S128x4x4x4x64, .f32⟩
  | 65 => ⟨S128x4x4x1x64, .f32⟩
  | 66 => ⟨S128x4x4x4x64, .f32⟩
  | 67 => ⟨S128x4x4x4x64, .f32⟩
  | 68 => ⟨S128x4x1x4x64, .f32⟩
  | 69 => ⟨S128x4x4x4x64, .f32⟩
  | 70 => ⟨S128x4x4x4x64, .f32⟩
  | 71 => ⟨S_, .f32⟩
  | 72 => ⟨S128x4x4x4, .f32⟩
  | 73 => ⟨S128x4x4x128, .f32⟩
  | 74 => ⟨S128x4x4x128, .f32⟩
  | 75 => ⟨S128x4x1x64, .f32⟩
  | 76 => ⟨S128x4x64, .f32⟩
  | 77 => ⟨S128x4x64, .f32⟩
  | 78 => ⟨S128x4x64x1, .f32⟩
  | 79 => ⟨S128x4x64x128, .f32⟩
  | 80 => ⟨S128x4x64x128, .f32⟩
  | 81 => ⟨S128x4x1x64, .f32⟩
  | 82 => ⟨S128x4x4x64, .f32⟩
  | 83 => ⟨S128x4x4x64, .f32⟩
  | 84 => ⟨S128x4x4x64, .f32⟩
  | 85 => ⟨S128x4x4x64, .f32⟩
  | 86 => ⟨S128x4x64x128, .f32⟩
  | 87 => ⟨S128x4x64x128, .f32⟩
  | 88 => ⟨S128x4x4x128, .f32⟩
  | 89 => ⟨S128x4x4x128, .f32⟩
  | 90 => ⟨S_, .f32⟩
  | 91 => ⟨S128x4x4, .f32⟩
  | 92 => ⟨S128x4x4x1, .f32⟩
  | 93 => ⟨S_, .f32⟩
  | 94 => ⟨S128x4x4x1, .f32⟩
  | 95 => ⟨S128x4x4x1, .f32⟩
  | 96 => ⟨S_, .f32⟩
  | 97 => ⟨S128x4x4x1, .f32⟩
  | 98 => ⟨S128x4x4x1, .f32⟩
  | 99 => ⟨S128x4x4x1, .f32⟩
  | 100 => ⟨S128x4x4x128, .f32⟩
  | 101 => ⟨S128x4x4x128, .f32⟩
  | 102 => ⟨S1x1x1x128, .f32⟩
  | 103 => ⟨S128x4x4x128, .f32⟩
  | 104 => ⟨S128x4x4x128, .f32⟩
  | 105 => ⟨S128x16x512, .f32⟩
  | 106 => ⟨S128x4x512, .f32⟩
  | 107 => ⟨S128x4x512, .f32⟩
  | 108 => ⟨S128x4x512, .f32⟩
  | 109 => ⟨S_, .f32⟩
  | 110 => ⟨S128x4x512, .f32⟩
  | 111 => ⟨S128x4x512, .f32⟩
  | 112 => ⟨S_, .f32⟩
  | 113 => ⟨S128x4x512, .f32⟩
  | 114 => ⟨S128x4x512, .f32⟩
  | 115 => ⟨S128x4x512, .f32⟩
  | 116 => ⟨S128x4x4x128, .f32⟩
  | 117 => ⟨S128x4x4x128, .f32⟩
  | 118 => ⟨S128x4x512, .f32⟩
  | 119 => ⟨S_, .f32⟩
  | 120 => ⟨S128x12x512, .f32⟩
  | 121 => ⟨S128x16x512, .f32⟩
  | 122 => ⟨S128x4x128x4x64, .i32⟩
  | 123 => ⟨S128x4x128x4x64, .i32⟩
  | 124 => ⟨S128x4x128x4x64, .i1⟩
  | 125 => ⟨S128x4x128x64, .f32⟩
  | 126 => ⟨S128x4x128x1x64, .f32⟩
  | 127 => ⟨S_, .f32⟩
  | _ => ⟨S2048x256, .f32⟩

abbrev hbmTy0_1 (i : Nat) : BufTy := match i % 128 with
  | 0 => ⟨S_, .f32⟩
  | 1 => ⟨S128x4x128x4x64, .f32⟩
  | 2 => ⟨S128x4x128x4x64, .f32⟩
  | 3 => ⟨S128x4x128x4x64, .f32⟩
  | 4 => ⟨S2048x512, .f32⟩
  | 5 => ⟨S2048x512, .bf16⟩
  | 6 => ⟨S128x512x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_v32 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_1 : Ref sig .tc := ⟨.hbm, 90, rfl⟩
abbrev main_v69 : Ref sig .tc := ⟨.hbm, 91, rfl⟩
abbrev main_v70 : Ref sig .tc := ⟨.hbm, 92, rfl⟩
abbrev main_cst_2 : Ref sig .tc := ⟨.hbm, 93, rfl⟩
abbrev main_v71 : Ref sig .tc := ⟨.hbm, 94, rfl⟩
abbrev main_v72 : Ref sig .tc := ⟨.hbm, 95, rfl⟩
abbrev main_cst_3 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_4 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_5 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩

abbrev nD : Nat := 1
abbrev τ : Topo := Topo.v7x

variable {F : FTy → Type} [FloatOps F]
-- ==== Moe.lean ====
abbrev S65536x1024 : Shape := ⟨2, ![65536, 1024]⟩
abbrev S65536x128 : Shape := ⟨2, ![65536, 128]⟩
abbrev S8x1x1024 : Shape := ⟨3, ![8, 1, 1024]⟩
abbrev S1024 : Shape := ⟨1, ![1024]⟩
abbrev S16x1024x256 : Shape := ⟨3, ![16, 1024, 256]⟩
abbrev S16x256x1024 : Shape := ⟨3, ![16, 256, 1024]⟩
abbrev S1x1024 : Shape := ⟨2, ![1, 1024]⟩
abbrev S512x1024 : Shape := ⟨2, ![512, 1024]⟩
abbrev S512x128 : Shape := ⟨2, ![512, 128]⟩
abbrev S1x1x1024 : Shape := ⟨3, ![1, 1, 1024]⟩
abbrev S1x1024x256 : Shape := ⟨3, ![1, 1024, 256]⟩
abbrev S1024x256 : Shape := ⟨2, ![1024, 256]⟩
abbrev S512x256 : Shape := ⟨2, ![512, 256]⟩
abbrev S512x1 : Shape := ⟨2, ![512, 1]⟩
abbrev S1x256x1024 : Shape := ⟨3, ![1, 256, 1024]⟩
abbrev S256x1024 : Shape := ⟨2, ![256, 1024]⟩
abbrev S512 : Shape := ⟨1, ![512]⟩

abbrev nBuf : Space → Nat
  | .hbm => 13
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x128, .f32⟩
  | .hbm, ⟨3, _⟩ => ⟨S8x1x1024, .f32⟩
  | .hbm, ⟨4, _⟩ => ⟨S1024, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S16x1024x256, .bf16⟩
  | .hbm, ⟨9, _⟩ => ⟨S16x1024x256, .bf16⟩
  | .hbm, ⟨10, _⟩ => ⟨S16x256x1024, .bf16⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S16x1024x256, .bf16⟩
  | .local _ .vmem, ⟨10, _⟩ => ⟨S16x1024x256, .bf16⟩
  | .local _ .vmem, ⟨11, _⟩ => ⟨S16x256x1024, .bf16⟩
  | .local _ .vmem, ⟨12, _⟩ => ⟨S512x1024, .f32⟩
  | .local _ .vmem, ⟨13, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeRefIdeal.lean ====
abbrev S65536x1024 : Shape := ⟨2, ![65536, 1024]⟩
abbrev S65536x128 : Shape := ⟨2, ![65536, 128]⟩
abbrev S8x1x1024 : Shape := ⟨3, ![8, 1, 1024]⟩
abbrev S1024 : Shape := ⟨1, ![1024]⟩
abbrev S16x1024x256 : Shape := ⟨3, ![16, 1024, 256]⟩
abbrev S16x256x1024 : Shape := ⟨3, ![16, 256, 1024]⟩
abbrev S16x256x65536 : Shape := ⟨3, ![16, 256, 65536]⟩
abbrev S16x65536x256 : Shape := ⟨3, ![16, 65536, 256]⟩
abbrev S_ : Shape := ⟨0, ![]⟩
abbrev S16x65536x1024 : Shape := ⟨3, ![16, 65536, 1024]⟩
abbrev S65536x16 : Shape := ⟨2, ![65536, 16]⟩
abbrev S16x65536 : Shape := ⟨2, ![16, 65536]⟩
abbrev S16x65536x1 : Shape := ⟨3, ![16, 65536, 1]⟩
abbrev S8x8192x1024 : Shape := ⟨3, ![8, 8192, 1024]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x128, .f32⟩
  | .hbm, ⟨3, _⟩ => ⟨S8x1x1024, .f32⟩
  | .hbm, ⟨4, _⟩ => ⟨S1024, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S65536x1024, .f32⟩
  | .hbm, ⟨9, _⟩ => ⟨S16x256x65536, .f32⟩
  | .hbm, ⟨10, _⟩ => ⟨S16x65536x256, .f32⟩
  | .hbm, ⟨11, _⟩ => ⟨S16x65536x256, .f32⟩
  | .hbm, ⟨12, _⟩ => ⟨S16x65536x256, .f32⟩
  | .hbm, ⟨13, _⟩ => ⟨S_, .f32⟩
  | .hbm, ⟨14, _⟩ => ⟨S16x65536x256, .f32⟩
  | .hbm, ⟨15, _⟩ => ⟨S16x65536x256, .f32⟩
  | .hbm, ⟨16, _⟩ => ⟨S_, .f32⟩
  | .hbm, ⟨17, _⟩ => ⟨S16x65536x256, .f32⟩
  | .hbm, ⟨18, _⟩ => ⟨S16x65536x256, .f32⟩
  | .hbm, ⟨19, _⟩ => ⟨S16x65536x256, .f32⟩
  | .hbm, ⟨20, _⟩ => ⟨S16x256x65536, .f32⟩
  | .hbm, ⟨21, _⟩ => ⟨S16x65536x256, .f32⟩
  | .hbm, ⟨22, _⟩ => ⟨S16x65536x256, .f32⟩
  | .hbm, ⟨23, _⟩ => ⟨S16x65536x1024, .f32⟩
  | .hbm, ⟨24, _⟩ => ⟨S65536x16, .f32⟩
  | .hbm, ⟨25, _⟩ => ⟨S16x65536, .f32⟩
  | .hbm, ⟨26, _⟩ => ⟨S16x65536x1, .f32⟩
  | .hbm, ⟨27, _⟩ => ⟨S16x65536x1024, .f32⟩
  | .hbm, ⟨28, _⟩ => ⟨S16x65536x1024, .f32⟩
  | .hbm, ⟨29, _⟩ => ⟨S_, .f32⟩
  | .hbm, ⟨30, _⟩ => ⟨S65536x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S_, .f32⟩
  | .hbm, ⟨41, _⟩ => ⟨S8x8192x1, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x8192x1, .f32⟩
  | .hbm, ⟨47, _⟩ => ⟨S8x8192x1024, .f32⟩
  | .hbm, ⟨48, _⟩ => ⟨S8x8192x1024, .f32⟩
  | .hbm, ⟨49, _⟩ => ⟨S1x1x1024, .f32⟩
  | .hbm, ⟨50, _⟩ => ⟨S8x8192x1024, .f32⟩
  | .hbm, ⟨51, _⟩ => ⟨S8x8192x1024, .f32⟩
  | .hbm, ⟨52, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Inproj.lean ====
abbrev S65536x1024 : Shape := ⟨2, ![65536, 1024]⟩
abbrev S1024 : Shape := ⟨1, ![1024]⟩
abbrev S8x1x1024 : Shape := ⟨3, ![8, 1, 1024]⟩
abbrev S1024x2644 : Shape := ⟨2, ![1024, 2644]⟩
abbrev S16x256 : Shape := ⟨2, ![16, 256]⟩
abbrev S256 : Shape := ⟨1, ![256]⟩
abbrev S_ : Shape := ⟨0, ![]⟩
abbrev S128x256 : Shape := ⟨2, ![128, 256]⟩
abbrev S1 : Shape := ⟨1, ![1]⟩
abbrev S1024x64 : Shape := ⟨2, ![1024, 64]⟩
abbrev S1024x1024 : Shape := ⟨2, ![1024, 1024]⟩
abbrev S1024x512 : Shape := ⟨2, ![1024, 512]⟩
abbrev S1024x68 : Shape := ⟨2, ![1024, 68]⟩
abbrev S1024x16 : Shape := ⟨2, ![1024, 16]⟩
abbrev S1024x44 : Shape := ⟨2, ![1024, 44]⟩
abbrev S1024x2816 : Shape := ⟨2, ![1024, 2816]⟩
abbrev S1x1024 : Shape := ⟨2, ![1, 1024]⟩
abbrev S1x256 : Shape := ⟨2, ![1, 256]⟩
abbrev S65536x256 : Shape := ⟨2, ![65536, 256]⟩
abbrev S65536x512 : Shape := ⟨2, ![65536, 512]⟩
abbrev S65536x128 : Shape := ⟨2, ![65536, 128]⟩
abbrev S65536x64 : Shape := ⟨2, ![65536, 64]⟩
abbrev S512x1024 : Shape := ⟨2, ![512, 1024]⟩
abbrev S1x1x1024 : Shape := ⟨3, ![1, 1, 1024]⟩
abbrev S512x256 : Shape := ⟨2, ![512, 256]⟩
abbrev S512x512 : Shape := ⟨2, ![512, 512]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩

abbrev nBuf : Space → Nat
  | .hbm => 49
  | .vmem => 38
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2644, .f32⟩
  | .hbm, ⟨5, _⟩ => ⟨S16x256, .f32⟩
  | .hbm, ⟨6, _⟩ => ⟨S256, .f32⟩
  | .hbm, ⟨7, _⟩ => ⟨S_, .f32⟩
  | .hbm, ⟨8, _⟩ => ⟨S128x256, .f32⟩
  | .hbm, ⟨9, _⟩ => ⟨S_, .i32⟩
  | .hbm, ⟨10, _⟩ => ⟨S1, .i32⟩
  | .hbm, ⟨11, _⟩ => ⟨S128x256, .f32⟩
  | .hbm, ⟨12, _⟩ => ⟨S128x256, .bf16⟩
  | .hbm, ⟨13, _⟩ => ⟨S1024x64, .f32⟩
  | .hbm, ⟨14, _⟩ => ⟨S1024x1024, .f32⟩
  | .hbm, ⟨15, _⟩ => ⟨S1024x512, .f32⟩
  | .hbm, ⟨16, _⟩ => ⟨S1024x512, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S1024x64, .f32⟩
  | .hbm, ⟨24, _⟩ => ⟨S1024x64, .f32⟩
  | .hbm, ⟨25, _⟩ => ⟨S1024x512, .f32⟩
  | .hbm, ⟨26, _⟩ => ⟨S1024x512, .f32⟩
  | .hbm, ⟨27, _⟩ => ⟨S1024x68, .f32⟩
  | .hbm, ⟨28, _⟩ => ⟨S1024x16, .f32⟩
  | .hbm, ⟨29, _⟩ => ⟨S_, .f32⟩
  | .hbm, ⟨30, _⟩ => ⟨S1024x44, .f32⟩
  | .hbm, ⟨31, _⟩ => ⟨S1024x2816, .f32⟩
  | .hbm, ⟨32, _⟩ => ⟨S1024x2816, .bf16⟩
  | .hbm, ⟨33, _⟩ => ⟨S1x1024, .f32⟩
  | .hbm, ⟨34, _⟩ => ⟨S1x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S65536x512, .f32⟩
  | .hbm, ⟨39, _⟩ => ⟨S65536x512, .f32⟩
  | .hbm, ⟨40, _⟩ => ⟨S65536x512, .bf16⟩
  | .hbm, ⟨41, _⟩ => ⟨S65536x128, .f32⟩
  | .hbm, ⟨42, _⟩ => ⟨S65536x128, .f32⟩
  | .hbm, ⟨43, _⟩ => ⟨S65536x128, .bf16⟩
  | .hbm, ⟨44, _⟩ => ⟨S65536x128, .bf16⟩
  | .hbm, ⟨45, _⟩ => ⟨S65536x256, .bf16⟩
  | .hbm, ⟨46, _⟩ => ⟨S65536x64, .f32⟩
  | .hbm, ⟨47, _⟩ => ⟨S65536x128, .bf16⟩
  | .hbm, ⟨48, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2816, .bf16⟩
  | .local _ .vmem, ⟨8, _⟩ => ⟨S128x256, .bf16⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x128, .bf16⟩
  | .local _ .vmem, ⟨30, _⟩ => ⟨S512x256, .bf16⟩
  | .local _ .vmem, ⟨31, _⟩ => ⟨S512x256, .bf16⟩
  | .local _ .vmem, ⟨32, _⟩ => ⟨S512x64, .f32⟩
  | .local _ .vmem, ⟨33, _⟩ => ⟨S512x64, .f32⟩
  | .local _ .vmem, ⟨34, _⟩ => ⟨S512x128, .bf16⟩
  | .local _ .vmem, ⟨35, _⟩ => ⟨S512x128, .bf16⟩
  | .local _ .vmem, ⟨36, _⟩ => ⟨S512x128, .f32⟩
  | .local _ .vmem, ⟨37, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev main_v25_3 : Ref sig .tc := ⟨.hbm, 38, rfl⟩
abbrev main_v25_4 : Ref sig .tc := ⟨.hbm, 39, rfl⟩
abbrev main_v25_5 : Ref sig .tc := ⟨.hbm, 40, rfl⟩
abbrev main_v25_6 : Ref sig .tc := ⟨.hbm, 41, rfl⟩
abbrev main_v25_7 : Ref sig .tc := ⟨.hbm, 42, rfl⟩
abbrev main_v25_8 : Ref sig .tc := ⟨.hbm, 43, rfl⟩
abbrev main_v25_9 : Ref sig .tc := ⟨.hbm, 44, rfl⟩
abbrev main_v25_10 : Ref sig .tc := ⟨.hbm, 45, rfl⟩
abbrev main_v25_11 : Ref sig .tc := ⟨.hbm, 46, rfl⟩
abbrev main_v25_12 : Ref sig .tc := ⟨.hbm, 47, rfl⟩
abbrev main_v25_13 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InprojRefIdeal.lean ====
abbrev S65536x1024 : Shape := ⟨2, ![65536, 1024]⟩
abbrev S1024 : Shape := ⟨1, ![1024]⟩
abbrev S8x1x1024 : Shape := ⟨3, ![8, 1, 1024]⟩
abbrev S1024x2644 : Shape := ⟨2, ![1024, 2644]⟩
abbrev S16x256 : Shape := ⟨2, ![16, 256]⟩
abbrev S256 : Shape := ⟨1, ![256]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S65536x2644 : Shape := ⟨2, ![65536, 2644]⟩
abbrev S65536x256 : Shape := ⟨2, ![65536, 256]⟩
abbrev S65536x512 : Shape := ⟨2, ![65536, 512]⟩
abbrev S65536x16 : Shape := ⟨2, ![65536, 16]⟩
abbrev S65536x128 : Shape := ⟨2, ![65536, 128]⟩
abbrev S65536x64 : Shape := ⟨2, ![65536, 64]⟩
abbrev S65536x4 : Shape := ⟨2, ![65536, 4]⟩
abbrev S1x256 : Shape := ⟨2, ![1, 256]⟩
abbrev S65536x2x4x64 : Shape := ⟨4, ![65536, 2, 4, 64]⟩
abbrev S65536x4x2x64 : Shape := ⟨4, ![65536, 4, 2, 64]⟩
abbrev S65536x44 : Shape := ⟨2, ![65536, 44]⟩

abbrev nBuf : Space → Nat
  | .hbm => 85
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2644, .f32⟩
  | .hbm, ⟨5, _⟩ => ⟨S16x256, .f32⟩
  | .hbm, ⟨6, _⟩ => ⟨S256, .f32⟩
  | .hbm, ⟨7, _⟩ => ⟨S8x8192x1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S65536x1024, .f32⟩
  | .hbm, ⟨32, _⟩ => ⟨S65536x2644, .f32⟩
  | .hbm, ⟨33, _⟩ => ⟨S65536x256, .f32⟩
  | .hbm, ⟨34, _⟩ => ⟨S65536x256, .f32⟩
  | .hbm, ⟨35, _⟩ => ⟨S65536x512, .f32⟩
  | .hbm, ⟨36, _⟩ => ⟨S65536x16, .f32⟩
  | .hbm, ⟨37, _⟩ => ⟨S65536x512, .f32⟩
  | .hbm, ⟨38, _⟩ => ⟨S65536x512, .f32⟩
  | .hbm, ⟨39, _⟩ => ⟨S65536x128, .f32⟩
  | .hbm, ⟨40, _⟩ => ⟨S65536x128, .f32⟩
  | .hbm, ⟨41, _⟩ => ⟨S65536x256, .f32⟩
  | .hbm, ⟨42, _⟩ => ⟨S65536x64, .f32⟩
  | .hbm, ⟨43, _⟩ => ⟨S65536x4, .f32⟩
  | .hbm, ⟨44, _⟩ => ⟨S65536x256, .f32⟩
  | .hbm, ⟨45, _⟩ => ⟨S1x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .i1⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S65536x256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S_, .f32⟩
  | .hbm, ⟨65, _⟩ => ⟨S65536x256, .f32⟩
  | .hbm, ⟨66, _⟩ => ⟨S65536x256, .f32⟩
  | .hbm, ⟨67, _⟩ => ⟨S_, .f32⟩
  | .hbm, ⟨68, _⟩ => ⟨S65536x512, .f32⟩
  | .hbm, ⟨69, _⟩ => ⟨S65536x512, .f32⟩
  | .hbm, ⟨70, _⟩ => ⟨S65536x2x4x64, .f32⟩
  | .hbm, ⟨71, _⟩ => ⟨S65536x4x2x64, .f32⟩
  | .hbm, ⟨72, _⟩ => ⟨S65536x512, .f32⟩
  | .hbm, ⟨73, _⟩ => ⟨S65536x128, .f32⟩
  | .hbm, ⟨74, _⟩ => ⟨S_, .f32⟩
  | .hbm, ⟨75, _⟩ => ⟨S65536x44, .f32⟩
  | .hbm, ⟨76, _⟩ => ⟨S65536x128, .f32⟩
  | .hbm, ⟨77, _⟩ => ⟨S_, .f32⟩
  | .hbm, ⟨78, _⟩ => ⟨S65536x256, .f32⟩
  | .hbm, ⟨79, _⟩ => ⟨S65536x256, .f32⟩
  | .hbm, ⟨80, _⟩ => ⟨S65536x512, .bf16⟩
  | .hbm, ⟨81, _⟩ => ⟨S65536x128, .bf16⟩
  | .hbm, ⟨82, _⟩ => ⟨S65536x128, .bf16⟩
  | .hbm, ⟨83, _⟩ => ⟨S65536x256, .bf16⟩
  | .hbm, ⟨84, _⟩ => ⟨S65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_call0_cst : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_v1 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_5 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== MoeS.lean ====
abbrev S2048x1024 : Shape := ⟨2, ![2048, 1024]⟩
abbrev S2048x128 : Shape := ⟨2, ![2048, 128]⟩
abbrev S2048x1x1024 : Shape := ⟨3, ![2048, 1, 1024]⟩
abbrev S1024 : Shape := ⟨1, ![1024]⟩
abbrev S16x1024x256 : Shape := ⟨3, ![16, 1024, 256]⟩
abbrev S16x256x1024 : Shape := ⟨3, ![16, 256, 1024]⟩
abbrev S1x1024 : Shape := ⟨2, ![1, 1024]⟩
abbrev S256x1024 : Shape := ⟨2, ![256, 1024]⟩
abbrev S256x128 : Shape := ⟨2, ![256, 128]⟩
abbrev S1x1024x256 : Shape := ⟨3, ![1, 1024, 256]⟩
abbrev S1024x256 : Shape := ⟨2, ![1024, 256]⟩
abbrev S256x256 : Shape := ⟨2, ![256, 256]⟩
abbrev S256x1 : Shape := ⟨2, ![256, 1]⟩
abbrev S1x256x1024 : Shape := ⟨3, ![1, 256, 1024]⟩
abbrev S256 : Shape := ⟨1, ![256]⟩

abbrev nBuf : Space → Nat
  | .hbm => 14
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x128, .f32⟩
  | .hbm, ⟨3, _⟩ => ⟨S2048x1x1024, .f32⟩
  | .hbm, ⟨4, _⟩ => ⟨S1024, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S16x1024x256, .bf16⟩
  | .hbm, ⟨9, _⟩ => ⟨S16x1024x256, .bf16⟩
  | .hbm, ⟨10, _⟩ => ⟨S16x256x1024, .bf16⟩
  | .hbm, ⟨11, _⟩ => ⟨S2048x1024, .f32⟩
  | .hbm, ⟨12, _⟩ => ⟨S1x1024, .f32⟩
  | .hbm, ⟨13, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S16x1024x256, .bf16⟩
  | .local _ .vmem, ⟨10, _⟩ => ⟨S16x1024x256, .bf16⟩
  | .local _ .vmem, ⟨11, _⟩ => ⟨S16x256x1024, .bf16⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MoeSRefIdeal.lean ====
abbrev S2048x1024 : Shape := ⟨2, ![2048, 1024]⟩
abbrev S2048x128 : Shape := ⟨2, ![2048, 128]⟩
abbrev S2048x1x1024 : Shape := ⟨3, ![2048, 1, 1024]⟩
abbrev S1024 : Shape := ⟨1, ![1024]⟩
abbrev S16x1024x256 : Shape := ⟨3, ![16, 1024, 256]⟩
abbrev S16x256x1024 : Shape := ⟨3, ![16, 256, 1024]⟩
abbrev S16x256x2048 : Shape := ⟨3, ![16, 256, 2048]⟩
abbrev S16x2048x256 : Shape := ⟨3, ![16, 2048, 256]⟩
abbrev S_ : Shape := ⟨0, ![]⟩
abbrev S16x2048x1024 : Shape := ⟨3, ![16, 2048, 1024]⟩
abbrev S2048x16 : Shape := ⟨2, ![2048, 16]⟩
abbrev S16x2048 : Shape := ⟨2, ![16, 2048]⟩
abbrev S16x2048x1 : Shape := ⟨3, ![16, 2048, 1]⟩
abbrev S2048x1 : Shape := ⟨2, ![2048, 1]⟩
abbrev S2048x1x1 : Shape := ⟨3, ![2048, 1, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x128, .f32⟩
  | .hbm, ⟨3, _⟩ => ⟨S2048x1x1024, .f32⟩
  | .hbm, ⟨4, _⟩ => ⟨S1024, .f32⟩
  | .hbm, ⟨5, _⟩ => ⟨S16x1024x256, .f32⟩
  | .hbm, ⟨6, _⟩ => ⟨S16x1024x256, .f32⟩
  | .hbm, ⟨7, _⟩ => ⟨S16x256x1024, .f32⟩
  | .hbm, ⟨8, _⟩ => ⟨S2048x1024, .f32⟩
  | .hbm, ⟨9, _⟩ => ⟨S16x256x2048, .f32⟩
  | .hbm, ⟨10, _⟩ => ⟨S16x2048x256, .f32⟩
  | .hbm, ⟨11, _⟩ => ⟨S16x2048x256, .f32⟩
  | .hbm, ⟨12, _⟩ => ⟨S16x2048x256, .f32⟩
  | .hbm, ⟨13, _⟩ => ⟨S_, .f32⟩
  | .hbm, ⟨14, _⟩ => ⟨S16x2048x256, .f32⟩
  | .hbm, ⟨15, _⟩ => ⟨S16x2048x256, .f32⟩
  | .hbm, ⟨16, _⟩ => ⟨S_, .f32⟩
  | .hbm, ⟨17, _⟩ => ⟨S16x2048x256, .f32⟩
  | .hbm, ⟨18, _⟩ => ⟨S16x2048x256, .f32⟩
  | .hbm, ⟨19, _⟩ => ⟨S16x2048x256, .f32⟩
  | .hbm, ⟨20, _⟩ => ⟨S16x256x2048, .f32⟩
  | .hbm, ⟨21, _⟩ => ⟨S16x2048x256, .f32⟩
  | .hbm, ⟨22, _⟩ => ⟨S16x2048x256, .f32⟩
  | .hbm, ⟨23, _⟩ => ⟨S16x2048x1024, .f32⟩
  | .hbm, ⟨24, _⟩ => ⟨S2048x16, .f32⟩
  | .hbm, ⟨25, _⟩ => ⟨S16x2048, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S2048x1024, .f32⟩
  | .hbm, ⟨31, _⟩ => ⟨S2048x1x1024, .f32⟩
  | .hbm, ⟨32, _⟩ => ⟨S2048x1x1024, .f32⟩
  | .hbm, ⟨33, _⟩ => ⟨S2048x1x1024, .f32⟩
  | .hbm, ⟨34, _⟩ => ⟨S2048x1x1024, .f32⟩
  | .hbm, ⟨35, _⟩ => ⟨S2048x1x1024, .f32⟩
  | .hbm, ⟨36, _⟩ => ⟨S_, .f32⟩
  | .hbm, ⟨37, _⟩ => ⟨S2048x1, .f32⟩
  | .hbm, ⟨38, _⟩ => ⟨S2048x1x1, .f32⟩
  | .hbm, ⟨39, _⟩ => ⟨S_, .f32⟩
  | .hbm, ⟨40, _⟩ => ⟨S2048x1x1, .f32⟩
  | .hbm, ⟨41, _⟩ => ⟨S2048x1x1, .f32⟩
  | .hbm, ⟨42, _⟩ => ⟨S_, .f32⟩
  | .hbm, ⟨43, _⟩ => ⟨S2048x1x1, .f32⟩
  | .hbm, ⟨44, _⟩ => ⟨S2048x1x1, .f32⟩
  | .hbm, ⟨45, _⟩ => ⟨S2048x1x1, .f32⟩
  | .hbm, ⟨46, _⟩ => ⟨S2048x1x1024, .f32⟩
  | .hbm, ⟨47, _⟩ => ⟨S2048x1x1024, .f32⟩
  | .hbm, ⟨48, _⟩ => ⟨S1x1x1024, .f32⟩
  | .hbm, ⟨49, _⟩ => ⟨S2048x1x1024, .f32⟩
  | .hbm, ⟨50, _⟩ => ⟨S2048x1x1024, .f32⟩
  | .hbm, ⟨51, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== InprojS.lean ====
abbrev S2048x1024 : Shape := ⟨2, ![2048, 1024]⟩
abbrev S1024 : Shape := ⟨1, ![1024]⟩
abbrev S2048x1x1024 : Shape := ⟨3, ![2048, 1, 1024]⟩
abbrev S1024x2644 : Shape := ⟨2, ![1024, 2644]⟩
abbrev S16x256 : Shape := ⟨2, ![16, 256]⟩
abbrev S256 : Shape := ⟨1, ![256]⟩
abbrev S_ : Shape := ⟨0, ![]⟩
abbrev S128x256 : Shape := ⟨2, ![128, 256]⟩
abbrev S1 : Shape := ⟨1, ![1]⟩
abbrev S1024x64 : Shape := ⟨2, ![1024, 64]⟩
abbrev S1024x1024 : Shape := ⟨2, ![1024, 1024]⟩
abbrev S1024x512 : Shape := ⟨2, ![1024, 512]⟩
abbrev S1024x68 : Shape := ⟨2, ![1024, 68]⟩
abbrev S1024x16 : Shape := ⟨2, ![1024, 16]⟩
abbrev S1024x44 : Shape := ⟨2, ![1024, 44]⟩
abbrev S1024x2816 : Shape := ⟨2, ![1024, 2816]⟩
abbrev S1x1024 : Shape := ⟨2, ![1, 1024]⟩
abbrev S1x256 : Shape := ⟨2, ![1, 256]⟩
abbrev S2048x256 : Shape := ⟨2, ![2048, 256]⟩
abbrev S2048x512 : Shape := ⟨2, ![2048, 512]⟩
abbrev S2048x128 : Shape := ⟨2, ![2048, 128]⟩
abbrev S2048x64 : Shape := ⟨2, ![2048, 64]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512x64 : Shape := ⟨2, ![512, 64]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩

abbrev nBuf : Space → Nat
  | .hbm => 51
  | .vmem => 38
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1x1024, .f32⟩
  | .hbm, ⟨3, _⟩ => ⟨S2048x1x1024, .f32⟩
  | .hbm, ⟨4, _⟩ => ⟨S1024x2644, .f32⟩
  | .hbm, ⟨5, _⟩ => ⟨S16x256, .f32⟩
  | .hbm, ⟨6, _⟩ => ⟨S256, .f32⟩
  | .hbm, ⟨7, _⟩ => ⟨S_, .f32⟩
  | .hbm, ⟨8, _⟩ => ⟨S128x256, .f32⟩
  | .hbm, ⟨9, _⟩ => ⟨S_, .i32⟩
  | .hbm, ⟨10, _⟩ => ⟨S1, .i32⟩
  | .hbm, ⟨11, _⟩ => ⟨S128x256, .f32⟩
  | .hbm, ⟨12, _⟩ => ⟨S128x256, .bf16⟩
  | .hbm, ⟨13, _⟩ => ⟨S1024x64, .f32⟩
  | .hbm, ⟨14, _⟩ => ⟨S1024x1024, .f32⟩
  | .hbm, ⟨15, _⟩ => ⟨S1024x512, .f32⟩
  | .hbm, ⟨16, _⟩ => ⟨S1024x512, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x64, .f32⟩
  | .hbm, ⟨23, _⟩ => ⟨S1024x64, .f32⟩
  | .hbm, ⟨24, _⟩ => ⟨S1024x64, .f32⟩
  | .hbm, ⟨25, _⟩ => ⟨S1024x512, .f32⟩
  | .hbm, ⟨26, _⟩ => ⟨S1024x512, .f32⟩
  | .hbm, ⟨27, _⟩ => ⟨S1024x68, .f32⟩
  | .hbm, ⟨28, _⟩ => ⟨S1024x16, .f32⟩
  | .hbm, ⟨29, _⟩ => ⟨S_, .f32⟩
  | .hbm, ⟨30, _⟩ => ⟨S1024x44, .f32⟩
  | .hbm, ⟨31, _⟩ => ⟨S1024x2816, .f32⟩
  | .hbm, ⟨32, _⟩ => ⟨S1024x2816, .bf16⟩
  | .hbm, ⟨33, _⟩ => ⟨S2048x1024, .f32⟩
  | .hbm, ⟨34, _⟩ => ⟨S2048x1024, .f32⟩
  | .hbm, ⟨35, _⟩ => ⟨S1x1024, .f32⟩
  | .hbm, ⟨36, _⟩ => ⟨S1x256, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S2048x512, .f32⟩
  | .hbm, ⟨41, _⟩ => ⟨S2048x512, .f32⟩
  | .hbm, ⟨42, _⟩ => ⟨S2048x512, .bf16⟩
  | .hbm, ⟨43, _⟩ => ⟨S2048x128, .f32⟩
  | .hbm, ⟨44, _⟩ => ⟨S2048x128, .f32⟩
  | .hbm, ⟨45, _⟩ => ⟨S2048x128, .bf16⟩
  | .hbm, ⟨46, _⟩ => ⟨S2048x128, .bf16⟩
  | .hbm, ⟨47, _⟩ => ⟨S2048x256, .bf16⟩
  | .hbm, ⟨48, _⟩ => ⟨S2048x64, .f32⟩
  | .hbm, ⟨49, _⟩ => ⟨S2048x128, .bf16⟩
  | .hbm, ⟨50, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x2816, .bf16⟩
  | .local _ .vmem, ⟨8, _⟩ => ⟨S128x256, .bf16⟩
  | .local _ .vmem, ⟨9, _⟩ => ⟨S1x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .bf16⟩
  | .local _ .vmem, ⟨27, _⟩ => ⟨S512x128, .bf16⟩
  | .local _ .vmem, ⟨28, _⟩ => ⟨S512x128, .bf16⟩
  | .local _ .vmem, ⟨29, _⟩ => ⟨S512x128, .bf16⟩
  | .local _ .vmem, ⟨30, _⟩ => ⟨S512x256, .bf16⟩
  | .local _ .vmem, ⟨31, _⟩ => ⟨S512x256, .bf16⟩
  | .local _ .vmem, ⟨32, _⟩ => ⟨S512x64, .f32⟩
  | .local _ .vmem, ⟨33, _⟩ => ⟨S512x64, .f32⟩
  | .local _ .vmem, ⟨34, _⟩ => ⟨S512x128, .bf16⟩
  | .local _ .vmem, ⟨35, _⟩ => ⟨S512x128, .bf16⟩
  | .local _ .vmem, ⟨36, _⟩ => ⟨S512x128, .f32⟩
  | .local _ .vmem, ⟨37, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev main_v27_2 : Ref sig .tc := ⟨.hbm, 39, rfl⟩
abbrev main_v27_3 : Ref sig .tc := ⟨.hbm, 40, rfl⟩
abbrev main_v27_4 : Ref sig .tc := ⟨.hbm, 41, rfl⟩
abbrev main_v27_5 : Ref sig .tc := ⟨.hbm, 42, rfl⟩
abbrev main_v27_6 : Ref sig .tc := ⟨.hbm, 43, rfl⟩
abbrev main_v27_7 : Ref sig .tc := ⟨.hbm, 44, rfl⟩
abbrev main_v27_8 : Ref sig .tc := ⟨.hbm, 45, rfl⟩
abbrev main_v27_9 : Ref sig .tc := ⟨.hbm, 46, rfl⟩
abbrev main_v27_10 : Ref sig .tc := ⟨.hbm, 47, rfl⟩
abbrev main_v27_11 : Ref sig .tc := ⟨.hbm, 48, rfl⟩
abbrev main_v27_12 : Ref sig .tc := ⟨.hbm, 49, rfl⟩
abbrev main_v27_13 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== InprojSRefIdeal.lean ====
abbrev S2048x1024 : Shape := ⟨2, ![2048, 1024]⟩
abbrev S1024 : Shape := ⟨1, ![1024]⟩
abbrev S2048x1x1024 : Shape := ⟨3, ![2048, 1, 1024]⟩
abbrev S1024x2644 : Shape := ⟨2, ![1024, 2644]⟩
abbrev S16x256 : Shape := ⟨2, ![16, 256]⟩
abbrev S256 : Shape := ⟨1, ![256]⟩
abbrev S_ : Shape := ⟨0, ![]⟩
abbrev S2048x1 : Shape := ⟨2, ![2048, 1]⟩
abbrev S2048x1x1 : Shape := ⟨3, ![2048, 1, 1]⟩
abbrev S1x1x1024 : Shape := ⟨3, ![1, 1, 1024]⟩
abbrev S2048x2644 : Shape := ⟨2, ![2048, 2644]⟩
abbrev S2048x256 : Shape := ⟨2, ![2048, 256]⟩
abbrev S2048x512 : Shape := ⟨2, ![2048, 512]⟩
abbrev S2048x16 : Shape := ⟨2, ![2048, 16]⟩
abbrev S2048x128 : Shape := ⟨2, ![2048, 128]⟩
abbrev S2048x64 : Shape := ⟨2, ![2048, 64]⟩
abbrev S2048x4 : Shape := ⟨2, ![2048, 4]⟩
abbrev S1x256 : Shape := ⟨2, ![1, 256]⟩
abbrev S2048x2x4x64 : Shape := ⟨4, ![2048, 2, 4, 64]⟩
abbrev S2048x4x2x64 : Shape := ⟨4, ![2048, 4, 2, 64]⟩
abbrev S2048x44 : Shape := ⟨2, ![2048, 44]⟩

abbrev nBuf : Space → Nat
  | .hbm => 83
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1x1024, .f32⟩
  | .hbm, ⟨3, _⟩ => ⟨S2048x1x1024, .f32⟩
  | .hbm, ⟨4, _⟩ => ⟨S1024x2644, .f32⟩
  | .hbm, ⟨5, _⟩ => ⟨S16x256, .f32⟩
  | .hbm, ⟨6, _⟩ => ⟨S256, .f32⟩
  | .hbm, ⟨7, _⟩ => ⟨S2048x1x1024, .f32⟩
  | .hbm, ⟨8, _⟩ => ⟨S2048x1x1024, .f32⟩
  | .hbm, ⟨9, _⟩ => ⟨S_, .f32⟩
  | .hbm, ⟨10, _⟩ => ⟨S2048x1, .f32⟩
  | .hbm, ⟨11, _⟩ => ⟨S2048x1x1, .f32⟩
  | .hbm, ⟨12, _⟩ => ⟨S_, .f32⟩
  | .hbm, ⟨13, _⟩ => ⟨S2048x1x1, .f32⟩
  | .hbm, ⟨14, _⟩ => ⟨S2048x1x1, .f32⟩
  | .hbm, ⟨15, _⟩ => ⟨S_, .f32⟩
  | .hbm, ⟨16, _⟩ => ⟨S2048x1x1, .f32⟩
  | .hbm, ⟨17, _⟩ => ⟨S2048x1x1, .f32⟩
  | .hbm, ⟨18, _⟩ => ⟨S2048x1x1, .f32⟩
  | .hbm, ⟨19, _⟩ => ⟨S2048x1x1024, .f32⟩
  | .hbm, ⟨20, _⟩ => ⟨S2048x1x1024, .f32⟩
  | .hbm, ⟨21, _⟩ => ⟨S1x1x1024, .f32⟩
  | .hbm, ⟨22, _⟩ => ⟨S2048x1x1024, .f32⟩
  | .hbm, ⟨23, _⟩ => ⟨S2048x1x1024, .f32⟩
  | .hbm, ⟨24, _⟩ => ⟨S_, .f32⟩
  | .hbm, ⟨25, _⟩ => ⟨S2048x1x1024, .f32⟩
  | .hbm, ⟨26, _⟩ => ⟨S2048x1x1024, .f32⟩
  | .hbm, ⟨27, _⟩ => ⟨S2048x1x1024, .f32⟩
  | .hbm, ⟨28, _⟩ => ⟨S2048x1x1024, .f32⟩
  | .hbm, ⟨29, _⟩ => ⟨S2048x1024, .f32⟩
  | .hbm, ⟨30, _⟩ => ⟨S2048x2644, .f32⟩
  | .hbm, ⟨31, _⟩ => ⟨S2048x256, .f32⟩
  | .hbm, ⟨32, _⟩ => ⟨S2048x256, .f32⟩
  | .hbm, ⟨33, _⟩ => ⟨S2048x512, .f32⟩
  | .hbm, ⟨34, _⟩ => ⟨S2048x16, .f32⟩
  | .hbm, ⟨35, _⟩ => ⟨S2048x512, .f32⟩
  | .hbm, ⟨36, _⟩ => ⟨S2048x512, .f32⟩
  | .hbm, ⟨37, _⟩ => ⟨S2048x128, .f32⟩
  | .hbm, ⟨38, _⟩ => ⟨S2048x128, .f32⟩
  | .hbm, ⟨39, _⟩ => ⟨S2048x256, .f32⟩
  | .hbm, ⟨40, _⟩ => ⟨S2048x64, .f32⟩
  | .hbm, ⟨41, _⟩ => ⟨S2048x4, .f32⟩
  | .hbm, ⟨42, _⟩ => ⟨S2048x256, .f32⟩
  | .hbm, ⟨43, _⟩ => ⟨S1x256, .f32⟩
  | .hbm, ⟨44, _⟩ => ⟨S2048x256, .f32⟩
  | .hbm, ⟨45, _⟩ => ⟨S2048x256, .f32⟩
  | .hbm, ⟨46, _⟩ => ⟨S2048x256, .f32⟩
  | .hbm, ⟨47, _⟩ => ⟨S_, .f32⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S2048x256, .i1⟩
  | .hbm, ⟨53, _⟩ => ⟨S2048x256, .f32⟩
  | .hbm, ⟨54, _⟩ => ⟨S2048x256, .f32⟩
  | .hbm, ⟨55, _⟩ => ⟨S2048x256, .f32⟩
  | .hbm, ⟨56, _⟩ => ⟨S2048x256, .f32⟩
  | .hbm, ⟨57, _⟩ => ⟨S2048x256, .f32⟩
  | .hbm, ⟨58, _⟩ => ⟨S2048x256, .f32⟩
  | .hbm, ⟨59, _⟩ => ⟨S2048x256, .f32⟩
  | .hbm, ⟨60, _⟩ => ⟨S2048x256, .f32⟩
  | .hbm, ⟨61, _⟩ => ⟨S2048x256, .f32⟩
  | .hbm, ⟨62, _⟩ => ⟨S_, .f32⟩
  | .hbm, ⟨63, _⟩ => ⟨S2048x256, .f32⟩
  | .hbm, ⟨64, _⟩ => ⟨S2048x256, .f32⟩
  | .hbm, ⟨65, _⟩ => ⟨S_, .f32⟩
  | .hbm, ⟨66, _⟩ => ⟨S2048x512, .f32⟩
  | .hbm, ⟨67, _⟩ => ⟨S2048x512, .f32⟩
  | .hbm, ⟨68, _⟩ => ⟨S2048x2x4x64, .f32⟩
  | .hbm, ⟨69, _⟩ => ⟨S2048x4x2x64, .f32⟩
  | .hbm, ⟨70, _⟩ => ⟨S2048x512, .f32⟩
  | .hbm, ⟨71, _⟩ => ⟨S2048x128, .f32⟩
  | .hbm, ⟨72, _⟩ => ⟨S_, .f32⟩
  | .hbm, ⟨73, _⟩ => ⟨S2048x44, .f32⟩
  | .hbm, ⟨74, _⟩ => ⟨S2048x128, .f32⟩
  | .hbm, ⟨75, _⟩ => ⟨S_, .f32⟩
  | .hbm, ⟨76, _⟩ => ⟨S2048x256, .f32⟩
  | .hbm, ⟨77, _⟩ => ⟨S2048x256, .f32⟩
  | .hbm, ⟨78, _⟩ => ⟨S2048x512, .bf16⟩
  | .hbm, ⟨79, _⟩ => ⟨S2048x128, .bf16⟩
  | .hbm, ⟨80, _⟩ => ⟨S2048x128, .bf16⟩
  | .hbm, ⟨81, _⟩ => ⟨S2048x256, .bf16⟩
  | .hbm, ⟨82, _⟩ => ⟨S2048x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Outproj.lean ====
abbrev S65536x1024 : Shape := ⟨2, ![65536, 1024]⟩
abbrev S65536x512 : Shape := ⟨2, ![65536, 512]⟩
abbrev S1024x1024 : Shape := ⟨2, ![1024, 1024]⟩
abbrev S8x1x1024 : Shape := ⟨3, ![8, 1, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S512x1024 : Shape := ⟨2, ![512, 1024]⟩
abbrev S64x1024 : Shape := ⟨2, ![64, 1024]⟩
abbrev S1x1024 : Shape := ⟨2, ![1, 1024]⟩
abbrev S65536x128 : Shape := ⟨2, ![65536, 128]⟩
abbrev S512x512 : Shape := ⟨2, ![512, 512]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩

abbrev nBuf : Space → Nat
  | .hbm => 52
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S8x1x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S1024x4, .f32⟩
  | .hbm, ⟨9, _⟩ => ⟨S4, .f32⟩
  | .hbm, ⟨10, _⟩ => ⟨S1024x16, .f32⟩
  | .hbm, ⟨11, _⟩ => ⟨S16, .f32⟩
  | .hbm, ⟨12, _⟩ => ⟨S_, .f32⟩
  | .hbm, ⟨13, _⟩ => ⟨S1024x128, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S512x1024, .f32⟩
  | .hbm, ⟨35, _⟩ => ⟨S512x1024, .f32⟩
  | .hbm, ⟨36, _⟩ => ⟨S64x1024, .f32⟩
  | .hbm, ⟨37, _⟩ => ⟨S64x1024, .f32⟩
  | .hbm, ⟨38, _⟩ => ⟨S64x1024, .f32⟩
  | .hbm, ⟨39, _⟩ => ⟨S64x1024, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S64x1024, .f32⟩
  | .hbm, ⟨44, _⟩ => ⟨S512x1024, .f32⟩
  | .hbm, ⟨45, _⟩ => ⟨S1024x1024, .f32⟩
  | .hbm, ⟨46, _⟩ => ⟨S1024x1024, .bf16⟩
  | .hbm, ⟨47, _⟩ => ⟨S1024x128, .bf16⟩
  | .hbm, ⟨48, _⟩ => ⟨S1x1024, .f32⟩
  | .hbm, ⟨49, _⟩ => ⟨S65536x1024, .f32⟩
  | .hbm, ⟨50, _⟩ => ⟨S65536x1024, .bf16⟩
  | .hbm, ⟨51, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_c_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29_0 : Ref sig .tc := ⟨.hbm, 49, rfl⟩
abbrev main_v29_1 : Ref sig .tc := ⟨.hbm, 50, rfl⟩
abbrev main_v29_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojRefIdeal.lean ====
abbrev S65536x1024 : Shape := ⟨2, ![65536, 1024]⟩
abbrev S65536x512 : Shape := ⟨2, ![65536, 512]⟩
abbrev S1024x1024 : Shape := ⟨2, ![1024, 1024]⟩
abbrev S8x1x1024 : Shape := ⟨3, ![8, 1, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S8x8192x4x2x64 : Shape := ⟨5, ![8, 8192, 4, 2, 64]⟩
abbrev S8x8192x2x4x64 : Shape := ⟨5, ![8, 8192, 2, 4, 64]⟩
abbrev S8x8192x512 : Shape := ⟨3, ![8, 8192, 512]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S8x1x1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S1024x4, .f32⟩
  | .hbm, ⟨9, _⟩ => ⟨S4, .f32⟩
  | .hbm, ⟨10, _⟩ => ⟨S1024x16, .f32⟩
  | .hbm, ⟨11, _⟩ => ⟨S16, .f32⟩
  | .hbm, ⟨12, _⟩ => ⟨S8x8192x4x2x64, .bf16⟩
  | .hbm, ⟨13, _⟩ => ⟨S8x8192x2x4x64, .bf16⟩
  | .hbm, ⟨14, _⟩ => ⟨S8x8192x512, .bf16⟩
  | .hbm, ⟨15, _⟩ => ⟨S8x8192x512, .bf16⟩
  | .hbm, ⟨16, _⟩ => ⟨S8x8192x1024, .bf16⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S8x8192x1024, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S_, .f32⟩
  | .hbm, ⟨28, _⟩ => ⟨S8x8192x1, .f32⟩
  | .hbm, ⟨29, _⟩ => ⟨S8x8192x1, .f32⟩
  | .hbm, ⟨30, _⟩ => ⟨S_, .f32⟩
  | .hbm, ⟨31, _⟩ => ⟨S8x8192x1, .f32⟩
  | .hbm, ⟨32, _⟩ => ⟨S8x8192x1, .f32⟩
  | .hbm, ⟨33, _⟩ => ⟨S8x8192x1, .f32⟩
  | .hbm, ⟨34, _⟩ => ⟨S8x8192x1024, .f32⟩
  | .hbm, ⟨35, _⟩ => ⟨S8x8192x1024, .f32⟩
  | .hbm, ⟨36, _⟩ => ⟨S1x1x1024, .f32⟩
  | .hbm, ⟨37, _⟩ => ⟨S8x8192x1024, .f32⟩
  | .hbm, ⟨38, _⟩ => ⟨S8x8192x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S65536x1024, .f32⟩
  | .hbm, ⟨47, _⟩ => ⟨S8x8192x1024, .bf16⟩
  | .hbm, ⟨48, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Ada.lean ====
abbrev S8x1024 : Shape := ⟨2, ![8, 1024]⟩
abbrev S128x1024 : Shape := ⟨2, ![128, 1024]⟩
abbrev S1024x6144 : Shape := ⟨2, ![1024, 6144]⟩
abbrev S6144 : Shape := ⟨1, ![6144]⟩
abbrev S136x1024 : Shape := ⟨2, ![136, 1024]⟩
abbrev S1x6144 : Shape := ⟨2, ![1, 6144]⟩
abbrev S136x6144 : Shape := ⟨2, ![136, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S136x1024, .f32⟩
  | .hbm, ⟨5, _⟩ => ⟨S1x6144, .f32⟩
  | .hbm, ⟨6, _⟩ => ⟨S136x6144, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S128x1024 : Shape := ⟨2, ![128, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S128x6144 : Shape := ⟨2, ![128, 6144]⟩
abbrev S136x6144 : Shape := ⟨2, ![136, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1024x6144, .f32⟩
  | .hbm, ⟨3, _⟩ => ⟨S6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x6144, .f32⟩
  | .hbm, ⟨14, _⟩ => ⟨S1x6144, .f32⟩
  | .hbm, ⟨15, _⟩ => ⟨S8x6144, .f32⟩
  | .hbm, ⟨16, _⟩ => ⟨S8x6144, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x6144, .f32⟩
  | .hbm, ⟨27, _⟩ => ⟨S1x6144, .f32⟩
  | .hbm, ⟨28, _⟩ => ⟨S128x6144, .f32⟩
  | .hbm, ⟨29, _⟩ => ⟨S128x6144, .f32⟩
  | .hbm, ⟨30, _⟩ => ⟨S136x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== OutprojS.lean ====
abbrev S2048x1024 : Shape := ⟨2, ![2048, 1024]⟩
abbrev S2048x512 : Shape := ⟨2, ![2048, 512]⟩
abbrev S1024x1024 : Shape := ⟨2, ![1024, 1024]⟩
abbrev S2048x1x1024 : Shape := ⟨3, ![2048, 1, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S512x1024 : Shape := ⟨2, ![512, 1024]⟩
abbrev S64x1024 : Shape := ⟨2, ![64, 1024]⟩
abbrev S1x1024 : Shape := ⟨2, ![1, 1024]⟩
abbrev S2048x128 : Shape := ⟨2, ![2048, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 55
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S1024x1024, .f32⟩
  | .hbm, ⟨4, _⟩ => ⟨S2048x1x1024, .f32⟩
  | .hbm, ⟨5, _⟩ => ⟨S1024, .f32⟩
  | .hbm, ⟨6, _⟩ => ⟨S2048x1x1024, .f32⟩
  | .hbm, ⟨7, _⟩ => ⟨S2048x1x1024, .f32⟩
  | .hbm, ⟨8, _⟩ => ⟨S1024x4, .f32⟩
  | .hbm, ⟨9, _⟩ => ⟨S4, .f32⟩
  | .hbm, ⟨10, _⟩ => ⟨S1024x16, .f32⟩
  | .hbm, ⟨11, _⟩ => ⟨S16, .f32⟩
  | .hbm, ⟨12, _⟩ => ⟨S_, .f32⟩
  | .hbm, ⟨13, _⟩ => ⟨S1024x128, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .f32⟩
  | .hbm, ⟨21, _⟩ => ⟨S1x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S512x1024, .f32⟩
  | .hbm, ⟨35, _⟩ => ⟨S512x1024, .f32⟩
  | .hbm, ⟨36, _⟩ => ⟨S64x1024, .f32⟩
  | .hbm, ⟨37, _⟩ => ⟨S64x1024, .f32⟩
  | .hbm, ⟨38, _⟩ => ⟨S64x1024, .f32⟩
  | .hbm, ⟨39, _⟩ => ⟨S64x1024, .f32⟩
  | .hbm, ⟨40, _⟩ => ⟨S64x1024, .f32⟩
  | .hbm, ⟨41, _⟩ => ⟨S64x1024, .f32⟩
  | .hbm, ⟨42, _⟩ => ⟨S64x1024, .f32⟩
  | .hbm, ⟨43, _⟩ => ⟨S64x1024, .f32⟩
  | .hbm, ⟨44, _⟩ => ⟨S512x1024, .f32⟩
  | .hbm, ⟨45, _⟩ => ⟨S1024x1024, .f32⟩
  | .hbm, ⟨46, _⟩ => ⟨S1024x1024, .bf16⟩
  | .hbm, ⟨47, _⟩ => ⟨S1024x128, .bf16⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S2048x1024, .f32⟩
  | .hbm, ⟨53, _⟩ => ⟨S2048x1024, .bf16⟩
  | .hbm, ⟨54, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_c_2 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_c_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v32_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojSRefIdeal.lean ====
abbrev S2048x1024 : Shape := ⟨2, ![2048, 1024]⟩
abbrev S2048x512 : Shape := ⟨2, ![2048, 512]⟩
abbrev S1024x1024 : Shape := ⟨2, ![1024, 1024]⟩
abbrev S2048x1x1024 : Shape := ⟨3, ![2048, 1, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S2048x1x4x2x64 : Shape := ⟨5, ![2048, 1, 4, 2, 64]⟩
abbrev S2048x1x2x4x64 : Shape := ⟨5, ![2048, 1, 2, 4, 64]⟩
abbrev S2048x1x512 : Shape := ⟨3, ![2048, 1, 512]⟩
abbrev S_ : Shape := ⟨0, ![]⟩
abbrev S2048x1 : Shape := ⟨2, ![2048, 1]⟩
abbrev S2048x1x1 : Shape := ⟨3, ![2048, 1, 1]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S1024x1024, .f32⟩
  | .hbm, ⟨4, _⟩ => ⟨S2048x1x1024, .f32⟩
  | .hbm, ⟨5, _⟩ => ⟨S1024, .f32⟩
  | .hbm, ⟨6, _⟩ => ⟨S2048x1x1024, .f32⟩
  | .hbm, ⟨7, _⟩ => ⟨S2048x1x1024, .f32⟩
  | .hbm, ⟨8, _⟩ => ⟨S1024x4, .f32⟩
  | .hbm, ⟨9, _⟩ => ⟨S4, .f32⟩
  | .hbm, ⟨10, _⟩ => ⟨S1024x16, .f32⟩
  | .hbm, ⟨11, _⟩ => ⟨S16, .f32⟩
  | .hbm, ⟨12, _⟩ => ⟨S2048x1x4x2x64, .bf16⟩
  | .hbm, ⟨13, _⟩ => ⟨S2048x1x2x4x64, .bf16⟩
  | .hbm, ⟨14, _⟩ => ⟨S2048x1x512, .bf16⟩
  | .hbm, ⟨15, _⟩ => ⟨S2048x1x512, .bf16⟩
  | .hbm, ⟨16, _⟩ => ⟨S2048x1x1024, .bf16⟩
  | .hbm, ⟨17, _⟩ => ⟨S2048x1x1024, .f32⟩
  | .hbm, ⟨18, _⟩ => ⟨S2048x1x1024, .f32⟩
  | .hbm, ⟨19, _⟩ => ⟨S2048x1x1024, .f32⟩
  | .hbm, ⟨20, _⟩ => ⟨S2048x1x1024, .f32⟩
  | .hbm, ⟨21, _⟩ => ⟨S2048x1x1024, .f32⟩
  | .hbm, ⟨22, _⟩ => ⟨S2048x1x1024, .f32⟩
  | .hbm, ⟨23, _⟩ => ⟨S_, .f32⟩
  | .hbm, ⟨24, _⟩ => ⟨S2048x1, .f32⟩
  | .hbm, ⟨25, _⟩ => ⟨S2048x1x1, .f32⟩
  | .hbm, ⟨26, _⟩ => ⟨S_, .f32⟩
  | .hbm, ⟨27, _⟩ => ⟨S2048x1x1, .f32⟩
  | .hbm, ⟨28, _⟩ => ⟨S2048x1x1, .f32⟩
  | .hbm, ⟨29, _⟩ => ⟨S_, .f32⟩
  | .hbm, ⟨30, _⟩ => ⟨S2048x1x1, .f32⟩
  | .hbm, ⟨31, _⟩ => ⟨S2048x1x1, .f32⟩
  | .hbm, ⟨32, _⟩ => ⟨S2048x1x1, .f32⟩
  | .hbm, ⟨33, _⟩ => ⟨S2048x1x1024, .f32⟩
  | .hbm, ⟨34, _⟩ => ⟨S2048x1x1024, .f32⟩
  | .hbm, ⟨35, _⟩ => ⟨S1x1x1024, .f32⟩
  | .hbm, ⟨36, _⟩ => ⟨S2048x1x1024, .f32⟩
  | .hbm, ⟨37, _⟩ => ⟨S2048x1x1024, .f32⟩
  | .hbm, ⟨38, _⟩ => ⟨S_, .f32⟩
  | .hbm, ⟨39, _⟩ => ⟨S2048x1x1024, .f32⟩
  | .hbm, ⟨40, _⟩ => ⟨S2048x1x1024, .f32⟩
  | .hbm, ⟨41, _⟩ => ⟨S2048x1x1024, .f32⟩
  | .hbm, ⟨42, _⟩ => ⟨S2048x1x1024, .f32⟩
  | .hbm, ⟨43, _⟩ => ⟨S2048x1024, .f32⟩
  | .hbm, ⟨44, _⟩ => ⟨S2048x1x1024, .bf16⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Proof.MoeSpec.lean ====
module

public import Idealize.ShloMosaic.Lib.Pointwise

@[expose] public section

noncomputable section

namespace Cert.Proof.Moe

open Idealize.ShloMosaic

/-- The inner product of a token's features with one column of an expert's weights. -/
def proj (h : Fin 1024 → EReal) (w : Fin 16 → Fin 1024 → Fin 256 → EReal) (e : Fin 16) (f : Fin 256) : EReal :=
  ∑ d : Fin 1024, h d * w e d f

/-- A token's activation inside one expert: `silu(h·Wg) * (h·Wu)`. -/
def act (h : Fin 1024 → EReal) (wg wu : Fin 16 → Fin 1024 → Fin 256 → EReal) (e : Fin 16) (f : Fin 256) : EReal :=
  proj h wg e f * Ideal.logistic (proj h wg e f) * proj h wu e f

/-- One expert's output for one token, times the token's gate for it. -/
def gated (h : Fin 1024 → EReal) (g : Fin 128 → EReal) (wg wu : Fin 16 → Fin 1024 → Fin 256 → EReal)
    (wd : Fin 16 → Fin 256 → Fin 1024 → EReal) (j : Fin 1024) (e : Fin 16) : EReal :=
  g ⟨e, by omega⟩ * ∑ f : Fin 256, act h wg wu e f * wd e f j

/-- The mixture of the sixteen experts for one token: each expert's output times the token's gate for it. -/
def mixture (h : Fin 1024 → EReal) (g : Fin 128 → EReal) (wg wu : Fin 16 → Fin 1024 → Fin 256 → EReal)
    (wd : Fin 16 → Fin 256 → Fin 1024 → EReal) (j : Fin 1024) : EReal :=
  ∑ e : Fin 16, gated h g wg wu wd j e

/-- Root-mean-square norm of a row of 1024 features, times a gain: `x · rsqrt(mean x² + ε) · gain`. -/
def rmsNorm (x gain : Fin 1024 → EReal) (j : Fin 1024) : EReal :=
  x j * Ideal.rsqrt (Ideal.div (∑ k : Fin 1024, x k * x k) (Ideal.ofBits .f32 0x44800000#32) +
    Ideal.ofBits .f32 0x358637BD#32) * gain j

/-- A sum of sixteen terms, in the order the body adds them. -/
theorem sum16 (t : Fin 16 → EReal) :
    0 + t 0 + t 1 + t 2 + t 3 + t 4 + t 5 + t 6 + t 7 + t 8 + t 9 + t 10 + t 11 + t 12 + t 13 + t 14 + t 15 = ∑ e, t e := by
  simp only [Fin.sum_univ_castSucc, Fin.sum_univ_zero]
  rfl

/-- The layer's result for token `n` of batch row `b`, from the whole arrays: the residual and the modulated mixture,
    normed. -/
def token {B N : ℕ} (x : (⟨2, ![N, 1024]⟩ : Shape).Idx → EReal) (h : (⟨2, ![N, 1024]⟩ : Shape).Idx → EReal)
    (g : (⟨2, ![N, 128]⟩ : Shape).Idx → EReal) (gm : (⟨3, ![B, 1, 1024]⟩ : Shape).Idx → EReal)
    (fg : (⟨1, ![1024]⟩ : Shape).Idx → EReal) (wg wu : (⟨3, ![16, 1024, 256]⟩ : Shape).Idx → EReal)
    (wd : (⟨3, ![16, 256, 1024]⟩ : Shape).Idx → EReal) (b : Fin B) (n : Fin N) (j : Fin 1024) : EReal :=
  rmsNorm (fun j => x (ix2 n j) + gm (ix3 b 0 j) *
      mixture (fun d => h (ix2 n d)) (fun e => g (ix2 n e)) (fun e d f => wg (ix3 e d f)) (fun e d f => wu (ix3 e d f))
        (fun e f j => wd (ix3 e f j)) j)
    (fun j => fg (ix1 j)) j

end Cert.Proof.Moe
-- ==== Proof.MoeBlock.lean ====
module

public import proofs.«01_k».proof.Proof.Gen.MoeIdeal.Value
public import proofs.«01_k».proof.Proof.MoeSpec
public import Idealize.ShloMosaic.Lib.Pointwise
public import Idealize.ShloMosaic.Lib.Pipeline.ValueKit.Basic
public import Idealize.ShloMosaic.Lib.Pipeline.ValueKit.Tiles

@[expose] public section

noncomputable section

namespace Cert.Proof.Moe

open Idealize.ShloMosaic Cert.MoeIdeal Cert.MoeIdeal.Gen

/-- One expert's gated activation of a block of tokens: `silu(h·Wg) * (h·Wu)`. -/
def actV (h : Vec Ideal S512x1024 .bf16) (wg wu : Vec Ideal S1x1024x256 .bf16) : FVec Ideal S512x256 .bf16 :=
  let a : FVec Ideal S512x256 .f32 := matmul (φ₁ := .bf16) dot_S512x1024_S1024x256_S512x256_1_0_0_1_n_n none h
    (shapeCast S1024x256 wg shapeCasts_S1x1024x256_S1024x256 : FVec Ideal S1024x256 .bf16) (constant S512x256 .f32 0x00000000#32)
  let u : FVec Ideal S512x256 .f32 := matmul (φ₁ := .bf16) dot_S512x1024_S1024x256_S512x256_1_0_0_1_n_n none h
    (shapeCast S1024x256 wu shapeCasts_S1x1024x256_S1024x256 : FVec Ideal S1024x256 .bf16) (constant S512x256 .f32 0x00000000#32)
  truncf .bf16 (mulf (mulf a (logistic a)) u) bitsLt_bf16_f32

/-- One expert's output of a block of tokens, before its gate. -/
def downV (h : Vec Ideal S512x1024 .bf16) (wg wu : Vec Ideal S1x1024x256 .bf16) (wd : Vec Ideal S1x256x1024 .bf16) :
    FVec Ideal S512x1024 .f32 :=
  matmul dot_S512x256_S256x1024_S512x1024_1_0_0_1_n_n none (actV h wg wu)
    (shapeCast S256x1024 wd shapeCasts_S1x256x1024_S256x1024 : FVec Ideal S256x1024 .bf16) (constant S512x1024 .f32 0x00000000#32)

/-- The running sum with one gated expert added: the gate is column `e` of the gates. -/
def stepV (acc : FVec Ideal S512x1024 .f32) (h : Vec Ideal S512x1024 .bf16) (g : Vec Ideal S512x128 .f32) (e : ℕ)
    (hs : S512x128.Slices ![0, e] S512x1) (wg wu : Vec Ideal S1x1024x256 .bf16) (wd : Vec Ideal S1x256x1024 .bf16) :
    FVec Ideal S512x1024 .f32 :=
  addf acc (mulf (broadcastTo S512x1024 (extractStridedSlice S512x1 ![0, e] g hs : FVec Ideal S512x1 .f32)
    broadcasts_S512x1_S512x1024) (downV h wg wu wd))

theorem actV_apply (h : Vec Ideal S512x1024 .bf16) (wg wu : Vec Ideal S1x1024x256 .bf16) (r : Fin 512) (f : Fin 256) :
    actV h wg wu (ix2 r f) =
      (∑ d : Fin 1024, h (ix2 r d) * wg (ix3 0 d f)) * Ideal.logistic (∑ d : Fin 1024, h (ix2 r d) * wg (ix3 0 d f)) *
        (∑ d : Fin 1024, h (ix2 r d) * wu (ix3 0 d f)) := by
  unfold actV
  pointwise [dot_S512x1024_S1024x256_S512x256_1_0_0_1_n_n]

theorem downV_apply (h : Vec Ideal S512x1024 .bf16) (wg wu : Vec Ideal S1x1024x256 .bf16) (wd : Vec Ideal S1x256x1024 .bf16)
    (r : Fin 512) (j : Fin 1024) :
    downV h wg wu wd (ix2 r j) = ∑ f : Fin 256, actV h wg wu (ix2 r f) * wd (ix3 0 f j) := by
  unfold downV
  pointwise [dot_S512x256_S256x1024_S512x1024_1_0_0_1_n_n]

theorem stepV_apply (acc : FVec Ideal S512x1024 .f32) (h : Vec Ideal S512x1024 .bf16) (g : Vec Ideal S512x128 .f32) (e : ℕ)
    (he : e < 128)
    (hs : S512x128.Slices ![0, e] S512x1) (wg wu : Vec Ideal S1x1024x256 .bf16) (wd : Vec Ideal S1x256x1024 .bf16)
    (r : Fin 512) (j : Fin 1024) :
    stepV acc h g e hs wg wu wd (ix2 r j) = acc (ix2 r j) + g (ix2 r ⟨e, he⟩) * downV h wg wu wd (ix2 r j) := by
  unfold stepV
  pointwise

/-- The residual with the weighted mixture added, and its root-mean-square norm over the 1024 features. -/
theorem norm_apply (v : FVec Ideal S512x1024 .f32) (x : Vec Ideal S512x1024 .f32) (gm : Vec Ideal S1x1x1024 .f32)
    (fg : Vec Ideal S1x1024 .f32) (r : Fin 512) (j : Fin 1024) :
    k0_pay1 v x gm fg (ix2 r j) =
      rmsNorm (fun j => x (ix2 r j) + gm (ix3 0 0 j) * v (ix2 r j)) (fun j => fg (ix2 0 j)) j := by
  unfold k0_pay1
  pointwise
  rfl

/-- The weights of all sixteen experts, read through the rectangle of expert `e`. -/
theorem up_apply (w : Vec Ideal S16x1024x256 .bf16) (e : Fin 16)
    (inb : ∀ k, (![e.val, 0, 0] : Fin 3 → ℕ) k + S1x1024x256.size k ≤ S16x1024x256.size k) (d : Fin 1024) (f : Fin 256) :
    View.ld w (Rect.unit (s := S16x1024x256) ![e.val, 0, 0] S1x1024x256.size inb) (ix3 0 d f) = w (ix3 e d f) :=
  View.ld_unit_apply_of _ _ _ _ _ _ fun k => match k with
    | ⟨0, _⟩ => rfl
    | ⟨1, _⟩ => (Nat.zero_add _).symm
    | ⟨2, _⟩ => (Nat.zero_add _).symm

/-- The same for the weights back to the features. -/
theorem down_apply (w : Vec Ideal S16x256x1024 .bf16) (e : Fin 16)
    (inb : ∀ k, (![e.val, 0, 0] : Fin 3 → ℕ) k + S1x256x1024.size k ≤ S16x256x1024.size k) (f : Fin 256) (j : Fin 1024) :
    View.ld w (Rect.unit (s := S16x256x1024) ![e.val, 0, 0] S1x256x1024.size inb) (ix3 0 f j) = w (ix3 e f j) :=
  View.ld_unit_apply_of _ _ _ _ _ _ fun k => match k with
    | ⟨0, _⟩ => rfl
    | ⟨1, _⟩ => (Nat.zero_add _).symm
    | ⟨2, _⟩ => (Nat.zero_add _).symm

/-- One gated expert at an index, over the weights of all sixteen experts. -/
theorem gated_apply (acc : FVec Ideal S512x1024 .f32) (h : Vec Ideal S512x1024 .bf16) (g : Vec Ideal S512x128 .f32) (e : Fin 16)
    (hs : S512x128.Slices ![0, e.val] S512x1) (wg wu : Vec Ideal S16x1024x256 .bf16) (wd : Vec Ideal S16x256x1024 .bf16)
    (inb : ∀ k, (![e.val, 0, 0] : Fin 3 → ℕ) k + S1x1024x256.size k ≤ S16x1024x256.size k)
    (inb' : ∀ k, (![e.val, 0, 0] : Fin 3 → ℕ) k + S1x256x1024.size k ≤ S16x256x1024.size k)
    (r : Fin 512) (j : Fin 1024) :
    stepV acc h g e.val hs (View.ld wg (Rect.unit (s := S16x1024x256) ![e.val, 0, 0] S1x1024x256.size inb))
      (View.ld wu (Rect.unit (s := S16x1024x256) ![e.val, 0, 0] S1x1024x256.size inb))
      (View.ld wd (Rect.unit (s := S16x256x1024) ![e.val, 0, 0] S1x256x1024.size inb')) (ix2 r j) =
    acc (ix2 r j) + gated (fun d => h (ix2 r d)) (fun e => g (ix2 r e)) (fun e d f => wg (ix3 e d f))
      (fun e d f => wu (ix3 e d f)) (fun e f j => wd (ix3 e f j)) j e := by
  have hp : ∀ (w : Vec Ideal S16x1024x256 .bf16) (f : Fin 256),
      ∑ d : Fin 1024, h (ix2 r d) * View.ld w (Rect.unit (s := S16x1024x256) ![e.val, 0, 0] S1x1024x256.size inb) (ix3 0 d f) =
        proj (fun d => h (ix2 r d)) (fun e d f => w (ix3 e d f)) e f :=
    fun w f => Finset.sum_congr rfl fun d _ => congrArg (h (ix2 r d) * ·) (up_apply w e inb d f)
  rw [stepV_apply _ _ _ _ (by omega), downV_apply]
  refine congrArg (acc (ix2 r j) + g (ix2 r ⟨e.val, _⟩) * ·) (Finset.sum_congr rfl fun f _ => ?_)
  rw [down_apply, actV_apply, hp, hp]
  rfl

/-- The body's sum of the sixteen gated experts, in the order the body adds them. -/
def mixV (x1 : Vec Ideal S512x1024 .bf16) (x2 : Vec Ideal S512x128 .f32)
    (x5 x6 : Vec Ideal S16x1024x256 .bf16) (x7 : Vec Ideal S16x256x1024 .bf16) : FVec Ideal S512x1024 .f32 :=
  (stepV (stepV (stepV (stepV (stepV (stepV (stepV (stepV (stepV (stepV (stepV (stepV (stepV (stepV (stepV (stepV
  (broadcast S512x1024 (Scalar.ofBits .f32 0x00000000#32)) x1 x2 0 slices_S512x128_o0_0_S512x1 (View.ld x5 r0_2) (View.ld
  x6 r0_2) (View.ld x7 r0_3)) x1 x2 1 slices_S512x128_o0_1_S512x1 (View.ld x5 r0_4) (View.ld x6 r0_4) (View.ld x7 r0_5))
  x1 x2 2 slices_S512x128_o0_2_S512x1 (View.ld x5 r0_6) (View.ld x6 r0_6) (View.ld x7 r0_7)) x1 x2 3
  slices_S512x128_o0_3_S512x1 (View.ld x5 r0_8) (View.ld x6 r0_8) (View.ld x7 r0_9)) x1 x2 4 slices_S512x128_o0_4_S512x1
  (View.ld x5 r0_10) (View.ld x6 r0_10) (View.ld x7 r0_11)) x1 x2 5 slices_S512x128_o0_5_S512x1 (View.ld x5 r0_12)
  (View.ld x6 r0_12) (View.ld x7 r0_13)) x1 x2 6 slices_S512x128_o0_6_S512x1 (View.ld x5 r0_14) (View.ld x6 r0_14)
  (View.ld x7 r0_15)) x1 x2 7 slices_S512x128_o0_7_S512x1 (View.ld x5 r0_16) (View.ld x6 r0_16) (View.ld x7 r0_17)) x1 x2
  8 slices_S512x128_o0_8_S512x1 (View.ld x5 r0_18) (View.ld x6 r0_18) (View.ld x7 r0_19)) x1 x2 9
  slices_S512x128_o0_9_S512x1 (View.ld x5 r0_20) (View.ld x6 r0_20) (View.ld x7 r0_21)) x1 x2 10
  slices_S512x128_o0_10_S512x1 (View.ld x5 r0_22) (View.ld x6 r0_22) (View.ld x7 r0_23)) x1 x2 11
  slices_S512x128_o0_11_S512x1 (View.ld x5 r0_24) (View.ld x6 r0_24) (View.ld x7 r0_25)) x1 x2 12
  slices_S512x128_o0_12_S512x1 (View.ld x5 r0_26) (View.ld x6 r0_26) (View.ld x7 r0_27)) x1 x2 13
  slices_S512x128_o0_13_S512x1 (View.ld x5 r0_28) (View.ld x6 r0_28) (View.ld x7 r0_29)) x1 x2 14
  slices_S512x128_o0_14_S512x1 (View.ld x5 r0_30) (View.ld x6 r0_30) (View.ld x7 r0_31)) x1 x2 15
  slices_S512x128_o0_15_S512x1 (View.ld x5 r0_32) (View.ld x6 r0_32) (View.ld x7 r0_33))

theorem out_eq (x0 : Vec Ideal S512x1024 .f32) (x1 : Vec Ideal S512x1024 .bf16) (x2 : Vec Ideal S512x128 .f32)
    (x3 : Vec Ideal S1x1x1024 .f32) (x4 : Vec Ideal S1x1024 .f32) (x5 x6 : Vec Ideal S16x1024x256 .bf16)
    (x7 : Vec Ideal S16x256x1024 .bf16) :
    out0_8 x0 x1 x2 x3 x4 x5 x6 x7 = k0_pay1 (mixV x1 x2 x5 x6 x7) x0 x3 x4 := by
  have e0 : ∀ x : Vec Ideal S512x1024 .f32, View.ld x r0_0 = x := fun x => View.ld_unit_lit _ x (by decide)
  have e1 : ∀ x : Vec Ideal S512x1024 .bf16, View.ld x r0_0 = x := fun x => View.ld_unit_lit _ x (by decide)
  have e2 : ∀ x : Vec Ideal S512x128 .f32, View.ld x r0_1 = x := fun x => View.ld_unit_lit _ x (by decide)
  have e3 : ∀ x : Vec Ideal S1x1x1024 .f32, View.ld x r0_34 = x := fun x => View.ld_unit_lit _ x (by decide)
  have e4 : ∀ x : Vec Ideal S1x1024 .f32, View.ld x r0_35 = x := fun x => View.ld_unit_lit _ x (by decide)
  unfold out0_8
  rw [View.canon_cons_unit_lit _ _ _ (by decide), e0, e1, e2, e3, e4]
  rfl

/-- The body's sum is the mixture. -/
theorem mixV_apply (x1 : Vec Ideal S512x1024 .bf16) (x2 : Vec Ideal S512x128 .f32)
    (x5 x6 : Vec Ideal S16x1024x256 .bf16) (x7 : Vec Ideal S16x256x1024 .bf16) (r : Fin 512) (j : Fin 1024) :
    mixV x1 x2 x5 x6 x7 (ix2 r j) = mixture (fun d => x1 (ix2 r d)) (fun e => x2 (ix2 r e))
        (fun e d f => x5 (ix3 e d f)) (fun e d f => x6 (ix3 e d f)) (fun e f j => x7 (ix3 e f j)) j := by
  unfold mixV
  refine (gated_apply _ x1 x2 15 _ x5 x6 x7 _ _ r j).trans ?_
  refine Eq.trans (congrArg₂ (· + ·) ?_ rfl) (sum16 (gated (fun d => x1 (ix2 r d)) (fun e => x2 (ix2 r e))
    (fun e d f => x5 (ix3 e d f)) (fun e d f => x6 (ix3 e d f)) (fun e f j => x7 (ix3 e f j)) j))
  refine (gated_apply _ x1 x2 14 _ x5 x6 x7 _ _ r j).trans ?_
  refine congrArg₂ (· + ·) ?_ rfl
  refine (gated_apply _ x1 x2 13 _ x5 x6 x7 _ _ r j).trans ?_
  refine congrArg₂ (· + ·) ?_ rfl
  refine (gated_apply _ x1 x2 12 _ x5 x6 x7 _ _ r j).trans ?_
  refine congrArg₂ (· + ·) ?_ rfl
  refine (gated_apply _ x1 x2 11 _ x5 x6 x7 _ _ r j).trans ?_
  refine congrArg₂ (· + ·) ?_ rfl
  refine (gated_apply _ x1 x2 10 _ x5 x6 x7 _ _ r j).trans ?_
  refine congrArg₂ (· + ·) ?_ rfl
  refine (gated_apply _ x1 x2 9 _ x5 x6 x7 _ _ r j).trans ?_
  refine congrArg₂ (· + ·) ?_ rfl
  refine (gated_apply _ x1 x2 8 _ x5 x6 x7 _ _ r j).trans ?_
  refine congrArg₂ (· + ·) ?_ rfl
  refine (gated_apply _ x1 x2 7 _ x5 x6 x7 _ _ r j).trans ?_
  refine congrArg₂ (· + ·) ?_ rfl
  refine (gated_apply _ x1 x2 6 _ x5 x6 x7 _ _ r j).trans ?_
  refine congrArg₂ (· + ·) ?_ rfl
  refine (gated_apply _ x1 x2 5 _ x5 x6 x7 _ _ r j).trans ?_
  refine congrArg₂ (· + ·) ?_ rfl
  refine (gated_apply _ x1 x2 4 _ x5 x6 x7 _ _ r j).trans ?_
  refine congrArg₂ (· + ·) ?_ rfl
  refine (gated_apply _ x1 x2 3 _ x5 x6 x7 _ _ r j).trans ?_
  refine congrArg₂ (· + ·) ?_ rfl
  refine (gated_apply _ x1 x2 2 _ x5 x6 x7 _ _ r j).trans ?_
  refine congrArg₂ (· + ·) ?_ rfl
  refine (gated_apply _ x1 x2 1 _ x5 x6 x7 _ _ r j).trans ?_
  refine congrArg₂ (· + ·) ?_ rfl
  refine (gated_apply _ x1 x2 0 _ x5 x6 x7 _ _ r j).trans ?_
  refine congrArg₂ (· + ·) ?_ rfl
  exact Ideal.ofBits_zero_f32

/-- What one grid point writes back, at a row of the block and a feature. -/
theorem out_apply (x0 : Vec Ideal S512x1024 .f32) (x1 : Vec Ideal S512x1024 .bf16) (x2 : Vec Ideal S512x128 .f32)
    (x3 : Vec Ideal S1x1x1024 .f32) (x4 : Vec Ideal S1x1024 .f32) (x5 x6 : Vec Ideal S16x1024x256 .bf16)
    (x7 : Vec Ideal S16x256x1024 .bf16) (r : Fin 512) (j : Fin 1024) :
    out0_8 x0 x1 x2 x3 x4 x5 x6 x7 (ix2 r j) =
      rmsNorm (fun j => x0 (ix2 r j) + x3 (ix3 0 0 j) * mixture (fun d => x1 (ix2 r d)) (fun e => x2 (ix2 r e))
        (fun e d f => x5 (ix3 e d f)) (fun e d f => x6 (ix3 e d f)) (fun e f j => x7 (ix3 e f j)) j)
        (fun j => x4 (ix2 0 j)) j := by
  rw [out_eq, norm_apply]
  simp only [mixV_apply]

end Cert.Proof.Moe
-- ==== Proof.MoeArray.lean ====
module

public import proofs.«01_k».proof.Proof.MoeBlock

@[expose] public section

noncomputable section

namespace Cert.Proof.Moe

open Idealize.ShloMosaic Idealize.ShloMosaic.TcCoe Idealize.SL.Sem Cert.MoeIdeal Cert.MoeIdeal.Gen

variable (m : (ℓ : Loc nD τ sig) → Buf (Elt Ideal) ℓ) (c : Dev nD)

/-- Where each window's block lies at each grid point: token blocks by the point, the modulation by the batch row,
    everything else whole. -/
theorem index_rows : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_8.index t 0 = t.val ∧ win0_8.index t 1 = 0) := by
  decide +kernel

theorem index_rest : ∀ t : Fin cfg0.N,
    (win0_3.index t 0 = t.val / 16 ∧ win0_3.index t 1 = 0 ∧ win0_3.index t 2 = 0) ∧
    (win0_4.index t 0 = 0 ∧ win0_4.index t 1 = 0) ∧
    (win0_5.index t 0 = 0 ∧ win0_5.index t 1 = 0 ∧ win0_5.index t 2 = 0) ∧
    (win0_6.index t 0 = 0 ∧ win0_6.index t 1 = 0 ∧ win0_6.index t 2 = 0) ∧
    (win0_7.index t 0 = 0 ∧ win0_7.index t 1 = 0 ∧ win0_7.index t 2 = 0) := by
  decide +kernel

theorem flush_all : ∀ t : Fin cfg0.N, (cfg0.win 8).flush t = true := by
  decide +kernel

/-- Row `r` of block `t` as a row of the whole array. -/
def row (t : Fin cfg0.N) (r : Fin 512) : Fin 65536 :=
  ⟨t.val * 512 + r.val, by have h : cfg0.N = 128 := N_0; have := t.isLt; omega⟩

/-- The batch row a block belongs to. -/
def batch (t : Fin cfg0.N) : Fin 8 :=
  ⟨t.val / 16, by have h : cfg0.N = 128 := N_0; have := t.isLt; omega⟩

/-- The weights reach the kernel rounded to bf16, which over the extended reals leaves them as they are. -/
theorem V_gate (e : Fin 16) (d : Fin 1024) (f : Fin 256) :
    V m c main_v0 (ix3 e d f) = m ((c : Thread nD τ).loc main_arg5) (ix3 e d f) := by
  dsimp only [V, hostOps0]
  after_results
  rfl

theorem V_up (e : Fin 16) (d : Fin 1024) (f : Fin 256) :
    V m c main_v1 (ix3 e d f) = m ((c : Thread nD τ).loc main_arg6) (ix3 e d f) := by
  dsimp only [V, hostOps0]
  after_results
  rfl

theorem V_down (e : Fin 16) (f : Fin 256) (j : Fin 1024) :
    V m c main_v2 (ix3 e f j) = m ((c : Thread nD τ).loc main_arg7) (ix3 e f j) := by
  dsimp only [V, hostOps0]
  after_results
  rfl

/-- The final gain reaches the kernel as a row. -/
theorem V_gain (j : Fin 1024) :
    V m c main_v3 (ix2 0 j) = m ((c : Thread nD τ).loc main_arg4) (ix1 j) := by
  dsimp only [V, hostOps0]
  after_results
  pointwise

theorem iblk0_apply (t : Fin cfg0.N) (r : Fin 512) (j : Fin 1024) :
    (iblk m c 0 t : Vec Ideal S512x1024 .f32) (ix2 r j) = m ((c : Thread nD τ).loc main_arg0) (ix2 (row t r) j) := by
  obtain ⟨h, -, -, -⟩ := index_rows t
  unfold iblk
  rw [View.read_apply]
  rw [← V_main_arg0 m c]
  show V m c main_arg0 _ = V m c main_arg0 _
  refine congrArg _ (funext fun a => Fin.ext ?_)
  match a with
  | ⟨0, _⟩ => show win0_0.index t 0 * 512 + 1 * r.val = t.val * 512 + r.val; rw [h.1]; omega
  | ⟨1, _⟩ => show win0_0.index t 1 * 1024 + 1 * j.val = j.val; rw [h.2]; omega

theorem iblk1_apply (t : Fin cfg0.N) (r : Fin 512) (j : Fin 1024) :
    (iblk m c 1 t : Vec Ideal S512x1024 .bf16) (ix2 r j) = m ((c : Thread nD τ).loc main_arg1) (ix2 (row t r) j) := by
  obtain ⟨-, h, -, -⟩ := index_rows t
  unfold iblk
  rw [View.read_apply]
  rw [← V_main_arg1 m c]
  show V m c main_arg1 _ = V m c main_arg1 _
  refine congrArg _ (funext fun a => Fin.ext ?_)
  match a with
  | ⟨0, _⟩ => show win0_1.index t 0 * 512 + 1 * r.val = t.val * 512 + r.val; rw [h.1]; omega
  | ⟨1, _⟩ => show win0_1.index t 1 * 1024 + 1 * j.val = j.val; rw [h.2]; omega

theorem iblk2_apply (t : Fin cfg0.N) (r : Fin 512) (j : Fin 128) :
    (iblk m c 2 t : Vec Ideal S512x128 .f32) (ix2 r j) = m ((c : Thread nD τ).loc main_arg2) (ix2 (row t r) j) := by
  obtain ⟨-, -, h, -⟩ := index_rows t
  unfold iblk
  rw [View.read_apply]
  rw [← V_main_arg2 m c]
  show V m c main_arg2 _ = V m c main_arg2 _
  refine congrArg _ (funext fun a => Fin.ext ?_)
  match a with
  | ⟨0, _⟩ => show win0_2.index t 0 * 512 + 1 * r.val = t.val * 512 + r.val; rw [h.1]; omega
  | ⟨1, _⟩ => show win0_2.index t 1 * 128 + 1 * j.val = j.val; rw [h.2]; omega

theorem iblk3_apply (t : Fin cfg0.N) (j : Fin 1024) :
    (iblk m c 3 t : Vec Ideal S1x1x1024 .f32) (ix3 0 0 j) = m ((c : Thread nD τ).loc main_arg3) (ix3 (batch t) 0 j) := by
  obtain ⟨h, -, -, -, -⟩ := index_rest t
  unfold iblk
  rw [View.read_apply]
  rw [← V_main_arg3 m c]
  show V m c main_arg3 _ = V m c main_arg3 _
  refine congrArg _ (funext fun a => Fin.ext ?_)
  match a with
  | ⟨0, _⟩ => show win0_3.index t 0 * 1 + 1 * 0 = t.val / 16; rw [h.1]; omega
  | ⟨1, _⟩ => show win0_3.index t 1 * 1 + 1 * 0 = 0; rw [h.2.1]
  | ⟨2, _⟩ => show win0_3.index t 2 * 1024 + 1 * j.val = j.val; rw [h.2.2]; omega

theorem iblk4_apply (t : Fin cfg0.N) (j : Fin 1024) :
    (iblk m c 4 t : Vec Ideal S1x1024 .f32) (ix2 0 j) = m ((c : Thread nD τ).loc main_arg4) (ix1 j) := by
  obtain ⟨-, h, -, -, -⟩ := index_rest t
  unfold iblk
  rw [View.read_apply]
  rw [← V_gain m c]
  show V m c main_v3 _ = V m c main_v3 _
  refine congrArg _ (funext fun a => Fin.ext ?_)
  match a with
  | ⟨0, _⟩ => show win0_4.index t 0 * 1 + 1 * 0 = 0; rw [h.1]
  | ⟨1, _⟩ => show win0_4.index t 1 * 1024 + 1 * j.val = j.val; rw [h.2]; omega

theorem iblk5_apply (t : Fin cfg0.N) (e : Fin 16) (d : Fin 1024) (f : Fin 256) :
    (iblk m c 5 t : Vec Ideal S16x1024x256 .bf16) (ix3 e d f) = m ((c : Thread nD τ).loc main_arg5) (ix3 e d f) := by
  obtain ⟨-, -, h, -, -⟩ := index_rest t
  unfold iblk
  rw [View.read_apply]
  rw [← V_gate m c]
  show V m c main_v0 _ = V m c main_v0 _
  refine congrArg _ (funext fun a => Fin.ext ?_)
  match a with
  | ⟨0, _⟩ => show win0_5.index t 0 * 16 + 1 * e.val = e.val; rw [h.1]; omega
  | ⟨1, _⟩ => show win0_5.index t 1 * 1024 + 1 * d.val = d.val; rw [h.2.1]; omega
  | ⟨2, _⟩ => show win0_5.index t 2 * 256 + 1 * f.val = f.val; rw [h.2.2]; omega

theorem iblk6_apply (t : Fin cfg0.N) (e : Fin 16) (d : Fin 1024) (f : Fin 256) :
    (iblk m c 6 t : Vec Ideal S16x1024x256 .bf16) (ix3 e d f) = m ((c : Thread nD τ).loc main_arg6) (ix3 e d f) := by
  obtain ⟨-, -, -, h, -⟩ := index_rest t
  unfold iblk
  rw [View.read_apply]
  rw [← V_up m c]
  show V m c main_v1 _ = V m c main_v1 _
  refine congrArg _ (funext fun a => Fin.ext ?_)
  match a with
  | ⟨0, _⟩ => show win0_6.index t 0 * 16 + 1 * e.val = e.val; rw [h.1]; omega
  | ⟨1, _⟩ => show win0_6.index t 1 * 1024 + 1 * d.val = d.val; rw [h.2.1]; omega
  | ⟨2, _⟩ => show win0_6.index t 2 * 256 + 1 * f.val = f.val; rw [h.2.2]; omega

theorem iblk7_apply (t : Fin cfg0.N) (e : Fin 16) (f : Fin 256) (j : Fin 1024) :
    (iblk m c 7 t : Vec Ideal S16x256x1024 .bf16) (ix3 e f j) = m ((c : Thread nD τ).loc main_arg7) (ix3 e f j) := by
  obtain ⟨-, -, -, -, h⟩ := index_rest t
  unfold iblk
  rw [View.read_apply]
  rw [← V_down m c]
  show V m c main_v2 _ = V m c main_v2 _
  refine congrArg _ (funext fun a => Fin.ext ?_)
  match a with
  | ⟨0, _⟩ => show win0_7.index t 0 * 16 + 1 * e.val = e.val; rw [h.1]; omega
  | ⟨1, _⟩ => show win0_7.index t 1 * 256 + 1 * f.val = f.val; rw [h.2.1]; omega
  | ⟨2, _⟩ => show win0_7.index t 2 * 1024 + 1 * j.val = j.val; rw [h.2.2]; omega

/-- The launched arrays' value for token `n` of batch row `b`. -/
def result (b : Fin 8) (n : Fin 65536) (j : Fin 1024) : EReal :=
  token (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b n j

/-- What point `t` writes back. -/
theorem block_apply (t : Fin cfg0.N) (r : Fin 512) (j : Fin 1024) :
    (out0_8 (iblk m c 0 t) (iblk m c 1 t) (iblk m c 2 t) (iblk m c 3 t) (iblk m c 4 t) (iblk m c 5 t) (iblk m c 6 t)
      (iblk m c 7 t) : Vec Ideal S512x1024 .f32) (ix2 r j) = result m c (batch t) (row t r) j := by
  rw [out_apply]
  simp only [iblk0_apply, iblk1_apply, iblk2_apply, iblk3_apply, iblk4_apply, iblk5_apply, iblk6_apply, iblk7_apply]
  rfl

/-- The result array at a row of block `t`. -/
theorem array_block (t : Fin cfg0.N) (r : Fin 512) (j : Fin 1024) :
    ((dats m 0 c).arrAt 8 cfg0.N : Vec Ideal S65536x1024 .f32) (ix2 (row t r) j) = result m c (batch t) (row t r) j := by
  obtain ⟨-, -, -, h⟩ := index_rows t
  have hb := congrFun (Value.blocks8 m c t (flush_all t)) (ix2 r j : S512x1024.Idx)
  rw [Value.flushed8, View.read_apply] at hb
  rw [← block_apply m c t r j]
  refine Eq.trans (congrArg (((dats m 0 c).arrAt 8 cfg0.N : Vec Ideal S65536x1024 .f32)) (funext fun a => Fin.ext ?_)) hb
  match a with
  | ⟨0, _⟩ => show t.val * 512 + r.val = win0_8.index t 0 * 512 + 1 * r.val; rw [h.1]; omega
  | ⟨1, _⟩ => show j.val = win0_8.index t 1 * 1024 + 1 * j.val; rw [h.2]; omega

/-- The result array, token by token. -/
theorem array_apply (n : Fin 65536) (j : Fin 1024) :
    ((dats m 0 c).arrAt 8 cfg0.N : Vec Ideal S65536x1024 .f32) (ix2 n j) = result m c ⟨n.val / 8192, by omega⟩ n j := by
  have hN : cfg0.N = 128 := N_0
  have e := array_block m c ⟨n.val / 512, by omega⟩ ⟨n.val % 512, by omega⟩ j
  have er : row ⟨n.val / 512, by omega⟩ ⟨n.val % 512, by omega⟩ = n := Fin.ext (by show n.val / 512 * 512 + n.val % 512 = n.val; omega)
  have eb : batch ⟨n.val / 512, by omega⟩ = ⟨n.val / 8192, by omega⟩ := Fin.ext (by show n.val / 512 / 16 = n.val / 8192; omega)
  rwa [er, eb] at e

end Cert.Proof.Moe
-- ==== Proof.MoeRefValue.lean ====
module

public import proofs.«01_k».proof.Proof.MoeSpec
public import proofs.«01_k».proof.Proof.Gen.MoeRefIdeal.Read
public import Idealize.ShloMosaic.Lib.Pointwise

@[expose] public section

noncomputable section

namespace Cert.Proof.Moe.Ref

open Idealize.ShloMosaic Cert.MoeRefIdeal Cert.MoeRefIdeal.Gen Cert.MoeRefIdeal.Read

variable (x0 : FVec Ideal S65536x1024 .f32) (x1 : FVec Ideal S65536x1024 .bf16) (x2 : FVec Ideal S65536x128 .f32)
  (x3 : FVec Ideal S8x1x1024 .f32) (x4 : FVec Ideal S1024 .f32) (x5 x6 : FVec Ideal S16x1024x256 .f32)
  (x7 : FVec Ideal S16x256x1024 .f32)

/-- The reference's projection into an expert: weights times token, the token on the right. -/
theorem gate_apply (e : Fin 16) (n : Fin 65536) (f : Fin 256) :
    val_main_v2 (F := Ideal) x1 x5 (ix3 e n f) = proj (fun d => x1 (ix2 n d)) (fun e d f => x5 (ix3 e d f)) e f := by
  unfold val_main_v2 val_main_v1 val_main_v0
  pointwise [dot_S16x1024x256_S65536x1024_S16x256x65536_1_1_02_0_n_n]
  exact Finset.sum_congr rfl fun d _ => mul_comm _ _

theorem up_apply (e : Fin 16) (n : Fin 65536) (f : Fin 256) :
    val_main_v5 (F := Ideal) x1 x6 (ix3 e n f) = proj (fun d => x1 (ix2 n d)) (fun e d f => x6 (ix3 e d f)) e f := by
  unfold val_main_v5 val_main_v4 val_main_v0
  pointwise [dot_S16x1024x256_S65536x1024_S16x256x65536_1_1_02_0_n_n]
  exact Finset.sum_congr rfl fun d _ => mul_comm _ _

/-- `silu` written with negation, exponential and division is the logistic form. -/
theorem silu_apply (i : S16x65536x256.Idx) :
    val_main_v3 (F := Ideal) x1 x5 i = val_main_v2 (F := Ideal) x1 x5 i * Ideal.logistic (val_main_v2 (F := Ideal) x1 x5 i) := by
  unfold val_main_v3 val_main_call0_v5 val_main_call0_v4 val_main_call0_v3 val_main_call0_v2 val_main_call0_v1
    val_main_call0_v0 val_main_call0_cst val_main_call0_cst_0
  generalize val_main_v2 (F := Ideal) x1 x5 = y
  pointwise
  rfl

theorem act_apply (e : Fin 16) (n : Fin 65536) (f : Fin 256) :
    val_main_v6 (F := Ideal) x1 x5 x6 (ix3 e n f) =
      act (fun d => x1 (ix2 n d)) (fun e d f => x5 (ix3 e d f)) (fun e d f => x6 (ix3 e d f)) e f := by
  rw [val_main_v6_apply, silu_apply, gate_apply, up_apply]
  rfl

theorem mixture_apply (n : Fin 65536) (j : Fin 1024) :
    val_main_v13 (F := Ideal) x1 x2 x5 x6 x7 (ix2 n j) =
      mixture (fun d => x1 (ix2 n d)) (fun e => x2 (ix2 n e)) (fun e d f => x5 (ix3 e d f)) (fun e d f => x6 (ix3 e d f))
        (fun e f j => x7 (ix3 e f j)) j := by
  unfold val_main_v13 val_main_v12 val_main_v11 val_main_v10 val_main_v9 val_main_v8 val_main_v7 val_main_cst
  pointwise [dot_S16x65536x256_S16x256x1024_S16x65536x1024_2_1_1_2_0_0, act_apply]
  rfl

/-- Token `s` of batch row `b` as a row of the flat arrays. -/
def flat (b : Fin 8) (s : Fin 8192) : Fin 65536 := ⟨b.val * 8192 + s.val, by omega⟩

/-- Splitting the token axis into batch rows and positions re-reads the flat array. -/
theorem split_index (b : Fin 8) (s : Fin 8192) (j : Fin 1024) : idx_main_v14 (ix3 b s j) = ix2 (flat b s) j := by
  funext a
  apply Fin.ext
  match a with
  | ⟨0, _⟩ => show ((b.val * 8192 + s.val) * 1024 + j.val) / 1024 = b.val * 8192 + s.val; omega
  | ⟨1, _⟩ => show ((b.val * 8192 + s.val) * 1024 + j.val) % 1024 = j.val; omega

/-- Joining the two axes again. -/
theorem join_index (n : Fin 65536) (j : Fin 1024) :
    idx_main_v32 (ix2 n j) = ix3 ⟨n.val / 8192, by omega⟩ ⟨n.val % 8192, by omega⟩ j := by
  funext a
  apply Fin.ext
  match a with
  | ⟨0, _⟩ => show (n.val * 1024 + j.val) / 8388608 = n.val / 8192; omega
  | ⟨1, _⟩ => show (n.val * 1024 + j.val) / 1024 % 8192 = n.val % 8192; omega
  | ⟨2, _⟩ => show (n.val * 1024 + j.val) % 1024 = j.val; omega

/-- The residual with the modulated mixture added. -/
theorem residual_apply (b : Fin 8) (s : Fin 8192) (j : Fin 1024) :
    val_main_v18 (F := Ideal) x0 x1 x2 x3 x5 x6 x7 (ix3 b s j) =
      x0 (ix2 (flat b s) j) + x3 (ix3 b 0 j) * val_main_v13 (F := Ideal) x1 x2 x5 x6 x7 (ix2 (flat b s) j) := by
  rw [val_main_v18_apply, val_main_v17_apply, val_main_v14_apply, val_main_v15_apply, split_index]
  rw [show idx_main_v15 (ix3 b s j) = ix2 (flat b s) j from split_index b s j]
  unfold val_main_v16
  pointwise

/-- The norm of the residual over the features. -/
theorem norm_apply (b : Fin 8) (s : Fin 8192) (j : Fin 1024) :
    val_main_v31 (F := Ideal) x0 x1 x2 x3 x4 x5 x6 x7 (ix3 b s j) =
      rmsNorm (fun j => val_main_v18 (F := Ideal) x0 x1 x2 x3 x5 x6 x7 (ix3 b s j)) (fun j => x4 (ix1 j)) j := by
  unfold val_main_v31 val_main_v30 val_main_v29 val_main_v28 val_main_v27 val_main_v26 val_main_v25 val_main_v24
    val_main_v23 val_main_v22 val_main_v21 val_main_v20 val_main_v19 val_main_cst_0 val_main_cst_1 val_main_cst_2
  generalize val_main_v18 (F := Ideal) x0 x1 x2 x3 x5 x6 x7 = y
  pointwise
  rfl

/-- The reference's result, token by token. -/
theorem result_apply (n : Fin 65536) (j : Fin 1024) :
    val_main_v32 (F := Ideal) x0 x1 x2 x3 x4 x5 x6 x7 (ix2 n j) = token x0 x1 x2 x3 x4 x5 x6 x7 ⟨n.val / 8192, by omega⟩ n j := by
  have e : flat ⟨n.val / 8192, by omega⟩ ⟨n.val % 8192, by omega⟩ = n :=
    Fin.ext (by show n.val / 8192 * 8192 + n.val % 8192 = n.val; omega)
  rw [val_main_v32_apply, join_index, norm_apply]
  simp only [residual_apply, mixture_apply, e]
  rfl

end Cert.Proof.Moe.Ref
-- ==== Proof.MoeClaim.lean ====
module

public import proofs.«01_k».proof.Defs
public import proofs.«01_k».proof.Proof.MoeArray
public import proofs.«01_k».proof.Proof.MoeRefValue
public import proofs.«01_k».proof.Proof.Gen.MoeRefIdeal.Run

@[expose] public section

noncomputable section

namespace Cert.Proof.Moe

open Idealize.ShloMosaic Idealize.SL.Sem

instance : Cert.MoeIdeal.Facts := Cert.MoeIdeal.Gen.facts
instance : Cert.MoeRefIdeal.Facts := Cert.MoeRefIdeal.Gen.facts

/-- From equal arguments the kernel's result array and the reference's are equal, element by element. -/
theorem results_agree (m : (ℓ : Loc Cert.MoeIdeal.nD Cert.MoeIdeal.τ Cert.MoeIdeal.sig) → Buf (Elt Ideal) ℓ)
    (c : Dev Cert.MoeIdeal.nD) :
    ((Cert.MoeIdeal.Gen.dats m 0 c).arrAt 8 Cert.MoeIdeal.cfg0.N : FVec Ideal ⟨2, ![65536, 1024]⟩ .f32) =
      Cert.MoeRefIdeal.Read.val_main_v32 (F := Ideal) (m ((c.tc : Thread _ _).loc Cert.MoeIdeal.main_arg0))
        (m ((c.tc : Thread _ _).loc Cert.MoeIdeal.main_arg1)) (m ((c.tc : Thread _ _).loc Cert.MoeIdeal.main_arg2))
        (m ((c.tc : Thread _ _).loc Cert.MoeIdeal.main_arg3)) (m ((c.tc : Thread _ _).loc Cert.MoeIdeal.main_arg4))
        (m ((c.tc : Thread _ _).loc Cert.MoeIdeal.main_arg5)) (m ((c.tc : Thread _ _).loc Cert.MoeIdeal.main_arg6))
        (m ((c.tc : Thread _ _).loc Cert.MoeIdeal.main_arg7)) := by
  funext i
  obtain ⟨n, j, rfl⟩ : ∃ (n : Fin 65536) (j : Fin 1024), i = ix2 n j := ⟨i 0, i 1, eq_ix2 i⟩
  rw [array_apply, Ref.result_apply]
  rfl

/-- Over the extended reals the mixture-of-experts kernel computes its reference: from equal arguments both run, end with
    equal results and leave their arguments unchanged. -/
theorem algebraic : Cert.algebraic_MoeIdeal_MoeRefIdeal := by
  intro m g m' g' _ h
  refine ⟨fun c => (Cert.MoeIdeal.Gen.dats m 0 c).arrAt 8 Cert.MoeIdeal.cfg0.N, Cert.MoeIdeal.Value.run_blocks m g, ?_⟩
  refine (θ_run (Cert.MoeRefIdeal.defs (F := Ideal)) _ _).mono (fun r hr c => ?_) (Cert.MoeRefIdeal.Value.run m' g')
  obtain ⟨h0, h1, h2, h3, h4, h5, h6, h7⟩ := h c
  refine ⟨(hr c).1.trans ?_, (hr c).2⟩
  rw [Cert.MoeRefIdeal.Read.val_main_v32_eq, h0, h1, h2, h3, h4, h5, h6, h7]
  exact (results_agree m c).symm

end Cert.Proof.Moe
-- ==== Proof.InprojSpec.lean ====
module

public import proofs.«01_k».proof.Proof.MoeSpec

@[expose] public section

noncomputable section

namespace Cert.Proof.Inproj

open Idealize.ShloMosaic Cert.Proof.Moe

/-- A token's features after the norm and the conditioning: `rmsNorm x · gain · (1 + scale) + shift`. -/
def modulated (x gain shift scale : Fin 1024 → EReal) (d : Fin 1024) : EReal :=
  rmsNorm x gain d * (1 + scale d) + shift d

/-- The modulated features times one column of the projection. -/
def column (x gain shift scale w : Fin 1024 → EReal) : EReal :=
  ∑ d : Fin 1024, modulated x gain shift scale d * w d

/-- `log (sigmoid x) / 16`, in the form the kernel writes it: `(min x 0 − log(1 + exp(−|x|))) · (1/16)`. -/
def logDecay (x : EReal) : EReal :=
  (min x 0 - Ideal.log1p (Ideal.exp (0 - max x (-x)))) * Ideal.ofBits .f32 0x3D800000#32

section Arrays

variable (x : (⟨2, ![65536, 1024]⟩ : Shape).Idx → EReal) (gain : (⟨1, ![1024]⟩ : Shape).Idx → EReal)
  (shift scale : (⟨3, ![8, 1, 1024]⟩ : Shape).Idx → EReal) (w : (⟨2, ![1024, 2644]⟩ : Shape).Idx → EReal)
  (u : (⟨2, ![16, 256]⟩ : Shape).Idx → EReal) (bias : (⟨1, ![256]⟩ : Shape).Idx → EReal)

/-- Projected feature `k` of token `n`, from the whole arrays; a batch row holds 8192 tokens. -/
def feature (n : Fin 65536) (k : Fin 2644) : EReal :=
  column (fun d => x (ix2 n d)) (fun d => gain (ix1 d)) (fun d => shift (ix3 ⟨n.val / 8192, by omega⟩ 0 d))
    (fun d => scale (ix3 ⟨n.val / 8192, by omega⟩ 0 d)) (fun d => w (ix2 d k))

/-- The attention's scaled queries, the two heads of a group side by side: lane `128 g + 64 s + k` holds feature `k` of head
    `4 s + g`. -/
def query (n : Fin 65536) (j : Fin 512) : EReal :=
  feature x gain shift scale w n ⟨1552 + (j.val / 64 % 2 * 256 + j.val / 128 * 64 + j.val % 64), by omega⟩ *
    Ideal.ofBits .f32 0x3E000000#32

/-- The linear attention's log decay. -/
def decay (n : Fin 65536) (j : Fin 256) : EReal :=
  logDecay ((∑ a : Fin 16, feature x gain shift scale w n ⟨1024 + a.val, by omega⟩ * u (ix2 a j)) + bias (ix1 j))

/-- The indexer's key, written twice. -/
def keyTwice (n : Fin 65536) (j : Fin 128) : EReal :=
  feature x gain shift scale w n ⟨2576 + j.val % 64, by omega⟩

/-- The packed lanes: the indexer's key and head weights, the low-rank decay, zeros. -/
def packed (n : Fin 65536) (j : Fin 128) : EReal :=
  if h : j.val < 68 then feature x gain shift scale w n ⟨2576 + j.val, by omega⟩
  else if h' : j.val < 84 then feature x gain shift scale w n ⟨1024 + (j.val - 68), by omega⟩ else 0

end Arrays

end Cert.Proof.Inproj
-- ==== Proof.InprojBlock.lean ====
module

public import proofs.«01_k».proof.Proof.Gen.InprojIdeal.Value
public import proofs.«01_k».proof.Proof.InprojSpec
public import Idealize.ShloMosaic.Lib.Pointwise
public import Idealize.ShloMosaic.Lib.Pipeline.ValueKit.Basic
public import Idealize.ShloMosaic.Lib.Pipeline.ValueKit.Tiles

@[expose] public section

noncomputable section

namespace Cert.Proof.Inproj

open Idealize.ShloMosaic Cert.InprojIdeal Cert.InprojIdeal.Gen

variable (x0 : Vec Ideal S512x1024 .f32) (x1 : Vec Ideal S1x1024 .f32) (x2 x3 : Vec Ideal S1x1x1024 .f32)
  (x4 : Vec Ideal S1024x2816 .bf16) (x5 : Vec Ideal S128x256 .bf16) (x6 : Vec Ideal S1x256 .f32)

/-- The modulated features of a block of tokens. -/
def hidden : FVec Ideal S512x1024 .bf16 := k0_pay2 x0 x1 x3 x2

theorem hidden_apply (r : Fin 512) (d : Fin 1024) :
    hidden x0 x1 x2 x3 (ix2 r d) = modulated (fun d => x0 (ix2 r d)) (fun d => x1 (ix2 0 d)) (fun d => x2 (ix3 0 0 d))
      (fun d => x3 (ix3 0 0 d)) d := by
  unfold hidden k0_pay2
  pointwise
  rfl

/-- The block's loads of its first four windows are the whole blocks, so the projected rows are `hidden`. -/
theorem hidden_eq : k0_pay18 x0 x1 x2 x3 x4 x5 x6 = hidden x0 x1 x2 x3 := by
  have e0 : View.ld x0 r0_0 = x0 := View.ld_unit_lit _ x0 (by decide)
  have e1 : View.ld x1 r0_1 = x1 := View.ld_unit_lit _ x1 (by decide)
  have e2 : ∀ x : Vec Ideal S1x1x1024 .f32, View.ld x r0_2 = x := fun x => View.ld_unit_lit _ x (by decide)
  show k0_pay2 (View.ld x0 r0_0) (View.ld x1 r0_1) (View.ld x3 r0_2) (View.ld x2 r0_2) = _
  rw [e0, e1, e2, e2]
  rfl

/-- Row `r` of the block times column `k` of the projection. -/
def cell (r : Fin 512) (k : Fin 2816) : EReal :=
  column (fun d => x0 (ix2 r d)) (fun d => x1 (ix2 0 d)) (fun d => x2 (ix3 0 0 d)) (fun d => x3 (ix3 0 0 d))
    (fun d => x4 (ix2 d k))

theorem cell_sum (r : Fin 512) (k : Fin 2816) :
    ∑ d : Fin 1024, hidden x0 x1 x2 x3 (ix2 r d) * x4 (ix2 d k) = cell x0 x1 x2 x3 x4 r k :=
  Finset.sum_congr rfl fun d _ => congrArg (· * x4 (ix2 d k)) (hidden_apply x0 x1 x2 x3 r d)

/-- What one grid point writes of the linear attention's queries, scaled. -/
theorem out7_apply (r : Fin 512) (j : Fin 256) :
    out0_7 x0 x1 x2 x3 x4 x5 x6 (ix2 r j) = cell x0 x1 x2 x3 x4 r ⟨j.val, by omega⟩ * Ideal.ofBits .f32 0x3E000000#32 := by
  unfold out0_7
  rw [View.canon_cons_unit_lit _ _ _ (by decide)]
  show k0_pay3 (View.ld x0 r0_0) (View.ld x1 r0_1) (View.ld x3 r0_2) (View.ld x2 r0_2) _ _ = _
  unfold k0_pay3
  rw [show k0_pay2 (View.ld x0 r0_0) (View.ld x1 r0_1) (View.ld x3 r0_2) (View.ld x2 r0_2) = hidden x0 x1 x2 x3 from
    hidden_eq x0 x1 x2 x3 x4 x5 x6]
  generalize hy : hidden x0 x1 x2 x3 = y
  pointwise [dot_S512x1024_S1024x256_S512x256_1_0_0_1_n_n]
  subst hy
  exact congrArg (· * Ideal.ofBits .f32 0x3E000000#32) (cell_sum x0 x1 x2 x3 x4 r _)

/-- What one grid point writes of the linear attention's keys. -/
theorem out8_apply (r : Fin 512) (j : Fin 256) :
    out0_8 x0 x1 x2 x3 x4 x5 x6 (ix2 r j) = cell x0 x1 x2 x3 x4 r ⟨256 + j.val, by omega⟩ := by
  unfold out0_8
  rw [View.canon_cons_unit_lit _ _ _ (by decide)]
  show k0_pay4 (View.ld x0 r0_0) (View.ld x1 r0_1) (View.ld x3 r0_2) (View.ld x2 r0_2) _ _ = _
  unfold k0_pay4
  rw [show k0_pay2 (View.ld x0 r0_0) (View.ld x1 r0_1) (View.ld x3 r0_2) (View.ld x2 r0_2) = hidden x0 x1 x2 x3 from
    hidden_eq x0 x1 x2 x3 x4 x5 x6]
  generalize hy : hidden x0 x1 x2 x3 = y
  pointwise [dot_S512x1024_S1024x256_S512x256_1_0_0_1_n_n]
  subst hy
  exact (cell_sum x0 x1 x2 x3 x4 r _)

/-- What one grid point writes of the linear attention's values. -/
theorem out10_apply (r : Fin 512) (j : Fin 512) :
    out0_10 x0 x1 x2 x3 x4 x5 x6 (ix2 r j) = cell x0 x1 x2 x3 x4 r ⟨512 + j.val, by omega⟩ := by
  unfold out0_10
  rw [View.canon_cons_unit_lit _ _ _ (by decide)]
  rw [hidden_eq]
  unfold k0_pay5
  generalize hy : hidden x0 x1 x2 x3 = y
  pointwise [dot_S512x1024_S1024x512_S512x512_1_0_0_1_n_n]
  subst hy
  exact (cell_sum x0 x1 x2 x3 x4 r _)

/-- What one grid point writes of the linear attention's output gate. -/
theorem out11_apply (r : Fin 512) (j : Fin 512) :
    out0_11 x0 x1 x2 x3 x4 x5 x6 (ix2 r j) = cell x0 x1 x2 x3 x4 r ⟨1024 + j.val, by omega⟩ := by
  unfold out0_11
  rw [View.canon_cons_unit_lit _ _ _ (by decide)]
  rw [hidden_eq]
  unfold k0_pay6
  generalize hy : hidden x0 x1 x2 x3 = y
  pointwise [dot_S512x1024_S1024x512_S512x512_1_0_0_1_n_n]
  subst hy
  exact (cell_sum x0 x1 x2 x3 x4 r _)

/-- What one grid point writes of the sparse attention's queries, scaled. -/
theorem out12_apply (r : Fin 512) (j : Fin 512) :
    out0_12 x0 x1 x2 x3 x4 x5 x6 (ix2 r j) = cell x0 x1 x2 x3 x4 r ⟨1536 + j.val, by omega⟩ * Ideal.ofBits .f32 0x3E000000#32 := by
  unfold out0_12
  rw [View.canon_cons_unit_lit _ _ _ (by decide)]
  rw [hidden_eq]
  unfold k0_pay7
  generalize hy : hidden x0 x1 x2 x3 = y
  pointwise [dot_S512x1024_S1024x512_S512x512_1_0_0_1_n_n]
  subst hy
  exact congrArg (· * Ideal.ofBits .f32 0x3E000000#32) (cell_sum x0 x1 x2 x3 x4 r _)

/-- What one grid point writes of the sparse attention's keys. -/
theorem out13_apply (r : Fin 512) (j : Fin 128) :
    out0_13 x0 x1 x2 x3 x4 x5 x6 (ix2 r j) = cell x0 x1 x2 x3 x4 r ⟨2048 + j.val, by omega⟩ := by
  unfold out0_13
  rw [View.canon_cons_unit_lit _ _ _ (by decide)]
  rw [hidden_eq]
  unfold k0_pay8
  generalize hy : hidden x0 x1 x2 x3 = y
  pointwise [dot_S512x1024_S1024x128_S512x128_1_0_0_1_n_n]
  subst hy
  exact (cell_sum x0 x1 x2 x3 x4 r _)

/-- What one grid point writes of the sparse attention's values. -/
theorem out14_apply (r : Fin 512) (j : Fin 128) :
    out0_14 x0 x1 x2 x3 x4 x5 x6 (ix2 r j) = cell x0 x1 x2 x3 x4 r ⟨2176 + j.val, by omega⟩ := by
  unfold out0_14
  rw [View.canon_cons_unit_lit _ _ _ (by decide)]
  rw [hidden_eq]
  unfold k0_pay9
  generalize hy : hidden x0 x1 x2 x3 = y
  pointwise [dot_S512x1024_S1024x128_S512x128_1_0_0_1_n_n]
  subst hy
  exact (cell_sum x0 x1 x2 x3 x4 r _)

/-- What one grid point writes of the keys, rounded. -/
theorem out15_apply (r : Fin 512) (j : Fin 128) :
    out0_15 x0 x1 x2 x3 x4 x5 x6 (ix2 r j) = cell x0 x1 x2 x3 x4 r ⟨2048 + j.val, by omega⟩ := by
  unfold out0_15
  rw [View.canon_cons_unit_lit _ _ _ (by decide)]
  rw [hidden_eq]
  unfold k0_pay10 k0_pay8
  generalize hy : hidden x0 x1 x2 x3 = y
  pointwise [dot_S512x1024_S1024x128_S512x128_1_0_0_1_n_n]
  subst hy
  exact (cell_sum x0 x1 x2 x3 x4 r _)

/-- What one grid point writes of the values, rounded. -/
theorem out16_apply (r : Fin 512) (j : Fin 128) :
    out0_16 x0 x1 x2 x3 x4 x5 x6 (ix2 r j) = cell x0 x1 x2 x3 x4 r ⟨2176 + j.val, by omega⟩ := by
  unfold out0_16
  rw [View.canon_cons_unit_lit _ _ _ (by decide)]
  rw [hidden_eq]
  unfold k0_pay11 k0_pay9
  generalize hy : hidden x0 x1 x2 x3 = y
  pointwise [dot_S512x1024_S1024x128_S512x128_1_0_0_1_n_n]
  subst hy
  exact (cell_sum x0 x1 x2 x3 x4 r _)

/-- What one grid point writes of the indexer's queries. -/
theorem out17_apply (r : Fin 512) (j : Fin 256) :
    out0_17 x0 x1 x2 x3 x4 x5 x6 (ix2 r j) = cell x0 x1 x2 x3 x4 r ⟨2304 + j.val, by omega⟩ := by
  unfold out0_17
  rw [View.canon_cons_unit_lit _ _ _ (by decide)]
  rw [hidden_eq]
  unfold k0_pay12
  generalize hy : hidden x0 x1 x2 x3 = y
  pointwise [dot_S512x1024_S1024x256_S512x256_1_0_0_1_n_n]
  subst hy
  exact (cell_sum x0 x1 x2 x3 x4 r _)

/-- What one grid point writes of the indexer's key. -/
theorem out18_apply (r : Fin 512) (j : Fin 64) :
    out0_18 x0 x1 x2 x3 x4 x5 x6 (ix2 r j) = cell x0 x1 x2 x3 x4 r ⟨2560 + j.val, by omega⟩ := by
  unfold out0_18
  rw [View.canon_cons_unit_lit _ _ _ (by decide)]
  rw [hidden_eq]
  unfold k0_pay14 k0_pay13
  generalize hy : hidden x0 x1 x2 x3 = y
  pointwise [dot_S512x1024_S1024x128_S512x128_1_0_0_1_n_n]
  subst hy
  exact (cell_sum x0 x1 x2 x3 x4 r _)

/-- What one grid point writes of the indexer's key, twice. -/
theorem out19_apply (r : Fin 512) (j : Fin 128) :
    out0_19 x0 x1 x2 x3 x4 x5 x6 (ix2 r j) = cell x0 x1 x2 x3 x4 r ⟨2688 + j.val, by omega⟩ := by
  unfold out0_19
  rw [View.canon_cons_unit_lit _ _ _ (by decide)]
  rw [hidden_eq]
  unfold k0_pay15
  generalize hy : hidden x0 x1 x2 x3 = y
  pointwise [dot_S512x1024_S1024x128_S512x128_1_0_0_1_n_n]
  subst hy
  exact (cell_sum x0 x1 x2 x3 x4 r _)

/-- What one grid point writes of the mixed columns. -/
theorem out20_apply (r : Fin 512) (j : Fin 128) :
    out0_20 x0 x1 x2 x3 x4 x5 x6 (ix2 r j) = cell x0 x1 x2 x3 x4 r ⟨2560 + j.val, by omega⟩ := by
  unfold out0_20
  rw [View.canon_cons_unit_lit _ _ _ (by decide)]
  rw [hidden_eq]
  unfold k0_pay13
  generalize hy : hidden x0 x1 x2 x3 = y
  pointwise [dot_S512x1024_S1024x128_S512x128_1_0_0_1_n_n]
  subst hy
  exact (cell_sum x0 x1 x2 x3 x4 r _)

/-- What one grid point writes of the log decay: the low-rank gate, its bias, and `log (sigmoid ·) / 16`. -/
theorem out9_apply (r : Fin 512) (j : Fin 256) :
    out0_9 x0 x1 x2 x3 x4 x5 x6 (ix2 r j) =
      logDecay ((∑ k : Fin 128, cell x0 x1 x2 x3 x4 r ⟨2560 + k.val, by omega⟩ * x5 (ix2 k j)) + x6 (ix2 0 j)) := by
  have e5 : View.ld x5 r0_17 = x5 := View.ld_unit_lit _ x5 (by decide)
  have e6 : View.ld x6 r0_18 = x6 := View.ld_unit_lit _ x6 (by decide)
  have hm : ∀ k : Fin 128, k0_pay13 (hidden x0 x1 x2 x3) (View.ld x4 r0_14) (ix2 r k) =
      cell x0 x1 x2 x3 x4 r ⟨2560 + k.val, by omega⟩ := by
    intro k
    unfold k0_pay13
    generalize hy : hidden x0 x1 x2 x3 = y
    pointwise [dot_S512x1024_S1024x128_S512x128_1_0_0_1_n_n]
    subst hy
    exact cell_sum x0 x1 x2 x3 x4 r _
  unfold out0_9
  rw [View.canon_cons_unit_lit _ _ _ (by decide), hidden_eq, e5, e6]
  unfold k0_pay1 k0_pay16 k0_pay17
  generalize k0_pay13 (hidden x0 x1 x2 x3) (View.ld x4 r0_14) = y at hm ⊢
  pointwise [dot_S512x128_S128x256_S512x256_1_0_0_1_n_n, hm]
  rfl

end Cert.Proof.Inproj
-- ==== Proof.InprojHost.lean ====
module

public import proofs.«01_k».proof.Proof.InprojBlock
public import Idealize.ShloMosaic.Lib.Routing.OpsSet
public import Idealize.ShloMosaic.Lib.Routing.OpsOne

@[expose] public section

noncomputable section

namespace Cert.Proof.Inproj

open Idealize.ShloMosaic Idealize.ShloMosaic.TcCoe Idealize.SL.Sem Cert.InprojIdeal Cert.InprojIdeal.Gen

variable (m : (ℓ : Loc nD τ sig) → Buf (Elt Ideal) ℓ) (c : Dev nD)

/-- The attention's queries with the two heads of a group side by side. -/
def queries (w : FVec Ideal S1024x512 .f32) : FVec Ideal S1024x512 .f32 :=
  concatenate S1024x512 1 [⟨S1024x64, extractStridedSlice S1024x64 ![0, 0] w slices_S1024x512_S1024x64_0_0⟩,
    ⟨S1024x64, extractStridedSlice S1024x64 ![0, 256] w slices_S1024x512_S1024x64_0_256⟩,
    ⟨S1024x64, extractStridedSlice S1024x64 ![0, 64] w slices_S1024x512_S1024x64_0_64⟩,
    ⟨S1024x64, extractStridedSlice S1024x64 ![0, 320] w slices_S1024x512_S1024x64_0_320⟩,
    ⟨S1024x64, extractStridedSlice S1024x64 ![0, 128] w slices_S1024x512_S1024x64_0_128⟩,
    ⟨S1024x64, extractStridedSlice S1024x64 ![0, 384] w slices_S1024x512_S1024x64_0_384⟩,
    ⟨S1024x64, extractStridedSlice S1024x64 ![0, 192] w slices_S1024x512_S1024x64_0_192⟩,
    ⟨S1024x64, extractStridedSlice S1024x64 ![0, 448] w slices_S1024x512_S1024x64_0_448⟩]
    concatenates_S1024x64_S1024x64_S1024x64_S1024x64_S1024x64_S1024x64_S1024x64_S1024x64_S1024x512_d1

/-- The projection's columns in the order the kernel takes them. -/
def rearranged (w : FVec Ideal S1024x2644 .f32) : FVec Ideal S1024x2816 .f32 :=
  concatenate S1024x2816 1 [⟨S1024x1024, extractStridedSlice S1024x1024 ![0, 0] w slices_S1024x2644_S1024x1024_0_0⟩,
    ⟨S1024x512, extractStridedSlice S1024x512 ![0, 1040] w slices_S1024x2644_S1024x512_0_1040⟩,
    ⟨S1024x512, queries (extractStridedSlice S1024x512 ![0, 1552] w slices_S1024x2644_S1024x512_0_1552)⟩,
    ⟨S1024x512, extractStridedSlice S1024x512 ![0, 2064] w slices_S1024x2644_S1024x512_0_2064⟩,
    ⟨S1024x68, extractStridedSlice S1024x68 ![0, 2576] w slices_S1024x2644_S1024x68_0_2576⟩,
    ⟨S1024x16, extractStridedSlice S1024x16 ![0, 1024] w slices_S1024x2644_S1024x16_0_1024⟩,
    ⟨S1024x44, (broadcastInDim S1024x44 ![] bcast_S_S1024x44 (constant S_ .f32 0x00000000#32 : FVec Ideal S_ .f32))⟩,
    ⟨S1024x64, extractStridedSlice S1024x64 ![0, 2576] w slices_S1024x2644_S1024x64_0_2576⟩,
    ⟨S1024x64, extractStridedSlice S1024x64 ![0, 2576] w slices_S1024x2644_S1024x64_0_2576⟩]
    concatenates_S1024x1024_S1024x512_S1024x512_S1024x512_S1024x68_S1024x16_S1024x44_S1024x64_S1024x64_S1024x2816_d1

set_option maxHeartbeats 1000000 in
/-- The host lines before the call leave the rearranged projection (rounded: over the extended reals, as it is). -/
theorem V_rearranged (d : Fin 1024) (k : Fin 2816) :
    V m c main_v22 (ix2 d k) = rearranged (m ((c : Thread nD τ).loc main_arg4)) (ix2 d k) := by
  dsimp only [V, hostOps0]
  after_results
  rfl

section Columns

variable (w : FVec Ideal S1024x2644 .f32) (d : Fin 1024)

/-- The first 1024 columns stay where they are. -/
theorem front_apply (j : Fin 1024) : rearranged w (ix2 d ⟨j.val, by omega⟩) = w (ix2 d ⟨j.val, by omega⟩) := by
  unfold rearranged
  pointwise

/-- The output gate's columns. -/
theorem gate_apply (j : Fin 512) : rearranged w (ix2 d ⟨1024 + j.val, by omega⟩) = w (ix2 d ⟨1040 + j.val, by omega⟩) := by
  unfold rearranged
  pointwise

/-- The head at group `g` and place `n` of the rearranged queries is the head at place `n`, group `g`. -/
theorem queries_apply (q : FVec Ideal S1024x512 .f32) (g : Fin 4) (n : Fin 2) (k : Fin 64) :
    queries q (ix2 d ⟨g.val * 128 + n.val * 64 + k.val, by omega⟩) = q (ix2 d ⟨n.val * 256 + g.val * 64 + k.val, by omega⟩) := by
  unfold queries
  fin_cases g <;> fin_cases n <;> pointwise
  all_goals repeat rw [dif_neg (by omega)]
  all_goals try rw [dif_pos (by omega)]
  all_goals exact congrArg q (congrArg (ix2 d) (Fin.ext (by dsimp only; omega)))

theorem query_apply (j : Fin 512) :
    rearranged w (ix2 d ⟨1536 + j.val, by omega⟩) =
      queries (extractStridedSlice S1024x512 ![0, 1552] w slices_S1024x2644_S1024x512_0_1552) (ix2 d j) := by
  unfold rearranged
  generalize queries _ = q
  pointwise
  rw [dif_neg (by omega), dif_neg (by omega), dif_pos (by omega)]
  exact congrArg q (congrArg (ix2 d) (Fin.ext (by show 1536 + j.val - 1024 - 512 = j.val; omega)))

/-- The attention's keys and values and the indexer's queries. -/
theorem rest_apply (j : Fin 512) : rearranged w (ix2 d ⟨2048 + j.val, by omega⟩) = w (ix2 d ⟨2064 + j.val, by omega⟩) := by
  unfold rearranged
  pointwise
  rw [dif_neg (by omega), dif_neg (by omega), dif_neg (by omega), dif_pos (by omega)]
  exact congrArg w (congrArg (ix2 d) (Fin.ext (by show 2064 + (2048 + j.val - 1024 - 512 - 512) = 2064 + j.val; omega)))

/-- The indexer's key and head weights. -/
theorem index_apply (j : Fin 68) : rearranged w (ix2 d ⟨2560 + j.val, by omega⟩) = w (ix2 d ⟨2576 + j.val, by omega⟩) := by
  unfold rearranged
  pointwise
  rw [dif_neg (by omega), dif_neg (by omega), dif_neg (by omega), dif_neg (by omega), dif_pos (by omega)]
  exact congrArg w (congrArg (ix2 d) (Fin.ext (by show 2576 + (2560 + j.val - 1024 - 512 - 512 - 512) = 2576 + j.val; omega)))

/-- The low-rank decay's columns. -/
theorem rank_apply (j : Fin 16) : rearranged w (ix2 d ⟨2628 + j.val, by omega⟩) = w (ix2 d ⟨1024 + j.val, by omega⟩) := by
  unfold rearranged
  pointwise
  rw [dif_neg (by omega), dif_neg (by omega), dif_neg (by omega), dif_neg (by omega), dif_neg (by omega), dif_pos (by omega)]
  exact congrArg w (congrArg (ix2 d) (Fin.ext (by show 1024 + (2628 + j.val - 1024 - 512 - 512 - 512 - 68) = 1024 + j.val; omega)))

/-- The columns that fill the lanes up hold zero. -/
theorem fill_apply (j : Fin 44) : rearranged w (ix2 d ⟨2644 + j.val, by omega⟩) = 0 := by
  unfold rearranged
  pointwise
  rw [dif_neg (by omega), dif_neg (by omega), dif_neg (by omega), dif_neg (by omega), dif_neg (by omega), dif_neg (by omega),
    dif_pos (by omega)]

/-- The indexer's key, twice. -/
theorem twice_apply (j : Fin 64) : rearranged w (ix2 d ⟨2688 + j.val, by omega⟩) = w (ix2 d ⟨2576 + j.val, by omega⟩) := by
  unfold rearranged
  pointwise
  rw [dif_neg (by omega), dif_neg (by omega), dif_neg (by omega), dif_neg (by omega), dif_neg (by omega), dif_neg (by omega), dif_neg (by omega), dif_pos (by omega)]
  exact congrArg w (congrArg (ix2 d) (Fin.ext (by show 2576 + (2688 + j.val - 1024 - 512 - 512 - 512 - 68 - 16 - 44) = 2576 + j.val; omega)))

theorem twice_apply' (j : Fin 64) : rearranged w (ix2 d ⟨2752 + j.val, by omega⟩) = w (ix2 d ⟨2576 + j.val, by omega⟩) := by
  unfold rearranged
  pointwise
  rw [dif_neg (by omega), dif_neg (by omega), dif_neg (by omega), dif_neg (by omega), dif_neg (by omega), dif_neg (by omega), dif_neg (by omega), dif_neg (by omega)]
  exact congrArg w (congrArg (ix2 d) (Fin.ext (by show 2576 + (2752 + j.val - 1024 - 512 - 512 - 512 - 68 - 16 - 44 - 64) = 2576 + j.val; omega)))

end Columns

/-- The norm's gain and the decay's bias reach the kernel as rows. -/
theorem V_gain (j : Fin 1024) :
    V m c main_v23 (ix2 0 j) = m ((c : Thread nD τ).loc main_arg1) (ix1 j) := by
  dsimp only [V, hostOps0]
  after_results
  pointwise

theorem V_bias (j : Fin 256) :
    V m c main_v24 (ix2 0 j) = m ((c : Thread nD τ).loc main_arg6) (ix1 j) := by
  dsimp only [V, hostOps0]
  after_results
  pointwise

/-- Where the scattered rows of the low-rank map land: row `a` at row `68 + a`. -/
theorem lands (idx : IVec S1 32) (hidx : idx (ix1 0) = 68#32) (a : Fin 16) (b : Fin 256) (k : Fin 128) (j : Fin 256) :
    scatter_S128x256_S1_S16x256_01_n_0_0.resultIdx? (ix2 a b) idx = some (ix2 k j) ↔ 68 + a.val = k.val ∧ b = j := by
  have s0 : scatter_S128x256_S1_S16x256_01_n_0_0.start (ix2 a b) idx 0 = 68 := by
    unfold ScatterDims.start
    rw [dif_pos (by exact List.mem_singleton.2 rfl)]
    have hsi : ∀ q : S1.Idx, (idx q).toInt = 68 := fun q => by
      rw [show q = ix1 0 from funext fun b' => match b' with | ⟨0, _⟩ => Subsingleton.elim (α := Fin 1) _ _, hidx]; rfl
    exact hsi _
  have s1 : scatter_S128x256_S1_S16x256_01_n_0_0.start (ix2 a b) idx 1 = 0 := by
    unfold ScatterDims.start
    exact dif_neg fun h => absurd (List.mem_singleton.1 h) (by decide : (1 : Fin 2) ≠ 0)
  have w0 : scatter_S128x256_S1_S16x256_01_n_0_0.window (ix2 a b) 0 = a.val := rfl
  have w1 : scatter_S128x256_S1_S16x256_01_n_0_0.window (ix2 a b) 1 = b.val := rfl
  refine (Routing.resultIdx?_ix2 (R := 128) (C := 256) scatter_S128x256_S1_S16x256_01_n_0_0 (ix2 a b) idx k j).trans ?_
  rw [Fin.ext_iff, s0, w0, s1, w1]
  omega

/-- The low-rank map padded to 128 rows of zeros, its own rows from row 68 on. -/
def padded (u : FVec Ideal S16x256 .f32) : FVec Ideal S128x256 .f32 :=
  Host.scatter scatter_S128x256_S1_S16x256_01_n_0_0 (fun _ b => b)
    (broadcastInDim S128x256 ![] bcast_S_S128x256 (constant S_ .f32 0x00000000#32 : FVec Ideal S_ .f32))
    (broadcastInDim S1 ![] bcast_S_S1 (constantI S_ 32 68#32)) u

set_option maxHeartbeats 1000000 in
theorem V_padded :
    (V m c main_v3 : FVec Ideal S128x256 .bf16) =
      truncf .bf16 (padded (m ((c : Thread nD τ).loc main_arg5))) bitsLt_bf16_f32 := by
  dsimp only [V, hostOps0]
  after_results
  rfl

theorem V_padded_apply (k : Fin 128) (j : Fin 256) :
    V m c main_v3 (ix2 k j) = padded (m ((c : Thread nD τ).loc main_arg5)) (ix2 k j) := by
  refine (congrFun (V_padded m c) (ix2 k j)).trans ?_
  generalize padded _ = y
  rfl

/-- Rows 68 to 83 hold the map. -/
theorem padded_live (u : FVec Ideal S16x256 .f32) (a : Fin 16) (j : Fin 256) :
    padded u (ix2 ⟨68 + a.val, by omega⟩ j) = u (ix2 a j) := by
  unfold padded
  refine Routing.scatter_set_hit _ _ _ _ _ _ (fun k hk => ?_) (ix2 a j) ((lands _ (by rfl) _ _ _ _).2 ⟨rfl, rfl⟩)
  rw [eq_ix2 k] at hk ⊢
  obtain ⟨h1, h2⟩ := (lands _ (by rfl) _ _ _ _).1 hk
  rw [h2, show k 0 = a from Fin.ext (Nat.add_left_cancel h1)]

/-- The other rows hold zero. -/
theorem padded_dead (u : FVec Ideal S16x256 .f32) (k : Fin 128) (j : Fin 256) (h : k.val < 68 ∨ 84 ≤ k.val) :
    padded u (ix2 k j) = 0 := by
  unfold padded
  refine (Routing.scatter_set_miss _ _ _ _ _ (fun q hq => ?_)).trans (by pointwise)
  rw [eq_ix2 q] at hq
  obtain ⟨h1, -⟩ := (lands _ (by rfl) _ _ _ _).1 hq
  have : (q 0).val < 16 := (q 0).isLt
  omega

end Cert.Proof.Inproj
-- ==== Proof.InprojIn.lean ====
module

public import proofs.«01_k».proof.Proof.InprojHost

@[expose] public section

noncomputable section

namespace Cert.Proof.Inproj

open Idealize.ShloMosaic Idealize.ShloMosaic.TcCoe Idealize.SL.Sem Cert.InprojIdeal Cert.InprojIdeal.Gen

variable (m : (ℓ : Loc nD τ sig) → Buf (Elt Ideal) ℓ) (c : Dev nD)

/-- Where each window's block lies at each grid point: tokens by the point, the conditioning by the batch row, everything
    else whole. -/
theorem index_in : ∀ t : Fin cfg0.N,
    (win0_0.index t 0 = t.val ∧ win0_0.index t 1 = 0) ∧ (win0_1.index t 0 = 0 ∧ win0_1.index t 1 = 0) ∧
    (win0_2.index t 0 = t.val / 16 ∧ win0_2.index t 1 = 0 ∧ win0_2.index t 2 = 0) ∧
    (win0_3.index t 0 = t.val / 16 ∧ win0_3.index t 1 = 0 ∧ win0_3.index t 2 = 0) ∧
    (win0_4.index t 0 = 0 ∧ win0_4.index t 1 = 0) ∧ (win0_5.index t 0 = 0 ∧ win0_5.index t 1 = 0) ∧
    (win0_6.index t 0 = 0 ∧ win0_6.index t 1 = 0) := by
  decide +kernel

/-- Row `r` of block `t` as a row of the whole arrays. -/
def row (t : Fin cfg0.N) (r : Fin 512) : Fin 65536 :=
  ⟨t.val * 512 + r.val, by have h : cfg0.N = 128 := N_0; have := t.isLt; omega⟩

/-- The batch row of a row of block `t`. -/
theorem row_batch (t : Fin cfg0.N) (r : Fin 512) : (row t r).val / 8192 = t.val / 16 := by
  show (t.val * 512 + r.val) / 8192 = t.val / 16
  omega

/-- What holds of every row of every block holds of every row. -/
theorem all_rows (P : Fin 65536 → Prop) (h : ∀ (t : Fin cfg0.N) (r : Fin 512), P (row t r)) (n : Fin 65536) : P n := by
  have hN : cfg0.N = 128 := N_0
  have e := h ⟨n.val / 512, by omega⟩ ⟨n.val % 512, by omega⟩
  rwa [show row ⟨n.val / 512, by omega⟩ ⟨n.val % 512, by omega⟩ = n from
    Fin.ext (by show n.val / 512 * 512 + n.val % 512 = n.val; omega)] at e

theorem iblk0_apply (t : Fin cfg0.N) (r : Fin 512) (d : Fin 1024) :
    (iblk m c 0 t : Vec Ideal S512x1024 .f32) (ix2 r d) = m ((c : Thread nD τ).loc main_arg0) (ix2 (row t r) d) := by
  obtain ⟨h, -, -, -, -, -, -⟩ := index_in t
  unfold iblk
  rw [View.read_apply]
  rw [← V_main_arg0 m c]
  show V m c main_arg0 _ = V m c main_arg0 _
  refine congrArg _ (funext fun a => Fin.ext ?_)
  match a with
  | ⟨0, _⟩ => show win0_0.index t 0 * 512 + 1 * r.val = t.val * 512 + r.val; rw [h.1]; omega
  | ⟨1, _⟩ => show win0_0.index t 1 * 1024 + 1 * d.val = d.val; rw [h.2]; omega

theorem iblk1_apply (t : Fin cfg0.N) (d : Fin 1024) :
    (iblk m c 1 t : Vec Ideal S1x1024 .f32) (ix2 0 d) = m ((c : Thread nD τ).loc main_arg1) (ix1 d) := by
  obtain ⟨-, h, -, -, -, -, -⟩ := index_in t
  unfold iblk
  rw [View.read_apply]
  rw [← V_gain m c]
  show V m c main_v23 _ = V m c main_v23 _
  refine congrArg _ (funext fun a => Fin.ext ?_)
  match a with
  | ⟨0, _⟩ => show win0_1.index t 0 * 1 + 1 * 0 = 0; rw [h.1]
  | ⟨1, _⟩ => show win0_1.index t 1 * 1024 + 1 * d.val = d.val; rw [h.2]; omega

theorem iblk2_apply (t : Fin cfg0.N) (r : Fin 512) (d : Fin 1024) :
    (iblk m c 2 t : Vec Ideal S1x1x1024 .f32) (ix3 0 0 d) = m ((c : Thread nD τ).loc main_arg2) (ix3 ⟨(row t r).val / 8192, by omega⟩ 0 d) := by
  obtain ⟨-, -, h, -, -, -, -⟩ := index_in t
  unfold iblk
  rw [View.read_apply]
  rw [← V_main_arg2 m c]
  show V m c main_arg2 _ = V m c main_arg2 _
  refine congrArg _ (funext fun a => Fin.ext ?_)
  match a with
  | ⟨0, _⟩ => show win0_2.index t 0 * 1 + 1 * 0 = (row t r).val / 8192; rw [h.1, row_batch]; omega
  | ⟨1, _⟩ => show win0_2.index t 1 * 1 + 1 * 0 = 0; rw [h.2.1]
  | ⟨2, _⟩ => show win0_2.index t 2 * 1024 + 1 * d.val = d.val; rw [h.2.2]; omega

theorem iblk3_apply (t : Fin cfg0.N) (r : Fin 512) (d : Fin 1024) :
    (iblk m c 3 t : Vec Ideal S1x1x1024 .f32) (ix3 0 0 d) = m ((c : Thread nD τ).loc main_arg3) (ix3 ⟨(row t r).val / 8192, by omega⟩ 0 d) := by
  obtain ⟨-, -, -, h, -, -, -⟩ := index_in t
  unfold iblk
  rw [View.read_apply]
  rw [← V_main_arg3 m c]
  show V m c main_arg3 _ = V m c main_arg3 _
  refine congrArg _ (funext fun a => Fin.ext ?_)
  match a with
  | ⟨0, _⟩ => show win0_3.index t 0 * 1 + 1 * 0 = (row t r).val / 8192; rw [h.1, row_batch]; omega
  | ⟨1, _⟩ => show win0_3.index t 1 * 1 + 1 * 0 = 0; rw [h.2.1]
  | ⟨2, _⟩ => show win0_3.index t 2 * 1024 + 1 * d.val = d.val; rw [h.2.2]; omega

theorem iblk4_apply (t : Fin cfg0.N) (d : Fin 1024) (k : Fin 2816) :
    (iblk m c 4 t : Vec Ideal S1024x2816 .bf16) (ix2 d k) = rearranged (m ((c : Thread nD τ).loc main_arg4)) (ix2 d k) := by
  obtain ⟨-, -, -, -, h, -, -⟩ := index_in t
  unfold iblk
  rw [View.read_apply]
  rw [← V_rearranged m c]
  show V m c main_v22 _ = V m c main_v22 _
  refine congrArg _ (funext fun a => Fin.ext ?_)
  match a with
  | ⟨0, _⟩ => show win0_4.index t 0 * 1024 + 1 * d.val = d.val; rw [h.1]; omega
  | ⟨1, _⟩ => show win0_4.index t 1 * 2816 + 1 * k.val = k.val; rw [h.2]; omega

theorem iblk5_apply (t : Fin cfg0.N) (k : Fin 128) (j : Fin 256) :
    (iblk m c 5 t : Vec Ideal S128x256 .bf16) (ix2 k j) = padded (m ((c : Thread nD τ).loc main_arg5)) (ix2 k j) := by
  obtain ⟨-, -, -, -, -, h, -⟩ := index_in t
  unfold iblk
  rw [View.read_apply]
  rw [← V_padded_apply m c]
  show V m c main_v3 _ = V m c main_v3 _
  refine congrArg _ (funext fun a => Fin.ext ?_)
  match a with
  | ⟨0, _⟩ => show win0_5.index t 0 * 128 + 1 * k.val = k.val; rw [h.1]; omega
  | ⟨1, _⟩ => show win0_5.index t 1 * 256 + 1 * j.val = j.val; rw [h.2]; omega

theorem iblk6_apply (t : Fin cfg0.N) (j : Fin 256) :
    (iblk m c 6 t : Vec Ideal S1x256 .f32) (ix2 0 j) = m ((c : Thread nD τ).loc main_arg6) (ix1 j) := by
  obtain ⟨-, -, -, -, -, -, h⟩ := index_in t
  unfold iblk
  rw [View.read_apply]
  rw [← V_bias m c]
  show V m c main_v24 _ = V m c main_v24 _
  refine congrArg _ (funext fun a => Fin.ext ?_)
  match a with
  | ⟨0, _⟩ => show win0_6.index t 0 * 1 + 1 * 0 = 0; rw [h.1]
  | ⟨1, _⟩ => show win0_6.index t 1 * 256 + 1 * j.val = j.val; rw [h.2]; omega

/-- Token `n`'s modulated features times column `k` of the rearranged projection. -/
def projected (n : Fin 65536) (k : Fin 2816) : EReal :=
  column (fun d => m ((c : Thread nD τ).loc main_arg0) (ix2 n d)) (fun d => m ((c : Thread nD τ).loc main_arg1) (ix1 d))
    (fun d => m ((c : Thread nD τ).loc main_arg2) (ix3 ⟨n.val / 8192, by omega⟩ 0 d)) (fun d => m ((c : Thread nD τ).loc main_arg3) (ix3 ⟨n.val / 8192, by omega⟩ 0 d))
    (fun d => rearranged (m ((c : Thread nD τ).loc main_arg4)) (ix2 d k))

theorem cell_block (t : Fin cfg0.N) (r : Fin 512) (k : Fin 2816) :
    cell (iblk m c 0 t : Vec Ideal S512x1024 .f32) (iblk m c 1 t : Vec Ideal S1x1024 .f32)
      (iblk m c 2 t : Vec Ideal S1x1x1024 .f32) (iblk m c 3 t : Vec Ideal S1x1x1024 .f32)
      (iblk m c 4 t : Vec Ideal S1024x2816 .bf16) r k = projected m c (row t r) k := by
  unfold cell projected
  congr 1 <;> funext d
  · exact iblk0_apply m c t r d
  · exact iblk1_apply m c t d
  · exact iblk2_apply m c t r d
  · exact iblk3_apply m c t r d
  · exact iblk4_apply m c t d k

/-- A column of the rearranged projection that is column `k'` of the given one. -/
theorem projected_of (n : Fin 65536) (k : Fin 2816) (k' : Fin 2644)
    (h : ∀ d : Fin 1024, rearranged (m ((c : Thread nD τ).loc main_arg4)) (ix2 d k) = m ((c : Thread nD τ).loc main_arg4) (ix2 d k')) :
    projected m c n k = feature (m ((c : Thread nD τ).loc main_arg0)) (m ((c : Thread nD τ).loc main_arg1)) (m ((c : Thread nD τ).loc main_arg2)) (m ((c : Thread nD τ).loc main_arg3)) (m ((c : Thread nD τ).loc main_arg4)) n k' := by
  unfold projected feature
  rw [show (fun d => rearranged (m ((c : Thread nD τ).loc main_arg4)) (ix2 d k)) = fun d => m ((c : Thread nD τ).loc main_arg4) (ix2 d k') from funext h]

/-- A column of zeros. -/
theorem projected_zero (n : Fin 65536) (k : Fin 2816)
    (h : ∀ d : Fin 1024, rearranged (m ((c : Thread nD τ).loc main_arg4)) (ix2 d k) = 0) : projected m c n k = 0 := by
  unfold projected column
  exact Finset.sum_eq_zero fun d _ => (congrArg (modulated _ _ _ _ d * ·) (h d)).trans (mul_zero _)

/-- The packed lanes. -/
theorem projected_packed (n : Fin 65536) (j : Fin 128) :
    projected m c n ⟨2560 + j.val, by omega⟩ = packed (m ((c : Thread nD τ).loc main_arg0)) (m ((c : Thread nD τ).loc main_arg1)) (m ((c : Thread nD τ).loc main_arg2)) (m ((c : Thread nD τ).loc main_arg3)) (m ((c : Thread nD τ).loc main_arg4)) n j := by
  unfold packed
  split_ifs with h h'
  · exact projected_of m c n _ _ fun d => index_apply _ d ⟨j.val, h⟩
  · refine projected_of m c n _ _ fun d => ?_
    have e := rank_apply (m ((c : Thread nD τ).loc main_arg4)) d ⟨j.val - 68, by omega⟩
    rw [← e]
    exact congrArg _ (congrArg (ix2 d) (Fin.ext (by show 2560 + j.val = 2628 + (j.val - 68); omega)))
  · refine projected_zero m c n _ fun d => ?_
    rw [← fill_apply (m ((c : Thread nD τ).loc main_arg4)) d ⟨j.val - 84, by omega⟩]
    exact congrArg _ (congrArg (ix2 d) (Fin.ext (by show 2560 + j.val = 2644 + (j.val - 84); omega)))

/-- The attention's queries. -/
theorem projected_query (n : Fin 65536) (j : Fin 512) :
    projected m c n ⟨1536 + j.val, by omega⟩ * Ideal.ofBits .f32 0x3E000000#32 = query (m ((c : Thread nD τ).loc main_arg0)) (m ((c : Thread nD τ).loc main_arg1)) (m ((c : Thread nD τ).loc main_arg2)) (m ((c : Thread nD τ).loc main_arg3)) (m ((c : Thread nD τ).loc main_arg4)) n j := by
  unfold query
  refine congrArg (· * Ideal.ofBits .f32 0x3E000000#32) (projected_of m c n _ _ fun d => ?_)
  rw [query_apply]
  have e := queries_apply d (extractStridedSlice S1024x512 ![0, 1552] (m ((c : Thread nD τ).loc main_arg4)) slices_S1024x2644_S1024x512_0_1552)
    ⟨j.val / 128, by omega⟩ ⟨j.val / 64 % 2, by omega⟩ ⟨j.val % 64, by omega⟩
  rw [show (ix2 d j : S1024x512.Idx) = ix2 d ⟨j.val / 128 * 128 + j.val / 64 % 2 * 64 + j.val % 64, by omega⟩ from
    congrArg (ix2 d) (Fin.ext (by show j.val = j.val / 128 * 128 + j.val / 64 % 2 * 64 + j.val % 64; omega))]
  refine e.trans ?_
  pointwise

/-- The indexer's key, twice. -/
theorem projected_twice (n : Fin 65536) (j : Fin 128) :
    projected m c n ⟨2688 + j.val, by omega⟩ = keyTwice (m ((c : Thread nD τ).loc main_arg0)) (m ((c : Thread nD τ).loc main_arg1)) (m ((c : Thread nD τ).loc main_arg2)) (m ((c : Thread nD τ).loc main_arg3)) (m ((c : Thread nD τ).loc main_arg4)) n j := by
  unfold keyTwice
  refine projected_of m c n _ _ fun d => ?_
  by_cases h : j.val < 64
  · refine (twice_apply _ d ⟨j.val, h⟩).trans ?_
    exact congrArg _ (congrArg (ix2 d) (Fin.ext (by show 2576 + j.val = 2576 + j.val % 64; omega)))
  · rw [show (⟨2688 + j.val, by omega⟩ : Fin 2816) = ⟨2752 + (j.val - 64), by omega⟩ from Fin.ext (by show 2688 + j.val = 2752 + (j.val - 64); omega)]
    refine (twice_apply' _ d ⟨j.val - 64, by omega⟩).trans ?_
    exact congrArg _ (congrArg (ix2 d) (Fin.ext (by show 2576 + (j.val - 64) = 2576 + j.val % 64; omega)))

/-- The low-rank map over the 128 packed lanes: only its own sixteen rows are not zero. -/
theorem gate_sum (n : Fin 65536) (j : Fin 256) :
    ∑ k : Fin 128, projected m c n ⟨2560 + k.val, by omega⟩ * padded (m ((c : Thread nD τ).loc main_arg5)) (ix2 k j) =
      ∑ a : Fin 16, feature (m ((c : Thread nD τ).loc main_arg0)) (m ((c : Thread nD τ).loc main_arg1)) (m ((c : Thread nD τ).loc main_arg2)) (m ((c : Thread nD τ).loc main_arg3)) (m ((c : Thread nD τ).loc main_arg4)) n ⟨1024 + a.val, by omega⟩ * m ((c : Thread nD τ).loc main_arg5) (ix2 a j) := by
  refine (Finset.sum_of_injOn (fun a : Fin 16 => (⟨68 + a.val, by omega⟩ : Fin 128)) (fun a _ b _ e => ?_)
    (fun a _ => Finset.mem_coe.2 (Finset.mem_univ _)) (fun k _ hk => ?_) (fun a _ => ?_)).symm
  · exact Fin.ext (Nat.add_left_cancel (Fin.ext_iff.1 e))
  · rw [padded_dead, mul_zero]
    by_contra hc
    refine hk ⟨⟨k.val - 68, by omega⟩, Finset.mem_coe.2 (Finset.mem_univ _), Fin.ext ?_⟩
    show 68 + (k.val - 68) = k.val
    omega
  · rw [padded_live]
    refine congrArg (· * m ((c : Thread nD τ).loc main_arg5) (ix2 a j)) (projected_of m c n _ _ fun d => ?_).symm
    exact (congrArg _ (congrArg (ix2 d) (Fin.ext (by show 2560 + (68 + a.val) = 2628 + a.val; omega)))).trans (rank_apply _ d a)

end Cert.Proof.Inproj
-- ==== Proof.InprojArray.lean ====
module

public import proofs.«01_k».proof.Proof.InprojIn

@[expose] public section

noncomputable section

namespace Cert.Proof.Inproj

open Idealize.ShloMosaic Idealize.ShloMosaic.TcCoe Idealize.SL.Sem Cert.InprojIdeal Cert.InprojIdeal.Gen

variable (m : (ℓ : Loc nD τ sig) → Buf (Elt Ideal) ℓ) (c : Dev nD)

/-- Each result's block lies at the point's tokens, and every point writes it back. -/
theorem index_out : ∀ t : Fin cfg0.N,
    (win0_7.index t 0 = t.val ∧ win0_7.index t 1 = 0 ∧ (cfg0.win 7).flush t = true) ∧
    (win0_8.index t 0 = t.val ∧ win0_8.index t 1 = 0 ∧ (cfg0.win 8).flush t = true) ∧
    (win0_9.index t 0 = t.val ∧ win0_9.index t 1 = 0 ∧ (cfg0.win 9).flush t = true) ∧
    (win0_10.index t 0 = t.val ∧ win0_10.index t 1 = 0 ∧ (cfg0.win 10).flush t = true) ∧
    (win0_11.index t 0 = t.val ∧ win0_11.index t 1 = 0 ∧ (cfg0.win 11).flush t = true) ∧
    (win0_12.index t 0 = t.val ∧ win0_12.index t 1 = 0 ∧ (cfg0.win 12).flush t = true) ∧
    (win0_13.index t 0 = t.val ∧ win0_13.index t 1 = 0 ∧ (cfg0.win 13).flush t = true) ∧
    (win0_14.index t 0 = t.val ∧ win0_14.index t 1 = 0 ∧ (cfg0.win 14).flush t = true) ∧
    (win0_15.index t 0 = t.val ∧ win0_15.index t 1 = 0 ∧ (cfg0.win 15).flush t = true) ∧
    (win0_16.index t 0 = t.val ∧ win0_16.index t 1 = 0 ∧ (cfg0.win 16).flush t = true) ∧
    (win0_17.index t 0 = t.val ∧ win0_17.index t 1 = 0 ∧ (cfg0.win 17).flush t = true) ∧
    (win0_18.index t 0 = t.val ∧ win0_18.index t 1 = 0 ∧ (cfg0.win 18).flush t = true) ∧
    (win0_19.index t 0 = t.val ∧ win0_19.index t 1 = 0 ∧ (cfg0.win 19).flush t = true) ∧
    (win0_20.index t 0 = t.val ∧ win0_20.index t 1 = 0 ∧ (cfg0.win 20).flush t = true) := by
  decide +kernel

/-- Result 1: the queries, scaled. -/
theorem array7_apply (n : Fin 65536) (j : Fin 256) :
    ((dats m 0 c).arrAt 7 cfg0.N : Vec Ideal S65536x256 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨j.val, by omega⟩ * Ideal.ofBits .f32 0x3E000000#32 := by
  have e : ((dats m 0 c).arrAt 7 cfg0.N : Vec Ideal S65536x256 .f32) (ix2 n j) =
      projected m c n ⟨j.val, by omega⟩ * Ideal.ofBits .f32 0x3E000000#32 := by
    refine all_rows (fun n => ((dats m 0 c).arrAt 7 cfg0.N : Vec Ideal S65536x256 .f32) (ix2 n j) =
      projected m c n ⟨j.val, by omega⟩ * Ideal.ofBits .f32 0x3E000000#32) (fun t r => ?_) n
    obtain ⟨h, -, -, -, -, -, -, -, -, -, -, -, -, -⟩ := index_out t
    have hb := congrFun (Value.blocks7 m c t h.2.2) (ix2 r j : S512x256.Idx)
    rw [Value.flushed7, View.read_apply] at hb
    refine (congrArg ((dats m 0 c).arrAt 7 cfg0.N : Vec Ideal S65536x256 .f32) (funext fun a => Fin.ext ?_)).trans
      (hb.trans ?_)
    · match a with
      | ⟨0, _⟩ => show t.val * 512 + r.val = win0_7.index t 0 * 512 + 1 * r.val; rw [h.1]; omega
      | ⟨1, _⟩ => show j.val = win0_7.index t 1 * 256 + 1 * j.val; rw [h.2.1]; omega
    · refine (out7_apply _ _ _ _ _ _ _ r j).trans ?_
      rw [cell_block]
  refine e.trans ?_
  exact congrArg (· * Ideal.ofBits .f32 0x3E000000#32) (projected_of m c n _ _ fun d => front_apply _ d ⟨j.val, by omega⟩)

/-- Result 2: the keys. -/
theorem array8_apply (n : Fin 65536) (j : Fin 256) :
    ((dats m 0 c).arrAt 8 cfg0.N : Vec Ideal S65536x256 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨256 + j.val, by omega⟩ := by
  have e : ((dats m 0 c).arrAt 8 cfg0.N : Vec Ideal S65536x256 .f32) (ix2 n j) =
      projected m c n ⟨256 + j.val, by omega⟩ := by
    refine all_rows (fun n => ((dats m 0 c).arrAt 8 cfg0.N : Vec Ideal S65536x256 .f32) (ix2 n j) =
      projected m c n ⟨256 + j.val, by omega⟩) (fun t r => ?_) n
    obtain ⟨-, h, -, -, -, -, -, -, -, -, -, -, -, -⟩ := index_out t
    have hb := congrFun (Value.blocks8 m c t h.2.2) (ix2 r j : S512x256.Idx)
    rw [Value.flushed8, View.read_apply] at hb
    refine (congrArg ((dats m 0 c).arrAt 8 cfg0.N : Vec Ideal S65536x256 .f32) (funext fun a => Fin.ext ?_)).trans
      (hb.trans ?_)
    · match a with
      | ⟨0, _⟩ => show t.val * 512 + r.val = win0_8.index t 0 * 512 + 1 * r.val; rw [h.1]; omega
      | ⟨1, _⟩ => show j.val = win0_8.index t 1 * 256 + 1 * j.val; rw [h.2.1]; omega
    · refine (out8_apply _ _ _ _ _ _ _ r j).trans ?_
      rw [cell_block]
  refine e.trans ?_
  exact projected_of m c n _ _ fun d => front_apply _ d ⟨256 + j.val, by omega⟩

/-- Result 3: the log decay. -/
theorem array9_apply (n : Fin 65536) (j : Fin 256) :
    ((dats m 0 c).arrAt 9 cfg0.N : Vec Ideal S65536x256 .f32) (ix2 n j) =
      decay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n j := by
  have e : ((dats m 0 c).arrAt 9 cfg0.N : Vec Ideal S65536x256 .f32) (ix2 n j) =
      logDecay ((∑ k : Fin 128, projected m c n ⟨2560 + k.val, by omega⟩ * padded (m ((c : Thread nD τ).loc main_arg5)) (ix2 k j)) + m ((c : Thread nD τ).loc main_arg6) (ix1 j)) := by
    refine all_rows (fun n => ((dats m 0 c).arrAt 9 cfg0.N : Vec Ideal S65536x256 .f32) (ix2 n j) =
      logDecay ((∑ k : Fin 128, projected m c n ⟨2560 + k.val, by omega⟩ * padded (m ((c : Thread nD τ).loc main_arg5)) (ix2 k j)) + m ((c : Thread nD τ).loc main_arg6) (ix1 j))) (fun t r => ?_) n
    obtain ⟨-, -, h, -, -, -, -, -, -, -, -, -, -, -⟩ := index_out t
    have hb := congrFun (Value.blocks9 m c t h.2.2) (ix2 r j : S512x256.Idx)
    rw [Value.flushed9, View.read_apply] at hb
    refine (congrArg ((dats m 0 c).arrAt 9 cfg0.N : Vec Ideal S65536x256 .f32) (funext fun a => Fin.ext ?_)).trans
      (hb.trans ?_)
    · match a with
      | ⟨0, _⟩ => show t.val * 512 + r.val = win0_9.index t 0 * 512 + 1 * r.val; rw [h.1]; omega
      | ⟨1, _⟩ => show j.val = win0_9.index t 1 * 256 + 1 * j.val; rw [h.2.1]; omega
    · refine (out9_apply _ _ _ _ _ _ _ r j).trans ?_
      simp only [cell_block, iblk5_apply, iblk6_apply]
  refine e.trans ?_
  unfold decay
  rw [gate_sum]

/-- Result 4: the values. -/
theorem array10_apply (n : Fin 65536) (j : Fin 512) :
    ((dats m 0 c).arrAt 10 cfg0.N : Vec Ideal S65536x512 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨512 + j.val, by omega⟩ := by
  have e : ((dats m 0 c).arrAt 10 cfg0.N : Vec Ideal S65536x512 .f32) (ix2 n j) =
      projected m c n ⟨512 + j.val, by omega⟩ := by
    refine all_rows (fun n => ((dats m 0 c).arrAt 10 cfg0.N : Vec Ideal S65536x512 .f32) (ix2 n j) =
      projected m c n ⟨512 + j.val, by omega⟩) (fun t r => ?_) n
    obtain ⟨-, -, -, h, -, -, -, -, -, -, -, -, -, -⟩ := index_out t
    have hb := congrFun (Value.blocks10 m c t h.2.2) (ix2 r j : S512x512.Idx)
    rw [Value.flushed10, View.read_apply] at hb
    refine (congrArg ((dats m 0 c).arrAt 10 cfg0.N : Vec Ideal S65536x512 .f32) (funext fun a => Fin.ext ?_)).trans
      (hb.trans ?_)
    · match a with
      | ⟨0, _⟩ => show t.val * 512 + r.val = win0_10.index t 0 * 512 + 1 * r.val; rw [h.1]; omega
      | ⟨1, _⟩ => show j.val = win0_10.index t 1 * 512 + 1 * j.val; rw [h.2.1]; omega
    · refine (out10_apply _ _ _ _ _ _ _ r j).trans ?_
      rw [cell_block]
  refine e.trans ?_
  exact projected_of m c n _ _ fun d => front_apply _ d ⟨512 + j.val, by omega⟩

/-- Result 5: the output gate. -/
theorem array11_apply (n : Fin 65536) (j : Fin 512) :
    ((dats m 0 c).arrAt 11 cfg0.N : Vec Ideal S65536x512 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨1040 + j.val, by omega⟩ := by
  have e : ((dats m 0 c).arrAt 11 cfg0.N : Vec Ideal S65536x512 .f32) (ix2 n j) =
      projected m c n ⟨1024 + j.val, by omega⟩ := by
    refine all_rows (fun n => ((dats m 0 c).arrAt 11 cfg0.N : Vec Ideal S65536x512 .f32) (ix2 n j) =
      projected m c n ⟨1024 + j.val, by omega⟩) (fun t r => ?_) n
    obtain ⟨-, -, -, -, h, -, -, -, -, -, -, -, -, -⟩ := index_out t
    have hb := congrFun (Value.blocks11 m c t h.2.2) (ix2 r j : S512x512.Idx)
    rw [Value.flushed11, View.read_apply] at hb
    refine (congrArg ((dats m 0 c).arrAt 11 cfg0.N : Vec Ideal S65536x512 .f32) (funext fun a => Fin.ext ?_)).trans
      (hb.trans ?_)
    · match a with
      | ⟨0, _⟩ => show t.val * 512 + r.val = win0_11.index t 0 * 512 + 1 * r.val; rw [h.1]; omega
      | ⟨1, _⟩ => show j.val = win0_11.index t 1 * 512 + 1 * j.val; rw [h.2.1]; omega
    · refine (out11_apply _ _ _ _ _ _ _ r j).trans ?_
      rw [cell_block]
  refine e.trans ?_
  exact projected_of m c n _ _ fun d => gate_apply _ d j

/-- Result 6: the attention's queries. -/
theorem array12_apply (n : Fin 65536) (j : Fin 512) :
    ((dats m 0 c).arrAt 12 cfg0.N : Vec Ideal S65536x512 .bf16) (ix2 n j) =
      query (m ((c : Thread nD τ).loc main_arg0)) (m ((c : Thread nD τ).loc main_arg1)) (m ((c : Thread nD τ).loc main_arg2)) (m ((c : Thread nD τ).loc main_arg3)) (m ((c : Thread nD τ).loc main_arg4)) n j := by
  have e : ((dats m 0 c).arrAt 12 cfg0.N : Vec Ideal S65536x512 .bf16) (ix2 n j) =
      projected m c n ⟨1536 + j.val, by omega⟩ * Ideal.ofBits .f32 0x3E000000#32 := by
    refine all_rows (fun n => ((dats m 0 c).arrAt 12 cfg0.N : Vec Ideal S65536x512 .bf16) (ix2 n j) =
      projected m c n ⟨1536 + j.val, by omega⟩ * Ideal.ofBits .f32 0x3E000000#32) (fun t r => ?_) n
    obtain ⟨-, -, -, -, -, h, -, -, -, -, -, -, -, -⟩ := index_out t
    have hb := congrFun (Value.blocks12 m c t h.2.2) (ix2 r j : S512x512.Idx)
    rw [Value.flushed12, View.read_apply] at hb
    refine (congrArg ((dats m 0 c).arrAt 12 cfg0.N : Vec Ideal S65536x512 .bf16) (funext fun a => Fin.ext ?_)).trans
      (hb.trans ?_)
    · match a with
      | ⟨0, _⟩ => show t.val * 512 + r.val = win0_12.index t 0 * 512 + 1 * r.val; rw [h.1]; omega
      | ⟨1, _⟩ => show j.val = win0_12.index t 1 * 512 + 1 * j.val; rw [h.2.1]; omega
    · refine (out12_apply _ _ _ _ _ _ _ r j).trans ?_
      rw [cell_block]
  refine e.trans ?_
  exact projected_query m c n j

/-- Result 7: the attention's keys. -/
theorem array13_apply (n : Fin 65536) (j : Fin 128) :
    ((dats m 0 c).arrAt 13 cfg0.N : Vec Ideal S65536x128 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2064 + j.val, by omega⟩ := by
  have e : ((dats m 0 c).arrAt 13 cfg0.N : Vec Ideal S65536x128 .f32) (ix2 n j) =
      projected m c n ⟨2048 + j.val, by omega⟩ := by
    refine all_rows (fun n => ((dats m 0 c).arrAt 13 cfg0.N : Vec Ideal S65536x128 .f32) (ix2 n j) =
      projected m c n ⟨2048 + j.val, by omega⟩) (fun t r => ?_) n
    obtain ⟨-, -, -, -, -, -, h, -, -, -, -, -, -, -⟩ := index_out t
    have hb := congrFun (Value.blocks13 m c t h.2.2) (ix2 r j : S512x128.Idx)
    rw [Value.flushed13, View.read_apply] at hb
    refine (congrArg ((dats m 0 c).arrAt 13 cfg0.N : Vec Ideal S65536x128 .f32) (funext fun a => Fin.ext ?_)).trans
      (hb.trans ?_)
    · match a with
      | ⟨0, _⟩ => show t.val * 512 + r.val = win0_13.index t 0 * 512 + 1 * r.val; rw [h.1]; omega
      | ⟨1, _⟩ => show j.val = win0_13.index t 1 * 128 + 1 * j.val; rw [h.2.1]; omega
    · refine (out13_apply _ _ _ _ _ _ _ r j).trans ?_
      rw [cell_block]
  refine e.trans ?_
  refine projected_of m c n _ _ fun d => ?_
  have e := rest_apply (m ((c : Thread nD τ).loc main_arg4)) d ⟨0 + j.val, by omega⟩
  refine Eq.trans (congrArg _ (congrArg (ix2 d) (Fin.ext ?_))) (e.trans (congrArg _ (congrArg (ix2 d) (Fin.ext ?_))))
  · show 2048 + j.val = 2048 + (0 + j.val); omega
  · show 2064 + (0 + j.val) = 2064 + j.val; omega

/-- Result 8: the attention's values. -/
theorem array14_apply (n : Fin 65536) (j : Fin 128) :
    ((dats m 0 c).arrAt 14 cfg0.N : Vec Ideal S65536x128 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2192 + j.val, by omega⟩ := by
  have e : ((dats m 0 c).arrAt 14 cfg0.N : Vec Ideal S65536x128 .f32) (ix2 n j) =
      projected m c n ⟨2176 + j.val, by omega⟩ := by
    refine all_rows (fun n => ((dats m 0 c).arrAt 14 cfg0.N : Vec Ideal S65536x128 .f32) (ix2 n j) =
      projected m c n ⟨2176 + j.val, by omega⟩) (fun t r => ?_) n
    obtain ⟨-, -, -, -, -, -, -, h, -, -, -, -, -, -⟩ := index_out t
    have hb := congrFun (Value.blocks14 m c t h.2.2) (ix2 r j : S512x128.Idx)
    rw [Value.flushed14, View.read_apply] at hb
    refine (congrArg ((dats m 0 c).arrAt 14 cfg0.N : Vec Ideal S65536x128 .f32) (funext fun a => Fin.ext ?_)).trans
      (hb.trans ?_)
    · match a with
      | ⟨0, _⟩ => show t.val * 512 + r.val = win0_14.index t 0 * 512 + 1 * r.val; rw [h.1]; omega
      | ⟨1, _⟩ => show j.val = win0_14.index t 1 * 128 + 1 * j.val; rw [h.2.1]; omega
    · refine (out14_apply _ _ _ _ _ _ _ r j).trans ?_
      rw [cell_block]
  refine e.trans ?_
  refine projected_of m c n _ _ fun d => ?_
  have e := rest_apply (m ((c : Thread nD τ).loc main_arg4)) d ⟨128 + j.val, by omega⟩
  refine Eq.trans (congrArg _ (congrArg (ix2 d) (Fin.ext ?_))) (e.trans (congrArg _ (congrArg (ix2 d) (Fin.ext ?_))))
  · show 2176 + j.val = 2048 + (128 + j.val); omega
  · show 2064 + (128 + j.val) = 2192 + j.val; omega

/-- Result 9: the attention's keys, rounded. -/
theorem array15_apply (n : Fin 65536) (j : Fin 128) :
    ((dats m 0 c).arrAt 15 cfg0.N : Vec Ideal S65536x128 .bf16) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2064 + j.val, by omega⟩ := by
  have e : ((dats m 0 c).arrAt 15 cfg0.N : Vec Ideal S65536x128 .bf16) (ix2 n j) =
      projected m c n ⟨2048 + j.val, by omega⟩ := by
    refine all_rows (fun n => ((dats m 0 c).arrAt 15 cfg0.N : Vec Ideal S65536x128 .bf16) (ix2 n j) =
      projected m c n ⟨2048 + j.val, by omega⟩) (fun t r => ?_) n
    obtain ⟨-, -, -, -, -, -, -, -, h, -, -, -, -, -⟩ := index_out t
    have hb := congrFun (Value.blocks15 m c t h.2.2) (ix2 r j : S512x128.Idx)
    rw [Value.flushed15, View.read_apply] at hb
    refine (congrArg ((dats m 0 c).arrAt 15 cfg0.N : Vec Ideal S65536x128 .bf16) (funext fun a => Fin.ext ?_)).trans
      (hb.trans ?_)
    · match a with
      | ⟨0, _⟩ => show t.val * 512 + r.val = win0_15.index t 0 * 512 + 1 * r.val; rw [h.1]; omega
      | ⟨1, _⟩ => show j.val = win0_15.index t 1 * 128 + 1 * j.val; rw [h.2.1]; omega
    · refine (out15_apply _ _ _ _ _ _ _ r j).trans ?_
      rw [cell_block]
  refine e.trans ?_
  refine projected_of m c n _ _ fun d => ?_
  have e := rest_apply (m ((c : Thread nD τ).loc main_arg4)) d ⟨0 + j.val, by omega⟩
  refine Eq.trans (congrArg _ (congrArg (ix2 d) (Fin.ext ?_))) (e.trans (congrArg _ (congrArg (ix2 d) (Fin.ext ?_))))
  · show 2048 + j.val = 2048 + (0 + j.val); omega
  · show 2064 + (0 + j.val) = 2064 + j.val; omega

/-- Result 10: the attention's values, rounded. -/
theorem array16_apply (n : Fin 65536) (j : Fin 128) :
    ((dats m 0 c).arrAt 16 cfg0.N : Vec Ideal S65536x128 .bf16) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2192 + j.val, by omega⟩ := by
  have e : ((dats m 0 c).arrAt 16 cfg0.N : Vec Ideal S65536x128 .bf16) (ix2 n j) =
      projected m c n ⟨2176 + j.val, by omega⟩ := by
    refine all_rows (fun n => ((dats m 0 c).arrAt 16 cfg0.N : Vec Ideal S65536x128 .bf16) (ix2 n j) =
      projected m c n ⟨2176 + j.val, by omega⟩) (fun t r => ?_) n
    obtain ⟨-, -, -, -, -, -, -, -, -, h, -, -, -, -⟩ := index_out t
    have hb := congrFun (Value.blocks16 m c t h.2.2) (ix2 r j : S512x128.Idx)
    rw [Value.flushed16, View.read_apply] at hb
    refine (congrArg ((dats m 0 c).arrAt 16 cfg0.N : Vec Ideal S65536x128 .bf16) (funext fun a => Fin.ext ?_)).trans
      (hb.trans ?_)
    · match a with
      | ⟨0, _⟩ => show t.val * 512 + r.val = win0_16.index t 0 * 512 + 1 * r.val; rw [h.1]; omega
      | ⟨1, _⟩ => show j.val = win0_16.index t 1 * 128 + 1 * j.val; rw [h.2.1]; omega
    · refine (out16_apply _ _ _ _ _ _ _ r j).trans ?_
      rw [cell_block]
  refine e.trans ?_
  refine projected_of m c n _ _ fun d => ?_
  have e := rest_apply (m ((c : Thread nD τ).loc main_arg4)) d ⟨128 + j.val, by omega⟩
  refine Eq.trans (congrArg _ (congrArg (ix2 d) (Fin.ext ?_))) (e.trans (congrArg _ (congrArg (ix2 d) (Fin.ext ?_))))
  · show 2176 + j.val = 2048 + (128 + j.val); omega
  · show 2064 + (128 + j.val) = 2192 + j.val; omega

/-- Result 11: the indexer's queries. -/
theorem array17_apply (n : Fin 65536) (j : Fin 256) :
    ((dats m 0 c).arrAt 17 cfg0.N : Vec Ideal S65536x256 .bf16) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2320 + j.val, by omega⟩ := by
  have e : ((dats m 0 c).arrAt 17 cfg0.N : Vec Ideal S65536x256 .bf16) (ix2 n j) =
      projected m c n ⟨2304 + j.val, by omega⟩ := by
    refine all_rows (fun n => ((dats m 0 c).arrAt 17 cfg0.N : Vec Ideal S65536x256 .bf16) (ix2 n j) =
      projected m c n ⟨2304 + j.val, by omega⟩) (fun t r => ?_) n
    obtain ⟨-, -, -, -, -, -, -, -, -, -, h, -, -, -⟩ := index_out t
    have hb := congrFun (Value.blocks17 m c t h.2.2) (ix2 r j : S512x256.Idx)
    rw [Value.flushed17, View.read_apply] at hb
    refine (congrArg ((dats m 0 c).arrAt 17 cfg0.N : Vec Ideal S65536x256 .bf16) (funext fun a => Fin.ext ?_)).trans
      (hb.trans ?_)
    · match a with
      | ⟨0, _⟩ => show t.val * 512 + r.val = win0_17.index t 0 * 512 + 1 * r.val; rw [h.1]; omega
      | ⟨1, _⟩ => show j.val = win0_17.index t 1 * 256 + 1 * j.val; rw [h.2.1]; omega
    · refine (out17_apply _ _ _ _ _ _ _ r j).trans ?_
      rw [cell_block]
  refine e.trans ?_
  refine projected_of m c n _ _ fun d => ?_
  have e := rest_apply (m ((c : Thread nD τ).loc main_arg4)) d ⟨256 + j.val, by omega⟩
  refine Eq.trans (congrArg _ (congrArg (ix2 d) (Fin.ext ?_))) (e.trans (congrArg _ (congrArg (ix2 d) (Fin.ext ?_))))
  · show 2304 + j.val = 2048 + (256 + j.val); omega
  · show 2064 + (256 + j.val) = 2320 + j.val; omega

/-- Result 12: the indexer's key. -/
theorem array18_apply (n : Fin 65536) (j : Fin 64) :
    ((dats m 0 c).arrAt 18 cfg0.N : Vec Ideal S65536x64 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2576 + j.val, by omega⟩ := by
  have e : ((dats m 0 c).arrAt 18 cfg0.N : Vec Ideal S65536x64 .f32) (ix2 n j) =
      projected m c n ⟨2560 + j.val, by omega⟩ := by
    refine all_rows (fun n => ((dats m 0 c).arrAt 18 cfg0.N : Vec Ideal S65536x64 .f32) (ix2 n j) =
      projected m c n ⟨2560 + j.val, by omega⟩) (fun t r => ?_) n
    obtain ⟨-, -, -, -, -, -, -, -, -, -, -, h, -, -⟩ := index_out t
    have hb := congrFun (Value.blocks18 m c t h.2.2) (ix2 r j : S512x64.Idx)
    rw [Value.flushed18, View.read_apply] at hb
    refine (congrArg ((dats m 0 c).arrAt 18 cfg0.N : Vec Ideal S65536x64 .f32) (funext fun a => Fin.ext ?_)).trans
      (hb.trans ?_)
    · match a with
      | ⟨0, _⟩ => show t.val * 512 + r.val = win0_18.index t 0 * 512 + 1 * r.val; rw [h.1]; omega
      | ⟨1, _⟩ => show j.val = win0_18.index t 1 * 64 + 1 * j.val; rw [h.2.1]; omega
    · refine (out18_apply _ _ _ _ _ _ _ r j).trans ?_
      rw [cell_block]
  refine e.trans ?_
  exact projected_of m c n _ _ fun d => index_apply _ d ⟨j.val, by omega⟩

/-- Result 13: the indexer's key, twice. -/
theorem array19_apply (n : Fin 65536) (j : Fin 128) :
    ((dats m 0 c).arrAt 19 cfg0.N : Vec Ideal S65536x128 .bf16) (ix2 n j) =
      keyTwice (m ((c : Thread nD τ).loc main_arg0)) (m ((c : Thread nD τ).loc main_arg1)) (m ((c : Thread nD τ).loc main_arg2)) (m ((c : Thread nD τ).loc main_arg3)) (m ((c : Thread nD τ).loc main_arg4)) n j := by
  have e : ((dats m 0 c).arrAt 19 cfg0.N : Vec Ideal S65536x128 .bf16) (ix2 n j) =
      projected m c n ⟨2688 + j.val, by omega⟩ := by
    refine all_rows (fun n => ((dats m 0 c).arrAt 19 cfg0.N : Vec Ideal S65536x128 .bf16) (ix2 n j) =
      projected m c n ⟨2688 + j.val, by omega⟩) (fun t r => ?_) n
    obtain ⟨-, -, -, -, -, -, -, -, -, -, -, -, h, -⟩ := index_out t
    have hb := congrFun (Value.blocks19 m c t h.2.2) (ix2 r j : S512x128.Idx)
    rw [Value.flushed19, View.read_apply] at hb
    refine (congrArg ((dats m 0 c).arrAt 19 cfg0.N : Vec Ideal S65536x128 .bf16) (funext fun a => Fin.ext ?_)).trans
      (hb.trans ?_)
    · match a with
      | ⟨0, _⟩ => show t.val * 512 + r.val = win0_19.index t 0 * 512 + 1 * r.val; rw [h.1]; omega
      | ⟨1, _⟩ => show j.val = win0_19.index t 1 * 128 + 1 * j.val; rw [h.2.1]; omega
    · refine (out19_apply _ _ _ _ _ _ _ r j).trans ?_
      rw [cell_block]
  refine e.trans ?_
  exact projected_twice m c n j

/-- Result 14: the packed lanes. -/
theorem array20_apply (n : Fin 65536) (j : Fin 128) :
    ((dats m 0 c).arrAt 20 cfg0.N : Vec Ideal S65536x128 .f32) (ix2 n j) =
      packed (m ((c : Thread nD τ).loc main_arg0)) (m ((c : Thread nD τ).loc main_arg1)) (m ((c : Thread nD τ).loc main_arg2)) (m ((c : Thread nD τ).loc main_arg3)) (m ((c : Thread nD τ).loc main_arg4)) n j := by
  have e : ((dats m 0 c).arrAt 20 cfg0.N : Vec Ideal S65536x128 .f32) (ix2 n j) =
      projected m c n ⟨2560 + j.val, by omega⟩ := by
    refine all_rows (fun n => ((dats m 0 c).arrAt 20 cfg0.N : Vec Ideal S65536x128 .f32) (ix2 n j) =
      projected m c n ⟨2560 + j.val, by omega⟩) (fun t r => ?_) n
    obtain ⟨-, -, -, -, -, -, -, -, -, -, -, -, -, h⟩ := index_out t
    have hb := congrFun (Value.blocks20 m c t h.2.2) (ix2 r j : S512x128.Idx)
    rw [Value.flushed20, View.read_apply] at hb
    refine (congrArg ((dats m 0 c).arrAt 20 cfg0.N : Vec Ideal S65536x128 .f32) (funext fun a => Fin.ext ?_)).trans
      (hb.trans ?_)
    · match a with
      | ⟨0, _⟩ => show t.val * 512 + r.val = win0_20.index t 0 * 512 + 1 * r.val; rw [h.1]; omega
      | ⟨1, _⟩ => show j.val = win0_20.index t 1 * 128 + 1 * j.val; rw [h.2.1]; omega
    · refine (out20_apply _ _ _ _ _ _ _ r j).trans ?_
      rw [cell_block]
  refine e.trans ?_
  exact projected_packed m c n j

end Cert.Proof.Inproj
-- ==== Proof.LogDecay.lean ====
module

public import proofs.«01_k».proof.Proof.InprojSpec

@[expose] public section

noncomputable section

namespace Cert.Proof.Inproj

open Idealize.ShloMosaic

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- `log (1 + exp (−|x|))` is a real number for every extended real `x`. -/
theorem softplus_real (x : EReal) : ∃ r : ℝ, Ideal.log1p (Ideal.exp (-max x (-x))) = (r : EReal) := by
  have key : ∀ y : EReal, y ≤ 0 → ∃ r : ℝ, Ideal.log1p (Ideal.exp y) = (r : EReal) := by
    intro y hy
    induction y using EReal.rec with
    | bot => exact ⟨Real.log (1 + 0), by
        show Ideal.log (1 + 0) = _
        rw [show ((1 : EReal) + 0) = ((1 + 0 : ℝ) : EReal) by norm_cast]
        exact if_neg (by norm_num)⟩
    | top => exact absurd hy (by simp)
    | coe r => exact ⟨Real.log (1 + Real.exp r), by
        show Ideal.log (1 + (Real.exp r : EReal)) = _
        rw [show ((1 : EReal) + (Real.exp r : EReal)) = ((1 + Real.exp r : ℝ) : EReal) by norm_cast]
        exact if_neg (not_le.2 (by positivity))⟩
  refine key _ ?_
  rcases le_total x 0 with h | h
  · exact EReal.neg_le.1 (by simpa using Or.inr h)
  · exact EReal.neg_le.1 (by simpa using Or.inl h)

/-- The log decay as `−softplus (−x) / 16`, the softplus written `max y 0 + log(1 + exp(−|y − 0|))`. -/
theorem logDecay_eq (x : EReal) :
    Ideal.div (-(max (-x) 0 + Ideal.log1p (Ideal.exp (-max (-x - 0) (-(-x - 0)))))) (Ideal.ofBits .f32 0x41800000#32) = logDecay x := by
  obtain ⟨r, hr⟩ := softplus_real x
  unfold logDecay
  rw [sixteen, sixteenth, Ideal.div_coe (by norm_num), sub_zero, neg_neg, max_comm (-x) x, zero_sub, hr]
  congr 1
  rw [EReal.neg_add (Or.inr (EReal.coe_ne_top r)) (Or.inr (EReal.coe_ne_bot r))]
  congr 1
  rcases le_total x 0 with h | h
  · rw [min_eq_left h, max_eq_left (by simpa using h), neg_neg]
  · rw [min_eq_right h, max_eq_right (by simpa using h), neg_zero]

end Cert.Proof.Inproj
-- ==== Proof.InprojRefValue.lean ====
module

public import proofs.«01_k».proof.Proof.LogDecay
public import proofs.«01_k».proof.Proof.Gen.InprojRefIdeal.Read
public import Idealize.ShloMosaic.Lib.Pointwise

@[expose] public section

noncomputable section

namespace Cert.Proof.Inproj.Ref

open Idealize.ShloMosaic Cert.InprojRefIdeal Cert.InprojRefIdeal.Gen Cert.InprojRefIdeal.Read Cert.Proof.Moe

variable (x0 : FVec Ideal S65536x1024 .f32) (x1 : FVec Ideal S1024 .f32) (x2 x3 : FVec Ideal S8x1x1024 .f32)
  (x4 : FVec Ideal S1024x2644 .f32) (x5 : FVec Ideal S16x256 .f32) (x6 : FVec Ideal S256 .f32)

/-- Token `s` of batch row `b` as a row of the flat arrays. -/
def flat (b : Fin 8) (s : Fin 8192) : Fin 65536 := ⟨b.val * 8192 + s.val, by omega⟩

/-- Splitting the token axis into batch rows and positions re-reads the flat array. -/
theorem split_apply (b : Fin 8) (s : Fin 8192) (d : Fin 1024) :
    val_main_v0 (F := Ideal) x0 (ix3 b s d) = x0 (ix2 (flat b s) d) := by
  rw [val_main_v0_apply]
  refine congrArg x0 (funext fun a => Fin.ext ?_)
  match a with
  | ⟨0, _⟩ => show ((b.val * 8192 + s.val) * 1024 + d.val) / 1024 = b.val * 8192 + s.val; omega
  | ⟨1, _⟩ => show ((b.val * 8192 + s.val) * 1024 + d.val) % 1024 = d.val; omega

/-- Joining the two axes again. -/
theorem join_index (n : Fin 65536) (d : Fin 1024) :
    idx_main_v20 (ix2 n d) = ix3 ⟨n.val / 8192, by omega⟩ ⟨n.val % 8192, by omega⟩ d := by
  funext a
  apply Fin.ext
  match a with
  | ⟨0, _⟩ => show (n.val * 1024 + d.val) / 8388608 = n.val / 8192; omega
  | ⟨1, _⟩ => show (n.val * 1024 + d.val) / 1024 % 8192 = n.val % 8192; omega
  | ⟨2, _⟩ => show (n.val * 1024 + d.val) % 1024 = d.val; omega

/-- The norm and the conditioning. -/
theorem modulated_apply (b : Fin 8) (s : Fin 8192) (d : Fin 1024) :
    val_main_v19 (F := Ideal) x0 x1 x2 x3 (ix3 b s d) =
      modulated (fun d => val_main_v0 (F := Ideal) x0 (ix3 b s d)) (fun d => x1 (ix1 d)) (fun d => x2 (ix3 b 0 d))
        (fun d => x3 (ix3 b 0 d)) d := by
  unfold val_main_v19 val_main_v18 val_main_v17 val_main_v16 val_main_v15 val_main_v14 val_main_v13 val_main_v12
    val_main_v11 val_main_v10 val_main_v9 val_main_v8 val_main_v7 val_main_v6 val_main_v5 val_main_v4 val_main_v3
    val_main_v2 val_main_v1 val_main_cst val_main_cst_0 val_main_cst_1 val_main_cst_2
  generalize val_main_v0 (F := Ideal) x0 = y
  pointwise
  rfl

/-- The reference's projection. -/
theorem feature_apply (n : Fin 65536) (k : Fin 2644) :
    val_main_v21 (F := Ideal) x0 x1 x2 x3 x4 (ix2 n k) = feature x0 x1 x2 x3 x4 n k := by
  have e : flat ⟨n.val / 8192, by omega⟩ ⟨n.val % 8192, by omega⟩ = n :=
    Fin.ext (by show n.val / 8192 * 8192 + n.val % 8192 = n.val; omega)
  have h : ∀ d : Fin 1024, val_main_v20 (F := Ideal) x0 x1 x2 x3 (ix2 n d) =
      modulated (fun d => x0 (ix2 n d)) (fun d => x1 (ix1 d)) (fun d => x2 (ix3 ⟨n.val / 8192, by omega⟩ 0 d))
        (fun d => x3 (ix3 ⟨n.val / 8192, by omega⟩ 0 d)) d := by
    intro d
    rw [val_main_v20_apply, join_index, modulated_apply]
    simp only [split_apply, e]
  unfold val_main_v21
  pointwise [dot_S65536x1024_S1024x2644_S65536x2644_1_0_0_1_n_n, h]
  rfl

/-- The linear attention's queries. -/
theorem res0_apply (n : Fin 65536) (j : Fin 256) : val_main_v49 (F := Ideal) x0 x1 x2 x3 x4 (ix2 n j) =
    feature x0 x1 x2 x3 x4 n ⟨j.val, by omega⟩ * Ideal.ofBits .f32 0x3E000000#32 := by
  unfold val_main_v49 val_main_v48 val_main_v22 val_main_cst_6
  pointwise [feature_apply]

/-- Its keys, values and output gate. -/
theorem res1_apply (n : Fin 65536) (j : Fin 256) : val_main_v23 (F := Ideal) x0 x1 x2 x3 x4 (ix2 n j) =
    feature x0 x1 x2 x3 x4 n ⟨256 + j.val, by omega⟩ := by
  unfold val_main_v23
  pointwise [feature_apply]

theorem res3_apply (n : Fin 65536) (j : Fin 512) : val_main_v24 (F := Ideal) x0 x1 x2 x3 x4 (ix2 n j) =
    feature x0 x1 x2 x3 x4 n ⟨512 + j.val, by omega⟩ := by
  unfold val_main_v24
  pointwise [feature_apply]

theorem res4_apply (n : Fin 65536) (j : Fin 512) : val_main_v26 (F := Ideal) x0 x1 x2 x3 x4 (ix2 n j) =
    feature x0 x1 x2 x3 x4 n ⟨1040 + j.val, by omega⟩ := by
  unfold val_main_v26
  pointwise [feature_apply]

/-- The low-rank decay's features. -/
theorem rank_apply (n : Fin 65536) (a : Fin 16) : val_main_v25 (F := Ideal) x0 x1 x2 x3 x4 (ix2 n a) =
    feature x0 x1 x2 x3 x4 n ⟨1024 + a.val, by omega⟩ := by
  unfold val_main_v25
  pointwise [feature_apply]

/-- The decay before the log-sigmoid. -/
theorem gate_apply (n : Fin 65536) (j : Fin 256) : val_main_v36 (F := Ideal) x0 x1 x2 x3 x4 x5 x6 (ix2 n j) =
    (∑ a : Fin 16, feature x0 x1 x2 x3 x4 n ⟨1024 + a.val, by omega⟩ * x5 (ix2 a j)) + x6 (ix1 j) := by
  unfold val_main_v36 val_main_v35 val_main_v34 val_main_v33
  pointwise [dot_S65536x16_S16x256_S65536x256_1_0_0_1_n_n, rank_apply]

/-- The log decay. -/
theorem res2_apply (n : Fin 65536) (j : Fin 256) : val_main_v39 (F := Ideal) x0 x1 x2 x3 x4 x5 x6 (ix2 n j) =
    decay x0 x1 x2 x3 x4 x5 x6 n j := by
  unfold decay
  rw [← gate_apply, ← logDecay_eq]
  unfold val_main_v39 val_main_v38 val_main_v37 val_main_call0_v1 val_main_call0_call0_v11 val_main_call0_call0_v10
    val_main_call0_call0_v9 val_main_call0_call0_v8 val_main_call0_call0_v7 val_main_call0_call0_v6 val_main_call0_call0_v5
    val_main_call0_call0_v4 val_main_call0_call0_v3 val_main_call0_call0_v2 val_main_call0_call0_v1 val_main_call0_call0_v0
    val_main_call0_call0_cst val_main_call0_v0 val_main_cst_3
  generalize val_main_v36 (F := Ideal) x0 x1 x2 x3 x4 x5 x6 = y
  pointwise
  rw [if_neg (not_not.2 rfl)]
  rfl

/-- The attention's queries. -/
theorem res5_apply (n : Fin 65536) (j : Fin 512) : val_main_v50 (F := Ideal) x0 x1 x2 x3 x4 (ix2 n j) =
    query x0 x1 x2 x3 x4 n j := by
  have h : val_main_v44 (F := Ideal) x0 x1 x2 x3 x4 (ix2 n j) = val_main_v41 (F := Ideal) x0 x1 x2 x3 x4
      (ix2 n ⟨j.val / 64 % 2 * 256 + j.val / 128 * 64 + j.val % 64, by omega⟩) := by
    rw [val_main_v44_apply, val_main_v43_apply, val_main_v42_apply]
    refine congrArg _ (funext fun a => Fin.ext ?_)
    have e0 : (n.val * 512 + j.val) / 512 = n.val := by omega
    have e1 : (n.val * 512 + j.val) / 64 % 2 = j.val / 64 % 2 := by omega
    have e2 : (n.val * 512 + j.val) / 128 % 4 = j.val / 128 := by omega
    have e3 : (n.val * 512 + j.val) % 64 = j.val % 64 := by omega
    match a with
    | ⟨0, _⟩ => show ((((n.val * 512 + j.val) / 512 * 2 + (n.val * 512 + j.val) / 64 % 2) * 4 + (n.val * 512 + j.val) / 128 % 4) * 64 + (n.val * 512 + j.val) % 64) / 512 = n.val; rw [e0, e1, e2, e3]; omega
    | ⟨1, _⟩ => show ((((n.val * 512 + j.val) / 512 * 2 + (n.val * 512 + j.val) / 64 % 2) * 4 + (n.val * 512 + j.val) / 128 % 4) * 64 + (n.val * 512 + j.val) % 64) % 512 = j.val / 64 % 2 * 256 + j.val / 128 * 64 + j.val % 64; rw [e0, e1, e2, e3]; omega
  refine Eq.trans (show _ = val_main_v44 (F := Ideal) x0 x1 x2 x3 x4 (ix2 n j) from rfl) (h.trans ?_)
  unfold val_main_v41 val_main_v40 val_main_v27 val_main_cst_4
  pointwise [feature_apply]
  rfl

/-- Its keys and values, in both precisions. -/
theorem res6_apply (n : Fin 65536) (j : Fin 128) : val_main_v28 (F := Ideal) x0 x1 x2 x3 x4 (ix2 n j) =
    feature x0 x1 x2 x3 x4 n ⟨2064 + j.val, by omega⟩ := by
  unfold val_main_v28
  pointwise [feature_apply]

theorem res7_apply (n : Fin 65536) (j : Fin 128) : val_main_v29 (F := Ideal) x0 x1 x2 x3 x4 (ix2 n j) =
    feature x0 x1 x2 x3 x4 n ⟨2192 + j.val, by omega⟩ := by
  unfold val_main_v29
  pointwise [feature_apply]

theorem res8_apply (n : Fin 65536) (j : Fin 128) : val_main_v51 (F := Ideal) x0 x1 x2 x3 x4 (ix2 n j) =
    feature x0 x1 x2 x3 x4 n ⟨2064 + j.val, by omega⟩ := by
  unfold val_main_v51
  pointwise [res6_apply]

theorem res9_apply (n : Fin 65536) (j : Fin 128) : val_main_v52 (F := Ideal) x0 x1 x2 x3 x4 (ix2 n j) =
    feature x0 x1 x2 x3 x4 n ⟨2192 + j.val, by omega⟩ := by
  unfold val_main_v52
  pointwise [res7_apply]

/-- The indexer's queries. -/
theorem res10_apply (n : Fin 65536) (j : Fin 256) : val_main_v53 (F := Ideal) x0 x1 x2 x3 x4 (ix2 n j) =
    feature x0 x1 x2 x3 x4 n ⟨2320 + j.val, by omega⟩ := by
  unfold val_main_v53 val_main_v30
  pointwise [feature_apply]

/-- The indexer's key. -/
theorem res11_apply (n : Fin 65536) (j : Fin 64) : val_main_v31 (F := Ideal) x0 x1 x2 x3 x4 (ix2 n j) =
    feature x0 x1 x2 x3 x4 n ⟨2576 + j.val, by omega⟩ := by
  unfold val_main_v31
  pointwise [feature_apply]

/-- The indexer's key, twice. -/
theorem res12_apply (n : Fin 65536) (j : Fin 128) : val_main_v54 (F := Ideal) x0 x1 x2 x3 x4 (ix2 n j) =
    keyTwice x0 x1 x2 x3 x4 n j := by
  unfold val_main_v54 val_main_v45 keyTwice
  pointwise [res11_apply]
  split_ifs
  all_goals exact congrArg _ (Fin.ext (by dsimp only <;> omega))

/-- The packed lanes. -/
theorem res13_apply (n : Fin 65536) (j : Fin 128) : val_main_v47 (F := Ideal) x0 x1 x2 x3 x4 (ix2 n j) =
    packed x0 x1 x2 x3 x4 n j := by
  unfold val_main_v47 val_main_v46 val_main_v32 val_main_cst_5 packed
  pointwise [res11_apply, rank_apply, feature_apply]
  split_ifs
  all_goals first
    | rw [dif_pos (by omega)]
    | rw [dif_neg (by omega), dif_pos (by omega)]
    | rw [dif_neg (by omega), dif_neg (by omega)]
    | rfl
    | omega
  all_goals first
    | rfl
    | exact congrArg _ (Fin.ext (by dsimp only <;> omega))

end Cert.Proof.Inproj.Ref
-- ==== Proof.InprojClaim.lean ====
module

public import proofs.«01_k».proof.Defs
public import proofs.«01_k».proof.Proof.InprojArray
public import proofs.«01_k».proof.Proof.InprojRefValue
public import proofs.«01_k».proof.Proof.Gen.InprojRefIdeal.Run

@[expose] public section

noncomputable section

namespace Cert.Proof.Inproj

open Idealize.ShloMosaic Idealize.SL.Sem

instance : Cert.InprojIdeal.Facts := Cert.InprojIdeal.Gen.facts
instance : Cert.InprojRefIdeal.Facts := Cert.InprojRefIdeal.Gen.facts

variable (m : (ℓ : Loc Cert.InprojIdeal.nD Cert.InprojIdeal.τ Cert.InprojIdeal.sig) → Buf (Elt Ideal) ℓ)
  (c : Dev Cert.InprojIdeal.nD)

/-! From equal arguments each of the kernel's fourteen result arrays and the reference's are equal. -/

theorem agree0 :
    ((Cert.InprojIdeal.Gen.dats m 0 c).arrAt 7 Cert.InprojIdeal.cfg0.N : FVec Ideal ⟨2, ![65536, 256]⟩ .f32) =
      Cert.InprojRefIdeal.Read.val_main_v49 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 256), i = ix2 n j := ⟨i 0, i 1, eq_ix2 i⟩
  rw [array7_apply, Ref.res0_apply]

theorem agree1 :
    ((Cert.InprojIdeal.Gen.dats m 0 c).arrAt 8 Cert.InprojIdeal.cfg0.N : FVec Ideal ⟨2, ![65536, 256]⟩ .f32) =
      Cert.InprojRefIdeal.Read.val_main_v23 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 256), i = ix2 n j := ⟨i 0, i 1, eq_ix2 i⟩
  rw [array8_apply, Ref.res1_apply]

theorem agree2 :
    ((Cert.InprojIdeal.Gen.dats m 0 c).arrAt 9 Cert.InprojIdeal.cfg0.N : FVec Ideal ⟨2, ![65536, 256]⟩ .f32) =
      Cert.InprojRefIdeal.Read.val_main_v39 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4))
        (m ((c.tc : Thread _ _).loc Cert.InprojIdeal.main_arg5))
        (m ((c.tc : Thread _ _).loc Cert.InprojIdeal.main_arg6)) := by
  funext i
  obtain ⟨n, j, rfl⟩ : ∃ (n : Fin 65536) (j : Fin 256), i = ix2 n j := ⟨i 0, i 1, eq_ix2 i⟩
  rw [array9_apply, Ref.res2_apply]

theorem agree3 :
    ((Cert.InprojIdeal.Gen.dats m 0 c).arrAt 10 Cert.InprojIdeal.cfg0.N : FVec Ideal ⟨2, ![65536, 512]⟩ .f32) =
      Cert.InprojRefIdeal.Read.val_main_v24 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 512), i = ix2 n j := ⟨i 0, i 1, eq_ix2 i⟩
  rw [array10_apply, Ref.res3_apply]

theorem agree4 :
    ((Cert.InprojIdeal.Gen.dats m 0 c).arrAt 11 Cert.InprojIdeal.cfg0.N : FVec Ideal ⟨2, ![65536, 512]⟩ .f32) =
      Cert.InprojRefIdeal.Read.val_main_v26 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 512), i = ix2 n j := ⟨i 0, i 1, eq_ix2 i⟩
  rw [array11_apply, Ref.res4_apply]

theorem agree5 :
    ((Cert.InprojIdeal.Gen.dats m 0 c).arrAt 12 Cert.InprojIdeal.cfg0.N : FVec Ideal ⟨2, ![65536, 512]⟩ .bf16) =
      Cert.InprojRefIdeal.Read.val_main_v50 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 512), i = ix2 n j := ⟨i 0, i 1, eq_ix2 i⟩
  rw [array12_apply, Ref.res5_apply]

theorem agree6 :
    ((Cert.InprojIdeal.Gen.dats m 0 c).arrAt 13 Cert.InprojIdeal.cfg0.N : FVec Ideal ⟨2, ![65536, 128]⟩ .f32) =
      Cert.InprojRefIdeal.Read.val_main_v28 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 128), i = ix2 n j := ⟨i 0, i 1, eq_ix2 i⟩
  rw [array13_apply, Ref.res6_apply]

theorem agree7 :
    ((Cert.InprojIdeal.Gen.dats m 0 c).arrAt 14 Cert.InprojIdeal.cfg0.N : FVec Ideal ⟨2, ![65536, 128]⟩ .f32) =
      Cert.InprojRefIdeal.Read.val_main_v29 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 128), i = ix2 n j := ⟨i 0, i 1, eq_ix2 i⟩
  rw [array14_apply, Ref.res7_apply]

theorem agree8 :
    ((Cert.InprojIdeal.Gen.dats m 0 c).arrAt 15 Cert.InprojIdeal.cfg0.N : FVec Ideal ⟨2, ![65536, 128]⟩ .bf16) =
      Cert.InprojRefIdeal.Read.val_main_v51 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 128), i = ix2 n j := ⟨i 0, i 1, eq_ix2 i⟩
  rw [array15_apply, Ref.res8_apply]

theorem agree9 :
    ((Cert.InprojIdeal.Gen.dats m 0 c).arrAt 16 Cert.InprojIdeal.cfg0.N : FVec Ideal ⟨2, ![65536, 128]⟩ .bf16) =
      Cert.InprojRefIdeal.Read.val_main_v52 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 128), i = ix2 n j := ⟨i 0, i 1, eq_ix2 i⟩
  rw [array16_apply, Ref.res9_apply]

theorem agree10 :
    ((Cert.InprojIdeal.Gen.dats m 0 c).arrAt 17 Cert.InprojIdeal.cfg0.N : FVec Ideal ⟨2, ![65536, 256]⟩ .bf16) =
      Cert.InprojRefIdeal.Read.val_main_v53 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 256), i = ix2 n j := ⟨i 0, i 1, eq_ix2 i⟩
  rw [array17_apply, Ref.res10_apply]

theorem agree11 :
    ((Cert.InprojIdeal.Gen.dats m 0 c).arrAt 18 Cert.InprojIdeal.cfg0.N : FVec Ideal ⟨2, ![65536, 64]⟩ .f32) =
      Cert.InprojRefIdeal.Read.val_main_v31 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 64), i = ix2 n j := ⟨i 0, i 1, eq_ix2 i⟩
  rw [array18_apply, Ref.res11_apply]

theorem agree12 :
    ((Cert.InprojIdeal.Gen.dats m 0 c).arrAt 19 Cert.InprojIdeal.cfg0.N : FVec Ideal ⟨2, ![65536, 128]⟩ .bf16) =
      Cert.InprojRefIdeal.Read.val_main_v54 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 128), i = ix2 n j := ⟨i 0, i 1, eq_ix2 i⟩
  rw [array19_apply, Ref.res12_apply]

theorem agree13 :
    ((Cert.InprojIdeal.Gen.dats m 0 c).arrAt 20 Cert.InprojIdeal.cfg0.N : FVec Ideal ⟨2, ![65536, 128]⟩ .f32) =
      Cert.InprojRefIdeal.Read.val_main_v47 (F := Ideal)
        (m ((c.tc : Thread _ _).loc Cert.InprojIdeal.main_arg0))
        (m ((c.tc : Thread _ _).loc Cert.InprojIdeal.main_arg1))
        (m ((c.tc : Thread _ _).loc Cert.InprojIdeal.main_arg2))
        (m ((c.tc : Thread _ _).loc Cert.InprojIdeal.main_arg3))
        (m ((c.tc : Thread _ _).loc Cert.InprojIdeal.main_arg4)) := by
  funext i
  obtain ⟨n, j, rfl⟩ : ∃ (n : Fin 65536) (j : Fin 128), i = ix2 n j := ⟨i 0, i 1, eq_ix2 i⟩
  rw [array20_apply, Ref.res13_apply]

set_option maxHeartbeats 4000000 in
/-- Over the extended reals the in-projection kernel computes its reference: from equal arguments both run, end with equal
    results and leave their arguments unchanged. -/
theorem algebraic : Cert.algebraic_InprojIdeal_InprojRefIdeal := by
  intro m g m' g' _ h
  refine ⟨fun c => (Cert.InprojIdeal.Gen.dats m 0 c).arrAt 7 Cert.InprojIdeal.cfg0.N,
    fun c => (Cert.InprojIdeal.Gen.dats m 0 c).arrAt 8 Cert.InprojIdeal.cfg0.N,
    fun c => (Cert.InprojIdeal.Gen.dats m 0 c).arrAt 9 Cert.InprojIdeal.cfg0.N,
    fun c => (Cert.InprojIdeal.Gen.dats m 0 c).arrAt 10 Cert.InprojIdeal.cfg0.N,
    fun c => (Cert.InprojIdeal.Gen.dats m 0 c).arrAt 11 Cert.InprojIdeal.cfg0.N,
    fun c => (Cert.InprojIdeal.Gen.dats m 0 c).arrAt 12 Cert.InprojIdeal.cfg0.N,
    fun c => (Cert.InprojIdeal.Gen.dats m 0 c).arrAt 13 Cert.InprojIdeal.cfg0.N,
    fun c => (Cert.InprojIdeal.Gen.dats m 0 c).arrAt 14 Cert.InprojIdeal.cfg0.N,
    fun c => (Cert.InprojIdeal.Gen.dats m 0 c).arrAt 15 Cert.InprojIdeal.cfg0.N,
    fun c => (Cert.InprojIdeal.Gen.dats m 0 c).arrAt 16 Cert.InprojIdeal.cfg0.N,
    fun c => (Cert.InprojIdeal.Gen.dats m 0 c).arrAt 17 Cert.InprojIdeal.cfg0.N,
    fun c => (Cert.InprojIdeal.Gen.dats m 0 c).arrAt 18 Cert.InprojIdeal.cfg0.N,
    fun c => (Cert.InprojIdeal.Gen.dats m 0 c).arrAt 19 Cert.InprojIdeal.cfg0.N,
    fun c => (Cert.InprojIdeal.Gen.dats m 0 c).arrAt 20 Cert.InprojIdeal.cfg0.N,
    Cert.InprojIdeal.Value.run_blocks m g, ?_⟩
  refine (θ_run (Cert.InprojRefIdeal.defs (F := Ideal)) _ _).mono (fun r hr c => ?_) (Cert.InprojRefIdeal.Value.run m' g')
  obtain ⟨h0, h1, h2, h3, h4, h5, h6⟩ := h c
  obtain ⟨r0, r1, r2, r3, r4, r5, r6, r7, r8, r9, r10, r11, r12, r13, rest⟩ := hr c
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, rest⟩
  · rw [Cert.InprojRefIdeal.Read.val_main_v49_eq, h0, h1, h2, h3, h4]
    exact (agree0 m c).symm
  · rw [Cert.InprojRefIdeal.Read.val_main_v23_eq, h0, h1, h2, h3, h4]
    exact (agree1 m c).symm
  · rw [Cert.InprojRefIdeal.Read.val_main_v39_eq, h0, h1, h2, h3, h4, h5, h6]
    exact (agree2 m c).symm
  · rw [Cert.InprojRefIdeal.Read.val_main_v24_eq, h0, h1, h2, h3, h4]
    exact (agree3 m c).symm
  · rw [Cert.InprojRefIdeal.Read.val_main_v26_eq, h0, h1, h2, h3, h4]
    exact (agree4 m c).symm
  · rw [Cert.InprojRefIdeal.Read.val_main_v50_eq, h0, h1, h2, h3, h4]
    exact (agree5 m c).symm
  · rw [Cert.InprojRefIdeal.Read.val_main_v28_eq, h0, h1, h2, h3, h4]
    exact (agree6 m c).symm
  · rw [Cert.InprojRefIdeal.Read.val_main_v29_eq, h0, h1, h2, h3, h4]
    exact (agree7 m c).symm
  · rw [Cert.InprojRefIdeal.Read.val_main_v51_eq, h0, h1, h2, h3, h4]
    exact (agree8 m c).symm
  · rw [Cert.InprojRefIdeal.Read.val_main_v52_eq, h0, h1, h2, h3, h4]
    exact (agree9 m c).symm
  · rw [Cert.InprojRefIdeal.Read.val_main_v53_eq, h0, h1, h2, h3, h4]
    exact (agree10 m c).symm
  · rw [Cert.InprojRefIdeal.Read.val_main_v31_eq, h0, h1, h2, h3, h4]
    exact (agree11 m c).symm
  · rw [Cert.InprojRefIdeal.Read.val_main_v54_eq, h0, h1, h2, h3, h4]
    exact (agree12 m c).symm
  · rw [Cert.InprojRefIdeal.Read.val_main_v47_eq, h0, h1, h2, h3, h4]
    exact (agree13 m c).symm

end Cert.Proof.Inproj
-- ==== Proof.MoeSBlock.lean ====
module

public import proofs.«01_k».proof.Proof.Gen.MoeSIdeal.Value
public import proofs.«01_k».proof.Proof.MoeSpec
public import Idealize.ShloMosaic.Lib.Pointwise
public import Idealize.ShloMosaic.Lib.Pipeline.ValueKit.Basic
public import Idealize.ShloMosaic.Lib.Pipeline.ValueKit.Tiles

@[expose] public section

noncomputable section

namespace Cert.Proof.MoeS

open Idealize.ShloMosaic Cert.MoeSIdeal Cert.MoeSIdeal.Gen
open Cert.Proof.Moe (proj act gated mixture rmsNorm token sum16)

/-- One expert's gated activation of a block of tokens: `silu(h·Wg) * (h·Wu)`. -/
def actV (h : Vec Ideal S256x1024 .bf16) (wg wu : Vec Ideal S1x1024x256 .bf16) : FVec Ideal S256x256 .bf16 :=
  let a : FVec Ideal S256x256 .f32 := matmul (φ₁ := .bf16) dot_S256x1024_S1024x256_S256x256_1_0_0_1_n_n none h
    (shapeCast S1024x256 wg shapeCasts_S1x1024x256_S1024x256 : FVec Ideal S1024x256 .bf16) (constant S256x256 .f32 0x00000000#32)
  let u : FVec Ideal S256x256 .f32 := matmul (φ₁ := .bf16) dot_S256x1024_S1024x256_S256x256_1_0_0_1_n_n none h
    (shapeCast S1024x256 wu shapeCasts_S1x1024x256_S1024x256 : FVec Ideal S1024x256 .bf16) (constant S256x256 .f32 0x00000000#32)
  truncf .bf16 (mulf (mulf a (logistic a)) u) bitsLt_bf16_f32

/-- One expert's output of a block of tokens, before its gate. -/
def downV (h : Vec Ideal S256x1024 .bf16) (wg wu : Vec Ideal S1x1024x256 .bf16) (wd : Vec Ideal S1x256x1024 .bf16) :
    FVec Ideal S256x1024 .f32 :=
  matmul dot_S256x256_S256x1024_S256x1024_1_0_0_1_n_n none (actV h wg wu)
    (shapeCast S256x1024 wd shapeCasts_S1x256x1024_S256x1024 : FVec Ideal S256x1024 .bf16) (constant S256x1024 .f32 0x00000000#32)

/-- The running sum with one gated expert added: the gate is column `e` of the gates. -/
def stepV (acc : FVec Ideal S256x1024 .f32) (h : Vec Ideal S256x1024 .bf16) (g : Vec Ideal S256x128 .f32) (e : ℕ)
    (hs : S256x128.Slices ![0, e] S256x1) (wg wu : Vec Ideal S1x1024x256 .bf16) (wd : Vec Ideal S1x256x1024 .bf16) :
    FVec Ideal S256x1024 .f32 :=
  addf acc (mulf (broadcastTo S256x1024 (extractStridedSlice S256x1 ![0, e] g hs : FVec Ideal S256x1 .f32)
    broadcasts_S256x1_S256x1024) (downV h wg wu wd))

theorem actV_apply (h : Vec Ideal S256x1024 .bf16) (wg wu : Vec Ideal S1x1024x256 .bf16) (r : Fin 256) (f : Fin 256) :
    actV h wg wu (ix2 r f) =
      (∑ d : Fin 1024, h (ix2 r d) * wg (ix3 0 d f)) * Ideal.logistic (∑ d : Fin 1024, h (ix2 r d) * wg (ix3 0 d f)) *
        (∑ d : Fin 1024, h (ix2 r d) * wu (ix3 0 d f)) := by
  unfold actV
  pointwise [dot_S256x1024_S1024x256_S256x256_1_0_0_1_n_n]

theorem downV_apply (h : Vec Ideal S256x1024 .bf16) (wg wu : Vec Ideal S1x1024x256 .bf16) (wd : Vec Ideal S1x256x1024 .bf16)
    (r : Fin 256) (j : Fin 1024) :
    downV h wg wu wd (ix2 r j) = ∑ f : Fin 256, actV h wg wu (ix2 r f) * wd (ix3 0 f j) := by
  unfold downV
  pointwise [dot_S256x256_S256x1024_S256x1024_1_0_0_1_n_n]

theorem stepV_apply (acc : FVec Ideal S256x1024 .f32) (h : Vec Ideal S256x1024 .bf16) (g : Vec Ideal S256x128 .f32) (e : ℕ)
    (he : e < 128)
    (hs : S256x128.Slices ![0, e] S256x1) (wg wu : Vec Ideal S1x1024x256 .bf16) (wd : Vec Ideal S1x256x1024 .bf16)
    (r : Fin 256) (j : Fin 1024) :
    stepV acc h g e hs wg wu wd (ix2 r j) = acc (ix2 r j) + g (ix2 r ⟨e, he⟩) * downV h wg wu wd (ix2 r j) := by
  unfold stepV
  pointwise

/-- The residual with the weighted mixture added, and its root-mean-square norm over the 1024 features. -/
theorem norm_apply (v : FVec Ideal S256x1024 .f32) (x : Vec Ideal S256x1024 .f32) (gm : Vec Ideal S256x1024 .f32)
    (fg : Vec Ideal S1x1024 .f32) (r : Fin 256) (j : Fin 1024) :
    k0_pay1 v x (k0_pay19 gm) fg (ix2 r j) =
      rmsNorm (fun j => x (ix2 r j) + gm (ix2 r j) * v (ix2 r j)) (fun j => fg (ix2 0 j)) j := by
  unfold k0_pay1 k0_pay19
  pointwise
  rfl

/-- The weights of all sixteen experts, read through the rectangle of expert `e`. -/
theorem up_apply (w : Vec Ideal S16x1024x256 .bf16) (e : Fin 16)
    (inb : ∀ k, (![e.val, 0, 0] : Fin 3 → ℕ) k + S1x1024x256.size k ≤ S16x1024x256.size k) (d : Fin 1024) (f : Fin 256) :
    View.ld w (Rect.unit (s := S16x1024x256) ![e.val, 0, 0] S1x1024x256.size inb) (ix3 0 d f) = w (ix3 e d f) :=
  View.ld_unit_apply_of _ _ _ _ _ _ fun k => match k with
    | ⟨0, _⟩ => rfl
    | ⟨1, _⟩ => (Nat.zero_add _).symm
    | ⟨2, _⟩ => (Nat.zero_add _).symm

/-- The same for the weights back to the features. -/
theorem down_apply (w : Vec Ideal S16x256x1024 .bf16) (e : Fin 16)
    (inb : ∀ k, (![e.val, 0, 0] : Fin 3 → ℕ) k + S1x256x1024.size k ≤ S16x256x1024.size k) (f : Fin 256) (j : Fin 1024) :
    View.ld w (Rect.unit (s := S16x256x1024) ![e.val, 0, 0] S1x256x1024.size inb) (ix3 0 f j) = w (ix3 e f j) :=
  View.ld_unit_apply_of _ _ _ _ _ _ fun k => match k with
    | ⟨0, _⟩ => rfl
    | ⟨1, _⟩ => (Nat.zero_add _).symm
    | ⟨2, _⟩ => (Nat.zero_add _).symm

/-- One gated expert at an index, over the weights of all sixteen experts. -/
theorem gated_apply (acc : FVec Ideal S256x1024 .f32) (h : Vec Ideal S256x1024 .bf16) (g : Vec Ideal S256x128 .f32) (e : Fin 16)
    (hs : S256x128.Slices ![0, e.val] S256x1) (wg wu : Vec Ideal S16x1024x256 .bf16) (wd : Vec Ideal S16x256x1024 .bf16)
    (inb : ∀ k, (![e.val, 0, 0] : Fin 3 → ℕ) k + S1x1024x256.size k ≤ S16x1024x256.size k)
    (inb' : ∀ k, (![e.val, 0, 0] : Fin 3 → ℕ) k + S1x256x1024.size k ≤ S16x256x1024.size k)
    (r : Fin 256) (j : Fin 1024) :
    stepV acc h g e.val hs (View.ld wg (Rect.unit (s := S16x1024x256) ![e.val, 0, 0] S1x1024x256.size inb))
      (View.ld wu (Rect.unit (s := S16x1024x256) ![e.val, 0, 0] S1x1024x256.size inb))
      (View.ld wd (Rect.unit (s := S16x256x1024) ![e.val, 0, 0] S1x256x1024.size inb')) (ix2 r j) =
    acc (ix2 r j) + gated (fun d => h (ix2 r d)) (fun e => g (ix2 r e)) (fun e d f => wg (ix3 e d f))
      (fun e d f => wu (ix3 e d f)) (fun e f j => wd (ix3 e f j)) j e := by
  have hp : ∀ (w : Vec Ideal S16x1024x256 .bf16) (f : Fin 256),
      ∑ d : Fin 1024, h (ix2 r d) * View.ld w (Rect.unit (s := S16x1024x256) ![e.val, 0, 0] S1x1024x256.size inb) (ix3 0 d f) =
        proj (fun d => h (ix2 r d)) (fun e d f => w (ix3 e d f)) e f :=
    fun w f => Finset.sum_congr rfl fun d _ => congrArg (h (ix2 r d) * ·) (up_apply w e inb d f)
  rw [stepV_apply _ _ _ _ (by omega), downV_apply]
  refine congrArg (acc (ix2 r j) + g (ix2 r ⟨e.val, _⟩) * ·) (Finset.sum_congr rfl fun f _ => ?_)
  rw [down_apply, actV_apply, hp, hp]
  rfl

/-- The body's sum of the sixteen gated experts, in the order the body adds them. -/
def mixV (x1 : Vec Ideal S256x1024 .bf16) (x2 : Vec Ideal S256x128 .f32)
    (x5 x6 : Vec Ideal S16x1024x256 .bf16) (x7 : Vec Ideal S16x256x1024 .bf16) : FVec Ideal S256x1024 .f32 :=
  (stepV (stepV (stepV (stepV (stepV (stepV (stepV (stepV (stepV (stepV (stepV (stepV (stepV (stepV (stepV (stepV
  (broadcast S256x1024 (Scalar.ofBits .f32 0x00000000#32)) x1 x2 0 slices_S256x128_o0_0_S256x1 (View.ld x5 r0_2) (View.ld
  x6 r0_2) (View.ld x7 r0_3)) x1 x2 1 slices_S256x128_o0_1_S256x1 (View.ld x5 r0_4) (View.ld x6 r0_4) (View.ld x7 r0_5))
  x1 x2 2 slices_S256x128_o0_2_S256x1 (View.ld x5 r0_6) (View.ld x6 r0_6) (View.ld x7 r0_7)) x1 x2 3
  slices_S256x128_o0_3_S256x1 (View.ld x5 r0_8) (View.ld x6 r0_8) (View.ld x7 r0_9)) x1 x2 4 slices_S256x128_o0_4_S256x1
  (View.ld x5 r0_10) (View.ld x6 r0_10) (View.ld x7 r0_11)) x1 x2 5 slices_S256x128_o0_5_S256x1 (View.ld x5 r0_12)
  (View.ld x6 r0_12) (View.ld x7 r0_13)) x1 x2 6 slices_S256x128_o0_6_S256x1 (View.ld x5 r0_14) (View.ld x6 r0_14)
  (View.ld x7 r0_15)) x1 x2 7 slices_S256x128_o0_7_S256x1 (View.ld x5 r0_16) (View.ld x6 r0_16) (View.ld x7 r0_17)) x1 x2
  8 slices_S256x128_o0_8_S256x1 (View.ld x5 r0_18) (View.ld x6 r0_18) (View.ld x7 r0_19)) x1 x2 9
  slices_S256x128_o0_9_S256x1 (View.ld x5 r0_20) (View.ld x6 r0_20) (View.ld x7 r0_21)) x1 x2 10
  slices_S256x128_o0_10_S256x1 (View.ld x5 r0_22) (View.ld x6 r0_22) (View.ld x7 r0_23)) x1 x2 11
  slices_S256x128_o0_11_S256x1 (View.ld x5 r0_24) (View.ld x6 r0_24) (View.ld x7 r0_25)) x1 x2 12
  slices_S256x128_o0_12_S256x1 (View.ld x5 r0_26) (View.ld x6 r0_26) (View.ld x7 r0_27)) x1 x2 13
  slices_S256x128_o0_13_S256x1 (View.ld x5 r0_28) (View.ld x6 r0_28) (View.ld x7 r0_29)) x1 x2 14
  slices_S256x128_o0_14_S256x1 (View.ld x5 r0_30) (View.ld x6 r0_30) (View.ld x7 r0_31)) x1 x2 15
  slices_S256x128_o0_15_S256x1 (View.ld x5 r0_32) (View.ld x6 r0_32) (View.ld x7 r0_33))

theorem out_eq (x0 : Vec Ideal S256x1024 .f32) (x1 : Vec Ideal S256x1024 .bf16) (x2 : Vec Ideal S256x128 .f32)
    (x3 : Vec Ideal S256x1024 .f32) (x4 : Vec Ideal S1x1024 .f32) (x5 x6 : Vec Ideal S16x1024x256 .bf16)
    (x7 : Vec Ideal S16x256x1024 .bf16) :
    out0_8 x0 x1 x2 x3 x4 x5 x6 x7 = k0_pay1 (mixV x1 x2 x5 x6 x7) x0 (k0_pay19 x3) x4 := by
  have e0 : ∀ x : Vec Ideal S256x1024 .f32, View.ld x r0_0 = x := fun x => View.ld_unit_lit _ x (by decide)
  have e1 : ∀ x : Vec Ideal S256x1024 .bf16, View.ld x r0_0 = x := fun x => View.ld_unit_lit _ x (by decide)
  have e2 : ∀ x : Vec Ideal S256x128 .f32, View.ld x r0_1 = x := fun x => View.ld_unit_lit _ x (by decide)
  have e4 : ∀ x : Vec Ideal S1x1024 .f32, View.ld x r0_34 = x := fun x => View.ld_unit_lit _ x (by decide)
  unfold out0_8
  rw [View.canon_cons_unit_lit _ _ _ (by decide), e0, e0, e1, e2, e4]
  rfl

/-- The body's sum is the mixture. -/
theorem mixV_apply (x1 : Vec Ideal S256x1024 .bf16) (x2 : Vec Ideal S256x128 .f32)
    (x5 x6 : Vec Ideal S16x1024x256 .bf16) (x7 : Vec Ideal S16x256x1024 .bf16) (r : Fin 256) (j : Fin 1024) :
    mixV x1 x2 x5 x6 x7 (ix2 r j) = mixture (fun d => x1 (ix2 r d)) (fun e => x2 (ix2 r e))
        (fun e d f => x5 (ix3 e d f)) (fun e d f => x6 (ix3 e d f)) (fun e f j => x7 (ix3 e f j)) j := by
  unfold mixV
  refine (gated_apply _ x1 x2 15 _ x5 x6 x7 _ _ r j).trans ?_
  refine Eq.trans (congrArg₂ (· + ·) ?_ rfl) (sum16 (gated (fun d => x1 (ix2 r d)) (fun e => x2 (ix2 r e))
    (fun e d f => x5 (ix3 e d f)) (fun e d f => x6 (ix3 e d f)) (fun e f j => x7 (ix3 e f j)) j))
  refine (gated_apply _ x1 x2 14 _ x5 x6 x7 _ _ r j).trans ?_
  refine congrArg₂ (· + ·) ?_ rfl
  refine (gated_apply _ x1 x2 13 _ x5 x6 x7 _ _ r j).trans ?_
  refine congrArg₂ (· + ·) ?_ rfl
  refine (gated_apply _ x1 x2 12 _ x5 x6 x7 _ _ r j).trans ?_
  refine congrArg₂ (· + ·) ?_ rfl
  refine (gated_apply _ x1 x2 11 _ x5 x6 x7 _ _ r j).trans ?_
  refine congrArg₂ (· + ·) ?_ rfl
  refine (gated_apply _ x1 x2 10 _ x5 x6 x7 _ _ r j).trans ?_
  refine congrArg₂ (· + ·) ?_ rfl
  refine (gated_apply _ x1 x2 9 _ x5 x6 x7 _ _ r j).trans ?_
  refine congrArg₂ (· + ·) ?_ rfl
  refine (gated_apply _ x1 x2 8 _ x5 x6 x7 _ _ r j).trans ?_
  refine congrArg₂ (· + ·) ?_ rfl
  refine (gated_apply _ x1 x2 7 _ x5 x6 x7 _ _ r j).trans ?_
  refine congrArg₂ (· + ·) ?_ rfl
  refine (gated_apply _ x1 x2 6 _ x5 x6 x7 _ _ r j).trans ?_
  refine congrArg₂ (· + ·) ?_ rfl
  refine (gated_apply _ x1 x2 5 _ x5 x6 x7 _ _ r j).trans ?_
  refine congrArg₂ (· + ·) ?_ rfl
  refine (gated_apply _ x1 x2 4 _ x5 x6 x7 _ _ r j).trans ?_
  refine congrArg₂ (· + ·) ?_ rfl
  refine (gated_apply _ x1 x2 3 _ x5 x6 x7 _ _ r j).trans ?_
  refine congrArg₂ (· + ·) ?_ rfl
  refine (gated_apply _ x1 x2 2 _ x5 x6 x7 _ _ r j).trans ?_
  refine congrArg₂ (· + ·) ?_ rfl
  refine (gated_apply _ x1 x2 1 _ x5 x6 x7 _ _ r j).trans ?_
  refine congrArg₂ (· + ·) ?_ rfl
  refine (gated_apply _ x1 x2 0 _ x5 x6 x7 _ _ r j).trans ?_
  refine congrArg₂ (· + ·) ?_ rfl
  exact Ideal.ofBits_zero_f32

/-- What one grid point writes back, at a row of the block and a feature. -/
theorem out_apply (x0 : Vec Ideal S256x1024 .f32) (x1 : Vec Ideal S256x1024 .bf16) (x2 : Vec Ideal S256x128 .f32)
    (x3 : Vec Ideal S256x1024 .f32) (x4 : Vec Ideal S1x1024 .f32) (x5 x6 : Vec Ideal S16x1024x256 .bf16)
    (x7 : Vec Ideal S16x256x1024 .bf16) (r : Fin 256) (j : Fin 1024) :
    out0_8 x0 x1 x2 x3 x4 x5 x6 x7 (ix2 r j) =
      rmsNorm (fun j => x0 (ix2 r j) + x3 (ix2 r j) * mixture (fun d => x1 (ix2 r d)) (fun e => x2 (ix2 r e))
        (fun e d f => x5 (ix3 e d f)) (fun e d f => x6 (ix3 e d f)) (fun e f j => x7 (ix3 e f j)) j)
        (fun j => x4 (ix2 0 j)) j := by
  rw [out_eq, norm_apply]
  simp only [mixV_apply]

end Cert.Proof.MoeS
-- ==== Proof.MoeSArray.lean ====
module

public import proofs.«01_k».proof.Proof.MoeSBlock

@[expose] public section

noncomputable section

namespace Cert.Proof.MoeS

open Idealize.ShloMosaic Idealize.ShloMosaic.TcCoe Idealize.SL.Sem Cert.MoeSIdeal Cert.MoeSIdeal.Gen
open Cert.Proof.Moe (proj act gated mixture rmsNorm token sum16)

variable (m : (ℓ : Loc nD τ sig) → Buf (Elt Ideal) ℓ) (c : Dev nD)

/-- Where each window's block lies at each grid point: token blocks and the modulation by the point, everything
    else whole. -/
theorem index_rows : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_8.index t 0 = t.val ∧ win0_8.index t 1 = 0) := by
  decide +kernel

theorem index_rest : ∀ t : Fin cfg0.N,
    (win0_3.index t 0 = t.val ∧ win0_3.index t 1 = 0) ∧
    (win0_4.index t 0 = 0 ∧ win0_4.index t 1 = 0) ∧
    (win0_5.index t 0 = 0 ∧ win0_5.index t 1 = 0 ∧ win0_5.index t 2 = 0) ∧
    (win0_6.index t 0 = 0 ∧ win0_6.index t 1 = 0 ∧ win0_6.index t 2 = 0) ∧
    (win0_7.index t 0 = 0 ∧ win0_7.index t 1 = 0 ∧ win0_7.index t 2 = 0) := by
  decide +kernel

theorem flush_all : ∀ t : Fin cfg0.N, (cfg0.win 8).flush t = true := by
  decide +kernel

/-- Row `r` of block `t` as a row of the whole array. -/
def row (t : Fin cfg0.N) (r : Fin 256) : Fin 2048 :=
  ⟨t.val * 256 + r.val, by have h : cfg0.N = 8 := N_0; have := t.isLt; omega⟩

/-- The weights reach the kernel rounded to bf16, which over the extended reals leaves them as they are. -/
theorem V_gate (e : Fin 16) (d : Fin 1024) (f : Fin 256) :
    V m c main_v0 (ix3 e d f) = m ((c : Thread nD τ).loc main_arg5) (ix3 e d f) := by
  dsimp only [V, hostOps0]
  after_results
  rfl

theorem V_up (e : Fin 16) (d : Fin 1024) (f : Fin 256) :
    V m c main_v1 (ix3 e d f) = m ((c : Thread nD τ).loc main_arg6) (ix3 e d f) := by
  dsimp only [V, hostOps0]
  after_results
  rfl

theorem V_down (e : Fin 16) (f : Fin 256) (j : Fin 1024) :
    V m c main_v2 (ix3 e f j) = m ((c : Thread nD τ).loc main_arg7) (ix3 e f j) := by
  dsimp only [V, hostOps0]
  after_results
  rfl

/-- The final gain reaches the kernel as a row. -/
theorem V_gain (j : Fin 1024) :
    V m c main_v4 (ix2 0 j) = m ((c : Thread nD τ).loc main_arg4) (ix1 j) := by
  dsimp only [V, hostOps0]
  after_results
  pointwise

/-- The modulation reaches the kernel as one row for each token. -/
theorem V_modulation (n : Fin 2048) (j : Fin 1024) :
    V m c main_v3 (ix2 n j) = m ((c : Thread nD τ).loc main_arg3) (ix3 n 0 j) := by
  dsimp only [V, hostOps0]
  after_results
  pointwise

theorem iblk0_apply (t : Fin cfg0.N) (r : Fin 256) (j : Fin 1024) :
    (iblk m c 0 t : Vec Ideal S256x1024 .f32) (ix2 r j) = m ((c : Thread nD τ).loc main_arg0) (ix2 (row t r) j) := by
  obtain ⟨h, -, -, -⟩ := index_rows t
  unfold iblk
  rw [View.read_apply]
  rw [← V_main_arg0 m c]
  show V m c main_arg0 _ = V m c main_arg0 _
  refine congrArg _ (funext fun a => Fin.ext ?_)
  match a with
  | ⟨0, _⟩ => show win0_0.index t 0 * 256 + 1 * r.val = t.val * 256 + r.val; rw [h.1]; omega
  | ⟨1, _⟩ => show win0_0.index t 1 * 1024 + 1 * j.val = j.val; rw [h.2]; omega

theorem iblk1_apply (t : Fin cfg0.N) (r : Fin 256) (j : Fin 1024) :
    (iblk m c 1 t : Vec Ideal S256x1024 .bf16) (ix2 r j) = m ((c : Thread nD τ).loc main_arg1) (ix2 (row t r) j) := by
  obtain ⟨-, h, -, -⟩ := index_rows t
  unfold iblk
  rw [View.read_apply]
  rw [← V_main_arg1 m c]
  show V m c main_arg1 _ = V m c main_arg1 _
  refine congrArg _ (funext fun a => Fin.ext ?_)
  match a with
  | ⟨0, _⟩ => show win0_1.index t 0 * 256 + 1 * r.val = t.val * 256 + r.val; rw [h.1]; omega
  | ⟨1, _⟩ => show win0_1.index t 1 * 1024 + 1 * j.val = j.val; rw [h.2]; omega

theorem iblk2_apply (t : Fin cfg0.N) (r : Fin 256) (j : Fin 128) :
    (iblk m c 2 t : Vec Ideal S256x128 .f32) (ix2 r j) = m ((c : Thread nD τ).loc main_arg2) (ix2 (row t r) j) := by
  obtain ⟨-, -, h, -⟩ := index_rows t
  unfold iblk
  rw [View.read_apply]
  rw [← V_main_arg2 m c]
  show V m c main_arg2 _ = V m c main_arg2 _
  refine congrArg _ (funext fun a => Fin.ext ?_)
  match a with
  | ⟨0, _⟩ => show win0_2.index t 0 * 256 + 1 * r.val = t.val * 256 + r.val; rw [h.1]; omega
  | ⟨1, _⟩ => show win0_2.index t 1 * 128 + 1 * j.val = j.val; rw [h.2]; omega

theorem iblk3_apply (t : Fin cfg0.N) (r : Fin 256) (j : Fin 1024) :
    (iblk m c 3 t : Vec Ideal S256x1024 .f32) (ix2 r j) = m ((c : Thread nD τ).loc main_arg3) (ix3 (row t r) 0 j) := by
  obtain ⟨h, -, -, -, -⟩ := index_rest t
  unfold iblk
  rw [View.read_apply]
  rw [← V_modulation m c]
  show V m c main_v3 _ = V m c main_v3 _
  refine congrArg _ (funext fun a => Fin.ext ?_)
  match a with
  | ⟨0, _⟩ => show win0_3.index t 0 * 256 + 1 * r.val = t.val * 256 + r.val; rw [h.1]; omega
  | ⟨1, _⟩ => show win0_3.index t 1 * 1024 + 1 * j.val = j.val; rw [h.2]; omega

theorem iblk4_apply (t : Fin cfg0.N) (j : Fin 1024) :
    (iblk m c 4 t : Vec Ideal S1x1024 .f32) (ix2 0 j) = m ((c : Thread nD τ).loc main_arg4) (ix1 j) := by
  obtain ⟨-, h, -, -, -⟩ := index_rest t
  unfold iblk
  rw [View.read_apply]
  rw [← V_gain m c]
  show V m c main_v4 _ = V m c main_v4 _
  refine congrArg _ (funext fun a => Fin.ext ?_)
  match a with
  | ⟨0, _⟩ => show win0_4.index t 0 * 1 + 1 * 0 = 0; rw [h.1]
  | ⟨1, _⟩ => show win0_4.index t 1 * 1024 + 1 * j.val = j.val; rw [h.2]; omega

theorem iblk5_apply (t : Fin cfg0.N) (e : Fin 16) (d : Fin 1024) (f : Fin 256) :
    (iblk m c 5 t : Vec Ideal S16x1024x256 .bf16) (ix3 e d f) = m ((c : Thread nD τ).loc main_arg5) (ix3 e d f) := by
  obtain ⟨-, -, h, -, -⟩ := index_rest t
  unfold iblk
  rw [View.read_apply]
  rw [← V_gate m c]
  show V m c main_v0 _ = V m c main_v0 _
  refine congrArg _ (funext fun a => Fin.ext ?_)
  match a with
  | ⟨0, _⟩ => show win0_5.index t 0 * 16 + 1 * e.val = e.val; rw [h.1]; omega
  | ⟨1, _⟩ => show win0_5.index t 1 * 1024 + 1 * d.val = d.val; rw [h.2.1]; omega
  | ⟨2, _⟩ => show win0_5.index t 2 * 256 + 1 * f.val = f.val; rw [h.2.2]; omega

theorem iblk6_apply (t : Fin cfg0.N) (e : Fin 16) (d : Fin 1024) (f : Fin 256) :
    (iblk m c 6 t : Vec Ideal S16x1024x256 .bf16) (ix3 e d f) = m ((c : Thread nD τ).loc main_arg6) (ix3 e d f) := by
  obtain ⟨-, -, -, h, -⟩ := index_rest t
  unfold iblk
  rw [View.read_apply]
  rw [← V_up m c]
  show V m c main_v1 _ = V m c main_v1 _
  refine congrArg _ (funext fun a => Fin.ext ?_)
  match a with
  | ⟨0, _⟩ => show win0_6.index t 0 * 16 + 1 * e.val = e.val; rw [h.1]; omega
  | ⟨1, _⟩ => show win0_6.index t 1 * 1024 + 1 * d.val = d.val; rw [h.2.1]; omega
  | ⟨2, _⟩ => show win0_6.index t 2 * 256 + 1 * f.val = f.val; rw [h.2.2]; omega

theorem iblk7_apply (t : Fin cfg0.N) (e : Fin 16) (f : Fin 256) (j : Fin 1024) :
    (iblk m c 7 t : Vec Ideal S16x256x1024 .bf16) (ix3 e f j) = m ((c : Thread nD τ).loc main_arg7) (ix3 e f j) := by
  obtain ⟨-, -, -, -, h⟩ := index_rest t
  unfold iblk
  rw [View.read_apply]
  rw [← V_down m c]
  show V m c main_v2 _ = V m c main_v2 _
  refine congrArg _ (funext fun a => Fin.ext ?_)
  match a with
  | ⟨0, _⟩ => show win0_7.index t 0 * 16 + 1 * e.val = e.val; rw [h.1]; omega
  | ⟨1, _⟩ => show win0_7.index t 1 * 256 + 1 * f.val = f.val; rw [h.2.1]; omega
  | ⟨2, _⟩ => show win0_7.index t 2 * 1024 + 1 * j.val = j.val; rw [h.2.2]; omega

/-- The launched arrays' value for token `n`. -/
def result (n : Fin 2048) (j : Fin 1024) : EReal :=
  token (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) n n j

/-- What point `t` writes back. -/
theorem block_apply (t : Fin cfg0.N) (r : Fin 256) (j : Fin 1024) :
    (out0_8 (iblk m c 0 t) (iblk m c 1 t) (iblk m c 2 t) (iblk m c 3 t) (iblk m c 4 t) (iblk m c 5 t) (iblk m c 6 t)
      (iblk m c 7 t) : Vec Ideal S256x1024 .f32) (ix2 r j) = result m c (row t r) j := by
  rw [out_apply]
  simp only [iblk0_apply, iblk1_apply, iblk2_apply, iblk3_apply, iblk4_apply, iblk5_apply, iblk6_apply, iblk7_apply]
  rfl

/-- The result array at a row of block `t`. -/
theorem array_block (t : Fin cfg0.N) (r : Fin 256) (j : Fin 1024) :
    ((dats m 0 c).arrAt 8 cfg0.N : Vec Ideal S2048x1024 .f32) (ix2 (row t r) j) = result m c (row t r) j := by
  obtain ⟨-, -, -, h⟩ := index_rows t
  have hb := congrFun (Value.blocks8 m c t (flush_all t)) (ix2 r j : S256x1024.Idx)
  rw [Value.flushed8, View.read_apply] at hb
  rw [← block_apply m c t r j]
  refine Eq.trans (congrArg (((dats m 0 c).arrAt 8 cfg0.N : Vec Ideal S2048x1024 .f32)) (funext fun a => Fin.ext ?_)) hb
  match a with
  | ⟨0, _⟩ => show t.val * 256 + r.val = win0_8.index t 0 * 256 + 1 * r.val; rw [h.1]; omega
  | ⟨1, _⟩ => show j.val = win0_8.index t 1 * 1024 + 1 * j.val; rw [h.2]; omega

/-- The result array, token by token. -/
theorem array_apply (n : Fin 2048) (j : Fin 1024) :
    ((dats m 0 c).arrAt 8 cfg0.N : Vec Ideal S2048x1024 .f32) (ix2 n j) = result m c n j := by
  have hN : cfg0.N = 8 := N_0
  have e := array_block m c ⟨n.val / 256, by omega⟩ ⟨n.val % 256, by omega⟩ j
  have er : row ⟨n.val / 256, by omega⟩ ⟨n.val % 256, by omega⟩ = n := Fin.ext (by show n.val / 256 * 256 + n.val % 256 = n.val; omega)
  rwa [er] at e

end Cert.Proof.MoeS
-- ==== Proof.MoeSRefValue.lean ====
module

public import proofs.«01_k».proof.Proof.MoeSpec
public import proofs.«01_k».proof.Proof.Gen.MoeSRefIdeal.Read
public import Idealize.ShloMosaic.Lib.Pointwise

@[expose] public section

noncomputable section

namespace Cert.Proof.MoeS.Ref

open Idealize.ShloMosaic Cert.MoeSRefIdeal Cert.MoeSRefIdeal.Gen Cert.MoeSRefIdeal.Read
open Cert.Proof.Moe (proj act gated mixture rmsNorm token sum16)

variable (x0 : FVec Ideal S2048x1024 .f32) (x1 : FVec Ideal S2048x1024 .bf16) (x2 : FVec Ideal S2048x128 .f32)
  (x3 : FVec Ideal S2048x1x1024 .f32) (x4 : FVec Ideal S1024 .f32) (x5 x6 : FVec Ideal S16x1024x256 .f32)
  (x7 : FVec Ideal S16x256x1024 .f32)

/-- The reference's projection into an expert: weights times token, the token on the right. -/
theorem gate_apply (e : Fin 16) (n : Fin 2048) (f : Fin 256) :
    val_main_v2 (F := Ideal) x1 x5 (ix3 e n f) = proj (fun d => x1 (ix2 n d)) (fun e d f => x5 (ix3 e d f)) e f := by
  unfold val_main_v2 val_main_v1 val_main_v0
  pointwise [dot_S16x1024x256_S2048x1024_S16x256x2048_1_1_02_0_n_n]
  exact Finset.sum_congr rfl fun d _ => mul_comm _ _

theorem up_apply (e : Fin 16) (n : Fin 2048) (f : Fin 256) :
    val_main_v5 (F := Ideal) x1 x6 (ix3 e n f) = proj (fun d => x1 (ix2 n d)) (fun e d f => x6 (ix3 e d f)) e f := by
  unfold val_main_v5 val_main_v4 val_main_v0
  pointwise [dot_S16x1024x256_S2048x1024_S16x256x2048_1_1_02_0_n_n]
  exact Finset.sum_congr rfl fun d _ => mul_comm _ _

/-- `silu` written with negation, exponential and division is the logistic form. -/
theorem silu_apply (i : S16x2048x256.Idx) :
    val_main_v3 (F := Ideal) x1 x5 i = val_main_v2 (F := Ideal) x1 x5 i * Ideal.logistic (val_main_v2 (F := Ideal) x1 x5 i) := by
  unfold val_main_v3 val_main_call0_v5 val_main_call0_v4 val_main_call0_v3 val_main_call0_v2 val_main_call0_v1
    val_main_call0_v0 val_main_call0_cst val_main_call0_cst_0
  generalize val_main_v2 (F := Ideal) x1 x5 = y
  pointwise
  rfl

theorem act_apply (e : Fin 16) (n : Fin 2048) (f : Fin 256) :
    val_main_v6 (F := Ideal) x1 x5 x6 (ix3 e n f) =
      act (fun d => x1 (ix2 n d)) (fun e d f => x5 (ix3 e d f)) (fun e d f => x6 (ix3 e d f)) e f := by
  rw [val_main_v6_apply, silu_apply, gate_apply, up_apply]
  rfl

theorem mixture_apply (n : Fin 2048) (j : Fin 1024) :
    val_main_v13 (F := Ideal) x1 x2 x5 x6 x7 (ix2 n j) =
      mixture (fun d => x1 (ix2 n d)) (fun e => x2 (ix2 n e)) (fun e d f => x5 (ix3 e d f)) (fun e d f => x6 (ix3 e d f))
        (fun e f j => x7 (ix3 e f j)) j := by
  unfold val_main_v13 val_main_v12 val_main_v11 val_main_v10 val_main_v9 val_main_v8 val_main_v7 val_main_cst
  pointwise [dot_S16x2048x256_S16x256x1024_S16x2048x1024_2_1_1_2_0_0, act_apply]
  rfl

/-- Token `n`'s row with the axis of one position the reference puts between. -/
theorem split_index (n : Fin 2048) (j : Fin 1024) : idx_main_v14 (ix3 n 0 j) = ix2 n j := by
  funext a
  apply Fin.ext
  match a with
  | ⟨0, _⟩ => show ((n.val * 1 + 0) * 1024 + j.val) / 1024 = n.val; omega
  | ⟨1, _⟩ => show ((n.val * 1 + 0) * 1024 + j.val) % 1024 = j.val; omega

/-- Dropping the axis again. -/
theorem join_index (n : Fin 2048) (j : Fin 1024) : idx_main_v31 (ix2 n j) = ix3 n 0 j := by
  funext a
  apply Fin.ext
  match a with
  | ⟨0, _⟩ => show (n.val * 1024 + j.val) / 1024 = n.val; omega
  | ⟨1, _⟩ => show 0 = 0; rfl
  | ⟨2, _⟩ => show (n.val * 1024 + j.val) % 1024 = j.val; omega

/-- The residual with the modulated mixture added. -/
theorem residual_apply (n : Fin 2048) (j : Fin 1024) :
    val_main_v17 (F := Ideal) x0 x1 x2 x3 x5 x6 x7 (ix3 n 0 j) =
      x0 (ix2 n j) + x3 (ix3 n 0 j) * val_main_v13 (F := Ideal) x1 x2 x5 x6 x7 (ix2 n j) := by
  rw [val_main_v17_apply, val_main_v16_apply, val_main_v14_apply, val_main_v15_apply, split_index]
  rw [show idx_main_v15 (ix3 n 0 j) = ix2 n j from split_index n j]
  rfl

/-- The norm of the residual over the features. -/
theorem norm_apply (n : Fin 2048) (j : Fin 1024) :
    val_main_v30 (F := Ideal) x0 x1 x2 x3 x4 x5 x6 x7 (ix3 n 0 j) =
      rmsNorm (fun j => val_main_v17 (F := Ideal) x0 x1 x2 x3 x5 x6 x7 (ix3 n 0 j)) (fun j => x4 (ix1 j)) j := by
  unfold val_main_v30 val_main_v29 val_main_v28 val_main_v27 val_main_v26 val_main_v25 val_main_v24
    val_main_v23 val_main_v22 val_main_v21 val_main_v20 val_main_v19 val_main_v18 val_main_cst_0 val_main_cst_1 val_main_cst_2
  generalize val_main_v17 (F := Ideal) x0 x1 x2 x3 x5 x6 x7 = y
  pointwise
  rfl

/-- The reference's result, token by token. -/
theorem result_apply (n : Fin 2048) (j : Fin 1024) :
    val_main_v31 (F := Ideal) x0 x1 x2 x3 x4 x5 x6 x7 (ix2 n j) = token x0 x1 x2 x3 x4 x5 x6 x7 n n j := by
  rw [val_main_v31_apply, join_index, norm_apply]
  simp only [residual_apply, mixture_apply]
  rfl

end Cert.Proof.MoeS.Ref
-- ==== Proof.MoeSClaim.lean ====
module

public import proofs.«01_k».proof.Defs
public import proofs.«01_k».proof.Proof.MoeSArray
public import proofs.«01_k».proof.Proof.MoeSRefValue
public import proofs.«01_k».proof.Proof.Gen.MoeSRefIdeal.Run

@[expose] public section

noncomputable section

namespace Cert.Proof.MoeS

open Idealize.ShloMosaic Idealize.SL.Sem

instance : Cert.MoeSIdeal.Facts := Cert.MoeSIdeal.Gen.facts
instance : Cert.MoeSRefIdeal.Facts := Cert.MoeSRefIdeal.Gen.facts

/-- From equal arguments the kernel's result array and the reference's are equal, element by element. -/
theorem results_agree (m : (ℓ : Loc Cert.MoeSIdeal.nD Cert.MoeSIdeal.τ Cert.MoeSIdeal.sig) → Buf (Elt Ideal) ℓ)
    (c : Dev Cert.MoeSIdeal.nD) :
    ((Cert.MoeSIdeal.Gen.dats m 0 c).arrAt 8 Cert.MoeSIdeal.cfg0.N : FVec Ideal ⟨2, ![2048, 1024]⟩ .f32) =
      Cert.MoeSRefIdeal.Read.val_main_v31 (F := Ideal) (m ((c.tc : Thread _ _).loc Cert.MoeSIdeal.main_arg0))
        (m ((c.tc : Thread _ _).loc Cert.MoeSIdeal.main_arg1)) (m ((c.tc : Thread _ _).loc Cert.MoeSIdeal.main_arg2))
        (m ((c.tc : Thread _ _).loc Cert.MoeSIdeal.main_arg3)) (m ((c.tc : Thread _ _).loc Cert.MoeSIdeal.main_arg4))
        (m ((c.tc : Thread _ _).loc Cert.MoeSIdeal.main_arg5)) (m ((c.tc : Thread _ _).loc Cert.MoeSIdeal.main_arg6))
        (m ((c.tc : Thread _ _).loc Cert.MoeSIdeal.main_arg7)) := by
  funext i
  obtain ⟨n, j, rfl⟩ : ∃ (n : Fin 2048) (j : Fin 1024), i = ix2 n j := ⟨i 0, i 1, eq_ix2 i⟩
  rw [array_apply, Ref.result_apply]
  rfl

/-- Over the extended reals the mixture-of-experts kernel computes its reference: from equal arguments both run, end with
    equal results and leave their arguments unchanged. -/
theorem algebraic : Cert.algebraic_MoeSIdeal_MoeSRefIdeal := by
  intro m g m' g' _ h
  refine ⟨fun c => (Cert.MoeSIdeal.Gen.dats m 0 c).arrAt 8 Cert.MoeSIdeal.cfg0.N, Cert.MoeSIdeal.Value.run_blocks m g, ?_⟩
  refine (θ_run (Cert.MoeSRefIdeal.defs (F := Ideal)) _ _).mono (fun r hr c => ?_) (Cert.MoeSRefIdeal.Value.run m' g')
  obtain ⟨h0, h1, h2, h3, h4, h5, h6, h7⟩ := h c
  refine ⟨(hr c).1.trans ?_, (hr c).2⟩
  rw [Cert.MoeSRefIdeal.Read.val_main_v31_eq, h0, h1, h2, h3, h4, h5, h6, h7]
  exact (results_agree m c).symm

end Cert.Proof.MoeS
-- ==== Proof.OutprojSpec.lean ====
/- What the out-projection computes for one token, and that the heads' order does not matter to it. -/
module

public import proofs.«01_k».proof.Proof.InprojSpec

@[expose] public section

noncomputable section

namespace Cert.Proof.Outproj

open Idealize.ShloMosaic Cert.Proof.Moe Cert.Proof.Inproj

/-- Where a lane of the attention's output as the earlier call writes it (the heads that share a key-value head apart) lies
    in the order of the heads. -/
def ordered (k : Fin 512) : Fin 512 := ⟨k.val / 64 % 2 * 256 + k.val / 128 * 64 + k.val % 64, by omega⟩

/-- The lane of the earlier call's output that holds a lane of the heads in order. -/
def written (k : Fin 512) : Fin 512 := ⟨k.val / 64 % 4 * 128 + k.val / 256 * 64 + k.val % 64, by omega⟩

theorem written_ordered : ∀ k : Fin 512, written (ordered k) = k := by decide +kernel

theorem ordered_written : ∀ k : Fin 512, ordered (written k) = k := by decide +kernel

/-- The two orders, as a bijection of the lanes. -/
def lanes : Fin 512 ≃ Fin 512 where
  toFun := ordered
  invFun := written
  left_inv := written_ordered
  right_inv := ordered_written

/-- The two mixers' outputs of one token times one column of the out-projection. -/
def mixed (gla dsa : Fin 512 → EReal) (w : Fin 1024 → EReal) : EReal :=
  (∑ k : Fin 512, gla k * w ⟨k.val, by omega⟩) + ∑ k : Fin 512, dsa k * w ⟨512 + (ordered k).val, by omega⟩

/-- A token after the mixers: the token plus the conditioned out-projection. -/
def attended (x ga : Fin 1024 → EReal) (gla dsa : Fin 512 → EReal) (w : Fin 1024 → Fin 1024 → EReal) (d : Fin 1024) : EReal :=
  x d + ga d * mixed gla dsa (fun k => w k d)

/-- One inner product over the two outputs put end to end, the heads in order, is the sum of the two inner products. -/
theorem joined_sum (gla dsa : Fin 512 → EReal) (w mix : Fin 1024 → EReal) (h : ∀ k : Fin 512, mix ⟨k.val, by omega⟩ = gla k)
    (h' : ∀ k : Fin 512, mix ⟨512 + k.val, by omega⟩ = dsa (written k)) :
    ∑ k : Fin 1024, mix k * w k = mixed gla dsa w := by
  rw [show ∑ k : Fin 1024, mix k * w k = (∑ k : Fin 512, mix ⟨k.val, by omega⟩ * w ⟨k.val, by omega⟩) +
    ∑ k : Fin 512, mix ⟨512 + k.val, by omega⟩ * w ⟨512 + k.val, by omega⟩ from
    Fin.sum_univ_add (a := 512) (b := 512) fun k : Fin (512 + 512) => mix k * w k]
  unfold mixed
  refine congrArg₂ (· + ·) (Finset.sum_congr rfl fun k _ => by rw [h]) ?_
  refine (Equiv.sum_comp lanes fun k : Fin 512 => mix ⟨512 + k.val, by omega⟩ * w ⟨512 + k.val, by omega⟩).symm.trans ?_
  refine Finset.sum_congr rfl fun k _ => ?_
  show mix ⟨512 + (ordered k).val, by omega⟩ * w ⟨512 + (ordered k).val, by omega⟩ = _
  rw [h', written_ordered]

section Arrays

variable (x : (⟨2, ![65536, 1024]⟩ : Shape).Idx → EReal) (gla dsa : (⟨2, ![65536, 512]⟩ : Shape).Idx → EReal)
  (w : (⟨2, ![1024, 1024]⟩ : Shape).Idx → EReal) (ga : (⟨3, ![8, 1, 1024]⟩ : Shape).Idx → EReal)
  (gain : (⟨1, ![1024]⟩ : Shape).Idx → EReal) (shift scale : (⟨3, ![8, 1, 1024]⟩ : Shape).Idx → EReal)

/-- Token `n` after the mixers, from the whole arrays; a batch row holds 8192 tokens. -/
def residual (n : Fin 65536) (d : Fin 1024) : EReal :=
  attended (fun d => x (ix2 n d)) (fun d => ga (ix3 ⟨n.val / 8192, by omega⟩ 0 d)) (fun k => gla (ix2 n k))
    (fun k => dsa (ix2 n k)) (fun k d => w (ix2 k d)) d

/-- Its norm, with the second conditioning: what the experts take. -/
def experts (n : Fin 65536) (d : Fin 1024) : EReal :=
  modulated (residual x gla dsa w ga n) (fun d => gain (ix1 d)) (fun d => shift (ix3 ⟨n.val / 8192, by omega⟩ 0 d))
    (fun d => scale (ix3 ⟨n.val / 8192, by omega⟩ 0 d)) d

end Arrays

end Cert.Proof.Outproj
-- ==== Proof.OutprojBlock.lean ====
/- What one grid point of the out-projection writes, as sums over its input blocks. -/
module

public import proofs.«01_k».proof.Proof.Gen.OutprojIdeal.Value
public import proofs.«01_k».proof.Proof.OutprojSpec
public import Idealize.ShloMosaic.Lib.Pointwise
public import Idealize.ShloMosaic.Lib.Pipeline.ValueKit.Basic
public import Idealize.ShloMosaic.Lib.Pipeline.ValueKit.Tiles

@[expose] public section

noncomputable section

namespace Cert.Proof.Outproj

open Idealize.ShloMosaic Cert.Proof.Moe Cert.Proof.Inproj Cert.OutprojIdeal Cert.OutprojIdeal.Gen

variable (x0 : Vec Ideal S512x1024 .f32) (x1 x2 : Vec Ideal S512x512 .bf16) (x3 : Vec Ideal S1024x1024 .bf16)
  (x4 : Vec Ideal S1x1x1024 .f32) (x5 : Vec Ideal S1x1024 .f32) (x6 x7 : Vec Ideal S1x1x1024 .f32)
  (x8 : Vec Ideal S1024x128 .bf16) (x9 : Vec Ideal S1x128 .f32)

/-- The upper and the lower half of the out-projection, as the body loads them. -/
theorem upper_apply (k : Fin 512) (d : Fin 1024) :
    (View.ld x3 r0_1 : Vec Ideal S512x1024 .bf16) (ix2 k d) = x3 (ix2 ⟨k.val, by omega⟩ d) := by
  show x3 _ = x3 _
  refine congrArg x3 (funext fun a => Fin.ext ?_)
  match a with
  | ⟨0, _⟩ => show 0 + 1 * k.val = k.val; omega
  | ⟨1, _⟩ => show 0 + 1 * d.val = d.val; omega

theorem lower_apply (k : Fin 512) (d : Fin 1024) :
    (View.ld x3 r0_2 : Vec Ideal S512x1024 .bf16) (ix2 k d) = x3 (ix2 ⟨512 + k.val, by omega⟩ d) := by
  show x3 _ = x3 _
  refine congrArg x3 (funext fun a => Fin.ext ?_)
  match a with
  | ⟨0, _⟩ => show 512 + 1 * k.val = 512 + k.val; omega
  | ⟨1, _⟩ => show 0 + 1 * d.val = d.val; omega

/-- A block's tokens after the mixers, from the two halves of the projection. -/
def after (u v : Vec Ideal S512x1024 .bf16) : FVec Ideal S512x1024 .f32 := k0_pay2 x1 u x2 v x0 x4

theorem after_apply (u v : Vec Ideal S512x1024 .bf16) (r : Fin 512) (d : Fin 1024) :
    after x0 x1 x2 x4 u v (ix2 r d) = x0 (ix2 r d) + x4 (ix3 0 0 d) *
      ((∑ k : Fin 512, x1 (ix2 r k) * u (ix2 k d)) + ∑ k : Fin 512, x2 (ix2 r k) * v (ix2 k d)) := by
  unfold after k0_pay2
  pointwise [dot_S512x512_S512x1024_S512x1024_1_0_0_1_n_n]

/-- The features the experts take, from a block's tokens after the mixers. -/
theorem features_apply (u v : Vec Ideal S512x1024 .bf16) (r : Fin 512) (d : Fin 1024) :
    k0_pay5 (k0_pay3 x1 u x2 v x0 x4 x5) (k0_pay4 x7) (Scalar.ofBits (F := Ideal) .f32 0x3F800000#32) x6 (ix2 r d) =
      modulated (fun d => after x0 x1 x2 x4 u v (ix2 r d)) (fun d => x5 (ix2 0 d)) (fun d => x6 (ix3 0 0 d))
        (fun d => x7 (ix3 0 0 d)) d := by
  unfold k0_pay5 k0_pay3 k0_pay4
  rw [show k0_pay2 x1 u x2 v x0 x4 = after x0 x1 x2 x4 u v from rfl]
  generalize after x0 x1 x2 x4 u v = y
  pointwise
  rfl

/-- A row of the block after the mixers. -/
def token (r : Fin 512) (d : Fin 1024) : EReal :=
  x0 (ix2 r d) + x4 (ix3 0 0 d) * ((∑ k : Fin 512, x1 (ix2 r k) * x3 (ix2 ⟨k.val, by omega⟩ d)) +
    ∑ k : Fin 512, x2 (ix2 r k) * x3 (ix2 ⟨512 + k.val, by omega⟩ d))

theorem after_token (r : Fin 512) (d : Fin 1024) :
    after x0 x1 x2 x4 (View.ld x3 r0_1) (View.ld x3 r0_2) (ix2 r d) = token x0 x1 x2 x3 x4 r d := by
  rw [after_apply]
  unfold token
  refine congrArg (x0 (ix2 r d) + ·) (congrArg (x4 (ix3 0 0 d) * ·) (congrArg₂ (· + ·) ?_ ?_))
  · exact Finset.sum_congr rfl fun k _ => congrArg (x1 (ix2 r k) * ·) (upper_apply x3 k d)
  · exact Finset.sum_congr rfl fun k _ => congrArg (x2 (ix2 r k) * ·) (lower_apply x3 k d)

/-- What one grid point writes of the tokens after the mixers. -/
theorem out10_apply (r : Fin 512) (d : Fin 1024) :
    out0_10 x0 x1 x2 x3 x4 x5 x6 x7 x8 x9 (ix2 r d) = token x0 x1 x2 x3 x4 r d := by
  have e0 : View.ld x1 r0_0 = x1 := View.ld_unit_lit _ x1 (by decide)
  have e1 : View.ld x2 r0_0 = x2 := View.ld_unit_lit _ x2 (by decide)
  have e2 : View.ld x0 r0_3 = x0 := View.ld_unit_lit _ x0 (by decide)
  have e3 : View.ld x4 r0_4 = x4 := View.ld_unit_lit _ x4 (by decide)
  unfold out0_10
  rw [View.canon_cons_unit_lit _ _ _ (by decide), e0, e1, e2, e3]
  exact after_token x0 x1 x2 x3 x4 r d

/-- What one grid point writes of the features the experts take. -/
theorem out11_apply (r : Fin 512) (d : Fin 1024) :
    out0_11 x0 x1 x2 x3 x4 x5 x6 x7 x8 x9 (ix2 r d) =
      modulated (token x0 x1 x2 x3 x4 r) (fun d => x5 (ix2 0 d)) (fun d => x6 (ix3 0 0 d)) (fun d => x7 (ix3 0 0 d)) d := by
  have e0 : View.ld x1 r0_0 = x1 := View.ld_unit_lit _ x1 (by decide)
  have e1 : View.ld x2 r0_0 = x2 := View.ld_unit_lit _ x2 (by decide)
  have e2 : View.ld x0 r0_3 = x0 := View.ld_unit_lit _ x0 (by decide)
  have e3 : ∀ x : Vec Ideal S1x1x1024 .f32, View.ld x r0_4 = x := fun x => View.ld_unit_lit _ x (by decide)
  have e5 : View.ld x5 r0_5 = x5 := View.ld_unit_lit _ x5 (by decide)
  unfold out0_11 k0_pay19 k0_pay20
  rw [View.canon_cons_unit_lit _ _ _ (by decide), e0, e1, e2, e3, e3, e3, e5, features_apply]
  refine congrArg (fun y => modulated y _ _ _ d) (funext fun d => ?_)
  exact after_token x0 x1 x2 x3 x4 r d

end Cert.Proof.Outproj
-- ==== Proof.OutprojHost.lean ====
/- What the host lines before the out-projection's call leave in its arrays. -/
module

public import proofs.«01_k».proof.Proof.OutprojBlock

@[expose] public section

noncomputable section

namespace Cert.Proof.Outproj

open Idealize.ShloMosaic Idealize.ShloMosaic.TcCoe Idealize.SL.Sem Cert.OutprojIdeal Cert.OutprojIdeal.Gen

variable (m : (ℓ : Loc nD τ sig) → Buf (Elt Ideal) ℓ) (c : Dev nD)

/-- The attention's rows of the out-projection with the two heads of a group one below the other. -/
def heads (w : FVec Ideal S512x1024 .f32) : FVec Ideal S512x1024 .f32 :=
  concatenate S512x1024 0 [⟨S64x1024, extractStridedSlice S64x1024 ![0, 0] w slices_S512x1024_S64x1024_0_0⟩,
    ⟨S64x1024, extractStridedSlice S64x1024 ![256, 0] w slices_S512x1024_S64x1024_256_0⟩,
    ⟨S64x1024, extractStridedSlice S64x1024 ![64, 0] w slices_S512x1024_S64x1024_64_0⟩,
    ⟨S64x1024, extractStridedSlice S64x1024 ![320, 0] w slices_S512x1024_S64x1024_320_0⟩,
    ⟨S64x1024, extractStridedSlice S64x1024 ![128, 0] w slices_S512x1024_S64x1024_128_0⟩,
    ⟨S64x1024, extractStridedSlice S64x1024 ![384, 0] w slices_S512x1024_S64x1024_384_0⟩,
    ⟨S64x1024, extractStridedSlice S64x1024 ![192, 0] w slices_S512x1024_S64x1024_192_0⟩,
    ⟨S64x1024, extractStridedSlice S64x1024 ![448, 0] w slices_S512x1024_S64x1024_448_0⟩]
    concatenates_S64x1024_S64x1024_S64x1024_S64x1024_S64x1024_S64x1024_S64x1024_S64x1024_S512x1024_d0

/-- The out-projection's rows in the order the kernel takes them. -/
def rows (w : FVec Ideal S1024x1024 .f32) : FVec Ideal S1024x1024 .f32 :=
  concatenate S1024x1024 0 [⟨S512x1024, extractStridedSlice S512x1024 ![0, 0] w slices_S1024x1024_S512x1024_0_0⟩,
    ⟨S512x1024, heads (extractStridedSlice S512x1024 ![512, 0] w slices_S1024x1024_S512x1024_512_0)⟩]
    concatenates_S512x1024_S512x1024_S1024x1024_d0

set_option maxHeartbeats 1000000 in
/-- The host lines leave the rearranged out-projection (rounded: over the extended reals, as it is). -/
theorem V_rows (k d : Fin 1024) :
    V m c main_v26 (ix2 k d) = rows (m ((c : Thread nD τ).loc main_arg3)) (ix2 k d) := by
  dsimp only [V, hostOps0]
  after_results
  rfl

/-- The second norm's gain reaches the kernel as a row. -/
theorem V_gain (d : Fin 1024) :
    V m c main_v28 (ix2 0 d) = m ((c : Thread nD τ).loc main_arg5) (ix1 d) := by
  dsimp only [V, hostOps0]
  after_results
  pointwise

section Rows

variable (w : FVec Ideal S1024x1024 .f32) (d : Fin 1024)

/-- The linear attention's rows stay where they are. -/
theorem rows_upper (k : Fin 512) : rows w (ix2 ⟨k.val, by omega⟩ d) = w (ix2 ⟨k.val, by omega⟩ d) := by
  unfold rows
  generalize heads _ = q
  pointwise

/-- The head at group `g` and place `n` of the rearranged rows is the head at place `n`, group `g`. -/
theorem heads_apply (q : FVec Ideal S512x1024 .f32) (g : Fin 4) (n : Fin 2) (k : Fin 64) :
    heads q (ix2 ⟨g.val * 128 + n.val * 64 + k.val, by omega⟩ d) = q (ix2 ⟨n.val * 256 + g.val * 64 + k.val, by omega⟩ d) := by
  unfold heads
  fin_cases g <;> fin_cases n <;> pointwise
  all_goals repeat rw [dif_neg (by omega)]
  all_goals try rw [dif_pos (by omega)]
  all_goals exact congrArg q (congrArg (ix2 · d) (Fin.ext (by dsimp only; omega)))

/-- The attention's rows, by the order of the heads. -/
theorem rows_lower (k : Fin 512) : rows w (ix2 ⟨512 + k.val, by omega⟩ d) = w (ix2 ⟨512 + (ordered k).val, by omega⟩ d) := by
  have e : rows w (ix2 ⟨512 + k.val, by omega⟩ d) =
      heads (extractStridedSlice S512x1024 ![512, 0] w slices_S1024x1024_S512x1024_512_0) (ix2 k d) := by
    unfold rows
    generalize heads _ = q
    pointwise
  have h := heads_apply d (extractStridedSlice S512x1024 ![512, 0] w slices_S1024x1024_S512x1024_512_0)
    ⟨k.val / 128, by omega⟩ ⟨k.val / 64 % 2, by omega⟩ ⟨k.val % 64, by omega⟩
  rw [show (⟨k.val / 128 * 128 + k.val / 64 % 2 * 64 + k.val % 64, by omega⟩ : Fin 512) = k from Fin.ext (by dsimp only; omega)] at h
  refine e.trans (h.trans ?_)
  pointwise
  rfl

end Rows

end Cert.Proof.Outproj
-- ==== Proof.OutprojArray.lean ====
/- The arrays the out-projection's call leaves, token by token. -/
module

public import proofs.«01_k».proof.Proof.OutprojHost

@[expose] public section

noncomputable section

namespace Cert.Proof.Outproj

open Idealize.ShloMosaic Idealize.ShloMosaic.TcCoe Idealize.SL.Sem Cert.OutprojIdeal Cert.OutprojIdeal.Gen
open Cert.Proof.Inproj (modulated)

variable (m : (ℓ : Loc nD τ sig) → Buf (Elt Ideal) ℓ) (c : Dev nD)

/-- Where each window's block lies at each grid point: tokens by the point, the conditioning by the batch row, the weights
    whole. -/
theorem index_in : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧
    (win0_4.index t 0 = t.val / 16 ∧ win0_4.index t 1 = 0 ∧ win0_4.index t 2 = 0) ∧
    (win0_5.index t 0 = 0 ∧ win0_5.index t 1 = 0) ∧
    (win0_6.index t 0 = t.val / 16 ∧ win0_6.index t 1 = 0 ∧ win0_6.index t 2 = 0) ∧
    (win0_7.index t 0 = t.val / 16 ∧ win0_7.index t 1 = 0 ∧ win0_7.index t 2 = 0) := by
  decide +kernel

/-- Each result's block lies at the point's tokens, and every point writes it back. -/
theorem index_out : ∀ t : Fin cfg0.N,
    (win0_10.index t 0 = t.val ∧ win0_10.index t 1 = 0 ∧ (cfg0.win 10).flush t = true) ∧
    (win0_11.index t 0 = t.val ∧ win0_11.index t 1 = 0 ∧ (cfg0.win 11).flush t = true) := by
  decide +kernel

/-- Row `r` of block `t` as a row of the whole arrays. -/
def row (t : Fin cfg0.N) (r : Fin 512) : Fin 65536 :=
  ⟨t.val * 512 + r.val, by have h : cfg0.N = 128 := N_0; have := t.isLt; omega⟩

/-- The batch row of a row of block `t`. -/
theorem row_batch (t : Fin cfg0.N) (r : Fin 512) : (row t r).val / 8192 = t.val / 16 := by
  show (t.val * 512 + r.val) / 8192 = t.val / 16
  omega

/-- What holds of every row of every block holds of every row. -/
theorem all_rows (P : Fin 65536 → Prop) (h : ∀ (t : Fin cfg0.N) (r : Fin 512), P (row t r)) (n : Fin 65536) : P n := by
  have hN : cfg0.N = 128 := N_0
  have e := h ⟨n.val / 512, by omega⟩ ⟨n.val % 512, by omega⟩
  rwa [show row ⟨n.val / 512, by omega⟩ ⟨n.val % 512, by omega⟩ = n from
    Fin.ext (by show n.val / 512 * 512 + n.val % 512 = n.val; omega)] at e

theorem iblk0_apply (t : Fin cfg0.N) (r : Fin 512) (d : Fin 1024) :
    (iblk m c 0 t : Vec Ideal S512x1024 .f32) (ix2 r d) = m ((c : Thread nD τ).loc main_arg0) (ix2 (row t r) d) := by
  have h := (index_in t).1
  unfold iblk
  rw [View.read_apply]
  rw [← V_main_arg0 m c]
  show V m c main_arg0 _ = V m c main_arg0 _
  refine congrArg _ (funext fun a => Fin.ext ?_)
  match a with
  | ⟨0, _⟩ => show win0_0.index t 0 * 512 + 1 * r.val = t.val * 512 + r.val; rw [h.1]; omega
  | ⟨1, _⟩ => show win0_0.index t 1 * 1024 + 1 * d.val = d.val; rw [h.2]; omega

theorem iblk1_apply (t : Fin cfg0.N) (r : Fin 512) (d : Fin 512) :
    (iblk m c 1 t : Vec Ideal S512x512 .bf16) (ix2 r d) = m ((c : Thread nD τ).loc main_arg1) (ix2 (row t r) d) := by
  have h := (index_in t).2.1
  unfold iblk
  rw [View.read_apply]
  rw [← V_main_arg1 m c]
  show V m c main_arg1 _ = V m c main_arg1 _
  refine congrArg _ (funext fun a => Fin.ext ?_)
  match a with
  | ⟨0, _⟩ => show win0_1.index t 0 * 512 + 1 * r.val = t.val * 512 + r.val; rw [h.1]; omega
  | ⟨1, _⟩ => show win0_1.index t 1 * 512 + 1 * d.val = d.val; rw [h.2]; omega

theorem iblk2_apply (t : Fin cfg0.N) (r : Fin 512) (d : Fin 512) :
    (iblk m c 2 t : Vec Ideal S512x512 .bf16) (ix2 r d) = m ((c : Thread nD τ).loc main_arg2) (ix2 (row t r) d) := by
  have h := (index_in t).2.2.1
  unfold iblk
  rw [View.read_apply]
  rw [← V_main_arg2 m c]
  show V m c main_arg2 _ = V m c main_arg2 _
  refine congrArg _ (funext fun a => Fin.ext ?_)
  match a with
  | ⟨0, _⟩ => show win0_2.index t 0 * 512 + 1 * r.val = t.val * 512 + r.val; rw [h.1]; omega
  | ⟨1, _⟩ => show win0_2.index t 1 * 512 + 1 * d.val = d.val; rw [h.2]; omega

theorem iblk3_apply (t : Fin cfg0.N) (k d : Fin 1024) :
    (iblk m c 3 t : Vec Ideal S1024x1024 .bf16) (ix2 k d) = rows (m ((c : Thread nD τ).loc main_arg3)) (ix2 k d) := by
  have h := (index_in t).2.2.2.1
  unfold iblk
  rw [View.read_apply]
  rw [← V_rows m c]
  show V m c main_v26 _ = V m c main_v26 _
  refine congrArg _ (funext fun a => Fin.ext ?_)
  match a with
  | ⟨0, _⟩ => show win0_3.index t 0 * 1024 + 1 * k.val = k.val; rw [h.1]; omega
  | ⟨1, _⟩ => show win0_3.index t 1 * 1024 + 1 * d.val = d.val; rw [h.2]; omega

theorem iblk4_apply (t : Fin cfg0.N) (r : Fin 512) (d : Fin 1024) :
    (iblk m c 4 t : Vec Ideal S1x1x1024 .f32) (ix3 0 0 d) =
      m ((c : Thread nD τ).loc main_arg4) (ix3 ⟨(row t r).val / 8192, by omega⟩ 0 d) := by
  have h := (index_in t).2.2.2.2.1
  unfold iblk
  rw [View.read_apply]
  rw [← V_main_arg4 m c]
  show V m c main_arg4 _ = V m c main_arg4 _
  refine congrArg _ (funext fun a => Fin.ext ?_)
  match a with
  | ⟨0, _⟩ => show win0_4.index t 0 * 1 + 1 * 0 = (row t r).val / 8192; rw [h.1, row_batch]; omega
  | ⟨1, _⟩ => show win0_4.index t 1 * 1 + 1 * 0 = 0; rw [h.2.1]
  | ⟨2, _⟩ => show win0_4.index t 2 * 1024 + 1 * d.val = d.val; rw [h.2.2]; omega

theorem iblk5_apply (t : Fin cfg0.N) (d : Fin 1024) :
    (iblk m c 5 t : Vec Ideal S1x1024 .f32) (ix2 0 d) = m ((c : Thread nD τ).loc main_arg5) (ix1 d) := by
  have h := (index_in t).2.2.2.2.2.1
  unfold iblk
  rw [View.read_apply]
  rw [← V_gain m c]
  show V m c main_v28 _ = V m c main_v28 _
  refine congrArg _ (funext fun a => Fin.ext ?_)
  match a with
  | ⟨0, _⟩ => show win0_5.index t 0 * 1 + 1 * 0 = 0; rw [h.1]
  | ⟨1, _⟩ => show win0_5.index t 1 * 1024 + 1 * d.val = d.val; rw [h.2]; omega

theorem iblk6_apply (t : Fin cfg0.N) (r : Fin 512) (d : Fin 1024) :
    (iblk m c 6 t : Vec Ideal S1x1x1024 .f32) (ix3 0 0 d) =
      m ((c : Thread nD τ).loc main_arg6) (ix3 ⟨(row t r).val / 8192, by omega⟩ 0 d) := by
  have h := (index_in t).2.2.2.2.2.2.1
  unfold iblk
  rw [View.read_apply]
  rw [← V_main_arg6 m c]
  show V m c main_arg6 _ = V m c main_arg6 _
  refine congrArg _ (funext fun a => Fin.ext ?_)
  match a with
  | ⟨0, _⟩ => show win0_6.index t 0 * 1 + 1 * 0 = (row t r).val / 8192; rw [h.1, row_batch]; omega
  | ⟨1, _⟩ => show win0_6.index t 1 * 1 + 1 * 0 = 0; rw [h.2.1]
  | ⟨2, _⟩ => show win0_6.index t 2 * 1024 + 1 * d.val = d.val; rw [h.2.2]; omega

theorem iblk7_apply (t : Fin cfg0.N) (r : Fin 512) (d : Fin 1024) :
    (iblk m c 7 t : Vec Ideal S1x1x1024 .f32) (ix3 0 0 d) =
      m ((c : Thread nD τ).loc main_arg7) (ix3 ⟨(row t r).val / 8192, by omega⟩ 0 d) := by
  have h := (index_in t).2.2.2.2.2.2.2
  unfold iblk
  rw [View.read_apply]
  rw [← V_main_arg7 m c]
  show V m c main_arg7 _ = V m c main_arg7 _
  refine congrArg _ (funext fun a => Fin.ext ?_)
  match a with
  | ⟨0, _⟩ => show win0_7.index t 0 * 1 + 1 * 0 = (row t r).val / 8192; rw [h.1, row_batch]; omega
  | ⟨1, _⟩ => show win0_7.index t 1 * 1 + 1 * 0 = 0; rw [h.2.1]
  | ⟨2, _⟩ => show win0_7.index t 2 * 1024 + 1 * d.val = d.val; rw [h.2.2]; omega

/-- A row of a block after the mixers is that token of the whole arrays. -/
theorem token_block (t : Fin cfg0.N) (r : Fin 512) (d : Fin 1024) :
    token (iblk m c 0 t : Vec Ideal S512x1024 .f32) (iblk m c 1 t : Vec Ideal S512x512 .bf16)
      (iblk m c 2 t : Vec Ideal S512x512 .bf16) (iblk m c 3 t : Vec Ideal S1024x1024 .bf16)
      (iblk m c 4 t : Vec Ideal S1x1x1024 .f32) r d =
      residual (m ((c : Thread nD τ).loc main_arg0)) (m ((c : Thread nD τ).loc main_arg1)) (m ((c : Thread nD τ).loc main_arg2)) (m ((c : Thread nD τ).loc main_arg3)) (m ((c : Thread nD τ).loc main_arg4)) (row t r) d := by
  unfold token residual attended mixed
  refine congrArg₂ (· + ·) (iblk0_apply m c t r d) (congrArg₂ (· * ·) (iblk4_apply m c t r d) (congrArg₂ (· + ·) ?_ ?_))
  · refine Finset.sum_congr rfl fun k _ => congrArg₂ (· * ·) (iblk1_apply m c t r k) ?_
    exact (iblk3_apply m c t _ d).trans (rows_upper _ d k)
  · refine Finset.sum_congr rfl fun k _ => congrArg₂ (· * ·) (iblk2_apply m c t r k) ?_
    exact (iblk3_apply m c t _ d).trans (rows_lower _ d k)

/-- Result 1: the tokens after the mixers. -/
theorem array10_apply (n : Fin 65536) (d : Fin 1024) :
    ((dats m 0 c).arrAt 10 cfg0.N : Vec Ideal S65536x1024 .f32) (ix2 n d) =
      residual (m ((c : Thread nD τ).loc main_arg0)) (m ((c : Thread nD τ).loc main_arg1)) (m ((c : Thread nD τ).loc main_arg2)) (m ((c : Thread nD τ).loc main_arg3)) (m ((c : Thread nD τ).loc main_arg4)) n d := by
  refine all_rows (fun n => ((dats m 0 c).arrAt 10 cfg0.N : Vec Ideal S65536x1024 .f32) (ix2 n d) =
      residual (m ((c : Thread nD τ).loc main_arg0)) (m ((c : Thread nD τ).loc main_arg1)) (m ((c : Thread nD τ).loc main_arg2)) (m ((c : Thread nD τ).loc main_arg3)) (m ((c : Thread nD τ).loc main_arg4)) n d) (fun t r => ?_) n
  have h := (index_out t).1
  have hb := congrFun (Value.blocks10 m c t h.2.2) (ix2 r d : S512x1024.Idx)
  rw [Value.flushed10, View.read_apply] at hb
  refine (congrArg ((dats m 0 c).arrAt 10 cfg0.N : Vec Ideal S65536x1024 .f32) (funext fun a => Fin.ext ?_)).trans
    (hb.trans ?_)
  · match a with
    | ⟨0, _⟩ => show t.val * 512 + r.val = win0_10.index t 0 * 512 + 1 * r.val; rw [h.1]; omega
    | ⟨1, _⟩ => show d.val = win0_10.index t 1 * 1024 + 1 * d.val; rw [h.2.1]; omega
  · exact (out10_apply _ _ _ _ _ _ _ _ _ _ r d).trans (token_block m c t r d)

/-- Result 2: what the experts take. -/
theorem array11_apply (n : Fin 65536) (d : Fin 1024) :
    ((dats m 0 c).arrAt 11 cfg0.N : Vec Ideal S65536x1024 .bf16) (ix2 n d) =
      experts (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) n d := by
  refine all_rows (fun n => ((dats m 0 c).arrAt 11 cfg0.N : Vec Ideal S65536x1024 .bf16) (ix2 n d) =
      experts (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) n d) (fun t r => ?_) n
  have h := (index_out t).2
  have hb := congrFun (Value.blocks11 m c t h.2.2) (ix2 r d : S512x1024.Idx)
  rw [Value.flushed11, View.read_apply] at hb
  refine (congrArg ((dats m 0 c).arrAt 11 cfg0.N : Vec Ideal S65536x1024 .bf16) (funext fun a => Fin.ext ?_)).trans
    (hb.trans ?_)
  · match a with
    | ⟨0, _⟩ => show t.val * 512 + r.val = win0_11.index t 0 * 512 + 1 * r.val; rw [h.1]; omega
    | ⟨1, _⟩ => show d.val = win0_11.index t 1 * 1024 + 1 * d.val; rw [h.2.1]; omega
  · refine (out11_apply _ _ _ _ _ _ _ _ _ _ r d).trans ?_
    unfold experts
    congr 1 <;> funext d
    · exact token_block m c t r d
    · exact iblk5_apply m c t d
    · exact iblk6_apply m c t r d
    · exact iblk7_apply m c t r d

end Cert.Proof.Outproj
-- ==== Proof.OutprojRefValue.lean ====
/- What the out-projection's reference computes, token by token. -/
module

public import proofs.«01_k».proof.Proof.OutprojSpec
public import proofs.«01_k».proof.Proof.Gen.OutprojRefIdeal.Read
public import Idealize.ShloMosaic.Lib.Pointwise

@[expose] public section

noncomputable section

namespace Cert.Proof.Outproj.Ref

open Idealize.ShloMosaic Cert.OutprojRefIdeal Cert.OutprojRefIdeal.Gen Cert.OutprojRefIdeal.Read
open Cert.Proof.Inproj (modulated)

variable (x0 : FVec Ideal S65536x1024 .f32) (x1 x2 : FVec Ideal S65536x512 .bf16) (x3 : FVec Ideal S1024x1024 .f32)
  (x4 : FVec Ideal S8x1x1024 .f32) (x5 : FVec Ideal S1024 .f32) (x6 x7 : FVec Ideal S8x1x1024 .f32)

/-- Token `s` of batch row `b` as a row of the flat arrays. -/
def flat (b : Fin 8) (s : Fin 8192) : Fin 65536 := ⟨b.val * 8192 + s.val, by omega⟩

/-- Splitting the token axis into batch rows and positions re-reads the flat array. -/
theorem tokens_apply (b : Fin 8) (s : Fin 8192) (d : Fin 1024) :
    val_main_v6 (F := Ideal) x0 (ix3 b s d) = x0 (ix2 (flat b s) d) := by
  rw [val_main_v6_apply]
  refine congrArg x0 (funext fun a => Fin.ext ?_)
  match a with
  | ⟨0, _⟩ => show ((b.val * 8192 + s.val) * 1024 + d.val) / 1024 = b.val * 8192 + s.val; omega
  | ⟨1, _⟩ => show ((b.val * 8192 + s.val) * 1024 + d.val) % 1024 = d.val; omega

theorem linear_apply (b : Fin 8) (s : Fin 8192) (k : Fin 512) :
    val_main_v3 (F := Ideal) x1 (ix3 b s k) = x1 (ix2 (flat b s) k) := by
  rw [val_main_v3_apply]
  refine congrArg x1 (funext fun a => Fin.ext ?_)
  match a with
  | ⟨0, _⟩ => show ((b.val * 8192 + s.val) * 512 + k.val) / 512 = b.val * 8192 + s.val; omega
  | ⟨1, _⟩ => show ((b.val * 8192 + s.val) * 512 + k.val) % 512 = k.val; omega

/-- The attention's output with its heads in order: a lane is head place, group and feature, and the earlier call writes
    the group before the place. -/
theorem lane_split (b : Fin 8) (s : Fin 8192) (k : Fin 512) :
    idx_main_v2 (ix3 b s k) = ix5 b s ⟨k.val / 256, by omega⟩ ⟨k.val / 64 % 4, by omega⟩ ⟨k.val % 64, by omega⟩ := by
  funext a
  apply Fin.ext
  match a with
  | ⟨0, _⟩ => show ((b.val * 8192 + s.val) * 512 + k.val) / 4194304 = b.val; omega
  | ⟨1, _⟩ => show ((b.val * 8192 + s.val) * 512 + k.val) / 512 % 8192 = s.val; omega
  | ⟨2, _⟩ => show ((b.val * 8192 + s.val) * 512 + k.val) / 256 % 2 = k.val / 256; omega
  | ⟨3, _⟩ => show ((b.val * 8192 + s.val) * 512 + k.val) / 64 % 4 = k.val / 64 % 4; omega
  | ⟨4, _⟩ => show ((b.val * 8192 + s.val) * 512 + k.val) % 64 = k.val % 64; omega

theorem place_apply (b : Fin 8) (s : Fin 8192) (n : Fin 2) (g : Fin 4) (r : Fin 64) :
    val_main_v1 (F := Ideal) x2 (ix5 b s n g r) = x2 (ix2 (flat b s) ⟨g.val * 128 + n.val * 64 + r.val, by omega⟩) := by
  rw [val_main_v1_apply, val_main_v0_apply]
  refine congrArg x2 (funext fun a => Fin.ext ?_)
  match a with
  | ⟨0, _⟩ =>
    show ((((b.val * 8192 + s.val) * 4 + g.val) * 2 + n.val) * 64 + r.val) / 512 = b.val * 8192 + s.val
    omega
  | ⟨1, _⟩ =>
    show ((((b.val * 8192 + s.val) * 4 + g.val) * 2 + n.val) * 64 + r.val) % 512 = g.val * 128 + n.val * 64 + r.val
    omega

theorem heads_apply (b : Fin 8) (s : Fin 8192) (k : Fin 512) :
    val_main_v2 (F := Ideal) x2 (ix3 b s k) = x2 (ix2 (flat b s) (written k)) := by
  rw [val_main_v2_apply, lane_split, place_apply]
  rfl

/-- The two outputs end to end. -/
theorem joined_left (b : Fin 8) (s : Fin 8192) (k : Fin 512) :
    val_main_v5 (F := Ideal) x1 x2 (ix3 b s ⟨k.val, by omega⟩) = x1 (ix2 (flat b s) k) := by
  rw [← linear_apply x1 b s k]
  unfold val_main_v5 val_main_v4
  generalize val_main_v3 (F := Ideal) x1 = y
  generalize val_main_v2 (F := Ideal) x2 = z
  pointwise

theorem joined_right (b : Fin 8) (s : Fin 8192) (k : Fin 512) :
    val_main_v5 (F := Ideal) x1 x2 (ix3 b s ⟨512 + k.val, by omega⟩) = x2 (ix2 (flat b s) (written k)) := by
  rw [← heads_apply x2 b s k]
  unfold val_main_v5 val_main_v4
  generalize val_main_v3 (F := Ideal) x1 = y
  generalize val_main_v2 (F := Ideal) x2 = z
  pointwise

/-- The tokens after the mixers. -/
theorem residual_apply (b : Fin 8) (s : Fin 8192) (d : Fin 1024) :
    val_main_v10 (F := Ideal) x0 x1 x2 x3 x4 (ix3 b s d) =
      attended (fun d => x0 (ix2 (flat b s) d)) (fun d => x4 (ix3 b 0 d)) (fun k => x1 (ix2 (flat b s) k))
        (fun k => x2 (ix2 (flat b s) k)) (fun k d => x3 (ix2 k d)) d := by
  unfold attended
  rw [← joined_sum (fun k => x1 (ix2 (flat b s) k)) (fun k => x2 (ix2 (flat b s) k)) (fun k => x3 (ix2 k d))
    (fun k => val_main_v5 (F := Ideal) x1 x2 (ix3 b s k)) (fun k => joined_left x1 x2 b s k)
    (fun k => joined_right x1 x2 b s k)]
  dsimp only
  rw [← tokens_apply x0 b s d]
  unfold val_main_v10 val_main_v9 val_main_v8 val_main_v7
  generalize val_main_v6 (F := Ideal) x0 = y
  generalize val_main_v5 (F := Ideal) x1 x2 = z
  pointwise [dot_S8x8192x1024_S1024x1024_S8x8192x1024_2_0_01_1_n_n]

/-- Their norm and the conditioning. -/
theorem modulated_apply (b : Fin 8) (s : Fin 8192) (d : Fin 1024) :
    val_main_v29 (F := Ideal) x0 x1 x2 x3 x4 x5 x6 x7 (ix3 b s d) =
      modulated (fun d => val_main_v10 (F := Ideal) x0 x1 x2 x3 x4 (ix3 b s d)) (fun d => x5 (ix1 d))
        (fun d => x6 (ix3 b 0 d)) (fun d => x7 (ix3 b 0 d)) d := by
  unfold val_main_v29 val_main_v28 val_main_v27 val_main_v26 val_main_v25 val_main_v24 val_main_v23 val_main_v22
    val_main_v21 val_main_v20 val_main_v19 val_main_v18 val_main_v17 val_main_v16 val_main_v15 val_main_v14 val_main_v13
    val_main_v12 val_main_v11 val_main_cst val_main_cst_0 val_main_cst_1 val_main_cst_2
  generalize val_main_v10 (F := Ideal) x0 x1 x2 x3 x4 = y
  pointwise
  rfl

/-- Joining the token axis again. -/
theorem flat_of (n : Fin 65536) : flat ⟨n.val / 8192, by omega⟩ ⟨n.val % 8192, by omega⟩ = n :=
  Fin.ext (by show n.val / 8192 * 8192 + n.val % 8192 = n.val; omega)

theorem join_tokens (n : Fin 65536) (d : Fin 1024) :
    idx_main_v30 (ix2 n d) = ix3 ⟨n.val / 8192, by omega⟩ ⟨n.val % 8192, by omega⟩ d := by
  funext a
  apply Fin.ext
  match a with
  | ⟨0, _⟩ => show (n.val * 1024 + d.val) / 8388608 = n.val / 8192; omega
  | ⟨1, _⟩ => show (n.val * 1024 + d.val) / 1024 % 8192 = n.val % 8192; omega
  | ⟨2, _⟩ => show (n.val * 1024 + d.val) % 1024 = d.val; omega

theorem join_features (n : Fin 65536) (d : Fin 1024) :
    idx_main_v32 (ix2 n d) = ix3 ⟨n.val / 8192, by omega⟩ ⟨n.val % 8192, by omega⟩ d := by
  funext a
  apply Fin.ext
  match a with
  | ⟨0, _⟩ => show (n.val * 1024 + d.val) / 8388608 = n.val / 8192; omega
  | ⟨1, _⟩ => show (n.val * 1024 + d.val) / 1024 % 8192 = n.val % 8192; omega
  | ⟨2, _⟩ => show (n.val * 1024 + d.val) % 1024 = d.val; omega

/-- Result 1: the tokens after the mixers. -/
theorem res0_apply (n : Fin 65536) (d : Fin 1024) :
    val_main_v30 (F := Ideal) x0 x1 x2 x3 x4 (ix2 n d) = residual x0 x1 x2 x3 x4 n d := by
  rw [val_main_v30_apply, join_tokens, residual_apply, flat_of]
  rfl

/-- Result 2: what the experts take. -/
theorem res1_apply (n : Fin 65536) (d : Fin 1024) :
    val_main_v32 (F := Ideal) x0 x1 x2 x3 x4 x5 x6 x7 (ix2 n d) = experts x0 x1 x2 x3 x4 x5 x6 x7 n d := by
  rw [val_main_v32_apply, join_features]
  refine (modulated_apply x0 x1 x2 x3 x4 x5 x6 x7 _ _ d).trans ?_
  unfold experts
  refine congrArg (fun y => modulated y _ _ _ d) (funext fun d => ?_)
  rw [residual_apply, flat_of]
  rfl

end Cert.Proof.Outproj.Ref
-- ==== Proof.OutprojClaim.lean ====
/- The out-projection's kernel and its reference end with equal tokens and equal features for the experts. -/
module

public import proofs.«01_k».proof.Defs
public import proofs.«01_k».proof.Proof.OutprojArray
public import proofs.«01_k».proof.Proof.OutprojRefValue
public import proofs.«01_k».proof.Proof.Gen.OutprojRefIdeal.Run

@[expose] public section

noncomputable section

namespace Cert.Proof.Outproj

open Idealize.ShloMosaic Idealize.SL.Sem

instance : Cert.OutprojIdeal.Facts := Cert.OutprojIdeal.Gen.facts
instance : Cert.OutprojRefIdeal.Facts := Cert.OutprojRefIdeal.Gen.facts

variable (m : (ℓ : Loc Cert.OutprojIdeal.nD Cert.OutprojIdeal.τ Cert.OutprojIdeal.sig) → Buf (Elt Ideal) ℓ)
  (c : Dev Cert.OutprojIdeal.nD)

/-! From equal arguments the kernel's result arrays and the reference's are equal. -/

theorem agree0 :
    ((Cert.OutprojIdeal.Gen.dats m 0 c).arrAt 10 Cert.OutprojIdeal.cfg0.N : FVec Ideal ⟨2, ![65536, 1024]⟩ .f32) =
      Cert.OutprojRefIdeal.Read.val_main_v30 (F := Ideal)
        (m ((c.tc : Thread _ _).loc Cert.OutprojIdeal.main_arg0))
        (m ((c.tc : Thread _ _).loc Cert.OutprojIdeal.main_arg1))
        (m ((c.tc : Thread _ _).loc Cert.OutprojIdeal.main_arg2))
        (m ((c.tc : Thread _ _).loc Cert.OutprojIdeal.main_arg3))
        (m ((c.tc : Thread _ _).loc Cert.OutprojIdeal.main_arg4)) := by
  funext i
  obtain ⟨n, d, rfl⟩ : ∃ (n : Fin 65536) (d : Fin 1024), i = ix2 n d := ⟨i 0, i 1, eq_ix2 i⟩
  rw [array10_apply, Ref.res0_apply]

theorem agree1 :
    ((Cert.OutprojIdeal.Gen.dats m 0 c).arrAt 11 Cert.OutprojIdeal.cfg0.N : FVec Ideal ⟨2, ![65536, 1024]⟩ .bf16) =
      Cert.OutprojRefIdeal.Read.val_main_v32 (F := Ideal)
        (m ((c.tc : Thread _ _).loc Cert.OutprojIdeal.main_arg0))
        (m ((c.tc : Thread _ _).loc Cert.OutprojIdeal.main_arg1))
        (m ((c.tc : Thread _ _).loc Cert.OutprojIdeal.main_arg2))
        (m ((c.tc : Thread _ _).loc Cert.OutprojIdeal.main_arg3))
        (m ((c.tc : Thread _ _).loc Cert.OutprojIdeal.main_arg4))
        (m ((c.tc : Thread _ _).loc Cert.OutprojIdeal.main_arg5))
        (m ((c.tc : Thread _ _).loc Cert.OutprojIdeal.main_arg6))
        (m ((c.tc : Thread _ _).loc Cert.OutprojIdeal.main_arg7)) := by
  funext i
  obtain ⟨n, d, rfl⟩ : ∃ (n : Fin 65536) (d : Fin 1024), i = ix2 n d := ⟨i 0, i 1, eq_ix2 i⟩
  rw [array11_apply, Ref.res1_apply]

/-- Over the extended reals the out-projection's kernel computes its reference: from equal arguments both run, end with equal
    tokens and equal features for the experts, and leave their arguments unchanged. -/
theorem algebraic : Cert.algebraic_OutprojIdeal_OutprojRefIdeal := by
  intro m g m' g' _ h
  refine ⟨fun c => (Cert.OutprojIdeal.Gen.dats m 0 c).arrAt 10 Cert.OutprojIdeal.cfg0.N,
    fun c => (Cert.OutprojIdeal.Gen.dats m 0 c).arrAt 11 Cert.OutprojIdeal.cfg0.N,
    (θ_run (Cert.OutprojIdeal.defs (F := Ideal)) _ _).mono (fun r hr c => ⟨(hr c).1, (hr c).2.1, (hr c).2.2.2⟩)
      (Cert.OutprojIdeal.Value.run_blocks m g), ?_⟩
  refine (θ_run (Cert.OutprojRefIdeal.defs (F := Ideal)) _ _).mono (fun r hr c => ?_) (Cert.OutprojRefIdeal.Value.run m' g')
  obtain ⟨h0, h1, h2, h3, h4, h5, h6, h7, h8, h9, h10, h11⟩ := h c
  obtain ⟨r0, r1, rest⟩ := hr c
  refine ⟨r0.trans ?_, r1.trans ?_, rest⟩
  · rw [Cert.OutprojRefIdeal.Read.val_main_v30_eq, h0, h1, h2, h3, h4]
    exact (agree0 m c).symm
  · rw [Cert.OutprojRefIdeal.Read.val_main_v32_eq, h0, h1, h2, h3, h4, h5, h6, h7]
    exact (agree1 m c).symm

end Cert.Proof.Outproj
-- ==== Proof.OutprojSSpec.lean ====
/- What the out-projection of the sample batch computes: the same token by token, each with a conditioning of its own. -/
module

public import proofs.«01_k».proof.Proof.OutprojSpec

@[expose] public section

noncomputable section

namespace Cert.Proof.OutprojS

open Idealize.ShloMosaic
open Cert.Proof.Outproj (attended)
open Cert.Proof.Inproj (modulated)

variable (x : (⟨2, ![2048, 1024]⟩ : Shape).Idx → EReal) (gla dsa : (⟨2, ![2048, 512]⟩ : Shape).Idx → EReal)
  (w : (⟨2, ![1024, 1024]⟩ : Shape).Idx → EReal) (ga : (⟨3, ![2048, 1, 1024]⟩ : Shape).Idx → EReal)
  (gain : (⟨1, ![1024]⟩ : Shape).Idx → EReal) (shift scale : (⟨3, ![2048, 1, 1024]⟩ : Shape).Idx → EReal)

/-- Token `n` after the mixers, from the whole arrays. -/
def residual (n : Fin 2048) (d : Fin 1024) : EReal :=
  attended (fun d => x (ix2 n d)) (fun d => ga (ix3 n 0 d)) (fun k => gla (ix2 n k)) (fun k => dsa (ix2 n k))
    (fun k d => w (ix2 k d)) d

/-- Its norm, with the second conditioning: what the experts take. -/
def experts (n : Fin 2048) (d : Fin 1024) : EReal :=
  modulated (residual x gla dsa w ga n) (fun d => gain (ix1 d)) (fun d => shift (ix3 n 0 d)) (fun d => scale (ix3 n 0 d)) d

end Cert.Proof.OutprojS
-- ==== Proof.OutprojSBlock.lean ====
/- What one grid point of the out-projection of the sample batch writes, as sums over its input blocks. -/
module

public import proofs.«01_k».proof.Proof.Gen.OutprojSIdeal.Value
public import proofs.«01_k».proof.Proof.OutprojSSpec
public import Idealize.ShloMosaic.Lib.Pointwise
public import Idealize.ShloMosaic.Lib.Pipeline.ValueKit.Basic
public import Idealize.ShloMosaic.Lib.Pipeline.ValueKit.Tiles

@[expose] public section

noncomputable section

namespace Cert.Proof.OutprojS

open Idealize.ShloMosaic Cert.Proof.Moe Cert.Proof.Inproj Cert.OutprojSIdeal Cert.OutprojSIdeal.Gen

variable (x0 : Vec Ideal S512x1024 .f32) (x1 x2 : Vec Ideal S512x512 .bf16) (x3 : Vec Ideal S1024x1024 .bf16)
  (x4 : Vec Ideal S512x1024 .f32) (x5 : Vec Ideal S1x1024 .f32) (x6 x7 : Vec Ideal S512x1024 .f32)
  (x8 : Vec Ideal S1024x128 .bf16) (x9 : Vec Ideal S1x128 .f32)

/-- The upper and the lower half of the out-projection, as the body loads them. -/
theorem upper_apply (k : Fin 512) (d : Fin 1024) :
    (View.ld x3 r0_1 : Vec Ideal S512x1024 .bf16) (ix2 k d) = x3 (ix2 ⟨k.val, by omega⟩ d) := by
  show x3 _ = x3 _
  refine congrArg x3 (funext fun a => Fin.ext ?_)
  match a with
  | ⟨0, _⟩ => show 0 + 1 * k.val = k.val; omega
  | ⟨1, _⟩ => show 0 + 1 * d.val = d.val; omega

theorem lower_apply (k : Fin 512) (d : Fin 1024) :
    (View.ld x3 r0_2 : Vec Ideal S512x1024 .bf16) (ix2 k d) = x3 (ix2 ⟨512 + k.val, by omega⟩ d) := by
  show x3 _ = x3 _
  refine congrArg x3 (funext fun a => Fin.ext ?_)
  match a with
  | ⟨0, _⟩ => show 512 + 1 * k.val = 512 + k.val; omega
  | ⟨1, _⟩ => show 0 + 1 * d.val = d.val; omega

/-- A block's tokens after the mixers, from the two halves of the projection. -/
def after (u v : Vec Ideal S512x1024 .bf16) : FVec Ideal S512x1024 .f32 := k0_pay2 x1 u x2 v x0 x4

theorem after_apply (u v : Vec Ideal S512x1024 .bf16) (r : Fin 512) (d : Fin 1024) :
    after x0 x1 x2 x4 u v (ix2 r d) = x0 (ix2 r d) + x4 (ix2 r d) *
      ((∑ k : Fin 512, x1 (ix2 r k) * u (ix2 k d)) + ∑ k : Fin 512, x2 (ix2 r k) * v (ix2 k d)) := by
  unfold after k0_pay2
  pointwise [dot_S512x512_S512x1024_S512x1024_1_0_0_1_n_n]

/-- The features the experts take, from a block's tokens after the mixers. -/
theorem features_apply (u v : Vec Ideal S512x1024 .bf16) (r : Fin 512) (d : Fin 1024) :
    k0_pay4 (k0_pay3 x1 u x2 v x0 x4 x5 x7) x6 (ix2 r d) =
      modulated (fun d => after x0 x1 x2 x4 u v (ix2 r d)) (fun d => x5 (ix2 0 d)) (fun d => x6 (ix2 r d))
        (fun d => x7 (ix2 r d)) d := by
  unfold k0_pay4 k0_pay3
  rw [show k0_pay2 x1 u x2 v x0 x4 = after x0 x1 x2 x4 u v from rfl]
  generalize after x0 x1 x2 x4 u v = y
  pointwise
  rfl

/-- A row of the block after the mixers. -/
def token (r : Fin 512) (d : Fin 1024) : EReal :=
  x0 (ix2 r d) + x4 (ix2 r d) * ((∑ k : Fin 512, x1 (ix2 r k) * x3 (ix2 ⟨k.val, by omega⟩ d)) +
    ∑ k : Fin 512, x2 (ix2 r k) * x3 (ix2 ⟨512 + k.val, by omega⟩ d))

theorem after_token (r : Fin 512) (d : Fin 1024) :
    after x0 x1 x2 x4 (View.ld x3 r0_1) (View.ld x3 r0_2) (ix2 r d) = token x0 x1 x2 x3 x4 r d := by
  rw [after_apply]
  unfold token
  refine congrArg (x0 (ix2 r d) + ·) (congrArg (x4 (ix2 r d) * ·) (congrArg₂ (· + ·) ?_ ?_))
  · exact Finset.sum_congr rfl fun k _ => congrArg (x1 (ix2 r k) * ·) (upper_apply x3 k d)
  · exact Finset.sum_congr rfl fun k _ => congrArg (x2 (ix2 r k) * ·) (lower_apply x3 k d)

/-- What one grid point writes of the tokens after the mixers. -/
theorem out10_apply (r : Fin 512) (d : Fin 1024) :
    out0_10 x0 x1 x2 x3 x4 x5 x6 x7 x8 x9 (ix2 r d) = token x0 x1 x2 x3 x4 r d := by
  have e0 : View.ld x1 r0_0 = x1 := View.ld_unit_lit _ x1 (by decide)
  have e1 : View.ld x2 r0_0 = x2 := View.ld_unit_lit _ x2 (by decide)
  have e2 : View.ld x0 r0_3 = x0 := View.ld_unit_lit _ x0 (by decide)
  have e3 : View.ld x4 r0_3 = x4 := View.ld_unit_lit _ x4 (by decide)
  unfold out0_10
  rw [View.canon_cons_unit_lit _ _ _ (by decide), e0, e1, e2, e3]
  exact after_token x0 x1 x2 x3 x4 r d

/-- What one grid point writes of the features the experts take. -/
theorem out11_apply (r : Fin 512) (d : Fin 1024) :
    out0_11 x0 x1 x2 x3 x4 x5 x6 x7 x8 x9 (ix2 r d) =
      modulated (token x0 x1 x2 x3 x4 r) (fun d => x5 (ix2 0 d)) (fun d => x6 (ix2 r d)) (fun d => x7 (ix2 r d)) d := by
  have e0 : View.ld x1 r0_0 = x1 := View.ld_unit_lit _ x1 (by decide)
  have e1 : View.ld x2 r0_0 = x2 := View.ld_unit_lit _ x2 (by decide)
  have e2 : ∀ x : Vec Ideal S512x1024 .f32, View.ld x r0_3 = x := fun x => View.ld_unit_lit _ x (by decide)
  have e5 : View.ld x5 r0_4 = x5 := View.ld_unit_lit _ x5 (by decide)
  unfold out0_11 k0_pay20
  rw [View.canon_cons_unit_lit _ _ _ (by decide), e0, e1, e2, e2, e2, e2, e5, features_apply]
  refine congrArg (fun y => modulated y _ _ _ d) (funext fun d => ?_)
  exact after_token x0 x1 x2 x3 x4 r d

end Cert.Proof.OutprojS
-- ==== Proof.OutprojSHost.lean ====
/- What the host lines before the sample batch's out-projection leave in its arrays. -/
module

public import proofs.«01_k».proof.Proof.OutprojSBlock
public import proofs.«01_k».proof.Proof.OutprojHost

@[expose] public section

noncomputable section

namespace Cert.Proof.OutprojS

open Idealize.ShloMosaic Idealize.ShloMosaic.TcCoe Idealize.SL.Sem Cert.OutprojSIdeal Cert.OutprojSIdeal.Gen
open Cert.Proof.Outproj (rows)

variable (m : (ℓ : Loc nD τ sig) → Buf (Elt Ideal) ℓ) (c : Dev nD)

set_option maxHeartbeats 1000000 in
/-- The host lines leave the rearranged out-projection (rounded: over the extended reals, as it is). -/
theorem V_rows (k d : Fin 1024) :
    V m c main_v26 (ix2 k d) = rows (m ((c : Thread nD τ).loc main_arg3)) (ix2 k d) := by
  dsimp only [V, hostOps0]
  after_results
  rfl

/-- The second norm's gain reaches the kernel as a row. -/
theorem V_gain (d : Fin 1024) :
    V m c main_v31 (ix2 0 d) = m ((c : Thread nD τ).loc main_arg5) (ix1 d) := by
  dsimp only [V, hostOps0]
  after_results
  pointwise

/-- The conditioning reaches the kernel as one row for each token: the residual's factor, the shift and the scale. -/
theorem V_factor (n : Fin 2048) (d : Fin 1024) :
    V m c main_v28 (ix2 n d) = m ((c : Thread nD τ).loc main_arg4) (ix3 n 0 d) := by
  dsimp only [V, hostOps0]
  after_results
  pointwise

theorem V_shift (n : Fin 2048) (d : Fin 1024) :
    V m c main_v29 (ix2 n d) = m ((c : Thread nD τ).loc main_arg6) (ix3 n 0 d) := by
  dsimp only [V, hostOps0]
  after_results
  pointwise

theorem V_scale (n : Fin 2048) (d : Fin 1024) :
    V m c main_v30 (ix2 n d) = m ((c : Thread nD τ).loc main_arg7) (ix3 n 0 d) := by
  dsimp only [V, hostOps0]
  after_results
  pointwise

end Cert.Proof.OutprojS
-- ==== Proof.OutprojSArray.lean ====
/- The arrays the out-projection's call of the sample batch leaves, token by token. -/
module

public import proofs.«01_k».proof.Proof.OutprojSHost

@[expose] public section

noncomputable section

namespace Cert.Proof.OutprojS

open Idealize.ShloMosaic Idealize.ShloMosaic.TcCoe Idealize.SL.Sem Cert.OutprojSIdeal Cert.OutprojSIdeal.Gen
open Cert.Proof.Inproj (modulated)
open Cert.Proof.Outproj (rows rows_upper rows_lower attended mixed)

variable (m : (ℓ : Loc nD τ sig) → Buf (Elt Ideal) ℓ) (c : Dev nD)

/-- Where each window's block lies at each grid point: tokens and their conditioning by the point, the weights whole. -/
theorem index_in : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = 0 ∧ win0_3.index t 1 = 0) ∧
    (win0_4.index t 0 = t.val ∧ win0_4.index t 1 = 0) ∧
    (win0_5.index t 0 = 0 ∧ win0_5.index t 1 = 0) ∧
    (win0_6.index t 0 = t.val ∧ win0_6.index t 1 = 0) ∧
    (win0_7.index t 0 = t.val ∧ win0_7.index t 1 = 0) := by
  decide +kernel

/-- Each result's block lies at the point's tokens, and every point writes it back. -/
theorem index_out : ∀ t : Fin cfg0.N,
    (win0_10.index t 0 = t.val ∧ win0_10.index t 1 = 0 ∧ (cfg0.win 10).flush t = true) ∧
    (win0_11.index t 0 = t.val ∧ win0_11.index t 1 = 0 ∧ (cfg0.win 11).flush t = true) := by
  decide +kernel

/-- Row `r` of block `t` as a row of the whole arrays. -/
def row (t : Fin cfg0.N) (r : Fin 512) : Fin 2048 :=
  ⟨t.val * 512 + r.val, by have h : cfg0.N = 4 := N_0; have := t.isLt; omega⟩

/-- What holds of every row of every block holds of every row. -/
theorem all_rows (P : Fin 2048 → Prop) (h : ∀ (t : Fin cfg0.N) (r : Fin 512), P (row t r)) (n : Fin 2048) : P n := by
  have hN : cfg0.N = 4 := N_0
  have e := h ⟨n.val / 512, by omega⟩ ⟨n.val % 512, by omega⟩
  rwa [show row ⟨n.val / 512, by omega⟩ ⟨n.val % 512, by omega⟩ = n from
    Fin.ext (by show n.val / 512 * 512 + n.val % 512 = n.val; omega)] at e

theorem iblk0_apply (t : Fin cfg0.N) (r : Fin 512) (d : Fin 1024) :
    (iblk m c 0 t : Vec Ideal S512x1024 .f32) (ix2 r d) = m ((c : Thread nD τ).loc main_arg0) (ix2 (row t r) d) := by
  have h := (index_in t).1
  unfold iblk
  rw [View.read_apply]
  rw [← V_main_arg0 m c]
  show V m c main_arg0 _ = V m c main_arg0 _
  refine congrArg _ (funext fun a => Fin.ext ?_)
  match a with
  | ⟨0, _⟩ => show win0_0.index t 0 * 512 + 1 * r.val = t.val * 512 + r.val; rw [h.1]; omega
  | ⟨1, _⟩ => show win0_0.index t 1 * 1024 + 1 * d.val = d.val; rw [h.2]; omega

theorem iblk1_apply (t : Fin cfg0.N) (r : Fin 512) (d : Fin 512) :
    (iblk m c 1 t : Vec Ideal S512x512 .bf16) (ix2 r d) = m ((c : Thread nD τ).loc main_arg1) (ix2 (row t r) d) := by
  have h := (index_in t).2.1
  unfold iblk
  rw [View.read_apply]
  rw [← V_main_arg1 m c]
  show V m c main_arg1 _ = V m c main_arg1 _
  refine congrArg _ (funext fun a => Fin.ext ?_)
  match a with
  | ⟨0, _⟩ => show win0_1.index t 0 * 512 + 1 * r.val = t.val * 512 + r.val; rw [h.1]; omega
  | ⟨1, _⟩ => show win0_1.index t 1 * 512 + 1 * d.val = d.val; rw [h.2]; omega

theorem iblk2_apply (t : Fin cfg0.N) (r : Fin 512) (d : Fin 512) :
    (iblk m c 2 t : Vec Ideal S512x512 .bf16) (ix2 r d) = m ((c : Thread nD τ).loc main_arg2) (ix2 (row t r) d) := by
  have h := (index_in t).2.2.1
  unfold iblk
  rw [View.read_apply]
  rw [← V_main_arg2 m c]
  show V m c main_arg2 _ = V m c main_arg2 _
  refine congrArg _ (funext fun a => Fin.ext ?_)
  match a with
  | ⟨0, _⟩ => show win0_2.index t 0 * 512 + 1 * r.val = t.val * 512 + r.val; rw [h.1]; omega
  | ⟨1, _⟩ => show win0_2.index t 1 * 512 + 1 * d.val = d.val; rw [h.2]; omega

theorem iblk3_apply (t : Fin cfg0.N) (k d : Fin 1024) :
    (iblk m c 3 t : Vec Ideal S1024x1024 .bf16) (ix2 k d) = rows (m ((c : Thread nD τ).loc main_arg3)) (ix2 k d) := by
  have h := (index_in t).2.2.2.1
  unfold iblk
  rw [View.read_apply]
  rw [← V_rows m c]
  show V m c main_v26 _ = V m c main_v26 _
  refine congrArg _ (funext fun a => Fin.ext ?_)
  match a with
  | ⟨0, _⟩ => show win0_3.index t 0 * 1024 + 1 * k.val = k.val; rw [h.1]; omega
  | ⟨1, _⟩ => show win0_3.index t 1 * 1024 + 1 * d.val = d.val; rw [h.2]; omega

theorem iblk4_apply (t : Fin cfg0.N) (r : Fin 512) (d : Fin 1024) :
    (iblk m c 4 t : Vec Ideal S512x1024 .f32) (ix2 r d) = m ((c : Thread nD τ).loc main_arg4) (ix3 (row t r) 0 d) := by
  have h := (index_in t).2.2.2.2.1
  unfold iblk
  rw [View.read_apply]
  rw [← V_factor m c]
  show V m c main_v28 _ = V m c main_v28 _
  refine congrArg _ (funext fun a => Fin.ext ?_)
  match a with
  | ⟨0, _⟩ => show win0_4.index t 0 * 512 + 1 * r.val = t.val * 512 + r.val; rw [h.1]; omega
  | ⟨1, _⟩ => show win0_4.index t 1 * 1024 + 1 * d.val = d.val; rw [h.2]; omega

theorem iblk5_apply (t : Fin cfg0.N) (d : Fin 1024) :
    (iblk m c 5 t : Vec Ideal S1x1024 .f32) (ix2 0 d) = m ((c : Thread nD τ).loc main_arg5) (ix1 d) := by
  have h := (index_in t).2.2.2.2.2.1
  unfold iblk
  rw [View.read_apply]
  rw [← V_gain m c]
  show V m c main_v31 _ = V m c main_v31 _
  refine congrArg _ (funext fun a => Fin.ext ?_)
  match a with
  | ⟨0, _⟩ => show win0_5.index t 0 * 1 + 1 * 0 = 0; rw [h.1]
  | ⟨1, _⟩ => show win0_5.index t 1 * 1024 + 1 * d.val = d.val; rw [h.2]; omega

theorem iblk6_apply (t : Fin cfg0.N) (r : Fin 512) (d : Fin 1024) :
    (iblk m c 6 t : Vec Ideal S512x1024 .f32) (ix2 r d) = m ((c : Thread nD τ).loc main_arg6) (ix3 (row t r) 0 d) := by
  have h := (index_in t).2.2.2.2.2.2.1
  unfold iblk
  rw [View.read_apply]
  rw [← V_shift m c]
  show V m c main_v29 _ = V m c main_v29 _
  refine congrArg _ (funext fun a => Fin.ext ?_)
  match a with
  | ⟨0, _⟩ => show win0_6.index t 0 * 512 + 1 * r.val = t.val * 512 + r.val; rw [h.1]; omega
  | ⟨1, _⟩ => show win0_6.index t 1 * 1024 + 1 * d.val = d.val; rw [h.2]; omega

theorem iblk7_apply (t : Fin cfg0.N) (r : Fin 512) (d : Fin 1024) :
    (iblk m c 7 t : Vec Ideal S512x1024 .f32) (ix2 r d) = m ((c : Thread nD τ).loc main_arg7) (ix3 (row t r) 0 d) := by
  have h := (index_in t).2.2.2.2.2.2.2
  unfold iblk
  rw [View.read_apply]
  rw [← V_scale m c]
  show V m c main_v30 _ = V m c main_v30 _
  refine congrArg _ (funext fun a => Fin.ext ?_)
  match a with
  | ⟨0, _⟩ => show win0_7.index t 0 * 512 + 1 * r.val = t.val * 512 + r.val; rw [h.1]; omega
  | ⟨1, _⟩ => show win0_7.index t 1 * 1024 + 1 * d.val = d.val; rw [h.2]; omega

/-- A row of a block after the mixers is that token of the whole arrays. -/
theorem token_block (t : Fin cfg0.N) (r : Fin 512) (d : Fin 1024) :
    token (iblk m c 0 t : Vec Ideal S512x1024 .f32) (iblk m c 1 t : Vec Ideal S512x512 .bf16)
      (iblk m c 2 t : Vec Ideal S512x512 .bf16) (iblk m c 3 t : Vec Ideal S1024x1024 .bf16)
      (iblk m c 4 t : Vec Ideal S512x1024 .f32) r d =
      residual (m ((c : Thread nD τ).loc main_arg0)) (m ((c : Thread nD τ).loc main_arg1)) (m ((c : Thread nD τ).loc main_arg2)) (m ((c : Thread nD τ).loc main_arg3)) (m ((c : Thread nD τ).loc main_arg4)) (row t r) d := by
  unfold token residual attended mixed
  refine congrArg₂ (· + ·) (iblk0_apply m c t r d) (congrArg₂ (· * ·) (iblk4_apply m c t r d) (congrArg₂ (· + ·) ?_ ?_))
  · refine Finset.sum_congr rfl fun k _ => congrArg₂ (· * ·) (iblk1_apply m c t r k) ?_
    exact (iblk3_apply m c t _ d).trans (rows_upper _ d k)
  · refine Finset.sum_congr rfl fun k _ => congrArg₂ (· * ·) (iblk2_apply m c t r k) ?_
    exact (iblk3_apply m c t _ d).trans (rows_lower _ d k)

/-- Result 1: the tokens after the mixers. -/
theorem array10_apply (n : Fin 2048) (d : Fin 1024) :
    ((dats m 0 c).arrAt 10 cfg0.N : Vec Ideal S2048x1024 .f32) (ix2 n d) =
      residual (m ((c : Thread nD τ).loc main_arg0)) (m ((c : Thread nD τ).loc main_arg1)) (m ((c : Thread nD τ).loc main_arg2)) (m ((c : Thread nD τ).loc main_arg3)) (m ((c : Thread nD τ).loc main_arg4)) n d := by
  refine all_rows (fun n => ((dats m 0 c).arrAt 10 cfg0.N : Vec Ideal S2048x1024 .f32) (ix2 n d) =
      residual (m ((c : Thread nD τ).loc main_arg0)) (m ((c : Thread nD τ).loc main_arg1)) (m ((c : Thread nD τ).loc main_arg2)) (m ((c : Thread nD τ).loc main_arg3)) (m ((c : Thread nD τ).loc main_arg4)) n d) (fun t r => ?_) n
  have h := (index_out t).1
  have hb := congrFun (Value.blocks10 m c t h.2.2) (ix2 r d : S512x1024.Idx)
  rw [Value.flushed10, View.read_apply] at hb
  refine (congrArg ((dats m 0 c).arrAt 10 cfg0.N : Vec Ideal S2048x1024 .f32) (funext fun a => Fin.ext ?_)).trans
    (hb.trans ?_)
  · match a with
    | ⟨0, _⟩ => show t.val * 512 + r.val = win0_10.index t 0 * 512 + 1 * r.val; rw [h.1]; omega
    | ⟨1, _⟩ => show d.val = win0_10.index t 1 * 1024 + 1 * d.val; rw [h.2.1]; omega
  · exact (out10_apply _ _ _ _ _ _ _ _ _ _ r d).trans (token_block m c t r d)

/-- Result 2: what the experts take. -/
theorem array11_apply (n : Fin 2048) (d : Fin 1024) :
    ((dats m 0 c).arrAt 11 cfg0.N : Vec Ideal S2048x1024 .bf16) (ix2 n d) =
      experts (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) n d := by
  refine all_rows (fun n => ((dats m 0 c).arrAt 11 cfg0.N : Vec Ideal S2048x1024 .bf16) (ix2 n d) =
      experts (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) n d) (fun t r => ?_) n
  have h := (index_out t).2
  have hb := congrFun (Value.blocks11 m c t h.2.2) (ix2 r d : S512x1024.Idx)
  rw [Value.flushed11, View.read_apply] at hb
  refine (congrArg ((dats m 0 c).arrAt 11 cfg0.N : Vec Ideal S2048x1024 .bf16) (funext fun a => Fin.ext ?_)).trans
    (hb.trans ?_)
  · match a with
    | ⟨0, _⟩ => show t.val * 512 + r.val = win0_11.index t 0 * 512 + 1 * r.val; rw [h.1]; omega
    | ⟨1, _⟩ => show d.val = win0_11.index t 1 * 1024 + 1 * d.val; rw [h.2.1]; omega
  · refine (out11_apply _ _ _ _ _ _ _ _ _ _ r d).trans ?_
    unfold experts
    congr 1 <;> funext d
    · exact token_block m c t r d
    · exact iblk5_apply m c t d
    · exact iblk6_apply m c t r d
    · exact iblk7_apply m c t r d

end Cert.Proof.OutprojS
-- ==== Proof.OutprojSRefValue.lean ====
/- What the reference of the sample batch's out-projection computes, token by token. -/
module

public import proofs.«01_k».proof.Proof.OutprojSSpec
public import proofs.«01_k».proof.Proof.Gen.OutprojSRefIdeal.Read
public import Idealize.ShloMosaic.Lib.Pointwise

@[expose] public section

noncomputable section

namespace Cert.Proof.OutprojS.Ref

open Idealize.ShloMosaic Cert.OutprojSRefIdeal Cert.OutprojSRefIdeal.Gen Cert.OutprojSRefIdeal.Read
open Cert.Proof.Inproj (modulated)
open Cert.Proof.Outproj (attended written joined_sum)

variable (x0 : FVec Ideal S2048x1024 .f32) (x1 x2 : FVec Ideal S2048x512 .bf16) (x3 : FVec Ideal S1024x1024 .f32)
  (x4 : FVec Ideal S2048x1x1024 .f32) (x5 : FVec Ideal S1024 .f32) (x6 x7 : FVec Ideal S2048x1x1024 .f32)

/-- Giving each token a batch row of its own re-reads the flat array. -/
theorem tokens_apply (b : Fin 2048) (d : Fin 1024) :
    val_main_v6 (F := Ideal) x0 (ix3 b 0 d) = x0 (ix2 b d) := by
  rw [val_main_v6_apply]
  refine congrArg x0 (funext fun a => Fin.ext ?_)
  match a with
  | ⟨0, _⟩ => show ((b.val * 1 + 0) * 1024 + d.val) / 1024 = b.val; omega
  | ⟨1, _⟩ => show ((b.val * 1 + 0) * 1024 + d.val) % 1024 = d.val; omega

theorem linear_apply (b : Fin 2048) (k : Fin 512) :
    val_main_v3 (F := Ideal) x1 (ix3 b 0 k) = x1 (ix2 b k) := by
  rw [val_main_v3_apply]
  refine congrArg x1 (funext fun a => Fin.ext ?_)
  match a with
  | ⟨0, _⟩ => show ((b.val * 1 + 0) * 512 + k.val) / 512 = b.val; omega
  | ⟨1, _⟩ => show ((b.val * 1 + 0) * 512 + k.val) % 512 = k.val; omega

/-- The attention's output with its heads in order: a lane is head place, group and feature, and the earlier call writes
    the group before the place. -/
theorem lane_split (b : Fin 2048) (k : Fin 512) :
    idx_main_v2 (ix3 b 0 k) = ix5 b 0 ⟨k.val / 256, by omega⟩ ⟨k.val / 64 % 4, by omega⟩ ⟨k.val % 64, by omega⟩ := by
  funext a
  apply Fin.ext
  match a with
  | ⟨0, _⟩ => show ((b.val * 1 + 0) * 512 + k.val) / 512 = b.val; omega
  | ⟨1, _⟩ => rfl
  | ⟨2, _⟩ => show ((b.val * 1 + 0) * 512 + k.val) / 256 % 2 = k.val / 256; omega
  | ⟨3, _⟩ => show ((b.val * 1 + 0) * 512 + k.val) / 64 % 4 = k.val / 64 % 4; omega
  | ⟨4, _⟩ => show ((b.val * 1 + 0) * 512 + k.val) % 64 = k.val % 64; omega

theorem place_apply (b : Fin 2048) (n : Fin 2) (g : Fin 4) (r : Fin 64) :
    val_main_v1 (F := Ideal) x2 (ix5 b 0 n g r) = x2 (ix2 b ⟨g.val * 128 + n.val * 64 + r.val, by omega⟩) := by
  rw [val_main_v1_apply, val_main_v0_apply]
  refine congrArg x2 (funext fun a => Fin.ext ?_)
  match a with
  | ⟨0, _⟩ =>
    show ((((b.val * 1 + 0) * 4 + g.val) * 2 + n.val) * 64 + r.val) / 512 = b.val
    omega
  | ⟨1, _⟩ =>
    show ((((b.val * 1 + 0) * 4 + g.val) * 2 + n.val) * 64 + r.val) % 512 = g.val * 128 + n.val * 64 + r.val
    omega

theorem heads_apply (b : Fin 2048) (k : Fin 512) :
    val_main_v2 (F := Ideal) x2 (ix3 b 0 k) = x2 (ix2 b (written k)) := by
  rw [val_main_v2_apply, lane_split, place_apply]
  rfl

/-- The two outputs end to end. -/
theorem joined_left (b : Fin 2048) (k : Fin 512) :
    val_main_v5 (F := Ideal) x1 x2 (ix3 b 0 ⟨k.val, by omega⟩) = x1 (ix2 b k) := by
  rw [← linear_apply x1 b k]
  unfold val_main_v5 val_main_v4
  generalize val_main_v3 (F := Ideal) x1 = y
  generalize val_main_v2 (F := Ideal) x2 = z
  pointwise

theorem joined_right (b : Fin 2048) (k : Fin 512) :
    val_main_v5 (F := Ideal) x1 x2 (ix3 b 0 ⟨512 + k.val, by omega⟩) = x2 (ix2 b (written k)) := by
  rw [← heads_apply x2 b k]
  unfold val_main_v5 val_main_v4
  generalize val_main_v3 (F := Ideal) x1 = y
  generalize val_main_v2 (F := Ideal) x2 = z
  pointwise

/-- The tokens after the mixers. -/
theorem residual_apply (b : Fin 2048) (d : Fin 1024) :
    val_main_v9 (F := Ideal) x0 x1 x2 x3 x4 (ix3 b 0 d) =
      attended (fun d => x0 (ix2 b d)) (fun d => x4 (ix3 b 0 d)) (fun k => x1 (ix2 b k))
        (fun k => x2 (ix2 b k)) (fun k d => x3 (ix2 k d)) d := by
  unfold attended
  rw [← joined_sum (fun k => x1 (ix2 b k)) (fun k => x2 (ix2 b k)) (fun k => x3 (ix2 k d))
    (fun k => val_main_v5 (F := Ideal) x1 x2 (ix3 b 0 k)) (fun k => joined_left x1 x2 b k)
    (fun k => joined_right x1 x2 b k)]
  dsimp only
  rw [← tokens_apply x0 b d]
  unfold val_main_v9 val_main_v8 val_main_v7
  generalize val_main_v6 (F := Ideal) x0 = y
  generalize val_main_v5 (F := Ideal) x1 x2 = z
  pointwise [dot_S2048x1x1024_S1024x1024_S2048x1x1024_2_0_01_1_n_n]

/-- Their norm and the conditioning. -/
theorem modulated_apply (b : Fin 2048) (d : Fin 1024) :
    val_main_v26 (F := Ideal) x0 x1 x2 x3 x4 x5 x6 x7 (ix3 b 0 d) =
      modulated (fun d => val_main_v9 (F := Ideal) x0 x1 x2 x3 x4 (ix3 b 0 d)) (fun d => x5 (ix1 d))
        (fun d => x6 (ix3 b 0 d)) (fun d => x7 (ix3 b 0 d)) d := by
  unfold val_main_v26 val_main_v25 val_main_v24 val_main_v23 val_main_v22
    val_main_v21 val_main_v20 val_main_v19 val_main_v18 val_main_v17 val_main_v16 val_main_v15 val_main_v14 val_main_v13
    val_main_v12 val_main_v11 val_main_v10 val_main_cst val_main_cst_0 val_main_cst_1 val_main_cst_2
  generalize val_main_v9 (F := Ideal) x0 x1 x2 x3 x4 = y
  pointwise
  rfl

/-- Joining the token axis again: a batch row holds one token. -/
theorem join_tokens (n : Fin 2048) (d : Fin 1024) : idx_main_v27 (ix2 n d) = ix3 n 0 d := by
  funext a
  apply Fin.ext
  match a with
  | ⟨0, _⟩ => show (n.val * 1024 + d.val) / 1024 = n.val; omega
  | ⟨1, _⟩ => rfl
  | ⟨2, _⟩ => show (n.val * 1024 + d.val) % 1024 = d.val; omega

theorem join_features (n : Fin 2048) (d : Fin 1024) : idx_main_v29 (ix2 n d) = ix3 n 0 d := by
  funext a
  apply Fin.ext
  match a with
  | ⟨0, _⟩ => show (n.val * 1024 + d.val) / 1024 = n.val; omega
  | ⟨1, _⟩ => rfl
  | ⟨2, _⟩ => show (n.val * 1024 + d.val) % 1024 = d.val; omega

/-- Result 1: the tokens after the mixers. -/
theorem res0_apply (n : Fin 2048) (d : Fin 1024) :
    val_main_v27 (F := Ideal) x0 x1 x2 x3 x4 (ix2 n d) = residual x0 x1 x2 x3 x4 n d := by
  rw [val_main_v27_apply, join_tokens, residual_apply]
  rfl

/-- Result 2: what the experts take. -/
theorem res1_apply (n : Fin 2048) (d : Fin 1024) :
    val_main_v29 (F := Ideal) x0 x1 x2 x3 x4 x5 x6 x7 (ix2 n d) = experts x0 x1 x2 x3 x4 x5 x6 x7 n d := by
  rw [val_main_v29_apply, join_features]
  refine (modulated_apply x0 x1 x2 x3 x4 x5 x6 x7 n d).trans ?_
  unfold experts
  refine congrArg (fun y => modulated y _ _ _ d) (funext fun d => ?_)
  rw [residual_apply]
  rfl

end Cert.Proof.OutprojS.Ref
-- ==== Proof.OutprojSClaim.lean ====
/- The out-projection's kernel and its reference end with equal tokens and equal features for the experts. -/
module

public import proofs.«01_k».proof.Defs
public import proofs.«01_k».proof.Proof.OutprojSArray
public import proofs.«01_k».proof.Proof.OutprojSRefValue
public import proofs.«01_k».proof.Proof.Gen.OutprojSRefIdeal.Run

@[expose] public section

noncomputable section

namespace Cert.Proof.OutprojS

open Idealize.ShloMosaic Idealize.SL.Sem

instance : Cert.OutprojSIdeal.Facts := Cert.OutprojSIdeal.Gen.facts
instance : Cert.OutprojSRefIdeal.Facts := Cert.OutprojSRefIdeal.Gen.facts

variable (m : (ℓ : Loc Cert.OutprojSIdeal.nD Cert.OutprojSIdeal.τ Cert.OutprojSIdeal.sig) → Buf (Elt Ideal) ℓ)
  (c : Dev Cert.OutprojSIdeal.nD)

/-! From equal arguments the kernel's result arrays and the reference's are equal. -/

theorem agree0 :
    ((Cert.OutprojSIdeal.Gen.dats m 0 c).arrAt 10 Cert.OutprojSIdeal.cfg0.N : FVec Ideal ⟨2, ![2048, 1024]⟩ .f32) =
      Cert.OutprojSRefIdeal.Read.val_main_v27 (F := Ideal)
        (m ((c.tc : Thread _ _).loc Cert.OutprojSIdeal.main_arg0))
        (m ((c.tc : Thread _ _).loc Cert.OutprojSIdeal.main_arg1))
        (m ((c.tc : Thread _ _).loc Cert.OutprojSIdeal.main_arg2))
        (m ((c.tc : Thread _ _).loc Cert.OutprojSIdeal.main_arg3))
        (m ((c.tc : Thread _ _).loc Cert.OutprojSIdeal.main_arg4)) := by
  funext i
  obtain ⟨n, d, rfl⟩ : ∃ (n : Fin 2048) (d : Fin 1024), i = ix2 n d := ⟨i 0, i 1, eq_ix2 i⟩
  rw [array10_apply, Ref.res0_apply]

theorem agree1 :
    ((Cert.OutprojSIdeal.Gen.dats m 0 c).arrAt 11 Cert.OutprojSIdeal.cfg0.N : FVec Ideal ⟨2, ![2048, 1024]⟩ .bf16) =
      Cert.OutprojSRefIdeal.Read.val_main_v29 (F := Ideal)
        (m ((c.tc : Thread _ _).loc Cert.OutprojSIdeal.main_arg0))
        (m ((c.tc : Thread _ _).loc Cert.OutprojSIdeal.main_arg1))
        (m ((c.tc : Thread _ _).loc Cert.OutprojSIdeal.main_arg2))
        (m ((c.tc : Thread _ _).loc Cert.OutprojSIdeal.main_arg3))
        (m ((c.tc : Thread _ _).loc Cert.OutprojSIdeal.main_arg4))
        (m ((c.tc : Thread _ _).loc Cert.OutprojSIdeal.main_arg5))
        (m ((c.tc : Thread _ _).loc Cert.OutprojSIdeal.main_arg6))
        (m ((c.tc : Thread _ _).loc Cert.OutprojSIdeal.main_arg7)) := by
  funext i
  obtain ⟨n, d, rfl⟩ : ∃ (n : Fin 2048) (d : Fin 1024), i = ix2 n d := ⟨i 0, i 1, eq_ix2 i⟩
  rw [array11_apply, Ref.res1_apply]

/-- Over the extended reals the sample batch's out-projection computes its reference: from equal arguments both run, end with
    equal tokens and equal features for the experts, and leave their arguments unchanged. -/
theorem algebraic : Cert.algebraic_OutprojSIdeal_OutprojSRefIdeal := by
  intro m g m' g' _ h
  refine ⟨fun c => (Cert.OutprojSIdeal.Gen.dats m 0 c).arrAt 10 Cert.OutprojSIdeal.cfg0.N,
    fun c => (Cert.OutprojSIdeal.Gen.dats m 0 c).arrAt 11 Cert.OutprojSIdeal.cfg0.N,
    (θ_run (Cert.OutprojSIdeal.defs (F := Ideal)) _ _).mono (fun r hr c => ⟨(hr c).1, (hr c).2.1, (hr c).2.2.2⟩)
      (Cert.OutprojSIdeal.Value.run_blocks m g), ?_⟩
  refine (θ_run (Cert.OutprojSRefIdeal.defs (F := Ideal)) _ _).mono (fun r hr c => ?_) (Cert.OutprojSRefIdeal.Value.run m' g')
  obtain ⟨h0, h1, h2, h3, h4, h5, h6, h7, h8, h9, h10, h11⟩ := h c
  obtain ⟨r0, r1, rest⟩ := hr c
  refine ⟨r0.trans ?_, r1.trans ?_, rest⟩
  · rw [Cert.OutprojSRefIdeal.Read.val_main_v27_eq, h0, h1, h2, h3, h4]
    exact (agree0 m c).symm
  · rw [Cert.OutprojSRefIdeal.Read.val_main_v29_eq, h0, h1, h2, h3, h4, h5, h6, h7]
    exact (agree1 m c).symm

end Cert.Proof.OutprojS
-- ==== Proof.InprojSSpec.lean ====
module

public import proofs.«01_k».proof.Proof.InprojSpec

@[expose] public section

noncomputable section

namespace Cert.Proof.InprojS

open Idealize.ShloMosaic
open Cert.Proof.Inproj (column logDecay)

section Arrays

variable (x : (⟨2, ![2048, 1024]⟩ : Shape).Idx → EReal) (gain : (⟨1, ![1024]⟩ : Shape).Idx → EReal)
  (shift scale : (⟨3, ![2048, 1, 1024]⟩ : Shape).Idx → EReal) (w : (⟨2, ![1024, 2644]⟩ : Shape).Idx → EReal)
  (u : (⟨2, ![16, 256]⟩ : Shape).Idx → EReal) (bias : (⟨1, ![256]⟩ : Shape).Idx → EReal)

/-- Projected feature `k` of token `n`, from the whole arrays; each token has a modulation of its own. -/
def feature (n : Fin 2048) (k : Fin 2644) : EReal :=
  column (fun d => x (ix2 n d)) (fun d => gain (ix1 d)) (fun d => shift (ix3 n 0 d))
    (fun d => scale (ix3 n 0 d)) (fun d => w (ix2 d k))

/-- The attention's scaled queries, the two heads of a group side by side: lane `128 g + 64 s + k` holds feature `k` of head
    `4 s + g`. -/
def query (n : Fin 2048) (j : Fin 512) : EReal :=
  feature x gain shift scale w n ⟨1552 + (j.val / 64 % 2 * 256 + j.val / 128 * 64 + j.val % 64), by omega⟩ *
    Ideal.ofBits .f32 0x3E000000#32

/-- The linear attention's log decay. -/
def decay (n : Fin 2048) (j : Fin 256) : EReal :=
  logDecay ((∑ a : Fin 16, feature x gain shift scale w n ⟨1024 + a.val, by omega⟩ * u (ix2 a j)) + bias (ix1 j))

/-- The indexer's key, written twice. -/
def keyTwice (n : Fin 2048) (j : Fin 128) : EReal :=
  feature x gain shift scale w n ⟨2576 + j.val % 64, by omega⟩

/-- The packed lanes: the indexer's key and head weights, the low-rank decay, zeros. -/
def packed (n : Fin 2048) (j : Fin 128) : EReal :=
  if h : j.val < 68 then feature x gain shift scale w n ⟨2576 + j.val, by omega⟩
  else if h' : j.val < 84 then feature x gain shift scale w n ⟨1024 + (j.val - 68), by omega⟩ else 0

end Arrays

end Cert.Proof.InprojS
-- ==== Proof.InprojSBlock.lean ====
module

public import proofs.«01_k».proof.Proof.Gen.InprojSIdeal.Value
public import proofs.«01_k».proof.Proof.InprojSSpec
public import Idealize.ShloMosaic.Lib.Pointwise
public import Idealize.ShloMosaic.Lib.Pipeline.ValueKit.Basic
public import Idealize.ShloMosaic.Lib.Pipeline.ValueKit.Tiles

@[expose] public section

noncomputable section

namespace Cert.Proof.InprojS

open Idealize.ShloMosaic Cert.InprojSIdeal Cert.InprojSIdeal.Gen
open Cert.Proof.Inproj (modulated column logDecay)

variable (x0 : Vec Ideal S512x1024 .f32) (x1 : Vec Ideal S1x1024 .f32) (x2 x3 : Vec Ideal S512x1024 .f32)
  (x4 : Vec Ideal S1024x2816 .bf16) (x5 : Vec Ideal S128x256 .bf16) (x6 : Vec Ideal S1x256 .f32)

/-- The modulated features of a block of tokens. -/
def hidden : FVec Ideal S512x1024 .bf16 := k0_pay2 x0 x1 x3 x2

theorem hidden_apply (r : Fin 512) (d : Fin 1024) :
    hidden x0 x1 x2 x3 (ix2 r d) = modulated (fun d => x0 (ix2 r d)) (fun d => x1 (ix2 0 d)) (fun d => x2 (ix2 r d))
      (fun d => x3 (ix2 r d)) d := by
  unfold hidden k0_pay2
  pointwise
  rfl

/-- The block's loads of its first four windows are the whole blocks, so the projected rows are `hidden`. -/
theorem hidden_eq : k0_pay20 x0 x1 x2 x3 x4 x5 x6 = hidden x0 x1 x2 x3 := by
  have e0 : ∀ x : Vec Ideal S512x1024 .f32, View.ld x r0_0 = x := fun x => View.ld_unit_lit _ x (by decide)
  have e1 : View.ld x1 r0_1 = x1 := View.ld_unit_lit _ x1 (by decide)
  show k0_pay2 (View.ld x0 r0_0) (View.ld x1 r0_1) (View.ld x3 r0_0) (View.ld x2 r0_0) = _
  rw [e0, e1, e0, e0]
  rfl

/-- Row `r` of the block times column `k` of the projection. -/
def cell (r : Fin 512) (k : Fin 2816) : EReal :=
  column (fun d => x0 (ix2 r d)) (fun d => x1 (ix2 0 d)) (fun d => x2 (ix2 r d)) (fun d => x3 (ix2 r d))
    (fun d => x4 (ix2 d k))

theorem cell_sum (r : Fin 512) (k : Fin 2816) :
    ∑ d : Fin 1024, hidden x0 x1 x2 x3 (ix2 r d) * x4 (ix2 d k) = cell x0 x1 x2 x3 x4 r k :=
  Finset.sum_congr rfl fun d _ => congrArg (· * x4 (ix2 d k)) (hidden_apply x0 x1 x2 x3 r d)

/-- What one grid point writes of the linear attention's queries, scaled. -/
theorem out7_apply (r : Fin 512) (j : Fin 256) :
    out0_7 x0 x1 x2 x3 x4 x5 x6 (ix2 r j) = cell x0 x1 x2 x3 x4 r ⟨j.val, by omega⟩ * Ideal.ofBits .f32 0x3E000000#32 := by
  unfold out0_7
  rw [View.canon_cons_unit_lit _ _ _ (by decide)]
  show k0_pay3 (View.ld x0 r0_0) (View.ld x1 r0_1) (View.ld x3 r0_0) (View.ld x2 r0_0) _ _ = _
  unfold k0_pay3
  rw [show k0_pay2 (View.ld x0 r0_0) (View.ld x1 r0_1) (View.ld x3 r0_0) (View.ld x2 r0_0) = hidden x0 x1 x2 x3 from
    hidden_eq x0 x1 x2 x3 x4 x5 x6]
  generalize hy : hidden x0 x1 x2 x3 = y
  pointwise [dot_S512x1024_S1024x256_S512x256_1_0_0_1_n_n]
  subst hy
  exact congrArg (· * Ideal.ofBits .f32 0x3E000000#32) (cell_sum x0 x1 x2 x3 x4 r _)

/-- What one grid point writes of the linear attention's keys. -/
theorem out8_apply (r : Fin 512) (j : Fin 256) :
    out0_8 x0 x1 x2 x3 x4 x5 x6 (ix2 r j) = cell x0 x1 x2 x3 x4 r ⟨256 + j.val, by omega⟩ := by
  unfold out0_8
  rw [View.canon_cons_unit_lit _ _ _ (by decide)]
  show k0_pay4 (View.ld x0 r0_0) (View.ld x1 r0_1) (View.ld x3 r0_0) (View.ld x2 r0_0) _ _ = _
  unfold k0_pay4
  rw [show k0_pay2 (View.ld x0 r0_0) (View.ld x1 r0_1) (View.ld x3 r0_0) (View.ld x2 r0_0) = hidden x0 x1 x2 x3 from
    hidden_eq x0 x1 x2 x3 x4 x5 x6]
  generalize hy : hidden x0 x1 x2 x3 = y
  pointwise [dot_S512x1024_S1024x256_S512x256_1_0_0_1_n_n]
  subst hy
  exact (cell_sum x0 x1 x2 x3 x4 r _)

/-- What one grid point writes of the linear attention's values. -/
theorem out10_apply (r : Fin 512) (j : Fin 512) :
    out0_10 x0 x1 x2 x3 x4 x5 x6 (ix2 r j) = cell x0 x1 x2 x3 x4 r ⟨512 + j.val, by omega⟩ := by
  unfold out0_10
  rw [View.canon_cons_unit_lit _ _ _ (by decide)]
  rw [hidden_eq]
  unfold k0_pay5
  generalize hy : hidden x0 x1 x2 x3 = y
  pointwise [dot_S512x1024_S1024x512_S512x512_1_0_0_1_n_n]
  subst hy
  exact (cell_sum x0 x1 x2 x3 x4 r _)

/-- What one grid point writes of the linear attention's output gate. -/
theorem out11_apply (r : Fin 512) (j : Fin 512) :
    out0_11 x0 x1 x2 x3 x4 x5 x6 (ix2 r j) = cell x0 x1 x2 x3 x4 r ⟨1024 + j.val, by omega⟩ := by
  unfold out0_11
  rw [View.canon_cons_unit_lit _ _ _ (by decide)]
  rw [hidden_eq]
  unfold k0_pay6
  generalize hy : hidden x0 x1 x2 x3 = y
  pointwise [dot_S512x1024_S1024x512_S512x512_1_0_0_1_n_n]
  subst hy
  exact (cell_sum x0 x1 x2 x3 x4 r _)

/-- What one grid point writes of the sparse attention's queries, scaled. -/
theorem out12_apply (r : Fin 512) (j : Fin 512) :
    out0_12 x0 x1 x2 x3 x4 x5 x6 (ix2 r j) = cell x0 x1 x2 x3 x4 r ⟨1536 + j.val, by omega⟩ * Ideal.ofBits .f32 0x3E000000#32 := by
  unfold out0_12
  rw [View.canon_cons_unit_lit _ _ _ (by decide)]
  rw [hidden_eq]
  unfold k0_pay7
  generalize hy : hidden x0 x1 x2 x3 = y
  pointwise [dot_S512x1024_S1024x512_S512x512_1_0_0_1_n_n]
  subst hy
  exact congrArg (· * Ideal.ofBits .f32 0x3E000000#32) (cell_sum x0 x1 x2 x3 x4 r _)

/-- What one grid point writes of the sparse attention's keys. -/
theorem out13_apply (r : Fin 512) (j : Fin 128) :
    out0_13 x0 x1 x2 x3 x4 x5 x6 (ix2 r j) = cell x0 x1 x2 x3 x4 r ⟨2048 + j.val, by omega⟩ := by
  unfold out0_13
  rw [View.canon_cons_unit_lit _ _ _ (by decide)]
  rw [hidden_eq]
  unfold k0_pay8
  generalize hy : hidden x0 x1 x2 x3 = y
  pointwise [dot_S512x1024_S1024x128_S512x128_1_0_0_1_n_n]
  subst hy
  exact (cell_sum x0 x1 x2 x3 x4 r _)

/-- What one grid point writes of the sparse attention's values. -/
theorem out14_apply (r : Fin 512) (j : Fin 128) :
    out0_14 x0 x1 x2 x3 x4 x5 x6 (ix2 r j) = cell x0 x1 x2 x3 x4 r ⟨2176 + j.val, by omega⟩ := by
  unfold out0_14
  rw [View.canon_cons_unit_lit _ _ _ (by decide)]
  rw [hidden_eq]
  unfold k0_pay9
  generalize hy : hidden x0 x1 x2 x3 = y
  pointwise [dot_S512x1024_S1024x128_S512x128_1_0_0_1_n_n]
  subst hy
  exact (cell_sum x0 x1 x2 x3 x4 r _)

/-- What one grid point writes of the keys, rounded. -/
theorem out15_apply (r : Fin 512) (j : Fin 128) :
    out0_15 x0 x1 x2 x3 x4 x5 x6 (ix2 r j) = cell x0 x1 x2 x3 x4 r ⟨2048 + j.val, by omega⟩ := by
  unfold out0_15
  rw [View.canon_cons_unit_lit _ _ _ (by decide)]
  rw [hidden_eq]
  unfold k0_pay10 k0_pay8
  generalize hy : hidden x0 x1 x2 x3 = y
  pointwise [dot_S512x1024_S1024x128_S512x128_1_0_0_1_n_n]
  subst hy
  exact (cell_sum x0 x1 x2 x3 x4 r _)

/-- What one grid point writes of the values, rounded. -/
theorem out16_apply (r : Fin 512) (j : Fin 128) :
    out0_16 x0 x1 x2 x3 x4 x5 x6 (ix2 r j) = cell x0 x1 x2 x3 x4 r ⟨2176 + j.val, by omega⟩ := by
  unfold out0_16
  rw [View.canon_cons_unit_lit _ _ _ (by decide)]
  rw [hidden_eq]
  unfold k0_pay11 k0_pay9
  generalize hy : hidden x0 x1 x2 x3 = y
  pointwise [dot_S512x1024_S1024x128_S512x128_1_0_0_1_n_n]
  subst hy
  exact (cell_sum x0 x1 x2 x3 x4 r _)

/-- What one grid point writes of the indexer's queries. -/
theorem out17_apply (r : Fin 512) (j : Fin 256) :
    out0_17 x0 x1 x2 x3 x4 x5 x6 (ix2 r j) = cell x0 x1 x2 x3 x4 r ⟨2304 + j.val, by omega⟩ := by
  unfold out0_17
  rw [View.canon_cons_unit_lit _ _ _ (by decide)]
  rw [hidden_eq]
  unfold k0_pay12
  generalize hy : hidden x0 x1 x2 x3 = y
  pointwise [dot_S512x1024_S1024x256_S512x256_1_0_0_1_n_n]
  subst hy
  exact (cell_sum x0 x1 x2 x3 x4 r _)

/-- What one grid point writes of the indexer's key. -/
theorem out18_apply (r : Fin 512) (j : Fin 64) :
    out0_18 x0 x1 x2 x3 x4 x5 x6 (ix2 r j) = cell x0 x1 x2 x3 x4 r ⟨2560 + j.val, by omega⟩ := by
  unfold out0_18
  rw [View.canon_cons_unit_lit _ _ _ (by decide)]
  rw [hidden_eq]
  unfold k0_pay14 k0_pay13
  generalize hy : hidden x0 x1 x2 x3 = y
  pointwise [dot_S512x1024_S1024x128_S512x128_1_0_0_1_n_n]
  subst hy
  exact (cell_sum x0 x1 x2 x3 x4 r _)

/-- What one grid point writes of the indexer's key, twice. -/
theorem out19_apply (r : Fin 512) (j : Fin 128) :
    out0_19 x0 x1 x2 x3 x4 x5 x6 (ix2 r j) = cell x0 x1 x2 x3 x4 r ⟨2688 + j.val, by omega⟩ := by
  unfold out0_19
  rw [View.canon_cons_unit_lit _ _ _ (by decide)]
  rw [hidden_eq]
  unfold k0_pay15
  generalize hy : hidden x0 x1 x2 x3 = y
  pointwise [dot_S512x1024_S1024x128_S512x128_1_0_0_1_n_n]
  subst hy
  exact (cell_sum x0 x1 x2 x3 x4 r _)

/-- What one grid point writes of the mixed columns. -/
theorem out20_apply (r : Fin 512) (j : Fin 128) :
    out0_20 x0 x1 x2 x3 x4 x5 x6 (ix2 r j) = cell x0 x1 x2 x3 x4 r ⟨2560 + j.val, by omega⟩ := by
  unfold out0_20
  rw [View.canon_cons_unit_lit _ _ _ (by decide)]
  rw [hidden_eq]
  unfold k0_pay13
  generalize hy : hidden x0 x1 x2 x3 = y
  pointwise [dot_S512x1024_S1024x128_S512x128_1_0_0_1_n_n]
  subst hy
  exact (cell_sum x0 x1 x2 x3 x4 r _)

/-- What one grid point writes of the log decay: the low-rank gate, its bias, and `log (sigmoid ·) / 16`. -/
theorem out9_apply (r : Fin 512) (j : Fin 256) :
    out0_9 x0 x1 x2 x3 x4 x5 x6 (ix2 r j) =
      logDecay ((∑ k : Fin 128, cell x0 x1 x2 x3 x4 r ⟨2560 + k.val, by omega⟩ * x5 (ix2 k j)) + x6 (ix2 0 j)) := by
  have e5 : View.ld x5 r0_16 = x5 := View.ld_unit_lit _ x5 (by decide)
  have e6 : View.ld x6 r0_17 = x6 := View.ld_unit_lit _ x6 (by decide)
  have hm : ∀ k : Fin 128, k0_pay13 (hidden x0 x1 x2 x3) (View.ld x4 r0_13) (ix2 r k) =
      cell x0 x1 x2 x3 x4 r ⟨2560 + k.val, by omega⟩ := by
    intro k
    unfold k0_pay13
    generalize hy : hidden x0 x1 x2 x3 = y
    pointwise [dot_S512x1024_S1024x128_S512x128_1_0_0_1_n_n]
    subst hy
    exact cell_sum x0 x1 x2 x3 x4 r _
  unfold out0_9
  rw [View.canon_cons_unit_lit _ _ _ (by decide), hidden_eq, e5, e6]
  unfold k0_pay1 k0_pay17 k0_pay18 k0_pay19 k0_pay16
  generalize k0_pay13 (hidden x0 x1 x2 x3) (View.ld x4 r0_13) = y at hm ⊢
  pointwise [dot_S512x128_S128x256_S512x256_1_0_0_1_n_n, hm]
  rfl

end Cert.Proof.InprojS
-- ==== Proof.InprojSHost.lean ====
module

public import proofs.«01_k».proof.Proof.InprojSBlock
public import proofs.«01_k».proof.Proof.InprojHost

@[expose] public section

noncomputable section

namespace Cert.Proof.InprojS

open Idealize.ShloMosaic Idealize.ShloMosaic.TcCoe Idealize.SL.Sem Cert.InprojSIdeal Cert.InprojSIdeal.Gen
open Cert.Proof.Inproj (rearranged padded)

variable (m : (ℓ : Loc nD τ sig) → Buf (Elt Ideal) ℓ) (c : Dev nD)

set_option maxHeartbeats 1000000 in
/-- The host lines before the call leave the rearranged projection (rounded: over the extended reals, as it is). -/
theorem V_rearranged (d : Fin 1024) (k : Fin 2816) :
    V m c main_v22 (ix2 d k) = rearranged (m ((c : Thread nD τ).loc main_arg4)) (ix2 d k) := by
  dsimp only [V, hostOps0]
  after_results
  rfl

/-- The norm's gain and the decay's bias reach the kernel as rows. -/
theorem V_gain (j : Fin 1024) :
    V m c main_v25 (ix2 0 j) = m ((c : Thread nD τ).loc main_arg1) (ix1 j) := by
  dsimp only [V, hostOps0]
  after_results
  pointwise

theorem V_bias (j : Fin 256) :
    V m c main_v26 (ix2 0 j) = m ((c : Thread nD τ).loc main_arg6) (ix1 j) := by
  dsimp only [V, hostOps0]
  after_results
  pointwise

set_option maxHeartbeats 1000000 in
theorem V_padded :
    (V m c main_v3 : FVec Ideal S128x256 .bf16) =
      truncf .bf16 (padded (m ((c : Thread nD τ).loc main_arg5))) bitsLt_bf16_f32 := by
  dsimp only [V, hostOps0]
  after_results
  rfl

theorem V_padded_apply (k : Fin 128) (j : Fin 256) :
    V m c main_v3 (ix2 k j) = padded (m ((c : Thread nD τ).loc main_arg5)) (ix2 k j) := by
  refine (congrFun (V_padded m c) (ix2 k j)).trans ?_
  generalize padded _ = y
  rfl

/-- The conditioning reaches the kernel as one row for each token. -/
theorem V_shift (n : Fin 2048) (d : Fin 1024) :
    V m c main_v23 (ix2 n d) = m ((c : Thread nD τ).loc main_arg2) (ix3 n 0 d) := by
  dsimp only [V, hostOps0]
  after_results
  pointwise

theorem V_scale (n : Fin 2048) (d : Fin 1024) :
    V m c main_v24 (ix2 n d) = m ((c : Thread nD τ).loc main_arg3) (ix3 n 0 d) := by
  dsimp only [V, hostOps0]
  after_results
  pointwise

end Cert.Proof.InprojS
-- ==== Proof.InprojSIn.lean ====
module

public import proofs.«01_k».proof.Proof.InprojSHost

@[expose] public section

noncomputable section

namespace Cert.Proof.InprojS

open Idealize.ShloMosaic Idealize.ShloMosaic.TcCoe Idealize.SL.Sem Cert.InprojSIdeal Cert.InprojSIdeal.Gen
open Cert.Proof.Inproj (modulated column rearranged padded queries front_apply gate_apply queries_apply query_apply rest_apply index_apply rank_apply fill_apply twice_apply twice_apply' padded_live padded_dead)

variable (m : (ℓ : Loc nD τ sig) → Buf (Elt Ideal) ℓ) (c : Dev nD)

/-- Where each window's block lies at each grid point: tokens and conditioning by the point, everything else
    whole. -/
theorem index_in : ∀ t : Fin cfg0.N,
    (win0_0.index t 0 = t.val ∧ win0_0.index t 1 = 0) ∧ (win0_1.index t 0 = 0 ∧ win0_1.index t 1 = 0) ∧
    (win0_2.index t 0 = t.val ∧ win0_2.index t 1 = 0) ∧
    (win0_3.index t 0 = t.val ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) := by
  decide +kernel

/-- Row `r` of block `t` as a row of the whole arrays. -/
def row (t : Fin cfg0.N) (r : Fin 512) : Fin 2048 :=
  ⟨t.val * 512 + r.val, by have h : cfg0.N = 4 := N_0; have := t.isLt; omega⟩

/-- What holds of every row of every block holds of every row. -/
theorem all_rows (P : Fin 2048 → Prop) (h : ∀ (t : Fin cfg0.N) (r : Fin 512), P (row t r)) (n : Fin 2048) : P n := by
  have hN : cfg0.N = 4 := N_0
  have e := h ⟨n.val / 512, by omega⟩ ⟨n.val % 512, by omega⟩
  rwa [show row ⟨n.val / 512, by omega⟩ ⟨n.val % 512, by omega⟩ = n from
    Fin.ext (by show n.val / 512 * 512 + n.val % 512 = n.val; omega)] at e

theorem iblk0_apply (t : Fin cfg0.N) (r : Fin 512) (d : Fin 1024) :
    (iblk m c 0 t : Vec Ideal S512x1024 .f32) (ix2 r d) = m ((c : Thread nD τ).loc main_arg0) (ix2 (row t r) d) := by
  obtain ⟨h, -, -, -, -, -, -⟩ := index_in t
  unfold iblk
  rw [View.read_apply]
  rw [← V_main_arg0 m c]
  show V m c main_arg0 _ = V m c main_arg0 _
  refine congrArg _ (funext fun a => Fin.ext ?_)
  match a with
  | ⟨0, _⟩ => show win0_0.index t 0 * 512 + 1 * r.val = t.val * 512 + r.val; rw [h.1]; omega
  | ⟨1, _⟩ => show win0_0.index t 1 * 1024 + 1 * d.val = d.val; rw [h.2]; omega

theorem iblk1_apply (t : Fin cfg0.N) (d : Fin 1024) :
    (iblk m c 1 t : Vec Ideal S1x1024 .f32) (ix2 0 d) = m ((c : Thread nD τ).loc main_arg1) (ix1 d) := by
  obtain ⟨-, h, -, -, -, -, -⟩ := index_in t
  unfold iblk
  rw [View.read_apply]
  rw [← V_gain m c]
  show V m c main_v25 _ = V m c main_v25 _
  refine congrArg _ (funext fun a => Fin.ext ?_)
  match a with
  | ⟨0, _⟩ => show win0_1.index t 0 * 1 + 1 * 0 = 0; rw [h.1]
  | ⟨1, _⟩ => show win0_1.index t 1 * 1024 + 1 * d.val = d.val; rw [h.2]; omega

theorem iblk2_apply (t : Fin cfg0.N) (r : Fin 512) (d : Fin 1024) :
    (iblk m c 2 t : Vec Ideal S512x1024 .f32) (ix2 r d) = m ((c : Thread nD τ).loc main_arg2) (ix3 (row t r) 0 d) := by
  obtain ⟨-, -, h, -, -, -, -⟩ := index_in t
  unfold iblk
  rw [View.read_apply]
  rw [← V_shift m c]
  show V m c main_v23 _ = V m c main_v23 _
  refine congrArg _ (funext fun a => Fin.ext ?_)
  match a with
  | ⟨0, _⟩ => show win0_2.index t 0 * 512 + 1 * r.val = t.val * 512 + r.val; rw [h.1]; omega
  | ⟨1, _⟩ => show win0_2.index t 1 * 1024 + 1 * d.val = d.val; rw [h.2]; omega

theorem iblk3_apply (t : Fin cfg0.N) (r : Fin 512) (d : Fin 1024) :
    (iblk m c 3 t : Vec Ideal S512x1024 .f32) (ix2 r d) = m ((c : Thread nD τ).loc main_arg3) (ix3 (row t r) 0 d) := by
  obtain ⟨-, -, -, h, -, -, -⟩ := index_in t
  unfold iblk
  rw [View.read_apply]
  rw [← V_scale m c]
  show V m c main_v24 _ = V m c main_v24 _
  refine congrArg _ (funext fun a => Fin.ext ?_)
  match a with
  | ⟨0, _⟩ => show win0_3.index t 0 * 512 + 1 * r.val = t.val * 512 + r.val; rw [h.1]; omega
  | ⟨1, _⟩ => show win0_3.index t 1 * 1024 + 1 * d.val = d.val; rw [h.2]; omega

theorem iblk4_apply (t : Fin cfg0.N) (d : Fin 1024) (k : Fin 2816) :
    (iblk m c 4 t : Vec Ideal S1024x2816 .bf16) (ix2 d k) = rearranged (m ((c : Thread nD τ).loc main_arg4)) (ix2 d k) := by
  obtain ⟨-, -, -, -, h, -, -⟩ := index_in t
  unfold iblk
  rw [View.read_apply]
  rw [← V_rearranged m c]
  show V m c main_v22 _ = V m c main_v22 _
  refine congrArg _ (funext fun a => Fin.ext ?_)
  match a with
  | ⟨0, _⟩ => show win0_4.index t 0 * 1024 + 1 * d.val = d.val; rw [h.1]; omega
  | ⟨1, _⟩ => show win0_4.index t 1 * 2816 + 1 * k.val = k.val; rw [h.2]; omega

theorem iblk5_apply (t : Fin cfg0.N) (k : Fin 128) (j : Fin 256) :
    (iblk m c 5 t : Vec Ideal S128x256 .bf16) (ix2 k j) = padded (m ((c : Thread nD τ).loc main_arg5)) (ix2 k j) := by
  obtain ⟨-, -, -, -, -, h, -⟩ := index_in t
  unfold iblk
  rw [View.read_apply]
  rw [← V_padded_apply m c]
  show V m c main_v3 _ = V m c main_v3 _
  refine congrArg _ (funext fun a => Fin.ext ?_)
  match a with
  | ⟨0, _⟩ => show win0_5.index t 0 * 128 + 1 * k.val = k.val; rw [h.1]; omega
  | ⟨1, _⟩ => show win0_5.index t 1 * 256 + 1 * j.val = j.val; rw [h.2]; omega

theorem iblk6_apply (t : Fin cfg0.N) (j : Fin 256) :
    (iblk m c 6 t : Vec Ideal S1x256 .f32) (ix2 0 j) = m ((c : Thread nD τ).loc main_arg6) (ix1 j) := by
  obtain ⟨-, -, -, -, -, -, h⟩ := index_in t
  unfold iblk
  rw [View.read_apply]
  rw [← V_bias m c]
  show V m c main_v26 _ = V m c main_v26 _
  refine congrArg _ (funext fun a => Fin.ext ?_)
  match a with
  | ⟨0, _⟩ => show win0_6.index t 0 * 1 + 1 * 0 = 0; rw [h.1]
  | ⟨1, _⟩ => show win0_6.index t 1 * 256 + 1 * j.val = j.val; rw [h.2]; omega

/-- Token `n`'s modulated features times column `k` of the rearranged projection. -/
def projected (n : Fin 2048) (k : Fin 2816) : EReal :=
  column (fun d => m ((c : Thread nD τ).loc main_arg0) (ix2 n d)) (fun d => m ((c : Thread nD τ).loc main_arg1) (ix1 d))
    (fun d => m ((c : Thread nD τ).loc main_arg2) (ix3 n 0 d)) (fun d => m ((c : Thread nD τ).loc main_arg3) (ix3 n 0 d))
    (fun d => rearranged (m ((c : Thread nD τ).loc main_arg4)) (ix2 d k))

theorem cell_block (t : Fin cfg0.N) (r : Fin 512) (k : Fin 2816) :
    cell (iblk m c 0 t : Vec Ideal S512x1024 .f32) (iblk m c 1 t : Vec Ideal S1x1024 .f32)
      (iblk m c 2 t : Vec Ideal S512x1024 .f32) (iblk m c 3 t : Vec Ideal S512x1024 .f32)
      (iblk m c 4 t : Vec Ideal S1024x2816 .bf16) r k = projected m c (row t r) k := by
  unfold cell projected
  congr 1 <;> funext d
  · exact iblk0_apply m c t r d
  · exact iblk1_apply m c t d
  · exact iblk2_apply m c t r d
  · exact iblk3_apply m c t r d
  · exact iblk4_apply m c t d k

/-- A column of the rearranged projection that is column `k'` of the given one. -/
theorem projected_of (n : Fin 2048) (k : Fin 2816) (k' : Fin 2644)
    (h : ∀ d : Fin 1024, rearranged (m ((c : Thread nD τ).loc main_arg4)) (ix2 d k) = m ((c : Thread nD τ).loc main_arg4) (ix2 d k')) :
    projected m c n k = feature (m ((c : Thread nD τ).loc main_arg0)) (m ((c : Thread nD τ).loc main_arg1)) (m ((c : Thread nD τ).loc main_arg2)) (m ((c : Thread nD τ).loc main_arg3)) (m ((c : Thread nD τ).loc main_arg4)) n k' := by
  unfold projected feature
  rw [show (fun d => rearranged (m ((c : Thread nD τ).loc main_arg4)) (ix2 d k)) = fun d => m ((c : Thread nD τ).loc main_arg4) (ix2 d k') from funext h]

/-- A column of zeros. -/
theorem projected_zero (n : Fin 2048) (k : Fin 2816)
    (h : ∀ d : Fin 1024, rearranged (m ((c : Thread nD τ).loc main_arg4)) (ix2 d k) = 0) : projected m c n k = 0 := by
  unfold projected column
  exact Finset.sum_eq_zero fun d _ => (congrArg (modulated _ _ _ _ d * ·) (h d)).trans (mul_zero _)

/-- The packed lanes. -/
theorem projected_packed (n : Fin 2048) (j : Fin 128) :
    projected m c n ⟨2560 + j.val, by omega⟩ = packed (m ((c : Thread nD τ).loc main_arg0)) (m ((c : Thread nD τ).loc main_arg1)) (m ((c : Thread nD τ).loc main_arg2)) (m ((c : Thread nD τ).loc main_arg3)) (m ((c : Thread nD τ).loc main_arg4)) n j := by
  unfold packed
  split_ifs with h h'
  · exact projected_of m c n _ _ fun d => index_apply _ d ⟨j.val, h⟩
  · refine projected_of m c n _ _ fun d => ?_
    have e := rank_apply (m ((c : Thread nD τ).loc main_arg4)) d ⟨j.val - 68, by omega⟩
    rw [← e]
    exact congrArg _ (congrArg (ix2 d) (Fin.ext (by show 2560 + j.val = 2628 + (j.val - 68); omega)))
  · refine projected_zero m c n _ fun d => ?_
    rw [← fill_apply (m ((c : Thread nD τ).loc main_arg4)) d ⟨j.val - 84, by omega⟩]
    exact congrArg _ (congrArg (ix2 d) (Fin.ext (by show 2560 + j.val = 2644 + (j.val - 84); omega)))

/-- The attention's queries. -/
theorem projected_query (n : Fin 2048) (j : Fin 512) :
    projected m c n ⟨1536 + j.val, by omega⟩ * Ideal.ofBits .f32 0x3E000000#32 = query (m ((c : Thread nD τ).loc main_arg0)) (m ((c : Thread nD τ).loc main_arg1)) (m ((c : Thread nD τ).loc main_arg2)) (m ((c : Thread nD τ).loc main_arg3)) (m ((c : Thread nD τ).loc main_arg4)) n j := by
  unfold query
  refine congrArg (· * Ideal.ofBits .f32 0x3E000000#32) (projected_of m c n _ _ fun d => ?_)
  rw [query_apply]
  have e := queries_apply d (extractStridedSlice S1024x512 ![0, 1552] (m ((c : Thread nD τ).loc main_arg4)) slices_S1024x2644_S1024x512_0_1552)
    ⟨j.val / 128, by omega⟩ ⟨j.val / 64 % 2, by omega⟩ ⟨j.val % 64, by omega⟩
  rw [show (ix2 d j : S1024x512.Idx) = ix2 d ⟨j.val / 128 * 128 + j.val / 64 % 2 * 64 + j.val % 64, by omega⟩ from
    congrArg (ix2 d) (Fin.ext (by show j.val = j.val / 128 * 128 + j.val / 64 % 2 * 64 + j.val % 64; omega))]
  refine e.trans ?_
  pointwise

/-- The indexer's key, twice. -/
theorem projected_twice (n : Fin 2048) (j : Fin 128) :
    projected m c n ⟨2688 + j.val, by omega⟩ = keyTwice (m ((c : Thread nD τ).loc main_arg0)) (m ((c : Thread nD τ).loc main_arg1)) (m ((c : Thread nD τ).loc main_arg2)) (m ((c : Thread nD τ).loc main_arg3)) (m ((c : Thread nD τ).loc main_arg4)) n j := by
  unfold keyTwice
  refine projected_of m c n _ _ fun d => ?_
  by_cases h : j.val < 64
  · refine (twice_apply _ d ⟨j.val, h⟩).trans ?_
    exact congrArg _ (congrArg (ix2 d) (Fin.ext (by show 2576 + j.val = 2576 + j.val % 64; omega)))
  · rw [show (⟨2688 + j.val, by omega⟩ : Fin 2816) = ⟨2752 + (j.val - 64), by omega⟩ from Fin.ext (by show 2688 + j.val = 2752 + (j.val - 64); omega)]
    refine (twice_apply' _ d ⟨j.val - 64, by omega⟩).trans ?_
    exact congrArg _ (congrArg (ix2 d) (Fin.ext (by show 2576 + (j.val - 64) = 2576 + j.val % 64; omega)))

/-- The low-rank map over the 128 packed lanes: only its own sixteen rows are not zero. -/
theorem gate_sum (n : Fin 2048) (j : Fin 256) :
    ∑ k : Fin 128, projected m c n ⟨2560 + k.val, by omega⟩ * padded (m ((c : Thread nD τ).loc main_arg5)) (ix2 k j) =
      ∑ a : Fin 16, feature (m ((c : Thread nD τ).loc main_arg0)) (m ((c : Thread nD τ).loc main_arg1)) (m ((c : Thread nD τ).loc main_arg2)) (m ((c : Thread nD τ).loc main_arg3)) (m ((c : Thread nD τ).loc main_arg4)) n ⟨1024 + a.val, by omega⟩ * m ((c : Thread nD τ).loc main_arg5) (ix2 a j) := by
  refine (Finset.sum_of_injOn (fun a : Fin 16 => (⟨68 + a.val, by omega⟩ : Fin 128)) (fun a _ b _ e => ?_)
    (fun a _ => Finset.mem_coe.2 (Finset.mem_univ _)) (fun k _ hk => ?_) (fun a _ => ?_)).symm
  · exact Fin.ext (Nat.add_left_cancel (Fin.ext_iff.1 e))
  · rw [padded_dead, mul_zero]
    by_contra hc
    refine hk ⟨⟨k.val - 68, by omega⟩, Finset.mem_coe.2 (Finset.mem_univ _), Fin.ext ?_⟩
    show 68 + (k.val - 68) = k.val
    omega
  · rw [padded_live]
    refine congrArg (· * m ((c : Thread nD τ).loc main_arg5) (ix2 a j)) (projected_of m c n _ _ fun d => ?_).symm
    exact (congrArg _ (congrArg (ix2 d) (Fin.ext (by show 2560 + (68 + a.val) = 2628 + a.val; omega)))).trans (rank_apply _ d a)

end Cert.Proof.InprojS
-- ==== Proof.InprojSArray.lean ====
module

public import proofs.«01_k».proof.Proof.InprojSIn

@[expose] public section

noncomputable section

namespace Cert.Proof.InprojS

open Idealize.ShloMosaic Idealize.ShloMosaic.TcCoe Idealize.SL.Sem Cert.InprojSIdeal Cert.InprojSIdeal.Gen
open Cert.Proof.Inproj (modulated column rearranged padded queries front_apply gate_apply queries_apply query_apply rest_apply index_apply rank_apply fill_apply twice_apply twice_apply' padded_live padded_dead logDecay)

variable (m : (ℓ : Loc nD τ sig) → Buf (Elt Ideal) ℓ) (c : Dev nD)

/-- Each result's block lies at the point's tokens, and every point writes it back. -/
theorem index_out : ∀ t : Fin cfg0.N,
    (win0_7.index t 0 = t.val ∧ win0_7.index t 1 = 0 ∧ (cfg0.win 7).flush t = true) ∧
    (win0_8.index t 0 = t.val ∧ win0_8.index t 1 = 0 ∧ (cfg0.win 8).flush t = true) ∧
    (win0_9.index t 0 = t.val ∧ win0_9.index t 1 = 0 ∧ (cfg0.win 9).flush t = true) ∧
    (win0_10.index t 0 = t.val ∧ win0_10.index t 1 = 0 ∧ (cfg0.win 10).flush t = true) ∧
    (win0_11.index t 0 = t.val ∧ win0_11.index t 1 = 0 ∧ (cfg0.win 11).flush t = true) ∧
    (win0_12.index t 0 = t.val ∧ win0_12.index t 1 = 0 ∧ (cfg0.win 12).flush t = true) ∧
    (win0_13.index t 0 = t.val ∧ win0_13.index t 1 = 0 ∧ (cfg0.win 13).flush t = true) ∧
    (win0_14.index t 0 = t.val ∧ win0_14.index t 1 = 0 ∧ (cfg0.win 14).flush t = true) ∧
    (win0_15.index t 0 = t.val ∧ win0_15.index t 1 = 0 ∧ (cfg0.win 15).flush t = true) ∧
    (win0_16.index t 0 = t.val ∧ win0_16.index t 1 = 0 ∧ (cfg0.win 16).flush t = true) ∧
    (win0_17.index t 0 = t.val ∧ win0_17.index t 1 = 0 ∧ (cfg0.win 17).flush t = true) ∧
    (win0_18.index t 0 = t.val ∧ win0_18.index t 1 = 0 ∧ (cfg0.win 18).flush t = true) ∧
    (win0_19.index t 0 = t.val ∧ win0_19.index t 1 = 0 ∧ (cfg0.win 19).flush t = true) ∧
    (win0_20.index t 0 = t.val ∧ win0_20.index t 1 = 0 ∧ (cfg0.win 20).flush t = true) := by
  decide +kernel

/-- Result 1: the queries, scaled. -/
theorem array7_apply (n : Fin 2048) (j : Fin 256) :
    ((dats m 0 c).arrAt 7 cfg0.N : Vec Ideal S2048x256 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨j.val, by omega⟩ * Ideal.ofBits .f32 0x3E000000#32 := by
  have e : ((dats m 0 c).arrAt 7 cfg0.N : Vec Ideal S2048x256 .f32) (ix2 n j) =
      projected m c n ⟨j.val, by omega⟩ * Ideal.ofBits .f32 0x3E000000#32 := by
    refine all_rows (fun n => ((dats m 0 c).arrAt 7 cfg0.N : Vec Ideal S2048x256 .f32) (ix2 n j) =
      projected m c n ⟨j.val, by omega⟩ * Ideal.ofBits .f32 0x3E000000#32) (fun t r => ?_) n
    obtain ⟨h, -, -, -, -, -, -, -, -, -, -, -, -, -⟩ := index_out t
    have hb := congrFun (Value.blocks7 m c t h.2.2) (ix2 r j : S512x256.Idx)
    rw [Value.flushed7, View.read_apply] at hb
    refine (congrArg ((dats m 0 c).arrAt 7 cfg0.N : Vec Ideal S2048x256 .f32) (funext fun a => Fin.ext ?_)).trans
      (hb.trans ?_)
    · match a with
      | ⟨0, _⟩ => show t.val * 512 + r.val = win0_7.index t 0 * 512 + 1 * r.val; rw [h.1]; omega
      | ⟨1, _⟩ => show j.val = win0_7.index t 1 * 256 + 1 * j.val; rw [h.2.1]; omega
    · refine (out7_apply _ _ _ _ _ _ _ r j).trans ?_
      rw [cell_block]
  refine e.trans ?_
  exact congrArg (· * Ideal.ofBits .f32 0x3E000000#32) (projected_of m c n _ _ fun d => front_apply _ d ⟨j.val, by omega⟩)

/-- Result 2: the keys. -/
theorem array8_apply (n : Fin 2048) (j : Fin 256) :
    ((dats m 0 c).arrAt 8 cfg0.N : Vec Ideal S2048x256 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨256 + j.val, by omega⟩ := by
  have e : ((dats m 0 c).arrAt 8 cfg0.N : Vec Ideal S2048x256 .f32) (ix2 n j) =
      projected m c n ⟨256 + j.val, by omega⟩ := by
    refine all_rows (fun n => ((dats m 0 c).arrAt 8 cfg0.N : Vec Ideal S2048x256 .f32) (ix2 n j) =
      projected m c n ⟨256 + j.val, by omega⟩) (fun t r => ?_) n
    obtain ⟨-, h, -, -, -, -, -, -, -, -, -, -, -, -⟩ := index_out t
    have hb := congrFun (Value.blocks8 m c t h.2.2) (ix2 r j : S512x256.Idx)
    rw [Value.flushed8, View.read_apply] at hb
    refine (congrArg ((dats m 0 c).arrAt 8 cfg0.N : Vec Ideal S2048x256 .f32) (funext fun a => Fin.ext ?_)).trans
      (hb.trans ?_)
    · match a with
      | ⟨0, _⟩ => show t.val * 512 + r.val = win0_8.index t 0 * 512 + 1 * r.val; rw [h.1]; omega
      | ⟨1, _⟩ => show j.val = win0_8.index t 1 * 256 + 1 * j.val; rw [h.2.1]; omega
    · refine (out8_apply _ _ _ _ _ _ _ r j).trans ?_
      rw [cell_block]
  refine e.trans ?_
  exact projected_of m c n _ _ fun d => front_apply _ d ⟨256 + j.val, by omega⟩

/-- Result 3: the log decay. -/
theorem array9_apply (n : Fin 2048) (j : Fin 256) :
    ((dats m 0 c).arrAt 9 cfg0.N : Vec Ideal S2048x256 .f32) (ix2 n j) =
      decay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n j := by
  have e : ((dats m 0 c).arrAt 9 cfg0.N : Vec Ideal S2048x256 .f32) (ix2 n j) =
      logDecay ((∑ k : Fin 128, projected m c n ⟨2560 + k.val, by omega⟩ * padded (m ((c : Thread nD τ).loc main_arg5)) (ix2 k j)) + m ((c : Thread nD τ).loc main_arg6) (ix1 j)) := by
    refine all_rows (fun n => ((dats m 0 c).arrAt 9 cfg0.N : Vec Ideal S2048x256 .f32) (ix2 n j) =
      logDecay ((∑ k : Fin 128, projected m c n ⟨2560 + k.val, by omega⟩ * padded (m ((c : Thread nD τ).loc main_arg5)) (ix2 k j)) + m ((c : Thread nD τ).loc main_arg6) (ix1 j))) (fun t r => ?_) n
    obtain ⟨-, -, h, -, -, -, -, -, -, -, -, -, -, -⟩ := index_out t
    have hb := congrFun (Value.blocks9 m c t h.2.2) (ix2 r j : S512x256.Idx)
    rw [Value.flushed9, View.read_apply] at hb
    refine (congrArg ((dats m 0 c).arrAt 9 cfg0.N : Vec Ideal S2048x256 .f32) (funext fun a => Fin.ext ?_)).trans
      (hb.trans ?_)
    · match a with
      | ⟨0, _⟩ => show t.val * 512 + r.val = win0_9.index t 0 * 512 + 1 * r.val; rw [h.1]; omega
      | ⟨1, _⟩ => show j.val = win0_9.index t 1 * 256 + 1 * j.val; rw [h.2.1]; omega
    · refine (out9_apply _ _ _ _ _ _ _ r j).trans ?_
      simp only [cell_block, iblk5_apply, iblk6_apply]
  refine e.trans ?_
  unfold decay
  rw [gate_sum]

/-- Result 4: the values. -/
theorem array10_apply (n : Fin 2048) (j : Fin 512) :
    ((dats m 0 c).arrAt 10 cfg0.N : Vec Ideal S2048x512 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨512 + j.val, by omega⟩ := by
  have e : ((dats m 0 c).arrAt 10 cfg0.N : Vec Ideal S2048x512 .f32) (ix2 n j) =
      projected m c n ⟨512 + j.val, by omega⟩ := by
    refine all_rows (fun n => ((dats m 0 c).arrAt 10 cfg0.N : Vec Ideal S2048x512 .f32) (ix2 n j) =
      projected m c n ⟨512 + j.val, by omega⟩) (fun t r => ?_) n
    obtain ⟨-, -, -, h, -, -, -, -, -, -, -, -, -, -⟩ := index_out t
    have hb := congrFun (Value.blocks10 m c t h.2.2) (ix2 r j : S512x512.Idx)
    rw [Value.flushed10, View.read_apply] at hb
    refine (congrArg ((dats m 0 c).arrAt 10 cfg0.N : Vec Ideal S2048x512 .f32) (funext fun a => Fin.ext ?_)).trans
      (hb.trans ?_)
    · match a with
      | ⟨0, _⟩ => show t.val * 512 + r.val = win0_10.index t 0 * 512 + 1 * r.val; rw [h.1]; omega
      | ⟨1, _⟩ => show j.val = win0_10.index t 1 * 512 + 1 * j.val; rw [h.2.1]; omega
    · refine (out10_apply _ _ _ _ _ _ _ r j).trans ?_
      rw [cell_block]
  refine e.trans ?_
  exact projected_of m c n _ _ fun d => front_apply _ d ⟨512 + j.val, by omega⟩

/-- Result 5: the output gate. -/
theorem array11_apply (n : Fin 2048) (j : Fin 512) :
    ((dats m 0 c).arrAt 11 cfg0.N : Vec Ideal S2048x512 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨1040 + j.val, by omega⟩ := by
  have e : ((dats m 0 c).arrAt 11 cfg0.N : Vec Ideal S2048x512 .f32) (ix2 n j) =
      projected m c n ⟨1024 + j.val, by omega⟩ := by
    refine all_rows (fun n => ((dats m 0 c).arrAt 11 cfg0.N : Vec Ideal S2048x512 .f32) (ix2 n j) =
      projected m c n ⟨1024 + j.val, by omega⟩) (fun t r => ?_) n
    obtain ⟨-, -, -, -, h, -, -, -, -, -, -, -, -, -⟩ := index_out t
    have hb := congrFun (Value.blocks11 m c t h.2.2) (ix2 r j : S512x512.Idx)
    rw [Value.flushed11, View.read_apply] at hb
    refine (congrArg ((dats m 0 c).arrAt 11 cfg0.N : Vec Ideal S2048x512 .f32) (funext fun a => Fin.ext ?_)).trans
      (hb.trans ?_)
    · match a with
      | ⟨0, _⟩ => show t.val * 512 + r.val = win0_11.index t 0 * 512 + 1 * r.val; rw [h.1]; omega
      | ⟨1, _⟩ => show j.val = win0_11.index t 1 * 512 + 1 * j.val; rw [h.2.1]; omega
    · refine (out11_apply _ _ _ _ _ _ _ r j).trans ?_
      rw [cell_block]
  refine e.trans ?_
  exact projected_of m c n _ _ fun d => gate_apply _ d j

/-- Result 6: the attention's queries. -/
theorem array12_apply (n : Fin 2048) (j : Fin 512) :
    ((dats m 0 c).arrAt 12 cfg0.N : Vec Ideal S2048x512 .bf16) (ix2 n j) =
      query (m ((c : Thread nD τ).loc main_arg0)) (m ((c : Thread nD τ).loc main_arg1)) (m ((c : Thread nD τ).loc main_arg2)) (m ((c : Thread nD τ).loc main_arg3)) (m ((c : Thread nD τ).loc main_arg4)) n j := by
  have e : ((dats m 0 c).arrAt 12 cfg0.N : Vec Ideal S2048x512 .bf16) (ix2 n j) =
      projected m c n ⟨1536 + j.val, by omega⟩ * Ideal.ofBits .f32 0x3E000000#32 := by
    refine all_rows (fun n => ((dats m 0 c).arrAt 12 cfg0.N : Vec Ideal S2048x512 .bf16) (ix2 n j) =
      projected m c n ⟨1536 + j.val, by omega⟩ * Ideal.ofBits .f32 0x3E000000#32) (fun t r => ?_) n
    obtain ⟨-, -, -, -, -, h, -, -, -, -, -, -, -, -⟩ := index_out t
    have hb := congrFun (Value.blocks12 m c t h.2.2) (ix2 r j : S512x512.Idx)
    rw [Value.flushed12, View.read_apply] at hb
    refine (congrArg ((dats m 0 c).arrAt 12 cfg0.N : Vec Ideal S2048x512 .bf16) (funext fun a => Fin.ext ?_)).trans
      (hb.trans ?_)
    · match a with
      | ⟨0, _⟩ => show t.val * 512 + r.val = win0_12.index t 0 * 512 + 1 * r.val; rw [h.1]; omega
      | ⟨1, _⟩ => show j.val = win0_12.index t 1 * 512 + 1 * j.val; rw [h.2.1]; omega
    · refine (out12_apply _ _ _ _ _ _ _ r j).trans ?_
      rw [cell_block]
  refine e.trans ?_
  exact projected_query m c n j

/-- Result 7: the attention's keys. -/
theorem array13_apply (n : Fin 2048) (j : Fin 128) :
    ((dats m 0 c).arrAt 13 cfg0.N : Vec Ideal S2048x128 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2064 + j.val, by omega⟩ := by
  have e : ((dats m 0 c).arrAt 13 cfg0.N : Vec Ideal S2048x128 .f32) (ix2 n j) =
      projected m c n ⟨2048 + j.val, by omega⟩ := by
    refine all_rows (fun n => ((dats m 0 c).arrAt 13 cfg0.N : Vec Ideal S2048x128 .f32) (ix2 n j) =
      projected m c n ⟨2048 + j.val, by omega⟩) (fun t r => ?_) n
    obtain ⟨-, -, -, -, -, -, h, -, -, -, -, -, -, -⟩ := index_out t
    have hb := congrFun (Value.blocks13 m c t h.2.2) (ix2 r j : S512x128.Idx)
    rw [Value.flushed13, View.read_apply] at hb
    refine (congrArg ((dats m 0 c).arrAt 13 cfg0.N : Vec Ideal S2048x128 .f32) (funext fun a => Fin.ext ?_)).trans
      (hb.trans ?_)
    · match a with
      | ⟨0, _⟩ => show t.val * 512 + r.val = win0_13.index t 0 * 512 + 1 * r.val; rw [h.1]; omega
      | ⟨1, _⟩ => show j.val = win0_13.index t 1 * 128 + 1 * j.val; rw [h.2.1]; omega
    · refine (out13_apply _ _ _ _ _ _ _ r j).trans ?_
      rw [cell_block]
  refine e.trans ?_
  refine projected_of m c n _ _ fun d => ?_
  have e := rest_apply (m ((c : Thread nD τ).loc main_arg4)) d ⟨0 + j.val, by omega⟩
  refine Eq.trans (congrArg _ (congrArg (ix2 d) (Fin.ext ?_))) (e.trans (congrArg _ (congrArg (ix2 d) (Fin.ext ?_))))
  · show 2048 + j.val = 2048 + (0 + j.val); omega
  · show 2064 + (0 + j.val) = 2064 + j.val; omega

/-- Result 8: the attention's values. -/
theorem array14_apply (n : Fin 2048) (j : Fin 128) :
    ((dats m 0 c).arrAt 14 cfg0.N : Vec Ideal S2048x128 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2192 + j.val, by omega⟩ := by
  have e : ((dats m 0 c).arrAt 14 cfg0.N : Vec Ideal S2048x128 .f32) (ix2 n j) =
      projected m c n ⟨2176 + j.val, by omega⟩ := by
    refine all_rows (fun n => ((dats m 0 c).arrAt 14 cfg0.N : Vec Ideal S2048x128 .f32) (ix2 n j) =
      projected m c n ⟨2176 + j.val, by omega⟩) (fun t r => ?_) n
    obtain ⟨-, -, -, -, -, -, -, h, -, -, -, -, -, -⟩ := index_out t
    have hb := congrFun (Value.blocks14 m c t h.2.2) (ix2 r j : S512x128.Idx)
    rw [Value.flushed14, View.read_apply] at hb
    refine (congrArg ((dats m 0 c).arrAt 14 cfg0.N : Vec Ideal S2048x128 .f32) (funext fun a => Fin.ext ?_)).trans
      (hb.trans ?_)
    · match a with
      | ⟨0, _⟩ => show t.val * 512 + r.val = win0_14.index t 0 * 512 + 1 * r.val; rw [h.1]; omega
      | ⟨1, _⟩ => show j.val = win0_14.index t 1 * 128 + 1 * j.val; rw [h.2.1]; omega
    · refine (out14_apply _ _ _ _ _ _ _ r j).trans ?_
      rw [cell_block]
  refine e.trans ?_
  refine projected_of m c n _ _ fun d => ?_
  have e := rest_apply (m ((c : Thread nD τ).loc main_arg4)) d ⟨128 + j.val, by omega⟩
  refine Eq.trans (congrArg _ (congrArg (ix2 d) (Fin.ext ?_))) (e.trans (congrArg _ (congrArg (ix2 d) (Fin.ext ?_))))
  · show 2176 + j.val = 2048 + (128 + j.val); omega
  · show 2064 + (128 + j.val) = 2192 + j.val; omega

/-- Result 9: the attention's keys, rounded. -/
theorem array15_apply (n : Fin 2048) (j : Fin 128) :
    ((dats m 0 c).arrAt 15 cfg0.N : Vec Ideal S2048x128 .bf16) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2064 + j.val, by omega⟩ := by
  have e : ((dats m 0 c).arrAt 15 cfg0.N : Vec Ideal S2048x128 .bf16) (ix2 n j) =
      projected m c n ⟨2048 + j.val, by omega⟩ := by
    refine all_rows (fun n => ((dats m 0 c).arrAt 15 cfg0.N : Vec Ideal S2048x128 .bf16) (ix2 n j) =
      projected m c n ⟨2048 + j.val, by omega⟩) (fun t r => ?_) n
    obtain ⟨-, -, -, -, -, -, -, -, h, -, -, -, -, -⟩ := index_out t
    have hb := congrFun (Value.blocks15 m c t h.2.2) (ix2 r j : S512x128.Idx)
    rw [Value.flushed15, View.read_apply] at hb
    refine (congrArg ((dats m 0 c).arrAt 15 cfg0.N : Vec Ideal S2048x128 .bf16) (funext fun a => Fin.ext ?_)).trans
      (hb.trans ?_)
    · match a with
      | ⟨0, _⟩ => show t.val * 512 + r.val = win0_15.index t 0 * 512 + 1 * r.val; rw [h.1]; omega
      | ⟨1, _⟩ => show j.val = win0_15.index t 1 * 128 + 1 * j.val; rw [h.2.1]; omega
    · refine (out15_apply _ _ _ _ _ _ _ r j).trans ?_
      rw [cell_block]
  refine e.trans ?_
  refine projected_of m c n _ _ fun d => ?_
  have e := rest_apply (m ((c : Thread nD τ).loc main_arg4)) d ⟨0 + j.val, by omega⟩
  refine Eq.trans (congrArg _ (congrArg (ix2 d) (Fin.ext ?_))) (e.trans (congrArg _ (congrArg (ix2 d) (Fin.ext ?_))))
  · show 2048 + j.val = 2048 + (0 + j.val); omega
  · show 2064 + (0 + j.val) = 2064 + j.val; omega

/-- Result 10: the attention's values, rounded. -/
theorem array16_apply (n : Fin 2048) (j : Fin 128) :
    ((dats m 0 c).arrAt 16 cfg0.N : Vec Ideal S2048x128 .bf16) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2192 + j.val, by omega⟩ := by
  have e : ((dats m 0 c).arrAt 16 cfg0.N : Vec Ideal S2048x128 .bf16) (ix2 n j) =
      projected m c n ⟨2176 + j.val, by omega⟩ := by
    refine all_rows (fun n => ((dats m 0 c).arrAt 16 cfg0.N : Vec Ideal S2048x128 .bf16) (ix2 n j) =
      projected m c n ⟨2176 + j.val, by omega⟩) (fun t r => ?_) n
    obtain ⟨-, -, -, -, -, -, -, -, -, h, -, -, -, -⟩ := index_out t
    have hb := congrFun (Value.blocks16 m c t h.2.2) (ix2 r j : S512x128.Idx)
    rw [Value.flushed16, View.read_apply] at hb
    refine (congrArg ((dats m 0 c).arrAt 16 cfg0.N : Vec Ideal S2048x128 .bf16) (funext fun a => Fin.ext ?_)).trans
      (hb.trans ?_)
    · match a with
      | ⟨0, _⟩ => show t.val * 512 + r.val = win0_16.index t 0 * 512 + 1 * r.val; rw [h.1]; omega
      | ⟨1, _⟩ => show j.val = win0_16.index t 1 * 128 + 1 * j.val; rw [h.2.1]; omega
    · refine (out16_apply _ _ _ _ _ _ _ r j).trans ?_
      rw [cell_block]
  refine e.trans ?_
  refine projected_of m c n _ _ fun d => ?_
  have e := rest_apply (m ((c : Thread nD τ).loc main_arg4)) d ⟨128 + j.val, by omega⟩
  refine Eq.trans (congrArg _ (congrArg (ix2 d) (Fin.ext ?_))) (e.trans (congrArg _ (congrArg (ix2 d) (Fin.ext ?_))))
  · show 2176 + j.val = 2048 + (128 + j.val); omega
  · show 2064 + (128 + j.val) = 2192 + j.val; omega

/-- Result 11: the indexer's queries. -/
theorem array17_apply (n : Fin 2048) (j : Fin 256) :
    ((dats m 0 c).arrAt 17 cfg0.N : Vec Ideal S2048x256 .bf16) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2320 + j.val, by omega⟩ := by
  have e : ((dats m 0 c).arrAt 17 cfg0.N : Vec Ideal S2048x256 .bf16) (ix2 n j) =
      projected m c n ⟨2304 + j.val, by omega⟩ := by
    refine all_rows (fun n => ((dats m 0 c).arrAt 17 cfg0.N : Vec Ideal S2048x256 .bf16) (ix2 n j) =
      projected m c n ⟨2304 + j.val, by omega⟩) (fun t r => ?_) n
    obtain ⟨-, -, -, -, -, -, -, -, -, -, h, -, -, -⟩ := index_out t
    have hb := congrFun (Value.blocks17 m c t h.2.2) (ix2 r j : S512x256.Idx)
    rw [Value.flushed17, View.read_apply] at hb
    refine (congrArg ((dats m 0 c).arrAt 17 cfg0.N : Vec Ideal S2048x256 .bf16) (funext fun a => Fin.ext ?_)).trans
      (hb.trans ?_)
    · match a with
      | ⟨0, _⟩ => show t.val * 512 + r.val = win0_17.index t 0 * 512 + 1 * r.val; rw [h.1]; omega
      | ⟨1, _⟩ => show j.val = win0_17.index t 1 * 256 + 1 * j.val; rw [h.2.1]; omega
    · refine (out17_apply _ _ _ _ _ _ _ r j).trans ?_
      rw [cell_block]
  refine e.trans ?_
  refine projected_of m c n _ _ fun d => ?_
  have e := rest_apply (m ((c : Thread nD τ).loc main_arg4)) d ⟨256 + j.val, by omega⟩
  refine Eq.trans (congrArg _ (congrArg (ix2 d) (Fin.ext ?_))) (e.trans (congrArg _ (congrArg (ix2 d) (Fin.ext ?_))))
  · show 2304 + j.val = 2048 + (256 + j.val); omega
  · show 2064 + (256 + j.val) = 2320 + j.val; omega

/-- Result 12: the indexer's key. -/
theorem array18_apply (n : Fin 2048) (j : Fin 64) :
    ((dats m 0 c).arrAt 18 cfg0.N : Vec Ideal S2048x64 .f32) (ix2 n j) =
      feature (m ((c : Thread nD τ).loc main_arg0)) (m ((c : Thread nD τ).loc main_arg1)) (m ((c : Thread nD τ).loc main_arg2)) (m ((c : Thread nD τ).loc main_arg3)) (m ((c : Thread nD τ).loc main_arg4)) n ⟨2576 + j.val, by omega⟩ := by
  have e : ((dats m 0 c).arrAt 18 cfg0.N : Vec Ideal S2048x64 .f32) (ix2 n j) =
      projected m c n ⟨2560 + j.val, by omega⟩ := by
    refine all_rows (fun n => ((dats m 0 c).arrAt 18 cfg0.N : Vec Ideal S2048x64 .f32) (ix2 n j) =
      projected m c n ⟨2560 + j.val, by omega⟩) (fun t r => ?_) n
    obtain ⟨-, -, -, -, -, -, -, -, -, -, -, h, -, -⟩ := index_out t
    have hb := congrFun (Value.blocks18 m c t h.2.2) (ix2 r j : S512x64.Idx)
    rw [Value.flushed18, View.read_apply] at hb
    refine (congrArg ((dats m 0 c).arrAt 18 cfg0.N : Vec Ideal S2048x64 .f32) (funext fun a => Fin.ext ?_)).trans
      (hb.trans ?_)
    · match a with
      | ⟨0, _⟩ => show t.val * 512 + r.val = win0_18.index t 0 * 512 + 1 * r.val; rw [h.1]; omega
      | ⟨1, _⟩ => show j.val = win0_18.index t 1 * 64 + 1 * j.val; rw [h.2.1]; omega
    · refine (out18_apply _ _ _ _ _ _ _ r j).trans ?_
      rw [cell_block]
  refine e.trans ?_
  exact projected_of m c n _ _ fun d => index_apply _ d ⟨j.val, by omega⟩

/-- Result 13: the indexer's key, twice. -/
theorem array19_apply (n : Fin 2048) (j : Fin 128) :
    ((dats m 0 c).arrAt 19 cfg0.N : Vec Ideal S2048x128 .bf16) (ix2 n j) =
      keyTwice (m ((c : Thread nD τ).loc main_arg0)) (m ((c : Thread nD τ).loc main_arg1)) (m ((c : Thread nD τ).loc main_arg2)) (m ((c : Thread nD τ).loc main_arg3)) (m ((c : Thread nD τ).loc main_arg4)) n j := by
  have e : ((dats m 0 c).arrAt 19 cfg0.N : Vec Ideal S2048x128 .bf16) (ix2 n j) =
      projected m c n ⟨2688 + j.val, by omega⟩ := by
    refine all_rows (fun n => ((dats m 0 c).arrAt 19 cfg0.N : Vec Ideal S2048x128 .bf16) (ix2 n j) =
      projected m c n ⟨2688 + j.val, by omega⟩) (fun t r => ?_) n
    obtain ⟨-, -, -, -, -, -, -, -, -, -, -, -, h, -⟩ := index_out t
    have hb := congrFun (Value.blocks19 m c t h.2.2) (ix2 r j : S512x128.Idx)
    rw [Value.flushed19, View.read_apply] at hb
    refine (congrArg ((dats m 0 c).arrAt 19 cfg0.N : Vec Ideal S2048x128 .bf16) (funext fun a => Fin.ext ?_)).trans
      (hb.trans ?_)
    · match a with
      | ⟨0, _⟩ => show t.val * 512 + r.val = win0_19.index t 0 * 512 + 1 * r.val; rw [h.1]; omega
      | ⟨1, _⟩ => show j.val = win0_19.index t 1 * 128 + 1 * j.val; rw [h.2.1]; omega
    · refine (out19_apply _ _ _ _ _ _ _ r j).trans ?_
      rw [cell_block]
  refine e.trans ?_
  exact projected_twice m c n j

/-- Result 14: the packed lanes. -/
theorem array20_apply (n : Fin 2048) (j : Fin 128) :
    ((dats m 0 c).arrAt 20 cfg0.N : Vec Ideal S2048x128 .f32) (ix2 n j) =
      packed (m ((c : Thread nD τ).loc main_arg0)) (m ((c : Thread nD τ).loc main_arg1)) (m ((c : Thread nD τ).loc main_arg2)) (m ((c : Thread nD τ).loc main_arg3)) (m ((c : Thread nD τ).loc main_arg4)) n j := by
  have e : ((dats m 0 c).arrAt 20 cfg0.N : Vec Ideal S2048x128 .f32) (ix2 n j) =
      projected m c n ⟨2560 + j.val, by omega⟩ := by
    refine all_rows (fun n => ((dats m 0 c).arrAt 20 cfg0.N : Vec Ideal S2048x128 .f32) (ix2 n j) =
      projected m c n ⟨2560 + j.val, by omega⟩) (fun t r => ?_) n
    obtain ⟨-, -, -, -, -, -, -, -, -, -, -, -, -, h⟩ := index_out t
    have hb := congrFun (Value.blocks20 m c t h.2.2) (ix2 r j : S512x128.Idx)
    rw [Value.flushed20, View.read_apply] at hb
    refine (congrArg ((dats m 0 c).arrAt 20 cfg0.N : Vec Ideal S2048x128 .f32) (funext fun a => Fin.ext ?_)).trans
      (hb.trans ?_)
    · match a with
      | ⟨0, _⟩ => show t.val * 512 + r.val = win0_20.index t 0 * 512 + 1 * r.val; rw [h.1]; omega
      | ⟨1, _⟩ => show j.val = win0_20.index t 1 * 128 + 1 * j.val; rw [h.2.1]; omega
    · refine (out20_apply _ _ _ _ _ _ _ r j).trans ?_
      rw [cell_block]
  refine e.trans ?_
  exact projected_packed m c n j

end Cert.Proof.InprojS
-- ==== Proof.InprojSRefValue.lean ====
module

public import proofs.«01_k».proof.Proof.LogDecay
public import proofs.«01_k».proof.Proof.InprojSSpec
public import proofs.«01_k».proof.Proof.Gen.InprojSRefIdeal.Read
public import Idealize.ShloMosaic.Lib.Pointwise

@[expose] public section

noncomputable section

namespace Cert.Proof.InprojS.Ref

open Idealize.ShloMosaic Cert.InprojSRefIdeal Cert.InprojSRefIdeal.Gen Cert.InprojSRefIdeal.Read Cert.Proof.Moe
open Cert.Proof.Inproj (modulated logDecay logDecay_eq)

variable (x0 : FVec Ideal S2048x1024 .f32) (x1 : FVec Ideal S1024 .f32) (x2 x3 : FVec Ideal S2048x1x1024 .f32)
  (x4 : FVec Ideal S1024x2644 .f32) (x5 : FVec Ideal S16x256 .f32) (x6 : FVec Ideal S256 .f32)

/-- Token `n`'s row with the axis of one position the reference puts between. -/
theorem split_apply (n : Fin 2048) (d : Fin 1024) : val_main_v0 (F := Ideal) x0 (ix3 n 0 d) = x0 (ix2 n d) := by
  rw [val_main_v0_apply]
  refine congrArg x0 (funext fun a => Fin.ext ?_)
  match a with
  | ⟨0, _⟩ => show ((n.val * 1 + 0) * 1024 + d.val) / 1024 = n.val; omega
  | ⟨1, _⟩ => show ((n.val * 1 + 0) * 1024 + d.val) % 1024 = d.val; omega

/-- Dropping the axis again. -/
theorem join_index (n : Fin 2048) (d : Fin 1024) : idx_main_v18 (ix2 n d) = ix3 n 0 d := by
  funext a
  apply Fin.ext
  match a with
  | ⟨0, _⟩ => show (n.val * 1024 + d.val) / 1024 = n.val; omega
  | ⟨1, _⟩ => show 0 = 0; rfl
  | ⟨2, _⟩ => show (n.val * 1024 + d.val) % 1024 = d.val; omega

/-- The norm and the conditioning. -/
theorem modulated_apply (n : Fin 2048) (d : Fin 1024) :
    val_main_v17 (F := Ideal) x0 x1 x2 x3 (ix3 n 0 d) =
      modulated (fun d => val_main_v0 (F := Ideal) x0 (ix3 n 0 d)) (fun d => x1 (ix1 d)) (fun d => x2 (ix3 n 0 d))
        (fun d => x3 (ix3 n 0 d)) d := by
  unfold val_main_v17 val_main_v16 val_main_v15 val_main_v14 val_main_v13 val_main_v12
    val_main_v11 val_main_v10 val_main_v9 val_main_v8 val_main_v7 val_main_v6 val_main_v5 val_main_v4 val_main_v3
    val_main_v2 val_main_v1 val_main_cst val_main_cst_0 val_main_cst_1 val_main_cst_2
  generalize val_main_v0 (F := Ideal) x0 = y
  pointwise
  rfl

/-- The reference's projection. -/
theorem feature_apply (n : Fin 2048) (k : Fin 2644) :
    val_main_v19 (F := Ideal) x0 x1 x2 x3 x4 (ix2 n k) = feature x0 x1 x2 x3 x4 n k := by
  have h : ∀ d : Fin 1024, val_main_v18 (F := Ideal) x0 x1 x2 x3 (ix2 n d) =
      modulated (fun d => x0 (ix2 n d)) (fun d => x1 (ix1 d)) (fun d => x2 (ix3 n 0 d)) (fun d => x3 (ix3 n 0 d)) d := by
    intro d
    rw [val_main_v18_apply, join_index, modulated_apply]
    simp only [split_apply]
  unfold val_main_v19
  pointwise [dot_S2048x1024_S1024x2644_S2048x2644_1_0_0_1_n_n, h]
  rfl

/-- The linear attention's queries. -/
theorem res0_apply (n : Fin 2048) (j : Fin 256) : val_main_v47 (F := Ideal) x0 x1 x2 x3 x4 (ix2 n j) =
    feature x0 x1 x2 x3 x4 n ⟨j.val, by omega⟩ * Ideal.ofBits .f32 0x3E000000#32 := by
  unfold val_main_v47 val_main_v46 val_main_v20 val_main_cst_6
  pointwise [feature_apply]

/-- Its keys, values and output gate. -/
theorem res1_apply (n : Fin 2048) (j : Fin 256) : val_main_v21 (F := Ideal) x0 x1 x2 x3 x4 (ix2 n j) =
    feature x0 x1 x2 x3 x4 n ⟨256 + j.val, by omega⟩ := by
  unfold val_main_v21
  pointwise [feature_apply]

theorem res3_apply (n : Fin 2048) (j : Fin 512) : val_main_v22 (F := Ideal) x0 x1 x2 x3 x4 (ix2 n j) =
    feature x0 x1 x2 x3 x4 n ⟨512 + j.val, by omega⟩ := by
  unfold val_main_v22
  pointwise [feature_apply]

theorem res4_apply (n : Fin 2048) (j : Fin 512) : val_main_v24 (F := Ideal) x0 x1 x2 x3 x4 (ix2 n j) =
    feature x0 x1 x2 x3 x4 n ⟨1040 + j.val, by omega⟩ := by
  unfold val_main_v24
  pointwise [feature_apply]

/-- The low-rank decay's features. -/
theorem rank_apply (n : Fin 2048) (a : Fin 16) : val_main_v23 (F := Ideal) x0 x1 x2 x3 x4 (ix2 n a) =
    feature x0 x1 x2 x3 x4 n ⟨1024 + a.val, by omega⟩ := by
  unfold val_main_v23
  pointwise [feature_apply]

/-- The decay before the log-sigmoid. -/
theorem gate_apply (n : Fin 2048) (j : Fin 256) : val_main_v34 (F := Ideal) x0 x1 x2 x3 x4 x5 x6 (ix2 n j) =
    (∑ a : Fin 16, feature x0 x1 x2 x3 x4 n ⟨1024 + a.val, by omega⟩ * x5 (ix2 a j)) + x6 (ix1 j) := by
  unfold val_main_v34 val_main_v33 val_main_v32 val_main_v31
  pointwise [dot_S2048x16_S16x256_S2048x256_1_0_0_1_n_n, rank_apply]

/-- The log decay. -/
theorem res2_apply (n : Fin 2048) (j : Fin 256) : val_main_v37 (F := Ideal) x0 x1 x2 x3 x4 x5 x6 (ix2 n j) =
    decay x0 x1 x2 x3 x4 x5 x6 n j := by
  unfold decay
  rw [← gate_apply, ← logDecay_eq]
  unfold val_main_v37 val_main_v36 val_main_v35 val_main_call0_v1 val_main_call0_call0_v11 val_main_call0_call0_v10
    val_main_call0_call0_v9 val_main_call0_call0_v8 val_main_call0_call0_v7 val_main_call0_call0_v6 val_main_call0_call0_v5
    val_main_call0_call0_v4 val_main_call0_call0_v3 val_main_call0_call0_v2 val_main_call0_call0_v1 val_main_call0_call0_v0
    val_main_call0_call0_cst val_main_call0_v0 val_main_cst_3
  generalize val_main_v34 (F := Ideal) x0 x1 x2 x3 x4 x5 x6 = y
  pointwise
  rw [if_neg (not_not.2 rfl)]
  rfl

/-- The attention's queries. -/
theorem res5_apply (n : Fin 2048) (j : Fin 512) : val_main_v48 (F := Ideal) x0 x1 x2 x3 x4 (ix2 n j) =
    query x0 x1 x2 x3 x4 n j := by
  have h : val_main_v42 (F := Ideal) x0 x1 x2 x3 x4 (ix2 n j) = val_main_v39 (F := Ideal) x0 x1 x2 x3 x4
      (ix2 n ⟨j.val / 64 % 2 * 256 + j.val / 128 * 64 + j.val % 64, by omega⟩) := by
    rw [val_main_v42_apply, val_main_v41_apply, val_main_v40_apply]
    refine congrArg _ (funext fun a => Fin.ext ?_)
    have e0 : (n.val * 512 + j.val) / 512 = n.val := by omega
    have e1 : (n.val * 512 + j.val) / 64 % 2 = j.val / 64 % 2 := by omega
    have e2 : (n.val * 512 + j.val) / 128 % 4 = j.val / 128 := by omega
    have e3 : (n.val * 512 + j.val) % 64 = j.val % 64 := by omega
    match a with
    | ⟨0, _⟩ => show ((((n.val * 512 + j.val) / 512 * 2 + (n.val * 512 + j.val) / 64 % 2) * 4 + (n.val * 512 + j.val) / 128 % 4) * 64 + (n.val * 512 + j.val) % 64) / 512 = n.val; rw [e0, e1, e2, e3]; omega
    | ⟨1, _⟩ => show ((((n.val * 512 + j.val) / 512 * 2 + (n.val * 512 + j.val) / 64 % 2) * 4 + (n.val * 512 + j.val) / 128 % 4) * 64 + (n.val * 512 + j.val) % 64) % 512 = j.val / 64 % 2 * 256 + j.val / 128 * 64 + j.val % 64; rw [e0, e1, e2, e3]; omega
  refine Eq.trans (show _ = val_main_v42 (F := Ideal) x0 x1 x2 x3 x4 (ix2 n j) from rfl) (h.trans ?_)
  unfold val_main_v39 val_main_v38 val_main_v25 val_main_cst_4
  pointwise [feature_apply]
  rfl

/-- Its keys and values, in both precisions. -/
theorem res6_apply (n : Fin 2048) (j : Fin 128) : val_main_v26 (F := Ideal) x0 x1 x2 x3 x4 (ix2 n j) =
    feature x0 x1 x2 x3 x4 n ⟨2064 + j.val, by omega⟩ := by
  unfold val_main_v26
  pointwise [feature_apply]

theorem res7_apply (n : Fin 2048) (j : Fin 128) : val_main_v27 (F := Ideal) x0 x1 x2 x3 x4 (ix2 n j) =
    feature x0 x1 x2 x3 x4 n ⟨2192 + j.val, by omega⟩ := by
  unfold val_main_v27
  pointwise [feature_apply]

theorem res8_apply (n : Fin 2048) (j : Fin 128) : val_main_v49 (F := Ideal) x0 x1 x2 x3 x4 (ix2 n j) =
    feature x0 x1 x2 x3 x4 n ⟨2064 + j.val, by omega⟩ := by
  unfold val_main_v49
  pointwise [res6_apply]

theorem res9_apply (n : Fin 2048) (j : Fin 128) : val_main_v50 (F := Ideal) x0 x1 x2 x3 x4 (ix2 n j) =
    feature x0 x1 x2 x3 x4 n ⟨2192 + j.val, by omega⟩ := by
  unfold val_main_v50
  pointwise [res7_apply]

/-- The indexer's queries. -/
theorem res10_apply (n : Fin 2048) (j : Fin 256) : val_main_v51 (F := Ideal) x0 x1 x2 x3 x4 (ix2 n j) =
    feature x0 x1 x2 x3 x4 n ⟨2320 + j.val, by omega⟩ := by
  unfold val_main_v51 val_main_v28
  pointwise [feature_apply]

/-- The indexer's key. -/
theorem res11_apply (n : Fin 2048) (j : Fin 64) : val_main_v29 (F := Ideal) x0 x1 x2 x3 x4 (ix2 n j) =
    feature x0 x1 x2 x3 x4 n ⟨2576 + j.val, by omega⟩ := by
  unfold val_main_v29
  pointwise [feature_apply]

/-- The indexer's key, twice. -/
theorem res12_apply (n : Fin 2048) (j : Fin 128) : val_main_v52 (F := Ideal) x0 x1 x2 x3 x4 (ix2 n j) =
    keyTwice x0 x1 x2 x3 x4 n j := by
  unfold val_main_v52 val_main_v43 keyTwice
  pointwise [res11_apply]
  split_ifs
  all_goals exact congrArg _ (Fin.ext (by dsimp only <;> omega))

/-- The packed lanes. -/
theorem res13_apply (n : Fin 2048) (j : Fin 128) : val_main_v45 (F := Ideal) x0 x1 x2 x3 x4 (ix2 n j) =
    packed x0 x1 x2 x3 x4 n j := by
  unfold val_main_v45 val_main_v44 val_main_v30 val_main_cst_5 packed
  pointwise [res11_apply, rank_apply, feature_apply]
  split_ifs
  all_goals first
    | rw [dif_pos (by omega)]
    | rw [dif_neg (by omega), dif_pos (by omega)]
    | rw [dif_neg (by omega), dif_neg (by omega)]
    | rfl
    | omega
  all_goals first
    | rfl
    | exact congrArg _ (Fin.ext (by dsimp only <;> omega))

end Cert.Proof.InprojS.Ref
-- ==== Proof.InprojSClaim.lean ====
module

public import proofs.«01_k».proof.Defs
public import proofs.«01_k».proof.Proof.InprojSArray
public import proofs.«01_k».proof.Proof.InprojSRefValue
public import proofs.«01_k».proof.Proof.Gen.InprojSRefIdeal.Run

@[expose] public section

noncomputable section

namespace Cert.Proof.InprojS

open Idealize.ShloMosaic Idealize.SL.Sem

instance : Cert.InprojSIdeal.Facts := Cert.InprojSIdeal.Gen.facts
instance : Cert.InprojSRefIdeal.Facts := Cert.InprojSRefIdeal.Gen.facts

variable (m : (ℓ : Loc Cert.InprojSIdeal.nD Cert.InprojSIdeal.τ Cert.InprojSIdeal.sig) → Buf (Elt Ideal) ℓ)
  (c : Dev Cert.InprojSIdeal.nD)

/-! From equal arguments each of the kernel's fourteen result arrays and the reference's are equal. -/

theorem agree0 :
    ((Cert.InprojSIdeal.Gen.dats m 0 c).arrAt 7 Cert.InprojSIdeal.cfg0.N : FVec Ideal ⟨2, ![2048, 256]⟩ .f32) =
      Cert.InprojSRefIdeal.Read.val_main_v47 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 256), i = ix2 n j := ⟨i 0, i 1, eq_ix2 i⟩
  rw [array7_apply, Ref.res0_apply]

theorem agree1 :
    ((Cert.InprojSIdeal.Gen.dats m 0 c).arrAt 8 Cert.InprojSIdeal.cfg0.N : FVec Ideal ⟨2, ![2048, 256]⟩ .f32) =
      Cert.InprojSRefIdeal.Read.val_main_v21 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 256), i = ix2 n j := ⟨i 0, i 1, eq_ix2 i⟩
  rw [array8_apply, Ref.res1_apply]

theorem agree2 :
    ((Cert.InprojSIdeal.Gen.dats m 0 c).arrAt 9 Cert.InprojSIdeal.cfg0.N : FVec Ideal ⟨2, ![2048, 256]⟩ .f32) =
      Cert.InprojSRefIdeal.Read.val_main_v37 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4))
        (m ((c.tc : Thread _ _).loc Cert.InprojSIdeal.main_arg5))
        (m ((c.tc : Thread _ _).loc Cert.InprojSIdeal.main_arg6)) := by
  funext i
  obtain ⟨n, j, rfl⟩ : ∃ (n : Fin 2048) (j : Fin 256), i = ix2 n j := ⟨i 0, i 1, eq_ix2 i⟩
  rw [array9_apply, Ref.res2_apply]

theorem agree3 :
    ((Cert.InprojSIdeal.Gen.dats m 0 c).arrAt 10 Cert.InprojSIdeal.cfg0.N : FVec Ideal ⟨2, ![2048, 512]⟩ .f32) =
      Cert.InprojSRefIdeal.Read.val_main_v22 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 512), i = ix2 n j := ⟨i 0, i 1, eq_ix2 i⟩
  rw [array10_apply, Ref.res3_apply]

theorem agree4 :
    ((Cert.InprojSIdeal.Gen.dats m 0 c).arrAt 11 Cert.InprojSIdeal.cfg0.N : FVec Ideal ⟨2, ![2048, 512]⟩ .f32) =
      Cert.InprojSRefIdeal.Read.val_main_v24 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 512), i = ix2 n j := ⟨i 0, i 1, eq_ix2 i⟩
  rw [array11_apply, Ref.res4_apply]

theorem agree5 :
    ((Cert.InprojSIdeal.Gen.dats m 0 c).arrAt 12 Cert.InprojSIdeal.cfg0.N : FVec Ideal ⟨2, ![2048, 512]⟩ .bf16) =
      Cert.InprojSRefIdeal.Read.val_main_v48 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 512), i = ix2 n j := ⟨i 0, i 1, eq_ix2 i⟩
  rw [array12_apply, Ref.res5_apply]

theorem agree6 :
    ((Cert.InprojSIdeal.Gen.dats m 0 c).arrAt 13 Cert.InprojSIdeal.cfg0.N : FVec Ideal ⟨2, ![2048, 128]⟩ .f32) =
      Cert.InprojSRefIdeal.Read.val_main_v26 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 128), i = ix2 n j := ⟨i 0, i 1, eq_ix2 i⟩
  rw [array13_apply, Ref.res6_apply]

theorem agree7 :
    ((Cert.InprojSIdeal.Gen.dats m 0 c).arrAt 14 Cert.InprojSIdeal.cfg0.N : FVec Ideal ⟨2, ![2048, 128]⟩ .f32) =
      Cert.InprojSRefIdeal.Read.val_main_v27 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 128), i = ix2 n j := ⟨i 0, i 1, eq_ix2 i⟩
  rw [array14_apply, Ref.res7_apply]

theorem agree8 :
    ((Cert.InprojSIdeal.Gen.dats m 0 c).arrAt 15 Cert.InprojSIdeal.cfg0.N : FVec Ideal ⟨2, ![2048, 128]⟩ .bf16) =
      Cert.InprojSRefIdeal.Read.val_main_v49 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 128), i = ix2 n j := ⟨i 0, i 1, eq_ix2 i⟩
  rw [array15_apply, Ref.res8_apply]

theorem agree9 :
    ((Cert.InprojSIdeal.Gen.dats m 0 c).arrAt 16 Cert.InprojSIdeal.cfg0.N : FVec Ideal ⟨2, ![2048, 128]⟩ .bf16) =
      Cert.InprojSRefIdeal.Read.val_main_v50 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 128), i = ix2 n j := ⟨i 0, i 1, eq_ix2 i⟩
  rw [array16_apply, Ref.res9_apply]

theorem agree10 :
    ((Cert.InprojSIdeal.Gen.dats m 0 c).arrAt 17 Cert.InprojSIdeal.cfg0.N : FVec Ideal ⟨2, ![2048, 256]⟩ .bf16) =
      Cert.InprojSRefIdeal.Read.val_main_v51 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 256), i = ix2 n j := ⟨i 0, i 1, eq_ix2 i⟩
  rw [array17_apply, Ref.res10_apply]

theorem agree11 :
    ((Cert.InprojSIdeal.Gen.dats m 0 c).arrAt 18 Cert.InprojSIdeal.cfg0.N : FVec Ideal ⟨2, ![2048, 64]⟩ .f32) =
      Cert.InprojSRefIdeal.Read.val_main_v29 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 64), i = ix2 n j := ⟨i 0, i 1, eq_ix2 i⟩
  rw [array18_apply, Ref.res11_apply]

theorem agree12 :
    ((Cert.InprojSIdeal.Gen.dats m 0 c).arrAt 19 Cert.InprojSIdeal.cfg0.N : FVec Ideal ⟨2, ![2048, 128]⟩ .bf16) =
      Cert.InprojSRefIdeal.Read.val_main_v52 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 128), i = ix2 n j := ⟨i 0, i 1, eq_ix2 i⟩
  rw [array19_apply, Ref.res12_apply]

theorem agree13 :
    ((Cert.InprojSIdeal.Gen.dats m 0 c).arrAt 20 Cert.InprojSIdeal.cfg0.N : FVec Ideal ⟨2, ![2048, 128]⟩ .f32) =
      Cert.InprojSRefIdeal.Read.val_main_v45 (F := Ideal)
        (m ((c.tc : Thread _ _).loc Cert.InprojSIdeal.main_arg0))
        (m ((c.tc : Thread _ _).loc Cert.InprojSIdeal.main_arg1))
        (m ((c.tc : Thread _ _).loc Cert.InprojSIdeal.main_arg2))
        (m ((c.tc : Thread _ _).loc Cert.InprojSIdeal.main_arg3))
        (m ((c.tc : Thread _ _).loc Cert.InprojSIdeal.main_arg4)) := by
  funext i
  obtain ⟨n, j, rfl⟩ : ∃ (n : Fin 2048) (j : Fin 128), i = ix2 n j := ⟨i 0, i 1, eq_ix2 i⟩
  rw [array20_apply, Ref.res13_apply]

set_option maxHeartbeats 4000000 in
/-- Over the extended reals the in-projection kernel computes its reference: from equal arguments both run, end with equal
    results and leave their arguments unchanged. -/
theorem algebraic : Cert.algebraic_InprojSIdeal_InprojSRefIdeal := by
  intro m g m' g' _ h
  refine ⟨fun c => (Cert.InprojSIdeal.Gen.dats m 0 c).arrAt 7 Cert.InprojSIdeal.cfg0.N,
    fun c => (Cert.InprojSIdeal.Gen.dats m 0 c).arrAt 8 Cert.InprojSIdeal.cfg0.N,
    fun c => (Cert.InprojSIdeal.Gen.dats m 0 c).arrAt 9 Cert.InprojSIdeal.cfg0.N,
    fun c => (Cert.InprojSIdeal.Gen.dats m 0 c).arrAt 10 Cert.InprojSIdeal.cfg0.N,
    fun c => (Cert.InprojSIdeal.Gen.dats m 0 c).arrAt 11 Cert.InprojSIdeal.cfg0.N,
    fun c => (Cert.InprojSIdeal.Gen.dats m 0 c).arrAt 12 Cert.InprojSIdeal.cfg0.N,
    fun c => (Cert.InprojSIdeal.Gen.dats m 0 c).arrAt 13 Cert.InprojSIdeal.cfg0.N,
    fun c => (Cert.InprojSIdeal.Gen.dats m 0 c).arrAt 14 Cert.InprojSIdeal.cfg0.N,
    fun c => (Cert.InprojSIdeal.Gen.dats m 0 c).arrAt 15 Cert.InprojSIdeal.cfg0.N,
    fun c => (Cert.InprojSIdeal.Gen.dats m 0 c).arrAt 16 Cert.InprojSIdeal.cfg0.N,
    fun c => (Cert.InprojSIdeal.Gen.dats m 0 c).arrAt 17 Cert.InprojSIdeal.cfg0.N,
    fun c => (Cert.InprojSIdeal.Gen.dats m 0 c).arrAt 18 Cert.InprojSIdeal.cfg0.N,
    fun c => (Cert.InprojSIdeal.Gen.dats m 0 c).arrAt 19 Cert.InprojSIdeal.cfg0.N,
    fun c => (Cert.InprojSIdeal.Gen.dats m 0 c).arrAt 20 Cert.InprojSIdeal.cfg0.N,
    Cert.InprojSIdeal.Value.run_blocks m g, ?_⟩
  refine (θ_run (Cert.InprojSRefIdeal.defs (F := Ideal)) _ _).mono (fun r hr c => ?_) (Cert.InprojSRefIdeal.Value.run m' g')
  obtain ⟨h0, h1, h2, h3, h4, h5, h6⟩ := h c
  obtain ⟨r0, r1, r2, r3, r4, r5, r6, r7, r8, r9, r10, r11, r12, r13, rest⟩ := hr c
  refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, rest⟩
  · rw [Cert.InprojSRefIdeal.Read.val_main_v47_eq, h0, h1, h2, h3, h4]
    exact (agree0 m c).symm
  · rw [Cert.InprojSRefIdeal.Read.val_main_v21_eq, h0, h1, h2, h3, h4]
    exact (agree1 m c).symm
  · rw [Cert.InprojSRefIdeal.Read.val_main_v37_eq, h0, h1, h2, h3, h4, h5, h6]
    exact (agree2 m c).symm
  · rw [Cert.InprojSRefIdeal.Read.val_main_v22_eq, h0, h1, h2, h3, h4]
    exact (agree3 m c).symm
  · rw [Cert.InprojSRefIdeal.Read.val_main_v24_eq, h0, h1, h2, h3, h4]
    exact (agree4 m c).symm
  · rw [Cert.InprojSRefIdeal.Read.val_main_v48_eq, h0, h1, h2, h3, h4]
    exact (agree5 m c).symm
  · rw [Cert.InprojSRefIdeal.Read.val_main_v26_eq, h0, h1, h2, h3, h4]
    exact (agree6 m c).symm
  · rw [Cert.InprojSRefIdeal.Read.val_main_v27_eq, h0, h1, h2, h3, h4]
    exact (agree7 m c).symm
  · rw [Cert.InprojSRefIdeal.Read.val_main_v49_eq, h0, h1, h2, h3, h4]
    exact (agree8 m c).symm
  · rw [Cert.InprojSRefIdeal.Read.val_main_v50_eq, h0, h1, h2, h3, h4]
    exact (agree9 m c).symm
  · rw [Cert.InprojSRefIdeal.Read.val_main_v51_eq, h0, h1, h2, h3, h4]
    exact (agree10 m c).symm
  · rw [Cert.InprojSRefIdeal.Read.val_main_v29_eq, h0, h1, h2, h3, h4]
    exact (agree11 m c).symm
  · rw [Cert.InprojSRefIdeal.Read.val_main_v52_eq, h0, h1, h2, h3, h4]
    exact (agree12 m c).symm
  · rw [Cert.InprojSRefIdeal.Read.val_main_v45_eq, h0, h1, h2, h3, h4]
    exact (agree13 m c).symm

end Cert.Proof.InprojS
-- ==== Proof.GlaOpen.lean ====
/- What one grid point of the linear attention stores, as named steps over its input blocks. -/
module

public import proofs.«01_k».proof.Proof.Gen.GlaIdeal.Value
public import Idealize.ShloMosaic.Lib.Pointwise
public import Idealize.ShloMosaic.Lib.Pipeline.ValueKit.Basic
public import Idealize.ShloMosaic.Lib.Pipeline.ValueKit.Tiles
public import Idealize.ShloMosaic.Lib.Pipeline.ValueKit.Acc

@[expose] public section

noncomputable section

namespace Cert.Proof.Gla

open Idealize.ShloMosaic Idealize.ShloMosaic.TcCoe Idealize.SL.Sem Cert.GlaIdeal Cert.GlaIdeal.Gen

/-- The matrix that sums the 64 key lanes of a head into its 128 value lanes. -/
def headSumV : FVec Ideal S256x512 .bf16 :=
  k0_pay7 (iota .tc S256x512 32 [1] iota_S256x512_d1_w32) k0_pay4 128#32 k0_pay5 k0_pay6 1#32

/-- The mask of the state's diagonal: 1 where a value lane and a key lane belong to one head. -/
def diagV : FVec Ideal S512x256 .f32 :=
  k0_pay12 (iota .tc S512x256 32 [1] iota_S512x256_d1_w32) k0_pay8 64#32 k0_pay9 k0_pay10 k0_pay11

/-- The running log decays of a block of rows. -/
def sumV (g : Vec Ideal S16x256 .f32) : FVec Ideal S16x256 .f32 :=
  k0_pay18 k0_pay13 g (Scalar.ofBits .f32 0x00000000#32) k0_pay17

/-- What the rows take from the state before the block. -/
def interV (q g : Vec Ideal S16x256 .f32) (st : Vec Ideal S512x256 .f32) : FVec Ideal S16x512 .f32 :=
  k0_pay19 k0_pay13 q g (Scalar.ofBits .f32 0x00000000#32) k0_pay17 st

/-- The lane products of every row with row 0, decayed. -/
def prod0V (q k g : Vec Ideal S16x256 .f32) : FVec Ideal S16x256 .f32 :=
  k0_pay20 k0_pay13 (iota .tc S16x1 32 [0] iota_S16x1_d0_w32) q g (k0_pay16 k) (Scalar.ofBits .f32 0x00000000#32) k0_pay17

/-- The lane products of every row with row 1, decayed. -/
def prod1V (q k g : Vec Ideal S16x256 .f32) : FVec Ideal S16x256 .f32 :=
  k0_pay21 k0_pay13 (iota .tc S16x1 32 [0] iota_S16x1_d0_w32) q g (k0_pay16 k) (Scalar.ofBits .f32 0x00000000#32) k0_pay17

/-- The attention of every row to rows 0 to 3, one under the other, spread over the value lanes. -/
def attnV (q k g : Vec Ideal S16x256 .f32) : FVec Ideal S64x512 .f32 :=
  k0_pay22 headSumV (iota .tc S16x1 32 [0] iota_S16x1_d0_w32) q (k0_pay16 k) (sumV g) (prod0V q k g) (prod1V q k g) 2#32

/-- The mixed values of rows 0 to 7 with their first three terms added. -/
def upperV (q k g : Vec Ideal S16x256 .f32) (v : Vec Ideal S16x512 .f32) (st : Vec Ideal S512x256 .f32) :
    FVec Ideal S8x512 .f32 :=
  k0_pay27 headSumV (iota .tc S16x1 32 [0] iota_S16x1_d0_w32) q v (k0_pay16 k) (sumV g) (interV q g st) (prod0V q k g)
    (prod1V q k g) 2#32

/-- The mixed values of rows 8 to 15 with their first two terms added. -/
def lowerV (q k g : Vec Ideal S16x256 .f32) (v : Vec Ideal S16x512 .f32) (st : Vec Ideal S512x256 .f32) :
    FVec Ideal S8x512 .f32 :=
  k0_pay25 headSumV (iota .tc S16x1 32 [0] iota_S16x1_d0_w32) q v (k0_pay16 k) (sumV g) (interV q g st) (prod0V q k g)
    (prod1V q k g) 2#32

/-- The third term of rows 8 to 15. -/
def lower2V (q k g : Vec Ideal S16x256 .f32) (v : Vec Ideal S16x512 .f32) : FVec Ideal S8x512 .f32 :=
  k0_pay28 headSumV (iota .tc S16x1 32 [0] iota_S16x1_d0_w32) q v (k0_pay16 k) (sumV g) (prod0V q k g) (prod1V q k g) 2#32

/-- The output block: the mixed values, normed head by head and gated. -/
def outV (q k g : Vec Ideal S16x256 .f32) (v r : Vec Ideal S16x512 .f32) (gn : Vec Ideal S1x512 .f32)
    (st : Vec Ideal S512x256 .f32) : FVec Ideal S16x512 .bf16 :=
  k0_pay1 (k0_pay14 gn) (k0_pay29 v (attnV q k g) (lowerV q k g v st) (upperV q k g v st) (lower2V q k g v)) r
    (k0_pay31 v (attnV q k g) (lowerV q k g v st) (upperV q k g v st) (lower2V q k g v))
    (k0_pay32 v (attnV q k g) (lowerV q k g v st) (upperV q k g v st) (lower2V q k g v))
    (k0_pay33 v (attnV q k g) (lowerV q k g v st) (upperV q k g v st) (lower2V q k g v))

/-- The state after the block. -/
def stateV (k g : Vec Ideal S16x256 .f32) (v : Vec Ideal S16x512 .f32) (st : Vec Ideal S512x256 .f32) :
    FVec Ideal S512x256 .f32 :=
  k0_pay30 diagV v (k0_pay16 k) (sumV g) st

/-- The rows a grid point works on start at row 0 of its block. -/
theorem offset_zero : ∀ a : Fin 2, k0_off2 a = 0 := by
  decide

variable (c : Dev nD) (t : Fin cfg0.N)

/-- The words the run names for its reads are the blocks themselves: the queries. -/
theorem read_queries (q : Vec Ideal S16x256 .f32) :
    kernelRun0_A.sl.r_3 c (ms0_0 t) (hs0_0 t) q = q := by
  unfold kernelRun0_A.sl.r_3
  rw [View.readAt_eq_ld, (hs0_0 t).read_unread]
  exact View.ld_unit_lit _ _ offset_zero

/-- The log decays. -/
theorem read_decays (g : Vec Ideal S16x256 .f32) :
    kernelRun0_A.sl.r_4 c (ms0_2 t) (hs0_2 t) g = g := by
  unfold kernelRun0_A.sl.r_4
  rw [View.readAt_eq_ld, (hs0_2 t).read_unread]
  exact View.ld_unit_lit _ _ offset_zero

/-- The values. -/
theorem read_values (v : Vec Ideal S16x512 .f32) :
    kernelRun0_A.sl.r_5 c (ms0_3 t) (hs0_3 t) v = v := by
  unfold kernelRun0_A.sl.r_5
  rw [View.readAt_eq_ld, (hs0_3 t).read_unread]
  exact View.ld_unit_lit _ _ offset_zero

/-- The output gates. -/
theorem read_gates (r : Vec Ideal S16x512 .f32) :
    kernelRun0_A.sl.r_16 c (ms0_4 t) (hs0_4 t) r = r := by
  unfold kernelRun0_A.sl.r_16
  rw [View.readAt_eq_ld, (hs0_4 t).read_unread]
  exact View.ld_unit_lit _ _ offset_zero

/-- The gain of the heads' norm. -/
theorem read_gain (n : Vec Ideal S1x512 .f32) : kernelRun0_A.sl.r_2 c (ms0_5 t) (hs0_5 t) n = k0_pay14 (F := Ideal) n := by
  unfold kernelRun0_A.sl.r_2
  rw [View.readAt_eq_ld, (hs0_5 t).read_unread]
  exact congrArg k0_pay14 (View.ld_unit_lit (S := S1x512) _ _ (by decide))

/-- The keys. -/
theorem read_keys (k : Vec Ideal S16x256 .f32) : kernelRun0_A.sl.r_6 c (ms0_1 t) (hs0_1 t) k = k0_pay16 (F := Ideal) k := by
  unfold kernelRun0_A.sl.r_6
  rw [View.readAt_eq_ld, (hs0_1 t).read_unread]
  exact congrArg k0_pay16 (View.ld_unit_lit (S := S16x256) _ _ offset_zero)

/-- The state before the block. -/
theorem read_state (s : Vec Ideal S1x512x256 .f32) :
    kernelRun0_A.sl.v151 c (ms0_6 t) (hs0_6 t) scM0_0 s = k0_pay3 (F := Ideal) s := by
  unfold kernelRun0_A.sl.v151 kernelRun0_A.sl.HS0_1
  rw [View.readCov_unit_lit (S := S512x256) _ _ _ (by decide)]
  rw [View.readAt_eq_ld, (hs0_6 t).read_unread]
  exact congrArg k0_pay3 (View.ld_unit_lit (S := S1x512x256) _ _ (by decide))

/-- The words the run names for what it computes are the steps above: the running sums. -/
theorem run_sum (g : Vec Ideal S16x256 .f32) :
    kernelRun0_A.sl.r_7 c (ms0_2 t) (hs0_2 t) g = sumV g := by
  unfold kernelRun0_A.sl.r_7
  rw [read_decays]
  rfl

/-- What the rows take from the state before. -/
theorem run_inter (q : Vec Ideal S16x256 .f32) (g : Vec Ideal S16x256 .f32) (s : Vec Ideal S1x512x256 .f32) :
    kernelRun0_A.sl.r_8 c (ms0_0 t) (hs0_0 t) (ms0_2 t) (hs0_2 t) (ms0_6 t) (hs0_6 t) scM0_0 q g s = interV q g (k0_pay3 (F := Ideal) s) := by
  unfold kernelRun0_A.sl.r_8
  rw [read_queries, read_decays, read_state]
  rfl

/-- The lane products with row 0. -/
theorem run_prod0 (q : Vec Ideal S16x256 .f32) (k : Vec Ideal S16x256 .f32) (g : Vec Ideal S16x256 .f32) :
    kernelRun0_A.sl.r_9 c (ms0_0 t) (hs0_0 t) (ms0_1 t) (hs0_1 t) (ms0_2 t) (hs0_2 t) q k g = prod0V q k g := by
  unfold kernelRun0_A.sl.r_9
  rw [read_queries, read_keys, read_decays]
  rfl

/-- The lane products with row 1. -/
theorem run_prod1 (q : Vec Ideal S16x256 .f32) (k : Vec Ideal S16x256 .f32) (g : Vec Ideal S16x256 .f32) :
    kernelRun0_A.sl.r_10 c (ms0_0 t) (hs0_0 t) (ms0_1 t) (hs0_1 t) (ms0_2 t) (hs0_2 t) q k g = prod1V q k g := by
  unfold kernelRun0_A.sl.r_10
  rw [read_queries, read_keys, read_decays]
  rfl

/-- The attention to rows 0 to 3. -/
theorem run_attn (q : Vec Ideal S16x256 .f32) (k : Vec Ideal S16x256 .f32) (g : Vec Ideal S16x256 .f32) :
    kernelRun0_A.sl.r_11 c (ms0_0 t) (hs0_0 t) (ms0_1 t) (hs0_1 t) (ms0_2 t) (hs0_2 t) q k g = attnV q k g := by
  unfold kernelRun0_A.sl.r_11
  rw [read_queries, read_keys, run_sum, run_prod0, run_prod1]
  rfl

/-- The first terms of rows 8 to 15. -/
theorem run_lower (q : Vec Ideal S16x256 .f32) (k : Vec Ideal S16x256 .f32) (g : Vec Ideal S16x256 .f32) (v : Vec Ideal S16x512 .f32) (s : Vec Ideal S1x512x256 .f32) :
    kernelRun0_A.sl.r_12 c (ms0_0 t) (hs0_0 t) (ms0_1 t) (hs0_1 t) (ms0_2 t) (hs0_2 t) (ms0_3 t) (hs0_3 t) (ms0_6 t) (hs0_6 t) scM0_0 q k g v s = lowerV q k g v (k0_pay3 (F := Ideal) s) := by
  unfold kernelRun0_A.sl.r_12
  rw [read_queries, read_keys, read_values, run_inter, run_sum, run_prod0, run_prod1]
  rfl

/-- The first terms of rows 0 to 7. -/
theorem run_upper (q : Vec Ideal S16x256 .f32) (k : Vec Ideal S16x256 .f32) (g : Vec Ideal S16x256 .f32) (v : Vec Ideal S16x512 .f32) (s : Vec Ideal S1x512x256 .f32) :
    kernelRun0_A.sl.r_13 c (ms0_0 t) (hs0_0 t) (ms0_1 t) (hs0_1 t) (ms0_2 t) (hs0_2 t) (ms0_3 t) (hs0_3 t) (ms0_6 t) (hs0_6 t) scM0_0 q k g v s = upperV q k g v (k0_pay3 (F := Ideal) s) := by
  unfold kernelRun0_A.sl.r_13
  rw [read_queries, read_keys, read_values, run_inter, run_sum, run_prod0, run_prod1]
  rfl

/-- The third term of rows 8 to 15. -/
theorem run_lower2 (q : Vec Ideal S16x256 .f32) (k : Vec Ideal S16x256 .f32) (g : Vec Ideal S16x256 .f32) (v : Vec Ideal S16x512 .f32) :
    kernelRun0_A.sl.r_14 c (ms0_0 t) (hs0_0 t) (ms0_1 t) (hs0_1 t) (ms0_2 t) (hs0_2 t) (ms0_3 t) (hs0_3 t) q k g v = lower2V q k g v := by
  unfold kernelRun0_A.sl.r_14
  rw [read_queries, read_keys, read_values, run_sum, run_prod0, run_prod1]
  rfl

/-- The mixed values. -/
theorem run_mixed (q : Vec Ideal S16x256 .f32) (k : Vec Ideal S16x256 .f32) (g : Vec Ideal S16x256 .f32) (v : Vec Ideal S16x512 .f32) (s : Vec Ideal S1x512x256 .f32) :
    kernelRun0_A.sl.r_15 c (ms0_0 t) (hs0_0 t) (ms0_1 t) (hs0_1 t) (ms0_2 t) (hs0_2 t) (ms0_3 t) (hs0_3 t) (ms0_6 t) (hs0_6 t) scM0_0 q k g v s = k0_pay29 (F := Ideal) v (attnV q k g) (lowerV q k g v (k0_pay3 (F := Ideal) s)) (upperV q k g v (k0_pay3 (F := Ideal) s)) (lower2V q k g v) := by
  unfold kernelRun0_A.sl.r_15
  rw [read_values, run_attn, run_lower, run_upper, run_lower2]

/-- The first head's sum of squares. -/
theorem run_head0 (q : Vec Ideal S16x256 .f32) (k : Vec Ideal S16x256 .f32) (g : Vec Ideal S16x256 .f32) (v : Vec Ideal S16x512 .f32) (s : Vec Ideal S1x512x256 .f32) :
    kernelRun0_A.sl.r_17 c (ms0_0 t) (hs0_0 t) (ms0_1 t) (hs0_1 t) (ms0_2 t) (hs0_2 t) (ms0_3 t) (hs0_3 t) (ms0_6 t) (hs0_6 t) scM0_0 q k g v s = k0_pay31 (F := Ideal) v (attnV q k g) (lowerV q k g v (k0_pay3 (F := Ideal) s)) (upperV q k g v (k0_pay3 (F := Ideal) s)) (lower2V q k g v) := by
  unfold kernelRun0_A.sl.r_17
  rw [read_values, run_attn, run_lower, run_upper, run_lower2]

/-- The second head's. -/
theorem run_head1 (q : Vec Ideal S16x256 .f32) (k : Vec Ideal S16x256 .f32) (g : Vec Ideal S16x256 .f32) (v : Vec Ideal S16x512 .f32) (s : Vec Ideal S1x512x256 .f32) :
    kernelRun0_A.sl.r_18 c (ms0_0 t) (hs0_0 t) (ms0_1 t) (hs0_1 t) (ms0_2 t) (hs0_2 t) (ms0_3 t) (hs0_3 t) (ms0_6 t) (hs0_6 t) scM0_0 q k g v s = k0_pay32 (F := Ideal) v (attnV q k g) (lowerV q k g v (k0_pay3 (F := Ideal) s)) (upperV q k g v (k0_pay3 (F := Ideal) s)) (lower2V q k g v) := by
  unfold kernelRun0_A.sl.r_18
  rw [read_values, run_attn, run_lower, run_upper, run_lower2]

/-- The second head's factor. -/
theorem run_scale1 (q : Vec Ideal S16x256 .f32) (k : Vec Ideal S16x256 .f32) (g : Vec Ideal S16x256 .f32) (v : Vec Ideal S16x512 .f32) (s : Vec Ideal S1x512x256 .f32) :
    kernelRun0_A.sl.r_19 c (ms0_0 t) (hs0_0 t) (ms0_1 t) (hs0_1 t) (ms0_2 t) (hs0_2 t) (ms0_3 t) (hs0_3 t) (ms0_6 t) (hs0_6 t) scM0_0 q k g v s = k0_pay33 (F := Ideal) v (attnV q k g) (lowerV q k g v (k0_pay3 (F := Ideal) s)) (upperV q k g v (k0_pay3 (F := Ideal) s)) (lower2V q k g v) := by
  unfold kernelRun0_A.sl.r_19
  rw [read_values, run_attn, run_lower, run_upper, run_lower2]

variable (m : (ℓ : Loc nD τ sig) → Buf (Elt Ideal) ℓ)

/-- The state block of a grid point is what the kernel's operations give of the point's input blocks. -/
theorem open_state : (outsAt0 m c t).2 = (k0_pay2 (F := Ideal)
    (stateV (iblk m c 1 t) (iblk m c 2 t) (iblk m c 3 t) (k0_pay3 (F := Ideal) (iblk m c 6 t))) : Vec Ideal S1x512x256 .f32) := by
  unfold outsAt0 out0_A_8
  dsimp only
  rw [View.read_writes_eq_canon _ _ _ (cover0_A_8 c _ _ _ _ _ _ _ _ _ _ _ _ _ _ _ _ _ _ _ _ _ _ _ _ _ _ _ _ _ _)]
  unfold kernelRun0_A
  refine (View.canon_cons_unit_lit (S := S1x512x256) (off := ![0, 0, 0]) _ _ _ (by decide)).trans ?_
  refine congrArg k0_pay2 ?_
  unfold kernelRun0_A.sl.v325 kernelRun0_A.sl.HS0_2
  rw [View.readCov_cons_unit_lit' (S := S512x256) _ _ _ _ _ (by decide) (by decide), read_values, read_keys, run_sum, read_state]
  rfl

/-- The output block of a grid point, likewise. -/
theorem open_out : (outsAt0 m c t).1 = outV (iblk m c 0 t) (iblk m c 1 t) (iblk m c 2 t) (iblk m c 3 t) (iblk m c 4 t)
    (iblk m c 5 t) (k0_pay3 (F := Ideal) (iblk m c 6 t)) := by
  unfold outsAt0 out0_A_7
  dsimp only
  rw [View.read_writes_eq_canon _ _ _ (cover0_A_7 c _ _ _ _ _ _ _ _ _ _ _ _ _ _ _ _ _ _ _ _ _ _ _ _ _ _ _ _ _ _)]
  unfold kernelRun0_A
  refine (View.canon_cons_unit_lit (S := S16x512) (off := k0_off2) _ _ _ offset_zero).trans ?_
  rw [read_gain, run_mixed, read_gates, run_head0, run_head1, run_scale1]
  rfl

end Cert.Proof.Gla

end
-- ==== Proof.GlaMasks.lean ====
/- The masks of the linear attention's kernel: which lanes belong to one head, which rows come before which, and which
   rows are tokens. -/
module

public import proofs.«01_k».proof.Proof.GlaOpen

@[expose] public section

noncomputable section

namespace Cert.Proof.Gla

open Idealize.ShloMosaic Cert.GlaIdeal Cert.GlaIdeal.Gen

/-- The head of a lane as the kernel computes it in words: the quotient, less one where the signs differ and the
    division leaves a rest. -/
def headWord (n w : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt w 0#32)) (Scalar.extui (Scalar.cmpi .slt w 0#32))))
      (IntOp.cmpi .ne (IntOp.remsi ArithUnit.vector n w) 0#32))
    (IntOp.subi (IntOp.divsi ArithUnit.vector n w) 1#32)
    (IntOp.divsi ArithUnit.vector n w)

theorem headWord_keys : ∀ l : Fin 256, headWord (BitVec.ofNat 32 l.val) 64#32 = BitVec.ofNat 32 (l.val / 64) := by
  decide +kernel

theorem headWord_values : ∀ j : Fin 512, headWord (BitVec.ofNat 32 j.val) 128#32 = BitVec.ofNat 32 (j.val / 128) := by
  decide +kernel

/-- A comparison of two heads, as a word. -/
theorem same_head : ∀ a b : Fin 4, BitVec.setWidth 32 (IntOp.cmpi .eq (BitVec.ofNat 32 a.val) (BitVec.ofNat 32 b.val)) =
    if a.val = b.val then 1#32 else 0#32 := by
  decide +kernel

theorem word_one_or_zero (p : Prop) [Decidable p] :
    (FloatOps.sitofp .f32 (if p then 1#32 else 0#32) : Ideal .f32) = if p then 1 else 0 := by
  split_ifs
  · show (((1#32 : BitVec 32).toInt : ℝ) : EReal) = 1
    simp
  · show (((0#32 : BitVec 32).toInt : ℝ) : EReal) = 0
    simp

/-- The matrix that sums a head's key lanes holds 1 where the two lanes are of one head. -/
theorem headSumV_apply (l : Fin 256) (j : Fin 512) :
    headSumV (ix2 l j) = if l.val / 64 = j.val / 128 then 1 else 0 := by
  unfold headSumV k0_pay7 k0_pay4 k0_pay5 k0_pay6
  pointwise
  show FloatOps.sitofp .f32 (BitVec.setWidth 32 (IntOp.cmpi .eq (headWord (BitVec.ofNat 32 l.val) 64#32)
    (headWord (BitVec.ofNat 32 j.val) 128#32))) = _
  rw [headWord_keys, headWord_values,
    same_head ⟨l.val / 64, by have := l.isLt; omega⟩ ⟨j.val / 128, by have := j.isLt; omega⟩]
  exact word_one_or_zero _

/-- So does the mask of the state's diagonal. -/
theorem diagV_apply (j : Fin 512) (l : Fin 256) :
    diagV (ix2 j l) = if j.val / 128 = l.val / 64 then 1 else 0 := by
  unfold diagV k0_pay12 k0_pay8 k0_pay9 k0_pay10 k0_pay11
  pointwise
  show FloatOps.sitofp .f32 (BitVec.setWidth 32 (IntOp.cmpi .eq (headWord (BitVec.ofNat 32 j.val) 128#32)
    (headWord (BitVec.ofNat 32 l.val) 64#32))) = _
  rw [headWord_keys, headWord_values,
    same_head ⟨j.val / 128, by have := j.isLt; omega⟩ ⟨l.val / 64, by have := l.isLt; omega⟩]
  exact word_one_or_zero _

theorem not_before : ∀ r s : Fin 16,
    BitVec.setWidth 32 (IntOp.cmpi .sge (BitVec.ofNat 32 r.val) (BitVec.ofNat 32 s.val)) =
      if s ≤ r then 1#32 else 0#32 := by
  decide +kernel

/-- The triangle of the running sums holds 1 where the second row does not come after the first. -/
theorem tri_apply (r s : Fin 16) : k0_pay13 (F := Ideal) (ix2 r s) = if s ≤ r then 1 else 0 := by
  unfold k0_pay13
  pointwise
  rw [not_before]
  exact word_one_or_zero _

theorem live_word : ∀ r : Fin 16, IntOp.cmpi .slt (BitVec.ofNat 32 r.val) 4#32 = if r.val < 4 then 1#1 else 0#1 := by
  decide +kernel

theorem reach_word : ∀ (r : Fin 16) (s : Fin 4),
    IntOp.cmpi .sge (BitVec.ofNat 32 r.val) (BitVec.ofNat 32 s.val) = if s.val ≤ r.val then 1#1 else 0#1 := by
  decide +kernel

theorem select_if {α : Type} (p : Prop) [Decidable p] (x y : α) :
    Scalar.select (if p then 1#1 else 0#1) x y = if p then x else y := by
  split_ifs <;> rfl

/-- The keys of the rows that are no tokens are put to zero. -/
theorem live_apply (k : Vec Ideal S16x256 .f32) (r : Fin 16) (l : Fin 256) :
    k0_pay16 (F := Ideal) k (ix2 r l) = if r.val < 4 then k (ix2 r l) else 0 := by
  unfold k0_pay16 k0_pay15
  pointwise
  rw [live_word, select_if]

end Cert.Proof.Gla

end
-- ==== Proof.GlaSpec.lean ====
/- What the linear attention computes of one sequence of four new tokens: running log decays, the attention of a token to
   the tokens not after it, what it takes from the state before, the norm of each head with its gate, and the state
   after. -/
module

public import Idealize.ShloMosaic.Lib.Pointwise

@[expose] public section

noncomputable section

namespace Cert.Proof.Gla

open Idealize.ShloMosaic

/-- Key lane `c` of head `h`. -/
def keyLane (h : Fin 4) (c : Fin 64) : Fin 256 := ⟨h.val * 64 + c.val, by omega⟩

/-- Value lane `d` of head `h`. -/
def valueLane (h : Fin 4) (d : Fin 128) : Fin 512 := ⟨h.val * 128 + d.val, by omega⟩

/-- The log decay summed up to and with token `t`. -/
def total (g : Fin 4 → Fin 256 → EReal) (t : Fin 4) (l : Fin 256) : EReal := ∑ s : Fin 4, if s ≤ t then g s l else 0

/-- How much of token `s` is left at token `t`; nothing where it comes after. -/
def kept (g : Fin 4 → Fin 256 → EReal) (t s : Fin 4) (l : Fin 256) : EReal :=
  Ideal.exp (if s ≤ t then total g t l - total g s l else ⊥)

/-- The attention of token `t` to token `s` in head `h`. -/
def attn (q k g : Fin 4 → Fin 256 → EReal) (t s h : Fin 4) : EReal :=
  ∑ c : Fin 64, q t (keyLane h c) * kept g t s (keyLane h c) * k s (keyLane h c)

/-- The mixed value of token `t`: from the state before, and from the tokens not after it. -/
def mixed (q k g : Fin 4 → Fin 256 → EReal) (v : Fin 4 → Fin 512 → EReal) (S : Fin 4 → Fin 64 → Fin 128 → EReal)
    (t h : Fin 4) (d : Fin 128) : EReal :=
  (∑ c : Fin 64, q t (keyLane h c) * Ideal.exp (total g t (keyLane h c)) * S h c d) +
    ∑ s : Fin 4, attn q k g t s h * v s (valueLane h d)

/-- The output of token `t`: the mixed values of a head over their root mean square, with the gain and the gate. -/
def gated (q k g : Fin 4 → Fin 256 → EReal) (v r : Fin 4 → Fin 512 → EReal) (n : Fin 128 → EReal)
    (S : Fin 4 → Fin 64 → Fin 128 → EReal) (t h : Fin 4) (d : Fin 128) : EReal :=
  mixed q k g v S t h d *
      Ideal.rsqrt (Ideal.div (∑ e : Fin 128, mixed q k g v S t h e * mixed q k g v S t h e) (Ideal.ofBits .f32 0x43000000#32) +
        Ideal.ofBits .f32 0x358637BD#32) * n d *
    (r t (valueLane h d) * Ideal.logistic (r t (valueLane h d)))

/-- The state after the four tokens. -/
def nextState (k g : Fin 4 → Fin 256 → EReal) (v : Fin 4 → Fin 512 → EReal) (S : Fin 4 → Fin 64 → Fin 128 → EReal)
    (h : Fin 4) (c : Fin 64) (d : Fin 128) : EReal :=
  Ideal.exp (total g 3 (keyLane h c)) * S h c d +
    ∑ s : Fin 4, k s (keyLane h c) * Ideal.exp (total g 3 (keyLane h c) - total g s (keyLane h c)) * v s (valueLane h d)

/-- A sum over the key lanes of which only one head's count. -/
theorem sum_head (f : Fin 256 → EReal) (h : Fin 4) (hf : ∀ l : Fin 256, l.val / 64 ≠ h.val → f l = 0) :
    ∑ l, f l = ∑ c : Fin 64, f (keyLane h c) := by
  symm
  refine Finset.sum_of_injOn (fun c => keyLane h c) ?_ (fun _ _ => Finset.mem_coe.2 (Finset.mem_univ _)) ?_ (fun _ _ => rfl)
  · intro a _ b _ hab
    have := congrArg Fin.val hab
    simp only [keyLane] at this
    exact Fin.ext (by omega)
  · intro l _ hl
    refine hf l fun hd => hl ?_
    refine Set.mem_image_of_mem (fun c => keyLane h c) (Finset.mem_coe.2 (Finset.mem_univ (⟨l.val % 64, by omega⟩ : Fin 64))) |> fun h' => ?_
    have e : keyLane h ⟨l.val % 64, by omega⟩ = l := Fin.ext (by simp only [keyLane]; omega)
    rw [← e]
    exact h'

/-- Row `s` of a sequence's sixteen rows, for a token. -/
def tok (s : Fin 4) : Fin 16 := ⟨s.val, by omega⟩

/-- A sum over the sixteen rows of which only the tokens count. -/
theorem sum_tokens (f : Fin 16 → EReal) (hf : ∀ r : Fin 16, ¬ r.val < 4 → f r = 0) : ∑ r, f r = ∑ s : Fin 4, f (tok s) := by
  symm
  refine Finset.sum_of_injOn tok ?_ (fun _ _ => Finset.mem_coe.2 (Finset.mem_univ _)) ?_ (fun _ _ => rfl)
  · intro a _ b _ hab
    have := congrArg Fin.val hab
    simp only [tok] at this
    exact Fin.ext this
  · intro r _ hr
    refine hf r fun hd => hr ?_
    exact ⟨⟨r.val, hd⟩, Finset.mem_coe.2 (Finset.mem_univ _), rfl⟩

/-- A number below infinity with its two rounding rests, which are taken away from it again. -/
theorem rests_vanish (x : EReal) (hx : x ≠ ⊤) : x + (x - x) + ((x - x) - (x - x)) = x := by
  induction x with
  | bot => simp
  | top => exact absurd rfl hx
  | coe x => rw [← EReal.coe_sub, ← EReal.coe_sub, ← EReal.coe_add, ← EReal.coe_add]; exact congrArg _ (by ring)

/-- Row `r` of sequence `b`, as a row of the whole arrays. -/
def seqRow (b : Fin 128) (r : Fin 16) : Fin 2048 := ⟨b.val * 16 + r.val, by omega⟩

/-- The key lanes of a sequence's tokens. -/
def keysOf (a : FVec Ideal ⟨2, ![2048, 256]⟩ .f32) (b : Fin 128) : Fin 4 → Fin 256 → EReal :=
  fun t l => a (ix2 (seqRow b (tok t)) l)

/-- The value lanes of a sequence's tokens. -/
def valuesOf (a : FVec Ideal ⟨2, ![2048, 512]⟩ .f32) (b : Fin 128) : Fin 4 → Fin 512 → EReal :=
  fun t j => a (ix2 (seqRow b (tok t)) j)

/-- The state of a sequence. -/
def stateOf (a : FVec Ideal ⟨4, ![128, 4, 64, 128]⟩ .f32) (b : Fin 128) : Fin 4 → Fin 64 → Fin 128 → EReal :=
  fun h c d => a (ix4 b h c d)

/-- The literal both programs put where a token comes before another is minus infinity. -/
theorem minus_infinity : Ideal.ofBits .f32 0xFF800000#32 = ⊥ := by
  simp [Ideal.ofBits, Ideal.ieee]

/-- The literal zero. -/
theorem zero_literal : Ideal.ofBits .f32 0x00000000#32 = 0 := by
  simp [Ideal.ofBits, Ideal.ieee]

end Cert.Proof.Gla

end
-- ==== Proof.GlaBlock.lean ====
/- The steps of one grid point of the linear attention, element by element. -/
module

public import proofs.«01_k».proof.Proof.GlaMasks
public import proofs.«01_k».proof.Proof.GlaSpec

@[expose] public section

noncomputable section

namespace Cert.Proof.Gla

open Idealize.ShloMosaic Cert.GlaIdeal Cert.GlaIdeal.Gen

/-- The tokens' rows of a block of key lanes. -/
def rows (x : Vec Ideal S16x256 .f32) (t : Fin 4) (l : Fin 256) : EReal := x (ix2 (tok t) l)

/-- The tokens' rows of a block of value lanes. -/
def wide (x : Vec Ideal S16x512 .f32) (t : Fin 4) (j : Fin 512) : EReal := x (ix2 (tok t) j)

/-- The literal zero of the running sums. -/
theorem zero_word : (Scalar.ofBits .f32 0x00000000#32 : Ideal .f32) = (0 : EReal) := by
  show Ideal.ofBits .f32 0x00000000#32 = 0
  simp [Ideal.ofBits, Ideal.ieee]

/-- The running sums with their initial zero written out. -/
theorem fold_sum (g : Vec Ideal S16x256 .f32) : k0_pay18 k0_pay13 g (0 : EReal) k0_pay17 = sumV g := by
  unfold sumV
  rw [zero_word]

/-- The running log decays: the kernel splits them in three roundings, of which only the first is left here. -/
theorem sumV_apply (g : Vec Ideal S16x256 .f32) (hg : ∀ t l, rows g t l ≠ ⊤) (r : Fin 16) (l : Fin 256) :
    sumV g (ix2 r l) = ∑ s : Fin 4, if s.val ≤ r.val then rows g s l else 0 := by
  unfold sumV k0_pay18 k0_pay17 k0_pay15
  pointwise [dot_S16x16_S16x256_S16x256_1_0_0_1_n_n]
  simp only [live_word, select_if, tri_apply]
  rw [← Finset.sum_add_distrib, ← Finset.sum_add_distrib, sum_tokens]
  · refine Finset.sum_congr rfl fun s _ => ?_
    have h4 : (tok s).val < 4 := s.isLt
    have hle : (tok s ≤ r) ↔ s.val ≤ r.val := Iff.rfl
    simp only [if_pos h4, hle]
    split_ifs
    · simp only [one_mul]
      exact rests_vanish _ (hg s l)
    · simp only [zero_mul, add_zero]
  · intro s hs
    simp only [if_neg hs, sub_zero, mul_zero, add_zero]

/-- A row takes from the state what its decayed query asks for. -/
theorem interV_apply (q g : Vec Ideal S16x256 .f32) (st : Vec Ideal S512x256 .f32) (r : Fin 16) (j : Fin 512) :
    interV q g st (ix2 r j) = ∑ l : Fin 256, q (ix2 r l) * Ideal.exp (sumV g (ix2 r l)) * st (ix2 j l) := by
  unfold interV k0_pay19
  pointwise [dot_S16x256_S512x256_S16x512_1_1_0_0_n_n]
  rw [fold_sum]

/-- The lane products of row `r` with row `s`, decayed. -/
def prodAt (q k g : Vec Ideal S16x256 .f32) (s : Fin 4) (r : Fin 16) (l : Fin 256) : EReal :=
  q (ix2 r l) * rows k s l * Ideal.exp (if s.val ≤ r.val then sumV g (ix2 r l) - sumV g (ix2 (tok s) l) else ⊥)

/-- A row reaches token 0 when it does not come before it; likewise the next three. -/
theorem reach0 (r : Fin 16) : IntOp.cmpi .sge (BitVec.ofNat 32 r.val) 0#32 = if (0 : Fin 4).val ≤ r.val then 1#1 else 0#1 :=
  reach_word r 0

theorem reach1 (r : Fin 16) : IntOp.cmpi .sge (BitVec.ofNat 32 r.val) 1#32 = if (1 : Fin 4).val ≤ r.val then 1#1 else 0#1 :=
  reach_word r 1

theorem reach2 (r : Fin 16) : IntOp.cmpi .sge (BitVec.ofNat 32 r.val) 2#32 = if (2 : Fin 4).val ≤ r.val then 1#1 else 0#1 :=
  reach_word r 2

theorem reach3 (r : Fin 16) : IntOp.cmpi .sge (BitVec.ofNat 32 r.val) 3#32 = if (3 : Fin 4).val ≤ r.val then 1#1 else 0#1 :=
  reach_word r 3

/-- The lane products with row 0. -/
theorem prod0V_apply (q k g : Vec Ideal S16x256 .f32) (r : Fin 16) (l : Fin 256) :
    prod0V q k g (ix2 r l) = prodAt q k g 0 r l := by
  unfold prod0V k0_pay20
  pointwise
  rw [fold_sum, live_apply, minus_infinity, reach0, select_if]
  rfl

/-- The lane products with row 1. -/
theorem prod1V_apply (q k g : Vec Ideal S16x256 .f32) (r : Fin 16) (l : Fin 256) :
    prod1V q k g (ix2 r l) = prodAt q k g 1 r l := by
  unfold prod1V k0_pay21
  pointwise
  rw [fold_sum, live_apply, minus_infinity, reach1, select_if]
  rfl

/-- The attention to each of the four tokens: the lane products summed over a head's key lanes. -/
theorem attnV_apply0 (q k g : Vec Ideal S16x256 .f32) (r : Fin 16) (j : Fin 512) :
    attnV q k g (ix2 ⟨r.val, by omega⟩ j) = ∑ l : Fin 256, prodAt q k g 0 r l * headSumV (ix2 l j) := by
  unfold attnV k0_pay22
  pointwise [dot_S64x256_S256x512_S64x512_1_0_0_1_n_n]
  simp only [prod0V_apply]

theorem attnV_apply1 (q k g : Vec Ideal S16x256 .f32) (r : Fin 16) (j : Fin 512) :
    attnV q k g (ix2 ⟨16 + r.val, by omega⟩ j) = ∑ l : Fin 256, prodAt q k g 1 r l * headSumV (ix2 l j) := by
  unfold attnV k0_pay22
  pointwise [dot_S64x256_S256x512_S64x512_1_0_0_1_n_n]
  refine Finset.sum_congr rfl fun l _ => congrArg (· * _) ?_
  exact prod1V_apply q k g r l

theorem attnV_apply2 (q k g : Vec Ideal S16x256 .f32) (r : Fin 16) (j : Fin 512) :
    attnV q k g (ix2 ⟨32 + r.val, by omega⟩ j) = ∑ l : Fin 256, prodAt q k g 2 r l * headSumV (ix2 l j) := by
  unfold attnV k0_pay22
  pointwise [dot_S64x256_S256x512_S64x512_1_0_0_1_n_n]
  refine Finset.sum_congr rfl fun l _ => congrArg (· * _) ?_
  rw [dif_neg (by omega), dif_neg (by omega), dif_pos (by omega)]
  simp only [show 32 + r.val - 16 - 16 = r.val by omega, Fin.eta]
  rw [reach2, minus_infinity, live_apply, select_if]
  rfl

theorem attnV_apply3 (q k g : Vec Ideal S16x256 .f32) (r : Fin 16) (j : Fin 512) :
    attnV q k g (ix2 ⟨48 + r.val, by omega⟩ j) = ∑ l : Fin 256, prodAt q k g 3 r l * headSumV (ix2 l j) := by
  unfold attnV k0_pay22
  pointwise [dot_S64x256_S256x512_S64x512_1_0_0_1_n_n]
  refine Finset.sum_congr rfl fun l _ => congrArg (· * _) ?_
  rw [dif_neg (by omega), dif_neg (by omega), dif_neg (by omega)]
  simp only [show 48 + r.val - 16 - 16 - 16 = r.val by omega, Fin.eta]
  rw [reach3, minus_infinity, live_apply, select_if]
  rfl

/-- The mixed values of rows 0 to 7, their first three terms. -/
theorem upperV_apply (q k g : Vec Ideal S16x256 .f32) (v : Vec Ideal S16x512 .f32) (st : Vec Ideal S512x256 .f32)
    (r : Fin 8) (j : Fin 512) : upperV q k g v st (ix2 r j) =
      interV q g st (ix2 ⟨r.val, by omega⟩ j) + attnV q k g (ix2 ⟨r.val, by omega⟩ j) * v (ix2 0 j)
        + attnV q k g (ix2 ⟨16 + r.val, by omega⟩ j) * v (ix2 1 j)
        + attnV q k g (ix2 ⟨32 + r.val, by omega⟩ j) * v (ix2 2 j) := by
  unfold upperV k0_pay27 k0_pay26 k0_pay24 k0_pay23
  pointwise
  rfl

/-- The mixed values of a block. -/
def mixedV (q k g : Vec Ideal S16x256 .f32) (v : Vec Ideal S16x512 .f32) (st : Vec Ideal S512x256 .f32) :
    FVec Ideal S16x512 .f32 :=
  k0_pay29 v (attnV q k g) (lowerV q k g v st) (upperV q k g v st) (lower2V q k g v)

/-- Of a row: what the state gives, and the four tokens. -/
theorem mixedV_apply (q k g : Vec Ideal S16x256 .f32) (v : Vec Ideal S16x512 .f32) (st : Vec Ideal S512x256 .f32)
    (t : Fin 4) (j : Fin 512) : mixedV q k g v st (ix2 (tok t) j) =
      interV q g st (ix2 (tok t) j) + ∑ s : Fin 4, (∑ l : Fin 256, prodAt q k g s (tok t) l * headSumV (ix2 l j)) * wide v s j := by
  have h : t.val < 8 := by omega
  unfold mixedV k0_pay29
  pointwise
  rw [dif_pos (show (tok t).val < 8 from h), upperV_apply]
  rw [Fin.sum_univ_four, ← add_assoc, ← add_assoc, ← add_assoc]
  exact congrArg₂ (· + ·) (congrArg₂ (· + ·) (congrArg₂ (· + ·) (congrArg₂ (· + ·) rfl
    (congrArg (· * v (ix2 0 j)) (attnV_apply0 q k g (tok t) j)))
    (congrArg (· * v (ix2 1 j)) (attnV_apply1 q k g (tok t) j)))
    (congrArg (· * v (ix2 2 j)) (attnV_apply2 q k g (tok t) j)))
    (congrArg (· * v (ix2 3 j)) (attnV_apply3 q k g (tok t) j))

/-- The output of a row of tokens. -/
theorem outV_apply (q k g : Vec Ideal S16x256 .f32) (v r : Vec Ideal S16x512 .f32) (n : Vec Ideal S1x512 .f32)
    (st : Vec Ideal S512x256 .f32) (a : Fin 16) (h : Fin 4) (d : Fin 128) :
    outV q k g v r n st (ix2 a (valueLane h d)) =
      mixedV q k g v st (ix2 a (valueLane h d)) *
        Ideal.rsqrt (Ideal.div (∑ e : Fin 128, mixedV q k g v st (ix2 a (valueLane h e)) * mixedV q k g v st (ix2 a (valueLane h e)))
          (Ideal.ofBits .f32 0x43000000#32) + Ideal.ofBits .f32 0x358637BD#32) * n (ix2 0 (valueLane h d)) *
        (r (ix2 a (valueLane h d)) * Ideal.logistic (r (ix2 a (valueLane h d)))) := by
  unfold outV
  unfold k0_pay33 k0_pay32 k0_pay31
  generalize e : k0_pay29 v (attnV q k g) (lowerV q k g v st) (upperV q k g v st) (lower2V q k g v) = w
  change mixedV q k g v st = w at e
  rw [e]
  unfold k0_pay1 k0_pay14
  pointwise
  refine congrArg (· * (r (ix2 a (valueLane h d)) * _)) (congrArg (· * n (ix2 0 (valueLane h d))) ?_)
  obtain ⟨h, hh⟩ := h
  interval_cases h
  · have hv : (valueLane ⟨0, hh⟩ d).val = 0 + d.val := by simp only [valueLane] <;> omega
    have hi : ∀ e : Fin 128, valueLane ⟨0, hh⟩ e = ⟨e.val, by omega⟩ := fun e => Fin.ext (by simp only [valueLane] <;> omega)
    rw [dif_pos (by rw [hv]; omega)]
    exact congrArg₂ (· * ·) (congrArg w (congrArg (ix2 a) (Fin.ext (by dsimp only <;> omega))))
      (congrArg Ideal.rsqrt (congrArg (· + _) (congrArg (Ideal.div · _) (Finset.sum_congr rfl fun e _ => by rw [hi e]))))
  · have hv : (valueLane ⟨1, hh⟩ d).val = 128 + d.val := by simp only [valueLane] <;> omega
    have hi : ∀ e : Fin 128, valueLane ⟨1, hh⟩ e = ⟨128 + e.val, by omega⟩ := fun e => Fin.ext (by simp only [valueLane] <;> omega)
    rw [dif_neg (by rw [hv]; omega), dif_pos (by rw [hv]; omega)]
    exact congrArg₂ (· * ·) (congrArg w (congrArg (ix2 a) (Fin.ext (by dsimp only <;> omega))))
      (congrArg Ideal.rsqrt (congrArg (· + _) (congrArg (Ideal.div · _) (Finset.sum_congr rfl fun e _ => by rw [hi e]))))
  · have hv : (valueLane ⟨2, hh⟩ d).val = 256 + d.val := by simp only [valueLane] <;> omega
    have hi : ∀ e : Fin 128, valueLane ⟨2, hh⟩ e = ⟨256 + e.val, by omega⟩ := fun e => Fin.ext (by simp only [valueLane] <;> omega)
    rw [dif_neg (by rw [hv]; omega), dif_neg (by rw [hv]; omega), dif_pos (by rw [hv]; omega)]
    exact congrArg₂ (· * ·) (congrArg w (congrArg (ix2 a) (Fin.ext (by dsimp only <;> omega))))
      (congrArg Ideal.rsqrt (congrArg (· + _) (congrArg (Ideal.div · _) (Finset.sum_congr rfl fun e _ => by rw [hi e]))))
  · have hv : (valueLane ⟨3, hh⟩ d).val = 384 + d.val := by simp only [valueLane] <;> omega
    have hi : ∀ e : Fin 128, valueLane ⟨3, hh⟩ e = ⟨384 + e.val, by omega⟩ := fun e => Fin.ext (by simp only [valueLane] <;> omega)
    rw [dif_neg (by rw [hv]; omega), dif_neg (by rw [hv]; omega), dif_neg (by rw [hv]; omega)]
    exact congrArg₂ (· * ·) (congrArg w (congrArg (ix2 a) (Fin.ext (by dsimp only <;> omega))))
      (congrArg Ideal.rsqrt (congrArg (· + _) (congrArg (Ideal.div · _) (Finset.sum_congr rfl fun e _ => by rw [hi e]))))

/-- The state after the block, masked to the diagonal. -/
theorem stateV_apply (k g : Vec Ideal S16x256 .f32) (v : Vec Ideal S16x512 .f32) (st : Vec Ideal S512x256 .f32)
    (j : Fin 512) (l : Fin 256) : stateV k g v st (ix2 j l) =
      st (ix2 j l) * Ideal.exp (sumV g (ix2 15 l)) +
        (∑ s : Fin 4, wide v s j * (rows k s l * Ideal.exp (sumV g (ix2 15 l) - sumV g (ix2 (tok s) l)))) *
          (if j.val / 128 = l.val / 64 then 1 else 0) := by
  unfold stateV k0_pay30
  pointwise [dot_S16x512_S16x256_S512x256_0_0_1_1_n_n]
  rw [diagV_apply, sum_tokens]
  · refine congrArg₂ _ rfl (congrArg₂ _ (Finset.sum_congr rfl fun s _ => ?_) rfl)
    rw [live_apply, if_pos (show (tok s).val < 4 from s.isLt)]
    rfl
  · intro s hs
    rw [live_apply, if_neg hs, zero_mul, mul_zero]

end Cert.Proof.Gla

end
-- ==== Proof.GlaPoint.lean ====
/- What one grid point of the linear attention leaves: the outputs of a sequence's tokens, and its state after them. -/
module

public import proofs.«01_k».proof.Proof.GlaBlock

@[expose] public section

noncomputable section

namespace Cert.Proof.Gla

open Idealize.ShloMosaic Cert.GlaIdeal Cert.GlaIdeal.Gen

variable (q k g : Vec Ideal S16x256 .f32) (v r : Vec Ideal S16x512 .f32) (n : Vec Ideal S1x512 .f32)
variable (st : Vec Ideal S512x256 .f32) (S : Fin 4 → Fin 64 → Fin 128 → EReal)

theorem sum_at_token (hg : ∀ t l, rows g t l ≠ ⊤) (t : Fin 4) (l : Fin 256) :
    sumV g (ix2 (tok t) l) = total (rows g) t l :=
  sumV_apply g hg (tok t) l

/-- The last row of a sequence holds the whole decay. -/
theorem sum_at_end (hg : ∀ t l, rows g t l ≠ ⊤) (l : Fin 256) : sumV g (ix2 15 l) = total (rows g) 3 l := by
  rw [sumV_apply g hg]
  refine Finset.sum_congr rfl fun s _ => ?_
  rw [if_pos (show s.val ≤ (15 : Fin 16).val by show s.val ≤ 15; omega), if_pos (show s ≤ 3 from Fin.le_def.2 (by show s.val ≤ 3; omega))]

/-- A head's lane products summed over its key lanes are its attention. -/
theorem attn_at (hg : ∀ t l, rows g t l ≠ ⊤) (s t h : Fin 4) (d : Fin 128) :
    ∑ l : Fin 256, prodAt q k g s (tok t) l * headSumV (ix2 l (valueLane h d)) = attn (rows q) (rows k) (rows g) t s h := by
  have hv : (valueLane h d).val / 128 = h.val := by simp only [valueLane]; omega
  rw [sum_head _ h]
  · refine Finset.sum_congr rfl fun c _ => ?_
    have hk : (keyLane h c).val / 64 = h.val := by simp only [keyLane]; omega
    rw [headSumV_apply, hv, hk, if_pos rfl, mul_one]
    unfold prodAt kept
    rw [sum_at_token g hg, sum_at_token g hg, mul_right_comm]
    rfl
  · intro l hl
    rw [headSumV_apply, hv, if_neg hl, mul_zero]

theorem mixed_at (hg : ∀ t l, rows g t l ≠ ⊤) (hS : ∀ h c d, st (ix2 (valueLane h d) (keyLane h c)) = S h c d)
    (h0 : ∀ (j : Fin 512) (l : Fin 256), j.val / 128 ≠ l.val / 64 → st (ix2 j l) = 0) (t h : Fin 4) (d : Fin 128) :
    mixedV q k g v st (ix2 (tok t) (valueLane h d)) = mixed (rows q) (rows k) (rows g) (wide v) S t h d := by
  have hv : (valueLane h d).val / 128 = h.val := by simp only [valueLane]; omega
  rw [mixedV_apply, interV_apply, sum_head _ h]
  · refine congrArg₂ _ (Finset.sum_congr rfl fun c _ => ?_) (Finset.sum_congr rfl fun s _ => ?_)
    · rw [sum_at_token g hg, hS]
      rfl
    · rw [attn_at q k g hg]
  · intro l hl
    rw [h0 _ _ (by rw [hv]; exact fun e => hl e.symm), mul_zero]

/-- The output block at a token. -/
theorem out_at (hg : ∀ t l, rows g t l ≠ ⊤) (hS : ∀ h c d, st (ix2 (valueLane h d) (keyLane h c)) = S h c d)
    (h0 : ∀ (j : Fin 512) (l : Fin 256), j.val / 128 ≠ l.val / 64 → st (ix2 j l) = 0) (N : Fin 128 → EReal)
    (hn : ∀ h d, n (ix2 0 (valueLane h d)) = N d) (t h : Fin 4) (d : Fin 128) :
    outV q k g v r n st (ix2 (tok t) (valueLane h d)) =
      gated (rows q) (rows k) (rows g) (wide v) (wide r) N S t h d := by
  rw [outV_apply]
  simp only [mixed_at q k g v st S hg hS h0, hn]
  rfl

/-- The state block within a head. -/
theorem state_at (hg : ∀ t l, rows g t l ≠ ⊤) (hS : ∀ h c d, st (ix2 (valueLane h d) (keyLane h c)) = S h c d)
    (h : Fin 4) (c : Fin 64) (d : Fin 128) :
    stateV k g v st (ix2 (valueLane h d) (keyLane h c)) = nextState (rows k) (rows g) (wide v) S h c d := by
  have hv : (valueLane h d).val / 128 = h.val := by simp only [valueLane]; omega
  have hk : (keyLane h c).val / 64 = h.val := by simp only [keyLane]; omega
  rw [stateV_apply, hv, hk, if_pos rfl, mul_one, sum_at_end g hg, hS, mul_comm]
  refine congrArg₂ _ rfl (Finset.sum_congr rfl fun s _ => ?_)
  rw [sum_at_token g hg, mul_comm]

/-- The state block between heads is zero. -/
theorem state_off (h0 : ∀ (j : Fin 512) (l : Fin 256), j.val / 128 ≠ l.val / 64 → st (ix2 j l) = 0)
    (j : Fin 512) (l : Fin 256) (hj : j.val / 128 ≠ l.val / 64) : stateV k g v st (ix2 j l) = 0 := by
  rw [stateV_apply, if_neg hj, mul_zero, h0 j l hj, zero_mul, add_zero]

end Cert.Proof.Gla

end
-- ==== Proof.GlaArray.lean ====
/- The linear attention's arrays after the run: each grid point takes one sequence, so the two result arrays are the
   per-sequence values of the specification. -/
module

public import proofs.«01_k».proof.Proof.GlaPoint
public import proofs.«01_k».proof.Proof.Gen.GlaIdeal.Value

@[expose] public section

noncomputable section

namespace Cert.Proof.Gla

open Idealize.ShloMosaic Idealize.ShloMosaic.TcCoe Idealize.SL.Sem Cert.GlaIdeal Cert.GlaIdeal.Gen

variable (m : (ℓ : Loc nD τ sig) → Buf (Elt Ideal) ℓ) (c : Dev nD)

/-- Where each window's block lies at each grid point: everything by the point, the gain whole. -/
theorem index_rows : ∀ t : Fin cfg0.N,
    (win0_0.index t 0 = t.val ∧ win0_0.index t 1 = 0) ∧ (win0_1.index t 0 = t.val ∧ win0_1.index t 1 = 0) ∧
    (win0_2.index t 0 = t.val ∧ win0_2.index t 1 = 0) ∧ (win0_3.index t 0 = t.val ∧ win0_3.index t 1 = 0) ∧
    (win0_4.index t 0 = t.val ∧ win0_4.index t 1 = 0) ∧ (win0_7.index t 0 = t.val ∧ win0_7.index t 1 = 0) := by
  decide +kernel

theorem index_rest : ∀ t : Fin cfg0.N,
    (win0_5.index t 0 = 0 ∧ win0_5.index t 1 = 0) ∧
    (win0_6.index t 0 = t.val ∧ win0_6.index t 1 = 0 ∧ win0_6.index t 2 = 0) ∧
    (win0_8.index t 0 = t.val ∧ win0_8.index t 1 = 0 ∧ win0_8.index t 2 = 0) := by
  decide +kernel

theorem flush_out : ∀ t : Fin cfg0.N, (cfg0.win 7).flush t = true := by
  decide +kernel

theorem flush_state : ∀ t : Fin cfg0.N, (cfg0.win 8).flush t = true := by
  decide +kernel

/-- The sequence a grid point takes. -/
def seqOf (t : Fin cfg0.N) : Fin 128 := ⟨t.val, by have h : cfg0.N = 128 := N_0; have := t.isLt; omega⟩

/-- The gain reaches the kernel once per head. -/
theorem V_gain (h : Fin 4) (d : Fin 128) :
    (V m c main_v16 : Vec Ideal S1x512 .f32) (ix2 0 (valueLane h d)) = m ((c : Thread nD τ).loc main_arg5) (ix1 d) := by
  dsimp only [V, hostOps0]
  after_results
  pointwise
  exact congrArg (m ((c : Thread nD τ).loc main_arg5)) (congrArg ix1 (Fin.ext (by simp only [valueLane]; omega)))

/-- Equal heads give the factor one, others zero. -/
theorem eye_word : ∀ a b : Fin 4,
    IntOp.cmpi .eq (IntOp.addi (BitVec.ofNat 32 a.val) 0#32) (BitVec.ofNat 32 b.val) = if a = b then 1#1 else 0#1 := by
  decide +kernel

theorem eye_one : (FloatOps.uitofp .f32 1#1 : Ideal .f32) = (1 : EReal) := by
  show (((1#1 : BitVec 1).toNat : ℝ) : EReal) = 1
  simp

theorem eye_zero : (FloatOps.uitofp .f32 0#1 : Ideal .f32) = (0 : EReal) := by
  show (((0#1 : BitVec 1).toNat : ℝ) : EReal) = 0
  simp

theorem eye_times (a b : Fin 4) (x : EReal) :
    x * (FloatOps.uitofp .f32 (IntOp.cmpi .eq (IntOp.addi (BitVec.ofNat 32 a.val) 0#32) (BitVec.ofNat 32 b.val)) : Ideal .f32) =
      if a.val = b.val then x else 0 := by
  rw [eye_word]
  by_cases h : a = b
  · rw [if_pos h, if_pos (congrArg Fin.val h), eye_one, mul_one]
  · rw [if_neg h, if_neg fun e => h (Fin.ext e), eye_zero, mul_zero]

/-- The state reaches the kernel transposed, each head's on the diagonal of a block matrix. -/
theorem V_state (b : Fin 128) (j : Fin 512) (l : Fin 256) :
    (V m c main_v12 : Vec Ideal S128x512x256 .f32) (ix3 b j l) =
      if j.val / 128 = l.val / 64 then
        stateOf (m ((c : Thread nD τ).loc main_arg6)) b ⟨j.val / 128, by omega⟩ ⟨l.val % 64, by omega⟩ ⟨j.val % 128, by omega⟩
      else 0 := by
  dsimp only [V, hostOps0]
  after_results
  pointwise
  show stateOf (m ((c : Thread nD τ).loc main_arg6)) b ⟨j.val / 128, by omega⟩ ⟨l.val % 64, by omega⟩
      ⟨j.val % 128, by omega⟩ * _ = _
  generalize stateOf (m ((c : Thread nD τ).loc main_arg6)) b ⟨j.val / 128, by omega⟩ ⟨l.val % 64, by omega⟩
      ⟨j.val % 128, by omega⟩ = x
  exact eye_times ⟨j.val / 128, by omega⟩ ⟨l.val / 64, by omega⟩ x

/-- Point `t`'s block of the queries is its sequence's rows. -/
theorem iblk0_apply (t : Fin cfg0.N) (r : Fin 16) (l : Fin 256) :
    (iblk m c 0 t : Vec Ideal S16x256 .f32) (ix2 r l) = m ((c : Thread nD τ).loc main_arg0) (ix2 (seqRow (seqOf t) r) l) := by
  obtain ⟨h, -⟩ := index_rows t
  unfold iblk
  rw [View.read_apply]
  rw [← V_main_arg0 m c]
  show V m c main_arg0 _ = V m c main_arg0 _
  refine congrArg _ (funext fun a => Fin.ext ?_)
  match a with
  | ⟨0, _⟩ => show win0_0.index t 0 * 16 + 1 * r.val = t.val * 16 + r.val; rw [h.1]; omega
  | ⟨1, _⟩ => show win0_0.index t 1 * 256 + 1 * l.val = l.val; rw [h.2]; omega

/-- Point `t`'s block of the keys is its sequence's rows. -/
theorem iblk1_apply (t : Fin cfg0.N) (r : Fin 16) (l : Fin 256) :
    (iblk m c 1 t : Vec Ideal S16x256 .f32) (ix2 r l) = m ((c : Thread nD τ).loc main_arg1) (ix2 (seqRow (seqOf t) r) l) := by
  obtain ⟨-, h, -⟩ := index_rows t
  unfold iblk
  rw [View.read_apply]
  rw [← V_main_arg1 m c]
  show V m c main_arg1 _ = V m c main_arg1 _
  refine congrArg _ (funext fun a => Fin.ext ?_)
  match a with
  | ⟨0, _⟩ => show win0_1.index t 0 * 16 + 1 * r.val = t.val * 16 + r.val; rw [h.1]; omega
  | ⟨1, _⟩ => show win0_1.index t 1 * 256 + 1 * l.val = l.val; rw [h.2]; omega

/-- Point `t`'s block of the log decays is its sequence's rows. -/
theorem iblk2_apply (t : Fin cfg0.N) (r : Fin 16) (l : Fin 256) :
    (iblk m c 2 t : Vec Ideal S16x256 .f32) (ix2 r l) = m ((c : Thread nD τ).loc main_arg2) (ix2 (seqRow (seqOf t) r) l) := by
  obtain ⟨-, -, h, -⟩ := index_rows t
  unfold iblk
  rw [View.read_apply]
  rw [← V_main_arg2 m c]
  show V m c main_arg2 _ = V m c main_arg2 _
  refine congrArg _ (funext fun a => Fin.ext ?_)
  match a with
  | ⟨0, _⟩ => show win0_2.index t 0 * 16 + 1 * r.val = t.val * 16 + r.val; rw [h.1]; omega
  | ⟨1, _⟩ => show win0_2.index t 1 * 256 + 1 * l.val = l.val; rw [h.2]; omega

/-- Point `t`'s block of the values is its sequence's rows. -/
theorem iblk3_apply (t : Fin cfg0.N) (r : Fin 16) (l : Fin 512) :
    (iblk m c 3 t : Vec Ideal S16x512 .f32) (ix2 r l) = m ((c : Thread nD τ).loc main_arg3) (ix2 (seqRow (seqOf t) r) l) := by
  obtain ⟨-, -, -, h, -⟩ := index_rows t
  unfold iblk
  rw [View.read_apply]
  rw [← V_main_arg3 m c]
  show V m c main_arg3 _ = V m c main_arg3 _
  refine congrArg _ (funext fun a => Fin.ext ?_)
  match a with
  | ⟨0, _⟩ => show win0_3.index t 0 * 16 + 1 * r.val = t.val * 16 + r.val; rw [h.1]; omega
  | ⟨1, _⟩ => show win0_3.index t 1 * 512 + 1 * l.val = l.val; rw [h.2]; omega

/-- Point `t`'s block of the gates is its sequence's rows. -/
theorem iblk4_apply (t : Fin cfg0.N) (r : Fin 16) (l : Fin 512) :
    (iblk m c 4 t : Vec Ideal S16x512 .f32) (ix2 r l) = m ((c : Thread nD τ).loc main_arg4) (ix2 (seqRow (seqOf t) r) l) := by
  obtain ⟨-, -, -, -, h, -⟩ := index_rows t
  unfold iblk
  rw [View.read_apply]
  rw [← V_main_arg4 m c]
  show V m c main_arg4 _ = V m c main_arg4 _
  refine congrArg _ (funext fun a => Fin.ext ?_)
  match a with
  | ⟨0, _⟩ => show win0_4.index t 0 * 16 + 1 * r.val = t.val * 16 + r.val; rw [h.1]; omega
  | ⟨1, _⟩ => show win0_4.index t 1 * 512 + 1 * l.val = l.val; rw [h.2]; omega

/-- Its gain block is the whole gain, its state block the sequence's state. -/
theorem iblk5_apply (t : Fin cfg0.N) (h : Fin 4) (d : Fin 128) :
    (iblk m c 5 t : Vec Ideal S1x512 .f32) (ix2 0 (valueLane h d)) = m ((c : Thread nD τ).loc main_arg5) (ix1 d) := by
  obtain ⟨h5, -⟩ := index_rest t
  unfold iblk
  rw [View.read_apply]
  rw [← V_gain m c h d]
  show V m c main_v16 _ = V m c main_v16 _
  refine congrArg _ (funext fun a => Fin.ext ?_)
  match a with
  | ⟨0, _⟩ => show win0_5.index t 0 * 1 + 1 * 0 = 0; rw [h5.1]
  | ⟨1, _⟩ => show win0_5.index t 1 * 512 + 1 * (valueLane h d).val = (valueLane h d).val; rw [h5.2]; omega

theorem iblk6_apply (t : Fin cfg0.N) (j : Fin 512) (l : Fin 256) :
    (iblk m c 6 t : Vec Ideal S1x512x256 .f32) (ix3 0 j l) =
      if j.val / 128 = l.val / 64 then
        stateOf (m ((c : Thread nD τ).loc main_arg6)) (seqOf t) ⟨j.val / 128, by omega⟩ ⟨l.val % 64, by omega⟩
          ⟨j.val % 128, by omega⟩
      else 0 := by
  obtain ⟨-, h6, -⟩ := index_rest t
  unfold iblk
  rw [View.read_apply]
  rw [← V_state m c (seqOf t) j l]
  show V m c main_v12 _ = V m c main_v12 _
  refine congrArg _ (funext fun a => Fin.ext ?_)
  match a with
  | ⟨0, _⟩ => show win0_6.index t 0 * 1 + 1 * 0 = t.val; rw [h6.1]; omega
  | ⟨1, _⟩ => show win0_6.index t 1 * 512 + 1 * j.val = j.val; rw [h6.2.1]; omega
  | ⟨2, _⟩ => show win0_6.index t 2 * 256 + 1 * l.val = l.val; rw [h6.2.2]; omega

/-- The state block without its leading axis. -/
theorem state_block (x : Vec Ideal S1x512x256 .f32) (j : Fin 512) (l : Fin 256) :
    k0_pay3 (F := Ideal) x (ix2 j l) = x (ix3 0 j l) := by
  unfold k0_pay3
  pointwise

theorem state_block_back (x : Vec Ideal S512x256 .f32) (j : Fin 512) (l : Fin 256) :
    (k0_pay2 (F := Ideal) x : Vec Ideal S1x512x256 .f32) (ix3 0 j l) = x (ix2 j l) := by
  unfold k0_pay2
  pointwise

/-- On the diagonal the state block holds the state of the head, elsewhere zero. -/
theorem state_on (t : Fin cfg0.N) (h : Fin 4) (k : Fin 64) (d : Fin 128) :
    k0_pay3 (F := Ideal) (iblk m c 6 t) (ix2 (valueLane h d) (keyLane h k)) =
      stateOf (m ((c : Thread nD τ).loc main_arg6)) (seqOf t) h k d := by
  have h1 : (valueLane h d).val / 128 = h.val := by simp only [valueLane]; omega
  have h2 : (keyLane h k).val / 64 = h.val := by simp only [keyLane]; omega
  have h3 : (valueLane h d).val % 128 = d.val := by simp only [valueLane]; omega
  have h4 : (keyLane h k).val % 64 = k.val := by simp only [keyLane]; omega
  rw [state_block, iblk6_apply, if_pos (h1.trans h2.symm)]
  simp only [h1, h3, h4, Fin.eta]

theorem state_zero (t : Fin cfg0.N) (j : Fin 512) (l : Fin 256) (hj : j.val / 128 ≠ l.val / 64) :
    k0_pay3 (F := Ideal) (iblk m c 6 t) (ix2 j l) = 0 := by
  rw [state_block, iblk6_apply, if_neg hj]

/-- The rows of a point's blocks are the tokens of its sequence. -/
theorem rows0 (t : Fin cfg0.N) : rows (iblk m c 0 t) = keysOf (m ((c : Thread nD τ).loc main_arg0)) (seqOf t) :=
  funext fun s => funext fun l => iblk0_apply m c t (tok s) l

theorem rows1 (t : Fin cfg0.N) : rows (iblk m c 1 t) = keysOf (m ((c : Thread nD τ).loc main_arg1)) (seqOf t) :=
  funext fun s => funext fun l => iblk1_apply m c t (tok s) l

theorem rows2 (t : Fin cfg0.N) : rows (iblk m c 2 t) = keysOf (m ((c : Thread nD τ).loc main_arg2)) (seqOf t) :=
  funext fun s => funext fun l => iblk2_apply m c t (tok s) l

theorem wide3 (t : Fin cfg0.N) : wide (iblk m c 3 t) = valuesOf (m ((c : Thread nD τ).loc main_arg3)) (seqOf t) :=
  funext fun s => funext fun l => iblk3_apply m c t (tok s) l

theorem wide4 (t : Fin cfg0.N) : wide (iblk m c 4 t) = valuesOf (m ((c : Thread nD τ).loc main_arg4)) (seqOf t) :=
  funext fun s => funext fun l => iblk4_apply m c t (tok s) l

variable (hg : ∀ b t l, keysOf (m ((c : Thread nD τ).loc main_arg2)) b t l ≠ ⊤)

include hg

/-- The output array at a token. -/
theorem out_array (t : Fin cfg0.N) (s h : Fin 4) (d : Fin 128) :
    ((dats m 0 c).arrAt 7 cfg0.N : Vec Ideal S2048x512 .bf16) (ix2 (seqRow (seqOf t) (tok s)) (valueLane h d)) =
      gated (keysOf (m ((c : Thread nD τ).loc main_arg0)) (seqOf t)) (keysOf (m ((c : Thread nD τ).loc main_arg1)) (seqOf t))
        (keysOf (m ((c : Thread nD τ).loc main_arg2)) (seqOf t)) (valuesOf (m ((c : Thread nD τ).loc main_arg3)) (seqOf t))
        (valuesOf (m ((c : Thread nD τ).loc main_arg4)) (seqOf t)) (fun d => m ((c : Thread nD τ).loc main_arg5) (ix1 d))
        (stateOf (m ((c : Thread nD τ).loc main_arg6)) (seqOf t)) s h d := by
  obtain ⟨-, -, -, -, -, hw⟩ := index_rows t
  have hb := congrFun (Value.blocks7 m c t (flush_out t)) (ix2 (tok s) (valueLane h d) : S16x512.Idx)
  rw [Value.flushed7, View.read_apply] at hb
  rw [← rows0, ← rows1, ← rows2, ← wide3, ← wide4,
    ← out_at (iblk m c 0 t) (iblk m c 1 t) (iblk m c 2 t) (iblk m c 3 t) (iblk m c 4 t) (iblk m c 5 t)
      (k0_pay3 (F := Ideal) (iblk m c 6 t)) _ (by rw [rows2]; exact hg _) (state_on m c t) (state_zero m c t) _ (iblk5_apply m c t)]
  rw [← open_out c t m]
  refine Eq.trans (congrArg (((dats m 0 c).arrAt 7 cfg0.N : Vec Ideal S2048x512 .bf16)) (funext fun a => Fin.ext ?_)) hb
  match a with
  | ⟨0, _⟩ => show t.val * 16 + (tok s).val = win0_7.index t 0 * 16 + 1 * (tok s).val; rw [hw.1]; omega
  | ⟨1, _⟩ => show (valueLane h d).val = win0_7.index t 1 * 512 + 1 * (valueLane h d).val; rw [hw.2]; omega

omit hg in
/-- The state array, block by block. -/
theorem state_array_block (t : Fin cfg0.N) (j : Fin 512) (l : Fin 256) :
    ((dats m 0 c).arrAt 8 cfg0.N : Vec Ideal S128x512x256 .f32) (ix3 (seqOf t) j l) =
      stateV (iblk m c 1 t) (iblk m c 2 t) (iblk m c 3 t) (k0_pay3 (F := Ideal) (iblk m c 6 t)) (ix2 j l) := by
  obtain ⟨-, -, hw⟩ := index_rest t
  have hb := congrFun (Value.blocks8 m c t (flush_state t)) (ix3 0 j l : S1x512x256.Idx)
  rw [Value.flushed8, View.read_apply] at hb
  refine Eq.trans ?_ (state_block_back _ j l)
  rw [← open_state c t m]
  refine Eq.trans (congrArg (((dats m 0 c).arrAt 8 cfg0.N : Vec Ideal S128x512x256 .f32)) (funext fun a => Fin.ext ?_)) hb
  match a with
  | ⟨0, _⟩ => show t.val = win0_8.index t 0 * 1 + 1 * 0; rw [hw.1]; omega
  | ⟨1, _⟩ => show j.val = win0_8.index t 1 * 512 + 1 * j.val; rw [hw.2.1]; omega
  | ⟨2, _⟩ => show l.val = win0_8.index t 2 * 256 + 1 * l.val; rw [hw.2.2]; omega

/-- The state array: the states of the heads on the diagonal of a block matrix. -/
theorem state_array (t : Fin cfg0.N) (j : Fin 512) (l : Fin 256) :
    ((dats m 0 c).arrAt 8 cfg0.N : Vec Ideal S128x512x256 .f32) (ix3 (seqOf t) j l) =
      if j.val / 128 = l.val / 64 then
        nextState (keysOf (m ((c : Thread nD τ).loc main_arg1)) (seqOf t)) (keysOf (m ((c : Thread nD τ).loc main_arg2)) (seqOf t))
          (valuesOf (m ((c : Thread nD τ).loc main_arg3)) (seqOf t)) (stateOf (m ((c : Thread nD τ).loc main_arg6)) (seqOf t))
          ⟨j.val / 128, by omega⟩ ⟨l.val % 64, by omega⟩ ⟨j.val % 128, by omega⟩
      else 0 := by
  rw [state_array_block]
  split_ifs with hj
  · rw [← rows1, ← rows2, ← wide3,
      ← state_at (iblk m c 1 t) (iblk m c 2 t) (iblk m c 3 t) (k0_pay3 (F := Ideal) (iblk m c 6 t)) _
        (by rw [rows2]; exact hg _) (state_on m c t)]
    refine congrArg _ (congrArg₂ ix2 (Fin.ext ?_) (Fin.ext ?_))
    · show j.val = j.val / 128 * 128 + j.val % 128
      omega
    · show l.val = j.val / 128 * 64 + l.val % 64
      omega
  · exact state_off _ _ _ _ (state_zero m c t) j l hj

end Cert.Proof.Gla
-- ==== Proof.GlaRefValue.lean ====
/- What the reference of the linear attention computes, one sequence at a time. -/
module

public import proofs.«01_k».proof.Proof.GlaSpec
public import proofs.«01_k».proof.Proof.Gen.GlaRefIdeal.Read
public import Idealize.ShloMosaic.Lib.Pointwise

@[expose] public section

noncomputable section

namespace Cert.Proof.Gla.Ref

open Idealize.ShloMosaic Cert.GlaRefIdeal Cert.GlaRefIdeal.Gen Cert.GlaRefIdeal.Read

variable (x0 x1 x2 : FVec Ideal S2048x256 .f32) (x3 x4 : FVec Ideal S2048x512 .f32) (x5 : FVec Ideal S128 .f32)
  (x6 : FVec Ideal S128x4x64x128 .f32) (b : Fin 128) (h t s : Fin 4)

/-- The tokens of a sequence, split in heads. -/
theorem heads_keys (c : Fin 64) : val_main_v3 (F := Ideal) x0 (ix4 b h t c) = keysOf x0 b t (keyLane h c) := by
  rw [val_main_v3_apply, val_main_v2_apply, val_main_v1_apply, val_main_v0_apply]
  refine congrArg x0 (funext fun a => Fin.ext ?_)
  match a with
  | ⟨0, _⟩ => simp [seqRow, tok]; omega
  | ⟨1, _⟩ => simp [keyLane]; omega

theorem heads_keys' (c : Fin 64) : val_main_v7 (F := Ideal) x1 (ix4 b h t c) = keysOf x1 b t (keyLane h c) :=
  heads_keys x1 b h t c

theorem heads_decays (c : Fin 64) : val_main_v11 (F := Ideal) x2 (ix4 b h t c) = keysOf x2 b t (keyLane h c) :=
  heads_keys x2 b h t c

theorem heads_values (d : Fin 128) : val_main_v15 (F := Ideal) x3 (ix4 b h t d) = valuesOf x3 b t (valueLane h d) := by
  rw [val_main_v15_apply, val_main_v14_apply, val_main_v13_apply, val_main_v12_apply]
  refine congrArg x3 (funext fun a => Fin.ext ?_)
  match a with
  | ⟨0, _⟩ => simp [seqRow, tok]; omega
  | ⟨1, _⟩ => simp [valueLane]; omega

/-- The running log decays. -/
theorem sums_apply (c : Fin 64) : val_main_v31 (F := Ideal) x2 (ix4 b h t c) = total (keysOf x2 b) t (keyLane h c) := by
  unfold val_main_v31 val_main_v30 val_main_v29 val_main_v28 val_main_v27 val_main_v26 val_main_v25 val_main_v24
    val_main_v23 val_main_v22 val_main_v21 val_main_v20 val_main_v19 val_main_v18 val_main_v17 val_main_v16
  pointwise [heads_decays]
  unfold total
  rw [Fin.sum_univ_four]
  revert t
  rw [Fin.forall_fin_succ, Fin.forall_fin_succ, Fin.forall_fin_succ, Fin.forall_fin_succ]
  refine ⟨?_, ?_, ?_, ?_, fun i => i.elim0⟩ <;> simp <;> rfl

/-- The causal mask. -/
theorem mask_apply : val_main_v33 (F := Ideal) (ix2 t s) = if s ≤ t then 1#1 else 0#1 := by
  unfold val_main_v33 val_main_call0_v5 val_main_call0_c_0 val_main_call0_v4 val_main_call0_v3 val_main_call0_v2
    val_main_call0_v1 val_main_call0_c val_main_call0_v0 val_main_v32 val_main_c
  pointwise
  revert t s
  decide +kernel

/-- The decay from one token to another. -/
theorem kept_apply (c : Fin 64) : val_main_v44 (F := Ideal) x2 (ix5 b h t s c) = kept (keysOf x2 b) t s (keyLane h c) := by
  unfold val_main_v44 val_main_v43 val_main_call1_v2 val_main_call1_v1 val_main_call1_v0 val_main_cst val_main_v42
    val_main_v41 val_main_v40 val_main_v39 val_main_v38 val_main_v37
  pointwise [sums_apply, mask_apply]
  unfold kept
  split_ifs
  · rfl
  · show Ideal.exp (Ideal.ofBits .f32 0xFF800000#32) = _
    rw [minus_infinity]

/-- The attention of one token to another. -/
theorem attn_apply : val_main_v51 (F := Ideal) x0 x1 x2 (ix4 b h t s) =
    attn (keysOf x0 b) (keysOf x1 b) (keysOf x2 b) t s h := by
  unfold val_main_v51 val_main_v50 val_main_v49 val_main_v48 val_main_v47 val_main_v46 val_main_v45 val_main_cst_0
  pointwise [kept_apply, heads_keys, heads_keys']
  rfl

/-- The mixed value of a token. -/
theorem mixed_apply (d : Fin 128) : val_main_v53 (F := Ideal) x0 x1 x2 x3 x6 (ix4 b h t d) =
    mixed (keysOf x0 b) (keysOf x1 b) (keysOf x2 b) (valuesOf x3 b) (stateOf x6 b) t h d := by
  unfold val_main_v53 val_main_v52 val_main_v36 val_main_v35 val_main_v34
  pointwise [dot_S128x4x4x64_S128x4x64x128_S128x4x4x128_3_2_2_3_01_01, dot_S128x4x4x4_S128x4x4x128_S128x4x4x128_3_2_2_3_01_01,
    attn_apply, heads_values, heads_keys, sums_apply]
  rfl

/-- The output of a token, before the rows that hold none are put in. -/
theorem gated_apply (d : Fin 128) : val_main_v85 (F := Ideal) x0 x1 x2 x3 x4 x5 x6 (ix4 b t h d) =
    gated (keysOf x0 b) (keysOf x1 b) (keysOf x2 b) (valuesOf x3 b) (valuesOf x4 b) (fun d => x5 (ix1 d)) (stateOf x6 b)
      t h d := by
  have hr : val_main_v84 (F := Ideal) x4 (ix4 b t h d) =
      valuesOf x4 b t (valueLane h d) * Ideal.logistic (valuesOf x4 b t (valueLane h d)) := by
    rw [val_main_v84_apply]
    have e : idx_main_v84 (ix4 b t h d) = ix3 b t (valueLane h d) := by
      funext a
      apply Fin.ext
      match a with
      | ⟨0, _⟩ => simp; omega
      | ⟨1, _⟩ => simp; omega
      | ⟨2, _⟩ => simp [valueLane]; omega
    rw [e]
    have hg : val_main_v82 (F := Ideal) x4 (ix3 b t (valueLane h d)) = valuesOf x4 b t (valueLane h d) := by
      rw [val_main_v82_apply, val_main_v81_apply]
      refine congrArg x4 (funext fun a => Fin.ext ?_)
      match a with
      | ⟨0, _⟩ => simp [seqRow, tok, valueLane]; omega
      | ⟨1, _⟩ => simp [valueLane]; omega
    unfold val_main_v83 val_main_call2_v5 val_main_call2_v4 val_main_call2_cst_0 val_main_call2_v3 val_main_call2_v2
      val_main_call2_cst val_main_call2_v1 val_main_call2_v0
    pointwise [hg]
    rfl
  unfold val_main_v85 val_main_v80 val_main_v79 val_main_v78 val_main_v77 val_main_v76 val_main_v75 val_main_v74
    val_main_v73 val_main_cst_3 val_main_v72 val_main_v71 val_main_cst_2 val_main_v70 val_main_v69 val_main_cst_1
    val_main_v68 val_main_v67
  pointwise [hr, mixed_apply]
  rfl

/-- The reference's first result at a token. -/
theorem out_apply (d : Fin 128) : val_main_v96 (F := Ideal) x0 x1 x2 x3 x4 x5 x6 (ix2 (seqRow b (tok t)) (valueLane h d)) =
    gated (keysOf x0 b) (keysOf x1 b) (keysOf x2 b) (valuesOf x3 b) (valuesOf x4 b) (fun d => x5 (ix1 d)) (stateOf x6 b)
      t h d := by
  rw [← gated_apply]
  have e : idx_main_v95 (ix2 (seqRow b (tok t)) (valueLane h d)) = ix3 b (tok t) (valueLane h d) := by
    funext a
    apply Fin.ext
    match a with
    | ⟨0, _⟩ => simp [seqRow, tok, valueLane]; omega
    | ⟨1, _⟩ => simp [seqRow, tok, valueLane]; omega
    | ⟨2, _⟩ => simp [seqRow, tok, valueLane]; omega
  have e' : idx_main_v86 (ix3 b t (valueLane h d)) = ix4 b t h d := by
    funext a
    apply Fin.ext
    match a with
    | ⟨0, _⟩ => simp [valueLane]; omega
    | ⟨1, _⟩ => simp [valueLane]; omega
    | ⟨2, _⟩ => simp [valueLane]; omega
    | ⟨3, _⟩ => simp [valueLane]; omega
  have h88 : val_main_v88 (F := Ideal) x0 x1 x2 x3 x4 x5 x6 (ix3 b (tok t) (valueLane h d)) =
      val_main_v86 (F := Ideal) x0 x1 x2 x3 x4 x5 x6 (ix3 b t (valueLane h d)) := by
    unfold val_main_v88
    pointwise
    rw [dif_pos (show (tok t).val < 4 from t.isLt)]
    rfl
  show val_main_v95 (F := Ideal) x0 x1 x2 x3 x4 x5 x6 _ = _
  rw [val_main_v95_apply, e, h88, val_main_v86_apply, e']

/-- The state after the tokens. -/
theorem next_apply (c : Fin 64) (d : Fin 128) : val_main_v66 (F := Ideal) x1 x2 x3 x6 (ix4 b h c d) =
    nextState (keysOf x1 b) (keysOf x2 b) (valuesOf x3 b) (stateOf x6 b) h c d := by
  unfold val_main_v66 val_main_v65 val_main_v64 val_main_v63 val_main_v62 val_main_v61 val_main_v60 val_main_v59
    val_main_v58 val_main_v57 val_main_v56 val_main_v55 val_main_v54
  pointwise [dot_S128x4x4x64_S128x4x4x128_S128x4x64x128_2_2_3_3_01_01, heads_values, heads_keys', sums_apply]
  rfl

/-- The heads' states on the diagonal of a block matrix. -/
theorem diag_apply (h' : Fin 4) (c : Fin 64) (d : Fin 128) : val_main_v94 (F := Ideal) x1 x2 x3 x6 (ix5 b h d h' c) =
    if h = h' then nextState (keysOf x1 b) (keysOf x2 b) (valuesOf x3 b) (stateOf x6 b) h c d else 0 := by
  have hm : IntOp.cmpi .eq (BitVec.ofNat 32 h.val) (BitVec.ofNat 32 h'.val) = if h = h' then 1#1 else 0#1 := by
    revert h h'
    decide +kernel
  unfold val_main_v94 val_main_call3_v2 val_main_call3_v1 val_main_call3_v0 val_main_cst_5 val_main_v93 val_main_v92
    val_main_v91 val_main_v90 val_main_v89
  pointwise [next_apply, hm]
  split_ifs
  · rfl
  · exact zero_literal

/-- The reference's second result. -/
theorem state_apply (j : Fin 512) (l : Fin 256) : val_main_v97 (F := Ideal) x1 x2 x3 x6 (ix3 b j l) =
    if j.val / 128 = l.val / 64 then
      nextState (keysOf x1 b) (keysOf x2 b) (valuesOf x3 b) (stateOf x6 b) ⟨j.val / 128, by omega⟩ ⟨l.val % 64, by omega⟩
        ⟨j.val % 128, by omega⟩
    else 0 := by
  have e : idx_main_v97 (ix3 b j l) =
      ix5 b ⟨j.val / 128, by omega⟩ ⟨j.val % 128, by omega⟩ ⟨l.val / 64, by omega⟩ ⟨l.val % 64, by omega⟩ := by
    funext a
    apply Fin.ext
    match a with
    | ⟨0, _⟩ => simp; omega
    | ⟨1, _⟩ => simp; omega
    | ⟨2, _⟩ => simp; omega
    | ⟨3, _⟩ => simp; omega
    | ⟨4, _⟩ => simp; omega
  rw [val_main_v97_apply, e, diag_apply]
  simp only [Fin.mk.injEq]

end Cert.Proof.Gla.Ref
-- ==== Proof.GlaClaim.lean ====
/- The linear attention's kernel and its reference end with equal results: at the new tokens the outputs, and everywhere
   the states. -/
module

public import proofs.«01_k».proof.Defs
public import proofs.«01_k».proof.Proof.GlaArray
public import proofs.«01_k».proof.Proof.GlaRefValue
public import proofs.«01_k».proof.Proof.Gen.GlaRefIdeal.Run
public import proofs.«01_k».proof.Proof.Gen.Pre_decay_below_infinity
public import proofs.«01_k».proof.Proof.Gen.On_new_tokens

@[expose] public section

noncomputable section

namespace Cert.Proof.Gla

open Idealize.ShloMosaic Idealize.SL.Sem

instance : Cert.GlaIdeal.Facts := Cert.GlaIdeal.Gen.facts
instance : Cert.GlaRefIdeal.Facts := Cert.GlaRefIdeal.Gen.facts
instance : Cert.Pre_decay_below_infinity.Facts := Cert.Pre_decay_below_infinity.Gen.facts
instance : Cert.On_new_tokens.Facts := Cert.On_new_tokens.Gen.facts

/-- What the precondition says of the log decays: none of a token is plus infinity. -/
theorem decays_below (x0 x1 x2 : FVec Ideal ⟨2, ![2048, 256]⟩ .f32) (x3 x4 : FVec Ideal ⟨2, ![2048, 512]⟩ .f32)
    (x5 : FVec Ideal ⟨1, ![128]⟩ .f32) (x6 : FVec Ideal ⟨4, ![128, 4, 64, 128]⟩ .f32)
    (h : Cert.Pre_decay_below_infinity.fn (F := Ideal) x0 x1 x2 x3 x4 x5 x6 = fun _ => 1#1) (b : Fin 128) (t : Fin 4)
    (l : Fin 256) : keysOf x2 b t l ≠ ⊤ := by
  have e := congrFun h (ix3 b t l)
  unfold Cert.Pre_decay_below_infinity.fn at e
  revert e
  pointwise
  intro e et
  have et' : x2 (ix2 ⟨b.val * 16 + t.val, by omega⟩ l) = (⊤ : EReal) := et
  rw [et', decide_eq_false not_top_lt] at e
  exact absurd e (by decide)

/-- The remainder as the mask's word computes it. -/
theorem rest_below : ∀ n : Fin 2048,
    IntOp.cmpi .slt (IntOp.remsi ArithUnit.host (BitVec.ofNat 32 n.val) 16#32) 4#32 = 1#1 → n.val % 16 < 4 := by
  decide +kernel

/-- The rows the claim speaks of are those of a sequence's tokens. -/
theorem row_live (x0 x1 x2 : FVec Ideal ⟨2, ![2048, 256]⟩ .f32) (x3 x4 : FVec Ideal ⟨2, ![2048, 512]⟩ .f32)
    (x5 : FVec Ideal ⟨1, ![128]⟩ .f32) (x6 : FVec Ideal ⟨4, ![128, 4, 64, 128]⟩ .f32) (n : Fin 2048) (j : Fin 512)
    (h : (Cert.On_new_tokens.fn (F := Ideal) x0 x1 x2 x3 x4 x5 x6).1 (ix2 n j) = 1#1) : n.val % 16 < 4 := by
  unfold Cert.On_new_tokens.fn at h
  revert h
  dsimp only
  pointwise
  exact rest_below n

variable (m : (ℓ : Loc Cert.GlaIdeal.nD Cert.GlaIdeal.τ Cert.GlaIdeal.sig) → Buf (Elt Ideal) ℓ) (c : Dev Cert.GlaIdeal.nD)
  (hg : ∀ b t l, keysOf (m ((c.tc : Thread _ _).loc Cert.GlaIdeal.main_arg2)) b t l ≠ ⊤)

include hg

/-- From equal arguments the outputs of the two are equal at every token. -/
theorem outs_agree (n : Fin 2048) (j : Fin 512) (hn : n.val % 16 < 4) :
    ((Cert.GlaIdeal.Gen.dats m 0 c).arrAt 7 Cert.GlaIdeal.cfg0.N : FVec Ideal ⟨2, ![2048, 512]⟩ .bf16) (ix2 n j) =
      Cert.GlaRefIdeal.Read.val_main_v96 (F := Ideal) (m ((c.tc : Thread _ _).loc Cert.GlaIdeal.main_arg0))
        (m ((c.tc : Thread _ _).loc Cert.GlaIdeal.main_arg1)) (m ((c.tc : Thread _ _).loc Cert.GlaIdeal.main_arg2))
        (m ((c.tc : Thread _ _).loc Cert.GlaIdeal.main_arg3)) (m ((c.tc : Thread _ _).loc Cert.GlaIdeal.main_arg4))
        (m ((c.tc : Thread _ _).loc Cert.GlaIdeal.main_arg5)) (m ((c.tc : Thread _ _).loc Cert.GlaIdeal.main_arg6)) (ix2 n j) := by
  have hN : Cert.GlaIdeal.cfg0.N = 128 := Cert.GlaIdeal.Gen.N_0
  have en : n = seqRow (seqOf ⟨n.val / 16, by omega⟩) (tok ⟨n.val % 16, hn⟩) :=
    Fin.ext (by show n.val = n.val / 16 * 16 + n.val % 16; omega)
  have ej : j = valueLane ⟨j.val / 128, by omega⟩ ⟨j.val % 128, by omega⟩ :=
    Fin.ext (by show j.val = j.val / 128 * 128 + j.val % 128; omega)
  rw [en, ej, out_array m c hg, Ref.out_apply]

/-- From equal arguments the states of the two are equal. -/
theorem states_agree :
    ((Cert.GlaIdeal.Gen.dats m 0 c).arrAt 8 Cert.GlaIdeal.cfg0.N : FVec Ideal ⟨3, ![128, 512, 256]⟩ .f32) =
      Cert.GlaRefIdeal.Read.val_main_v97 (F := Ideal) (m ((c.tc : Thread _ _).loc Cert.GlaIdeal.main_arg1))
        (m ((c.tc : Thread _ _).loc Cert.GlaIdeal.main_arg2)) (m ((c.tc : Thread _ _).loc Cert.GlaIdeal.main_arg3))
        (m ((c.tc : Thread _ _).loc Cert.GlaIdeal.main_arg6)) := by
  funext i
  obtain ⟨b, j, l, rfl⟩ : ∃ (b : Fin 128) (j : Fin 512) (l : Fin 256), i = ix3 b j l := ⟨i 0, i 1, i 2, eq_ix3 i⟩
  have hN : Cert.GlaIdeal.cfg0.N = 128 := Cert.GlaIdeal.Gen.N_0
  exact (state_array m c hg ⟨b.val, by omega⟩ j l).trans (Ref.state_apply _ _ _ _ b j l).symm

omit hg in
/-- Over the extended reals the linear attention's kernel computes its reference: from equal arguments, no token's log
    decay plus infinity, both run, end with equal outputs at the tokens and equal states, and leave their arguments
    unchanged. -/
theorem algebraic : Cert.algebraic_GlaIdeal_GlaRefIdeal_on_new_tokens_pre_decay_below_infinity := by
  intro m g m' g' hp h
  refine ⟨fun c => (Cert.GlaIdeal.Gen.dats m 0 c).arrAt 7 Cert.GlaIdeal.cfg0.N,
    fun c => (Cert.GlaIdeal.Gen.dats m 0 c).arrAt 8 Cert.GlaIdeal.cfg0.N, ?_, ?_⟩
  · refine (θ_run (Cert.GlaIdeal.defs (F := Ideal)) _ _).mono (fun r hr c => ?_) (Cert.GlaIdeal.Value.run_blocks m g)
    exact ⟨fun i _ => congrFun (hr c).1 i, fun i _ => congrFun (hr c).2.1 i, (hr c).2.2⟩
  refine (θ_run (Cert.GlaRefIdeal.defs (F := Ideal)) _ _).mono (fun r hr c => ?_) (Cert.GlaRefIdeal.Value.run m' g')
  obtain ⟨h0, h1, h2, h3, h4, h5, h6⟩ := h c
  have hg := decays_below _ _ _ _ _ _ _ (hp c)
  refine ⟨fun i hi => ?_, fun i _ => ?_, (hr c).2.2⟩
  · rw [(hr c).1, Cert.GlaRefIdeal.Read.val_main_v96_eq, h0, h1, h2, h3, h4, h5, h6]
    obtain ⟨n, j, rfl⟩ : ∃ (n : Fin 2048) (j : Fin 512), i = ix2 n j := ⟨i 0, i 1, eq_ix2 i⟩
    exact (outs_agree m c hg n j (row_live _ _ _ _ _ _ _ n j hi)).symm
  · rw [(hr c).2.1, Cert.GlaRefIdeal.Read.val_main_v97_eq, h1, h2, h3, h6]
    exact congrFun (states_agree m c hg).symm i

end Cert.Proof.Gla

end
-- ==== Proof.AdaSpec.lean ====
/- The conditioning of the layer: what one row of it is. -/
module

public import Idealize.ShloMosaic.Lib.Pointwise

@[expose] public section

noncomputable section

namespace Cert.Proof.Ada

open Idealize.ShloMosaic

/-- One entry of the conditioning: the `silu` of a batch row's embedding times a column of the weights, plus the bias. -/
def conditioned (c w : Fin 1024 → EReal) (b : EReal) : EReal := (∑ d : Fin 1024, c d * Ideal.logistic (c d) * w d) + b

/-- The embeddings of both batches by one row number: the prompt's eight rows, then the sample's. -/
def embedding (p : Fin 8 → Fin 1024 → EReal) (s : Fin 128 → Fin 1024 → EReal) (r : Fin 136) : Fin 1024 → EReal :=
  if h : r.val < 8 then p ⟨r.val, h⟩ else s ⟨r.val - 8, by omega⟩

/-- What holds of every row of the prompt and of every row of the sample holds of every row. -/
theorem all_rows (P : Fin 136 → Prop) (hp : ∀ r : Fin 8, P ⟨r.val, by omega⟩) (hs : ∀ r : Fin 128, P ⟨8 + r.val, by omega⟩)
    (r : Fin 136) : P r := by
  by_cases h : r.val < 8
  · exact hp ⟨r.val, h⟩
  · have e := hs ⟨r.val - 8, by omega⟩
    rwa [show (⟨8 + (r.val - 8), by omega⟩ : Fin 136) = r from Fin.ext (by dsimp only; omega)] at e

variable (p : Fin 8 → Fin 1024 → EReal) (s : Fin 128 → Fin 1024 → EReal)

/-- The first eight rows are the prompt's. -/
theorem embedding_prompt (r : Fin 8) : embedding p s ⟨r.val, by omega⟩ = p r := dif_pos r.isLt

/-- The rows from the ninth on are the sample's. -/
theorem embedding_sample (r : Fin 128) : embedding p s ⟨8 + r.val, by omega⟩ = s r := by
  unfold embedding
  rw [dif_neg (by dsimp only; omega)]
  exact congrArg s (Fin.ext (by dsimp only; omega))

end Cert.Proof.Ada
-- ==== Proof.AdaArray.lean ====
/- What the conditioning's call computes: one grid point's block, the host lines before it, and the array it leaves. -/
module

public import proofs.«01_k».proof.Proof.Gen.AdaIdeal.Value
public import proofs.«01_k».proof.Proof.AdaSpec
public import Idealize.ShloMosaic.Lib.Pipeline.ValueKit.Basic
public import Idealize.ShloMosaic.Lib.Pipeline.ValueKit.Tiles

@[expose] public section

noncomputable section

namespace Cert.Proof.Ada

open Idealize.ShloMosaic Idealize.ShloMosaic.TcCoe Idealize.SL.Sem Cert.AdaIdeal Cert.AdaIdeal.Gen

/-- What one grid point writes: the conditioning of every row in the point's columns. -/
theorem out3_apply (x0 : Vec Ideal S136x1024 .f32) (x1 : Vec Ideal S1024x1024 .f32) (x2 : Vec Ideal S1x1024 .f32)
    (r : Fin 136) (k : Fin 1024) :
    out0_3 x0 x1 x2 (ix2 r k) = conditioned (fun d => x0 (ix2 r d)) (fun d => x1 (ix2 d k)) (x2 (ix2 0 k)) := by
  have e0 : View.ld x0 r0_0 = x0 := View.ld_unit_lit _ x0 (by decide)
  have e1 : View.ld x1 r0_1 = x1 := View.ld_unit_lit _ x1 (by decide)
  have e2 : View.ld x2 r0_2 = x2 := View.ld_unit_lit _ x2 (by decide)
  unfold out0_3
  rw [View.canon_cons_unit_lit _ _ _ (by decide), e0, e1, e2]
  unfold k0_pay1 conditioned
  pointwise [dot_S136x1024_S1024x1024_S136x1024_1_0_0_1_n_n]

variable (m : (ℓ : Loc nD τ sig) → Buf (Elt Ideal) ℓ) (c : Dev nD)

/-- The embeddings of both batches, by one row number, as the arguments hold them. -/
def rows : Fin 136 → Fin 1024 → EReal :=
  embedding (fun r d => (m ((c : Thread nD τ).loc main_arg0) : FVec Ideal S8x1024 .f32) (ix2 r d))
    (fun r d => (m ((c : Thread nD τ).loc main_arg1) : FVec Ideal S128x1024 .f32) (ix2 r d))

/-- The host puts the sample's embeddings below the prompt's. -/
theorem V_rows (r : Fin 136) (d : Fin 1024) : V m c main_v0 (ix2 r d) = rows m c r d := by
  dsimp only [V, hostOps0]
  after_results
  refine all_rows (fun r => concatenate S136x1024 0 [⟨S8x1024, m ((c : Thread nD τ).loc main_arg0)⟩,
    ⟨S128x1024, m ((c : Thread nD τ).loc main_arg1)⟩] concatenates_S8x1024_S128x1024_S136x1024_d0 (ix2 r d) =
      rows m c r d) (fun r => ?_) (fun r => ?_) r
  · unfold rows
    rw [embedding_prompt]
    pointwise
  · unfold rows
    rw [embedding_sample]
    pointwise

/-- The bias reaches the kernel as a row. -/
theorem V_bias (k : Fin 6144) : V m c main_v1 (ix2 0 k) = m ((c : Thread nD τ).loc main_arg3) (ix1 k) := by
  dsimp only [V, hostOps0]
  after_results
  pointwise

/-- Where each window's block lies at each grid point: the rows whole, the weights, the bias and the result by columns. Every
    point writes its columns back. -/
theorem index : ∀ t : Fin cfg0.N,
    (win0_0.index t 0 = 0 ∧ win0_0.index t 1 = 0) ∧ (win0_1.index t 0 = 0 ∧ win0_1.index t 1 = t.val) ∧
    (win0_2.index t 0 = 0 ∧ win0_2.index t 1 = t.val) ∧
    (win0_3.index t 0 = 0 ∧ win0_3.index t 1 = t.val ∧ (cfg0.win 3).flush t = true) := by
  decide +kernel

/-- Column `k` of block `t` as a column of the whole arrays. -/
def column (t : Fin cfg0.N) (k : Fin 1024) : Fin 6144 :=
  ⟨t.val * 1024 + k.val, by have h : cfg0.N = 6 := N_0; have := t.isLt; omega⟩

/-- What holds of every column of every block holds of every column. -/
theorem all_columns (P : Fin 6144 → Prop) (h : ∀ (t : Fin cfg0.N) (k : Fin 1024), P (column t k)) (k : Fin 6144) : P k := by
  have hN : cfg0.N = 6 := N_0
  have e := h ⟨k.val / 1024, by omega⟩ ⟨k.val % 1024, by omega⟩
  rwa [show column ⟨k.val / 1024, by omega⟩ ⟨k.val % 1024, by omega⟩ = k from
    Fin.ext (by show k.val / 1024 * 1024 + k.val % 1024 = k.val; omega)] at e

theorem iblk0_apply (t : Fin cfg0.N) (r : Fin 136) (d : Fin 1024) :
    (iblk m c 0 t : Vec Ideal S136x1024 .f32) (ix2 r d) = rows m c r d := by
  have h := (index t).1
  unfold iblk
  rw [View.read_apply, ← V_rows m c]
  show V m c main_v0 _ = V m c main_v0 _
  refine congrArg _ (funext fun a => Fin.ext ?_)
  match a with
  | ⟨0, _⟩ => show win0_0.index t 0 * 136 + 1 * r.val = r.val; rw [h.1]; omega
  | ⟨1, _⟩ => show win0_0.index t 1 * 1024 + 1 * d.val = d.val; rw [h.2]; omega

theorem iblk1_apply (t : Fin cfg0.N) (d k : Fin 1024) :
    (iblk m c 1 t : Vec Ideal S1024x1024 .f32) (ix2 d k) = m ((c : Thread nD τ).loc main_arg2) (ix2 d (column t k)) := by
  have h := (index t).2.1
  unfold iblk
  rw [View.read_apply, ← V_main_arg2 m c]
  show V m c main_arg2 _ = V m c main_arg2 _
  refine congrArg _ (funext fun a => Fin.ext ?_)
  match a with
  | ⟨0, _⟩ => show win0_1.index t 0 * 1024 + 1 * d.val = d.val; rw [h.1]; omega
  | ⟨1, _⟩ => show win0_1.index t 1 * 1024 + 1 * k.val = t.val * 1024 + k.val; rw [h.2]; omega

theorem iblk2_apply (t : Fin cfg0.N) (k : Fin 1024) :
    (iblk m c 2 t : Vec Ideal S1x1024 .f32) (ix2 0 k) = m ((c : Thread nD τ).loc main_arg3) (ix1 (column t k)) := by
  have h := (index t).2.2.1
  unfold iblk
  rw [View.read_apply, ← V_bias m c]
  show V m c main_v1 _ = V m c main_v1 _
  refine congrArg _ (funext fun a => Fin.ext ?_)
  match a with
  | ⟨0, _⟩ => show win0_2.index t 0 * 1 + 1 * 0 = 0; rw [h.1]
  | ⟨1, _⟩ => show win0_2.index t 1 * 1024 + 1 * k.val = t.val * 1024 + k.val; rw [h.2]; omega

/-- The array the call leaves: the conditioning of every row of both batches. -/
theorem array3_apply (r : Fin 136) (k : Fin 6144) :
    ((dats m 0 c).arrAt 3 cfg0.N : Vec Ideal S136x6144 .f32) (ix2 r k) =
      conditioned (rows m c r) (fun d => (m ((c : Thread nD τ).loc main_arg2) : FVec Ideal S1024x6144 .f32) (ix2 d k))
        ((m ((c : Thread nD τ).loc main_arg3) : FVec Ideal S6144 .f32) (ix1 k)) := by
  refine all_columns (fun k => ((dats m 0 c).arrAt 3 cfg0.N : Vec Ideal S136x6144 .f32) (ix2 r k) =
      conditioned (rows m c r) (fun d => (m ((c : Thread nD τ).loc main_arg2) : FVec Ideal S1024x6144 .f32) (ix2 d k))
        ((m ((c : Thread nD τ).loc main_arg3) : FVec Ideal S6144 .f32) (ix1 k))) (fun t k => ?_) k
  have h := (index t).2.2.2
  have hb := congrFun (Value.blocks3 m c t h.2.2) (ix2 r k : S136x1024.Idx)
  rw [Value.flushed3, View.read_apply] at hb
  refine (congrArg ((dats m 0 c).arrAt 3 cfg0.N : Vec Ideal S136x6144 .f32) (funext fun a => Fin.ext ?_)).trans
    (hb.trans ?_)
  · match a with
    | ⟨0, _⟩ => show r.val = win0_3.index t 0 * 136 + 1 * r.val; rw [h.1]; omega
    | ⟨1, _⟩ => show t.val * 1024 + k.val = win0_3.index t 1 * 1024 + 1 * k.val; rw [h.2.1]; omega
  · refine (out3_apply _ _ _ r k).trans ?_
    congr 1
    · funext d; exact iblk0_apply m c t r d
    · funext d; exact iblk1_apply m c t d k
    · exact iblk2_apply m c t k

end Cert.Proof.Ada
-- ==== Proof.AdaRefValue.lean ====
/- What the conditioning's reference computes. -/
module

public import proofs.«01_k».proof.Proof.Gen.AdaRefIdeal.Read
public import proofs.«01_k».proof.Proof.AdaSpec

@[expose] public section

noncomputable section

namespace Cert.Proof.Ada.Ref

open Idealize.ShloMosaic Cert.AdaRefIdeal Cert.AdaRefIdeal.Gen Cert.AdaRefIdeal.Read

variable (x0 : FVec Ideal S8x1024 .f32) (x1 : FVec Ideal S128x1024 .f32) (x2 : FVec Ideal S1024x6144 .f32)
  (x3 : FVec Ideal S6144 .f32)

/-- `silu` of the prompt's embeddings, in its logistic form. -/
theorem silu0_apply (r : Fin 8) (d : Fin 1024) :
    val_main_v0 (F := Ideal) x0 (ix2 r d) = x0 (ix2 r d) * Ideal.logistic (x0 (ix2 r d)) := by
  unfold val_main_v0 val_main_call0_v5 val_main_call0_v4 val_main_call0_v3 val_main_call0_v2 val_main_call0_v1
    val_main_call0_v0 val_main_call0_cst val_main_call0_cst_0
  pointwise
  rfl

/-- `silu` of the sample's embeddings, in its logistic form. -/
theorem silu1_apply (r : Fin 128) (d : Fin 1024) :
    val_main_v5 (F := Ideal) x1 (ix2 r d) = x1 (ix2 r d) * Ideal.logistic (x1 (ix2 r d)) := by
  unfold val_main_v5 val_main_call1_v5 val_main_call1_v4 val_main_call1_v3 val_main_call1_v2 val_main_call1_v1
    val_main_call1_v0 val_main_call1_cst val_main_call1_cst_0
  pointwise
  rfl

/-- The prompt's conditioning. -/
theorem prompt_apply (r : Fin 8) (k : Fin 6144) :
    val_main_v4 (F := Ideal) x0 x2 x3 (ix2 r k) =
      conditioned (fun d => x0 (ix2 r d)) (fun d => x2 (ix2 d k)) (x3 (ix1 k)) := by
  unfold val_main_v4 val_main_v3 val_main_v2 val_main_v1 conditioned
  pointwise [dot_S8x1024_S1024x6144_S8x6144_1_0_0_1_n_n, silu0_apply]

/-- The sample's conditioning. -/
theorem sample_apply (r : Fin 128) (k : Fin 6144) :
    val_main_v9 (F := Ideal) x1 x2 x3 (ix2 r k) =
      conditioned (fun d => x1 (ix2 r d)) (fun d => x2 (ix2 d k)) (x3 (ix1 k)) := by
  unfold val_main_v9 val_main_v8 val_main_v7 val_main_v6 conditioned
  pointwise [dot_S128x1024_S1024x6144_S128x6144_1_0_0_1_n_n, silu1_apply]

/-- The reference's result: the conditioning of the prompt's rows, then of the sample's. -/
theorem result_apply (r : Fin 136) (k : Fin 6144) :
    val_main_v10 (F := Ideal) x0 x1 x2 x3 (ix2 r k) =
      conditioned (embedding (fun r d => x0 (ix2 r d)) (fun r d => x1 (ix2 r d)) r) (fun d => x2 (ix2 d k)) (x3 (ix1 k)) := by
  refine all_rows (fun r => val_main_v10 (F := Ideal) x0 x1 x2 x3 (ix2 r k) =
      conditioned (embedding (fun r d => x0 (ix2 r d)) (fun r d => x1 (ix2 r d)) r) (fun d => x2 (ix2 d k)) (x3 (ix1 k)))
    (fun r => ?_) (fun r => ?_) r
  · rw [embedding_prompt, ← prompt_apply]
    unfold val_main_v10
    generalize val_main_v4 (F := Ideal) x0 x2 x3 = y
    generalize val_main_v9 (F := Ideal) x1 x2 x3 = z
    pointwise
  · rw [embedding_sample, ← sample_apply]
    unfold val_main_v10
    generalize val_main_v4 (F := Ideal) x0 x2 x3 = y
    generalize val_main_v9 (F := Ideal) x1 x2 x3 = z
    pointwise

end Cert.Proof.Ada.Ref
-- ==== Proof.AdaClaim.lean ====
/- The conditioning's kernel computes its reference. -/
module

public import proofs.«01_k».proof.Defs
public import proofs.«01_k».proof.Proof.AdaArray
public import proofs.«01_k».proof.Proof.AdaRefValue
public import proofs.«01_k».proof.Proof.Gen.AdaRefIdeal.Run

@[expose] public section

noncomputable section

namespace Cert.Proof.Ada

open Idealize.ShloMosaic Idealize.SL.Sem

instance : Cert.AdaIdeal.Facts := Cert.AdaIdeal.Gen.facts
instance : Cert.AdaRefIdeal.Facts := Cert.AdaRefIdeal.Gen.facts

/-- From equal arguments the kernel's result array and the reference's are equal, element by element. -/
theorem results_agree (m : (ℓ : Loc Cert.AdaIdeal.nD Cert.AdaIdeal.τ Cert.AdaIdeal.sig) → Buf (Elt Ideal) ℓ)
    (c : Dev Cert.AdaIdeal.nD) :
    ((Cert.AdaIdeal.Gen.dats m 0 c).arrAt 3 Cert.AdaIdeal.cfg0.N : FVec Ideal ⟨2, ![136, 6144]⟩ .f32) =
      Cert.AdaRefIdeal.Read.val_main_v10 (F := Ideal) (m ((c.tc : Thread _ _).loc Cert.AdaIdeal.main_arg0))
        (m ((c.tc : Thread _ _).loc Cert.AdaIdeal.main_arg1)) (m ((c.tc : Thread _ _).loc Cert.AdaIdeal.main_arg2))
        (m ((c.tc : Thread _ _).loc Cert.AdaIdeal.main_arg3)) := by
  funext i
  obtain ⟨r, k, rfl⟩ : ∃ (r : Fin 136) (k : Fin 6144), i = ix2 r k := ⟨i 0, i 1, eq_ix2 i⟩
  rw [array3_apply, Ref.result_apply]
  rfl

/-- Over the extended reals the conditioning's kernel computes its reference: from equal arguments both run, end with equal
    results and leave their arguments unchanged. -/
theorem algebraic : Cert.algebraic_AdaIdeal_AdaRefIdeal := by
  intro m g m' g' _ h
  refine ⟨fun c => (Cert.AdaIdeal.Gen.dats m 0 c).arrAt 3 Cert.AdaIdeal.cfg0.N, Cert.AdaIdeal.Value.run_blocks m g, ?_⟩
  refine (θ_run (Cert.AdaRefIdeal.defs (F := Ideal)) _ _).mono (fun r hr c => ?_) (Cert.AdaRefIdeal.Value.run m' g')
  obtain ⟨h0, h1, h2, h3⟩ := h c
  refine ⟨(hr c).1.trans ?_, (hr c).2⟩
  rw [Cert.AdaRefIdeal.Read.val_main_v10_eq, h0, h1, h2, h3]
  exact (results_agree m c).symm

end Cert.Proof.Ada
-- ==== Proof.lean ====
module

public import proofs.«01_k».proof.Defs
public import proofs.«01_k».proof.Proof.MoeClaim
public import proofs.«01_k».proof.Proof.InprojClaim
public import proofs.«01_k».proof.Proof.MoeSClaim
public import proofs.«01_k».proof.Proof.OutprojClaim
public import proofs.«01_k».proof.Proof.OutprojSClaim
public import proofs.«01_k».proof.Proof.InprojSClaim
public import proofs.«01_k».proof.Proof.GlaClaim
public import proofs.«01_k».proof.Proof.AdaClaim
public import proofs.«01_k».proof.Proof.Gen.Pre_decay_below_infinity
public import proofs.«01_k».proof.Proof.Gen.On_new_tokens
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.GlaIdeal.Value
public import proofs.«01_k».proof.Proof.Gen.MoeIdeal.Value
public import proofs.«01_k».proof.Proof.Gen.GlaRefIdeal.Run
public import proofs.«01_k».proof.Proof.Gen.GlaRefIdeal.Read
public import proofs.«01_k».proof.Proof.Gen.MoeRefIdeal.Run
public import proofs.«01_k».proof.Proof.Gen.MoeRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.MoeS
public import proofs.«01_k».proof.Proof.Gen.MoeS.Skeleton
public import proofs.«01_k».proof.Proof.Gen.MoeS.Launch
public import proofs.«01_k».proof.Proof.Gen.MoeS.Points
public import proofs.«01_k».proof.Proof.Gen.MoeS.Frame
public import proofs.«01_k».proof.Proof.Gen.MoeSIdeal
public import proofs.«01_k».proof.Proof.Gen.MoeSIdeal.Skeleton
public import proofs.«01_k».proof.Proof.Gen.MoeSIdeal.Launch
public import proofs.«01_k».proof.Proof.Gen.MoeSIdeal.Points
public import proofs.«01_k».proof.Proof.Gen.MoeSIdeal.Frame
public import proofs.«01_k».proof.Proof.Gen.MoeSRefIdeal
public import proofs.«01_k».proof.Proof.Gen.MoeSIdeal.Value
public import proofs.«01_k».proof.Proof.Gen.MoeSRefIdeal.Run
public import proofs.«01_k».proof.Proof.Gen.MoeSRefIdeal.Read
public import proofs.«01_k».proof.Proof.Gen.InprojS
public import proofs.«01_k».proof.Proof.Gen.InprojS.Skeleton
public import proofs.«01_k».proof.Proof.Gen.InprojS.Launch
public import proofs.«01_k».proof.Proof.Gen.InprojS.Points
public import proofs.«01_k».proof.Proof.Gen.InprojS.Frame
public import proofs.«01_k».proof.Proof.Gen.InprojSIdeal
public import proofs.«01_k».proof.Proof.Gen.InprojSIdeal.Skeleton
public import proofs.«01_k».proof.Proof.Gen.InprojSIdeal.Launch
public import proofs.«01_k».proof.Proof.Gen.InprojSIdeal.Points
public import proofs.«01_k».proof.Proof.Gen.InprojSIdeal.Frame
public import proofs.«01_k».proof.Proof.Gen.InprojSRefIdeal
public import proofs.«01_k».proof.Proof.Gen.InprojSIdeal.Value
public import proofs.«01_k».proof.Proof.Gen.InprojSRefIdeal.Run
public import proofs.«01_k».proof.Proof.Gen.InprojSRefIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.OutprojIdeal.Value
public import proofs.«01_k».proof.Proof.Gen.OutprojRefIdeal.Run
public import proofs.«01_k».proof.Proof.Gen.OutprojRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.OutprojS
public import proofs.«01_k».proof.Proof.Gen.OutprojS.Skeleton
public import proofs.«01_k».proof.Proof.Gen.OutprojS.Launch
public import proofs.«01_k».proof.Proof.Gen.OutprojS.Points
public import proofs.«01_k».proof.Proof.Gen.OutprojS.Frame
public import proofs.«01_k».proof.Proof.Gen.OutprojSIdeal
public import proofs.«01_k».proof.Proof.Gen.OutprojSIdeal.Skeleton
public import proofs.«01_k».proof.Proof.Gen.OutprojSIdeal.Launch
public import proofs.«01_k».proof.Proof.Gen.OutprojSIdeal.Points
public import proofs.«01_k».proof.Proof.Gen.OutprojSIdeal.Frame
public import proofs.«01_k».proof.Proof.Gen.OutprojSRefIdeal
public import proofs.«01_k».proof.Proof.Gen.OutprojSIdeal.Value
public import proofs.«01_k».proof.Proof.Gen.OutprojSRefIdeal.Run
public import proofs.«01_k».proof.Proof.Gen.OutprojSRefIdeal.Read
public import Idealize.ShloMosaic.Adequacy
public import Idealize.ShloMosaic.Init

@[expose] public section

noncomputable section

namespace Cert.Proof

open Idealize.ShloMosaic Idealize.SL.Sem Cert.Gla

/-- The references are host programs: they declare no semaphore, so their frame is their run read at the arguments. -/
theorem frame_gla_ref : Cert.quiescent_GlaRefIdeal (hGlaRefIdeal := Cert.GlaRefIdeal.Gen.facts) := fun m g _ =>
  (θ_run (Cert.GlaRefIdeal.defs (F := Ideal)) _ _).mono
    (fun r h => ⟨fun c => (h c).2.2, Idealize.ShloMosaic.sem_eq_zero_of_no_sems (by decide) r.2⟩)
    (Cert.GlaRefIdeal.Value.run (F := Ideal) m g)

theorem frame_moe_ref : Cert.quiescent_MoeRefIdeal (hMoeRefIdeal := Cert.MoeRefIdeal.Gen.facts) := fun m g _ =>
  (θ_run (Cert.MoeRefIdeal.defs (F := Ideal)) _ _).mono (fun r h => ⟨fun c => (h c).2, Idealize.ShloMosaic.sem_eq_zero_of_no_sems (by decide) r.2⟩)
    (Cert.MoeRefIdeal.Value.run (F := Ideal) m g)

theorem frame_inproj_ref : Cert.quiescent_InprojRefIdeal (hInprojRefIdeal := Cert.InprojRefIdeal.Gen.facts) := fun m g _ =>
  (θ_run (Cert.InprojRefIdeal.defs (F := Ideal)) _ _).mono
    (fun r h => ⟨fun c => by obtain ⟨-, -, -, -, -, -, -, -, -, -, -, -, -, -, h⟩ := h c; exact h,
      Idealize.ShloMosaic.sem_eq_zero_of_no_sems (by decide) r.2⟩)
    (Cert.InprojRefIdeal.Value.run (F := Ideal) m g)

theorem frame_moe_sample_ref : Cert.quiescent_MoeSRefIdeal (hMoeSRefIdeal := Cert.MoeSRefIdeal.Gen.facts) := fun m g _ =>
  (θ_run (Cert.MoeSRefIdeal.defs (F := Ideal)) _ _).mono (fun r h => ⟨fun c => (h c).2, Idealize.ShloMosaic.sem_eq_zero_of_no_sems (by decide) r.2⟩)
    (Cert.MoeSRefIdeal.Value.run (F := Ideal) m g)

theorem frame_inproj_sample_ref : Cert.quiescent_InprojSRefIdeal (hInprojSRefIdeal := Cert.InprojSRefIdeal.Gen.facts) := fun m g _ =>
  (θ_run (Cert.InprojSRefIdeal.defs (F := Ideal)) _ _).mono
    (fun r h => ⟨fun c => by obtain ⟨-, -, -, -, -, -, -, -, -, -, -, -, -, -, h⟩ := h c; exact h,
      Idealize.ShloMosaic.sem_eq_zero_of_no_sems (by decide) r.2⟩)
    (Cert.InprojSRefIdeal.Value.run (F := Ideal) m g)

theorem frame_outproj_ref : Cert.quiescent_OutprojRefIdeal (hOutprojRefIdeal := Cert.OutprojRefIdeal.Gen.facts) := fun m g _ =>
  (θ_run (Cert.OutprojRefIdeal.defs (F := Ideal)) _ _).mono
    (fun r h => ⟨fun c => (h c).2.2, Idealize.ShloMosaic.sem_eq_zero_of_no_sems (by decide) r.2⟩)
    (Cert.OutprojRefIdeal.Value.run (F := Ideal) m g)

theorem frame_ada_ref : Cert.quiescent_AdaRefIdeal (hAdaRefIdeal := Cert.AdaRefIdeal.Gen.facts) := fun m g _ =>
  (θ_run (Cert.AdaRefIdeal.defs (F := Ideal)) _ _).mono (fun r h => ⟨fun c => (h c).2, Idealize.ShloMosaic.sem_eq_zero_of_no_sems (by decide) r.2⟩)
    (Cert.AdaRefIdeal.Value.run (F := Ideal) m g)

theorem frame_outproj_sample_ref : Cert.quiescent_OutprojSRefIdeal (hOutprojSRefIdeal := Cert.OutprojSRefIdeal.Gen.facts) := fun m g _ =>
  (θ_run (Cert.OutprojSRefIdeal.defs (F := Ideal)) _ _).mono
    (fun r h => ⟨fun c => (h c).2.2, Idealize.ShloMosaic.sem_eq_zero_of_no_sems (by decide) r.2⟩)
    (Cert.OutprojSRefIdeal.Value.run (F := Ideal) m g)

theorem claim : Cert.Claim := ⟨Cert.Gla.Gen.facts, Cert.GlaIdeal.Gen.facts, Cert.GlaRefIdeal.Gen.facts, Cert.Moe.Gen.facts,
  Cert.MoeIdeal.Gen.facts, Cert.MoeRefIdeal.Gen.facts, Cert.Inproj.Gen.facts, Cert.InprojIdeal.Gen.facts,
  Cert.InprojRefIdeal.Gen.facts, Cert.MoeS.Gen.facts, Cert.MoeSIdeal.Gen.facts, Cert.MoeSRefIdeal.Gen.facts,
  Cert.InprojS.Gen.facts, Cert.InprojSIdeal.Gen.facts, Cert.InprojSRefIdeal.Gen.facts,
  Cert.Outproj.Gen.facts, Cert.OutprojIdeal.Gen.facts, Cert.OutprojRefIdeal.Gen.facts,
  Cert.Ada.Gen.facts, Cert.AdaIdeal.Gen.facts, Cert.AdaRefIdeal.Gen.facts,
  Cert.OutprojS.Gen.facts, Cert.OutprojSIdeal.Gen.facts, Cert.OutprojSRefIdeal.Gen.facts,
  Cert.Pre_decay_below_infinity.Gen.facts, Cert.On_new_tokens.Gen.facts,
  fun m g _ => Cert.Gla.Gen.frame m g, fun m g _ => Cert.GlaIdeal.Gen.frame m g, fun m g _ => Cert.GlaIdeal.Gen.frame m g,
  frame_gla_ref, fun m g _ => frame_gla_ref m g trivial,
  fun m g _ => Cert.Moe.Gen.frame m g, fun m g _ => Cert.MoeIdeal.Gen.frame m g, frame_moe_ref,
  fun m g _ => Cert.Inproj.Gen.frame m g, fun m g _ => Cert.InprojIdeal.Gen.frame m g, frame_inproj_ref,
  fun m g _ => Cert.MoeS.Gen.frame m g, fun m g _ => Cert.MoeSIdeal.Gen.frame m g, frame_moe_sample_ref,
  fun m g _ => Cert.InprojS.Gen.frame m g, fun m g _ => Cert.InprojSIdeal.Gen.frame m g, frame_inproj_sample_ref,
  fun m g _ => Cert.Outproj.Gen.frame m g, fun m g _ => Cert.OutprojIdeal.Gen.frame m g, frame_outproj_ref,
  fun m g _ => Cert.Ada.Gen.frame m g, fun m g _ => Cert.AdaIdeal.Gen.frame m g, frame_ada_ref,
  fun m g _ => Cert.OutprojS.Gen.frame m g, fun m g _ => Cert.OutprojSIdeal.Gen.frame m g, frame_outproj_sample_ref,
  trivial, Cert.Proof.Gla.algebraic, trivial, Cert.Proof.Moe.algebraic, trivial, Cert.Proof.Inproj.algebraic,
  trivial, Cert.Proof.MoeS.algebraic, trivial, Cert.Proof.InprojS.algebraic,
  trivial, Cert.Proof.Outproj.algebraic, trivial, Cert.Proof.Ada.algebraic,
  trivial, Cert.Proof.OutprojS.algebraic⟩

end Cert.Proof

end
